-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_out [hPre_finite_out : Cert.Pre_finite_out.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_out.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_out.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_out.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite_out.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite_out.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_out [hPre_finite_out : Cert.Pre_finite_out.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_out.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_out.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_out.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite_out.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite_out.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_in [hPre_finite_in : Cert.Pre_finite_in.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.2.1 = (fun _ => 1#1)
    ∧ (Cert.Pre_finite_in.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_in [hPre_finite_in : Cert.Pre_finite_in.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.2.1 = (fun _ => 1#1)
    ∧ (Cert.Pre_finite_in.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_tail [hPre_finite_tail : Cert.Pre_finite_tail.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_tail.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).1 = (fun _ => 1#1)
    ∧ (Cert.Pre_finite_tail.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.1 = (fun _ => 1#1)
    ∧ (Cert.Pre_finite_tail.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.1 = (fun _ => 1#1)
    ∧ (Cert.Pre_finite_tail.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.1 = (fun _ => 1#1)
    ∧ (Cert.Pre_finite_tail.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.1 = (fun _ => 1#1)
    ∧ (Cert.Pre_finite_tail.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.2.1 = (fun _ => 1#1)
    ∧ (Cert.Pre_finite_tail.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))).2.2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_tail [hPre_finite_tail : Cert.Pre_finite_tail.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_tail.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).1 = (fun _ => 1#1)
    ∧ (Cert.Pre_finite_tail.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.1 = (fun _ => 1#1)
    ∧ (Cert.Pre_finite_tail.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.1 = (fun _ => 1#1)
    ∧ (Cert.Pre_finite_tail.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.1 = (fun _ => 1#1)
    ∧ (Cert.Pre_finite_tail.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.1 = (fun _ => 1#1)
    ∧ (Cert.Pre_finite_tail.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.2.1 = (fun _ => 1#1)
    ∧ (Cert.Pre_finite_tail.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))).2.2.2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_out [hKernel6Ideal : Cert.Kernel6Ideal.Facts] [hPre_finite_out : Cert.Pre_finite_out.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_out m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_out [hReference6Ideal : Cert.Reference6Ideal.Facts] [hPre_finite_out : Cert.Pre_finite_out.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_out m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite_in [hKernel10Ideal : Cert.Kernel10Ideal.Facts] [hPre_finite_in : Cert.Pre_finite_in.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_in m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite_in [hReference10Ideal : Cert.Reference10Ideal.Facts] [hPre_finite_in : Cert.Pre_finite_in.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_in m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Kernel11Ideal_pre_finite_tail [hKernel11Ideal : Cert.Kernel11Ideal.Facts] [hPre_finite_tail : Cert.Pre_finite_tail.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_tail m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_finite_tail [hReference11Ideal : Cert.Reference11Ideal.Facts] [hPre_finite_tail : Cert.Pre_finite_tail.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_tail m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v90)) (v2 : (c : Dev Cert.KernelIdeal.nD) → Buf (Elt Ideal) ((c.tc : Thread Cert.KernelIdeal.nD Cert.KernelIdeal.τ).loc Cert.KernelIdeal.main_v91)) (v3 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v90) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_v93) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v19)) (v1 : (c : Dev Cert.Kernel2Ideal.nD) → Buf (Elt Ideal) ((c.tc : Thread Cert.Kernel2Ideal.nD Cert.Kernel2Ideal.τ).loc Cert.Kernel2Ideal.main_v18_0)) (v2 : (c : Dev Cert.Kernel2Ideal.nD) → Buf (Elt Ideal) ((c.tc : Thread Cert.Kernel2Ideal.nD Cert.Kernel2Ideal.τ).loc Cert.Kernel2Ideal.main_v18_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_v18_0) = v1 c
          ∧ r.2.mem ((c.tc : Thread Cert.Kernel2Ideal.nD Cert.Kernel2Ideal.τ).loc Cert.Kernel2Ideal.main_v18_1) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_out [hKernel6Ideal : Cert.Kernel6Ideal.Facts] [hReference6Ideal : Cert.Reference6Ideal.Facts] [hPre_finite_out : Cert.Pre_finite_out.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_out m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)) (v3 : (c : Dev Cert.Kernel6Ideal.nD) → Buf (Elt Ideal) ((c.tc : Thread Cert.Kernel6Ideal.nD Cert.Kernel6Ideal.τ).loc Cert.Kernel6Ideal.main_v7_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_v7_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_v72) = v1 c
          ∧ r.2.mem ((c.tc : Thread Cert.Reference6Ideal.nD Cert.Reference6Ideal.τ).loc Cert.Reference6Ideal.main_v71) = v2 c
          ∧ r.2.mem ((c.tc : Thread Cert.Reference6Ideal.nD Cert.Reference6Ideal.τ).loc Cert.Reference6Ideal.main_v77) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v3) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite_in [hKernel10Ideal : Cert.Kernel10Ideal.Facts] [hReference10Ideal : Cert.Reference10Ideal.Facts] [hPre_finite_in : Cert.Pre_finite_in.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_in m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)) (v2 : (c : Dev Cert.Kernel10Ideal.nD) → Buf (Elt Ideal) ((c.tc : Thread Cert.Kernel10Ideal.nD Cert.Kernel10Ideal.τ).loc Cert.Kernel10Ideal.main_v10_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_v10_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v75) = v0 c
          ∧ r.2.mem ((c.tc : Thread Cert.Reference10Ideal.nD Cert.Reference10Ideal.τ).loc Cert.Reference10Ideal.main_v76) = v1 c
          ∧ r.2.mem ((c.tc : Thread Cert.Reference10Ideal.nD Cert.Reference10Ideal.τ).loc Cert.Reference10Ideal.main_v81) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite_tail [hKernel11Ideal : Cert.Kernel11Ideal.Facts] [hReference11Ideal : Cert.Reference11Ideal.Facts] [hPre_finite_tail : Cert.Pre_finite_tail.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_tail m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v25_0)) (v1 : (c : Dev Cert.Kernel11Ideal.nD) → Buf (Elt Ideal) ((c.tc : Thread Cert.Kernel11Ideal.nD Cert.Kernel11Ideal.τ).loc Cert.Kernel11Ideal.main_v25_1)) (v2 : (c : Dev Cert.Kernel11Ideal.nD) → Buf (Elt Ideal) ((c.tc : Thread Cert.Kernel11Ideal.nD Cert.Kernel11Ideal.τ).loc Cert.Kernel11Ideal.main_v25_2)) (v3 : (c : Dev Cert.Kernel11Ideal.nD) → Buf (Elt Ideal) ((c.tc : Thread Cert.Kernel11Ideal.nD Cert.Kernel11Ideal.τ).loc Cert.Kernel11Ideal.main_v24_0)) (v4 : (c : Dev Cert.Kernel11Ideal.nD) → Buf (Elt Ideal) ((c.tc : Thread Cert.Kernel11Ideal.nD Cert.Kernel11Ideal.τ).loc Cert.Kernel11Ideal.main_v24_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v25_0) = v0 c
          ∧ r.2.mem ((c.tc : Thread Cert.Kernel11Ideal.nD Cert.Kernel11Ideal.τ).loc Cert.Kernel11Ideal.main_v25_1) = v1 c
          ∧ r.2.mem ((c.tc : Thread Cert.Kernel11Ideal.nD Cert.Kernel11Ideal.τ).loc Cert.Kernel11Ideal.main_v25_2) = v2 c
          ∧ r.2.mem ((c.tc : Thread Cert.Kernel11Ideal.nD Cert.Kernel11Ideal.τ).loc Cert.Kernel11Ideal.main_v24_0) = v3 c
          ∧ r.2.mem ((c.tc : Thread Cert.Kernel11Ideal.nD Cert.Kernel11Ideal.τ).loc Cert.Kernel11Ideal.main_v24_1) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v110) = v0 c
          ∧ r.2.mem ((c.tc : Thread Cert.Reference11Ideal.nD Cert.Reference11Ideal.τ).loc Cert.Reference11Ideal.main_v111) = v1 c
          ∧ r.2.mem ((c.tc : Thread Cert.Reference11Ideal.nD Cert.Reference11Ideal.τ).loc Cert.Reference11Ideal.main_v116) = v2 c
          ∧ r.2.mem ((c.tc : Thread Cert.Reference11Ideal.nD Cert.Reference11Ideal.τ).loc Cert.Reference11Ideal.main_v122) = v3 c
          ∧ r.2.mem ((c.tc : Thread Cert.Reference11Ideal.nD Cert.Reference11Ideal.τ).loc Cert.Reference11Ideal.main_v128) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite_ffn : Cert.Pre_finite_ffn.Facts) (hPre_finite_out : Cert.Pre_finite_out.Facts) (hPre_finite_in : Cert.Pre_finite_in.Facts) (hPre_finite_tail : Cert.Pre_finite_tail.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_out (hKernel6Ideal := hKernel6Ideal) (hPre_finite_out := hPre_finite_out)
    ∧ quiescent_Reference6Ideal (hReference6Ideal := hReference6Ideal)
    ∧ quiescent_Reference6Ideal_pre_finite_out (hReference6Ideal := hReference6Ideal) (hPre_finite_out := hPre_finite_out)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_in (hKernel10Ideal := hKernel10Ideal) (hPre_finite_in := hPre_finite_in)
    ∧ quiescent_Reference10Ideal (hReference10Ideal := hReference10Ideal)
    ∧ quiescent_Reference10Ideal_pre_finite_in (hReference10Ideal := hReference10Ideal) (hPre_finite_in := hPre_finite_in)
    ∧ quiescent_Kernel11 (hKernel11 := hKernel11)
    ∧ quiescent_Kernel11Ideal (hKernel11Ideal := hKernel11Ideal)
    ∧ quiescent_Kernel11Ideal_pre_finite_tail (hKernel11Ideal := hKernel11Ideal) (hPre_finite_tail := hPre_finite_tail)
    ∧ quiescent_Reference11Ideal (hReference11Ideal := hReference11Ideal)
    ∧ quiescent_Reference11Ideal_pre_finite_tail (hReference11Ideal := hReference11Ideal) (hPre_finite_tail := hPre_finite_tail)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_out (hKernel6Ideal := hKernel6Ideal) (hReference6Ideal := hReference6Ideal) (hPre_finite_out := hPre_finite_out)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_in (hKernel10Ideal := hKernel10Ideal) (hReference10Ideal := hReference10Ideal) (hPre_finite_in := hPre_finite_in)
    ∧ preserves_Kernel11_Kernel11Ideal
    ∧ algebraic_Kernel11Ideal_Reference11Ideal_pre_finite_tail (hKernel11Ideal := hKernel11Ideal) (hReference11Ideal := hReference11Ideal) (hPre_finite_tail := hPre_finite_tail)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S8192x8x64 : Shape := ⟨3, ![8192, 8, 64]⟩
abbrev S8192x2x64 : Shape := ⟨3, ![8192, 2, 64]⟩
abbrev S8 : Shape := ⟨1, ![8]⟩
abbrev S_ : Shape := ⟨0, ![]⟩

class Facts : Prop where
  bcast_S_S8192x8x64 : S_.BroadcastsInDim S8192x8x64 (![] : Fin 0 → Fin S8192x8x64.rank)
  bcast_S_S8192x2x64 : S_.BroadcastsInDim S8192x2x64 (![] : Fin 0 → Fin S8192x2x64.rank)
  bcast_S_S8 : S_.BroadcastsInDim S8 (![] : Fin 0 → Fin S8.rank)

variable [Facts]

def fn {F : FTy → Type} [FloatOps F] (main_arg0 : FVec F S8192x8x64 .f32) (main_arg1 : FVec F S8192x2x64 .f32) (main_arg2 : FVec F S8192x2x64 .f32) (main_arg3 : FVec F S8 .f32) (main_arg4 : FVec F S8192x8x64 .f32) : IVec S8192x8x64 1 × IVec S8192x2x64 1 × IVec S8192x2x64 1 × IVec S8 1 × IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x2x64 .f32 := Host.absf main_arg1
  let main_cst_0 : FVec F S_ .f32 := constant S_ .f32 0x7F800000#32
  let main_v4 : FVec F S8192x2x64 .f32 := broadcastInDim S8192x2x64 ![] bcast_S_S8192x2x64 main_cst_0
  let main_v5 : IVec S8192x2x64 1 := cmpf .olt main_v3 main_v4
  let main_v6 : FVec F S8192x2x64 .f32 := Host.absf main_arg2
  let main_cst_1 : FVec F S_ .f32 := constant S_ .f32 0x7F800000#32
  let main_v7 : FVec F S8192x2x64 .f32 := broadcastInDim S8192x2x64 ![] bcast_S_S8192x2x64 main_cst_1
  let main_v8 : IVec S8192x2x64 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S8192x8x64 .f32 := Host.absf main_arg4
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  (main_v2, main_v5, main_v8, main_v11, main_v14)
-- ==== Pre_finite_ffn.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024x5632 .f32) (main_arg2 : FVec F S2816x1024 .f32) (main_arg3 : FVec F S8192x1024 .f32) : IVec S8192x1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_in.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  bcast_S_S1024x2048 : S_.BroadcastsInDim S1024x2048 (![] : Fin 0 → Fin S1024x2048.rank)
  bcast_S_S1024 : S_.BroadcastsInDim S1024 (![] : Fin 0 → Fin S1024.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S8192x1024 .f32) (main_arg2 : FVec F S1024x2048 .f32) (main_arg3 : FVec F S1024 .f32) (main_arg4 : FVec F S8192x1024 .f32) (main_arg5 : FVec F S8192x2048 .f32) : IVec S8192x1024 1 × IVec S8192x1024 1 × IVec S1024x2048 1 × IVec S1024 1 × IVec S8192x1024 1 × IVec S8192x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x2048 .f32 := Host.absf main_arg5
  let main_cst_4 : FVec F S_ .f32 := constant S_ .f32 0x7F800000#32
  let main_v16 : FVec F S8192x2048 .f32 := broadcastInDim S8192x2048 ![] bcast_S_S8192x2048 main_cst_4
  let main_v17 : IVec S8192x2048 1 := cmpf .olt main_v15 main_v16
  (main_v2, main_v5, main_v8, main_v11, main_v14, main_v17)
-- ==== Pre_finite_out.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S1024x1024 .f32) (main_arg3 : FVec F S1024 .f32) (main_arg4 : FVec F S8192x1024 .f32) : IVec S8192x1024 1 × IVec S8192x1024 1 × IVec S1024x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_tail.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S8192x1024 .f32) (main_v2 : IVec S8192x1024 1) (main_v5 : IVec S8192x1024 1) (main_v8 : IVec S1024 1) (main_v11 : IVec S8192x1024 1) (main_v14 : IVec S1024x5632 1) (main_v17 : IVec S2816x1024 1) : IVec S8192x1024 1 × IVec S8192x1024 1 × IVec S1024 1 × IVec S8192x1024 1 × IVec S1024x5632 1 × IVec S2816x1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1024 .f32) (main_arg3 : FVec F S8192x1024 .f32) (main_arg4 : FVec F S1024x5632 .f32) (main_arg5 : FVec F S2816x1024 .f32) (main_arg6 : FVec F S8192x1024 .f32) : IVec S8192x1024 1 × IVec S8192x1024 1 × IVec S1024 1 × IVec S8192x1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Kernel.lean ====
abbrev S8192x8x64 : Shape := ⟨3, ![8192, 8, 64]⟩
abbrev S8192x2x64 : Shape := ⟨3, ![8192, 2, 64]⟩
abbrev S8 : Shape := ⟨1, ![8]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x8192x8192 : Shape := ⟨4, ![1, 1, 8192, 8192]⟩
abbrev S2x4 : Shape := ⟨2, ![2, 4]⟩
abbrev S2x4x1 : Shape := ⟨3, ![2, 4, 1]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x2x4 : Shape := ⟨3, ![8192, 2, 4]⟩
abbrev S8192x2x4x1 : Shape := ⟨4, ![8192, 2, 4, 1]⟩
abbrev S64x128x2x4x64 : Shape := ⟨5, ![64, 128, 2, 4, 64]⟩
abbrev S2x64x4x128x64 : Shape := ⟨5, ![2, 64, 4, 128, 64]⟩
abbrev S2x32768x64 : Shape := ⟨3, ![2, 32768, 64]⟩
abbrev S2x1x128 : Shape := ⟨3, ![2, 1, 128]⟩
abbrev S2x32768x128 : Shape := ⟨3, ![2, 32768, 128]⟩
abbrev S2x4x64x128 : Shape := ⟨4, ![2, 4, 64, 128]⟩
abbrev S2x64x4x128 : Shape := ⟨4, ![2, 64, 4, 128]⟩
abbrev S2x32768x1 : Shape := ⟨3, ![2, 32768, 1]⟩
abbrev S8192x128 : Shape := ⟨2, ![8192, 128]⟩
abbrev S8x128 : Shape := ⟨2, ![8, 128]⟩
abbrev S2x512x128 : Shape := ⟨3, ![2, 512, 128]⟩
abbrev S128x128 : Shape := ⟨2, ![128, 128]⟩
abbrev S512x128 : Shape := ⟨2, ![512, 128]⟩
abbrev S1x512x128 : Shape := ⟨3, ![1, 512, 128]⟩
abbrev S512x1 : Shape := ⟨2, ![512, 1]⟩
abbrev S1 : Shape := ⟨1, ![1]⟩
abbrev S1x128 : Shape := ⟨2, ![1, 128]⟩
abbrev S128x1 : Shape := ⟨2, ![128, 1]⟩
abbrev S1x1 : Shape := ⟨2, ![1, 1]⟩
abbrev S1x32768x64 : Shape := ⟨3, ![1, 32768, 64]⟩
abbrev S32768x64 : Shape := ⟨2, ![32768, 64]⟩
abbrev S8x1 : Shape := ⟨2, ![8, 1]⟩

abbrev nBuf : Space → Nat
  | .hbm => 155
  | .vmem => 23
  | .smem => 1
  | _ => 0

abbrev hbmTy0_0 (i : Nat) : BufTy := match i % 128 with
  | 0 => ⟨S8192x8x64, .f32⟩
  | 1 => ⟨S8192x2x64, .f32⟩
  | 2 => ⟨S8192x2x64, .f32⟩
  | 3 => ⟨S8, .f32⟩
  | 4 => ⟨S8192x8x64, .f32⟩
  | 5 => ⟨S8192x2x4x64, .f32⟩
  | 6 => ⟨S2x8192x8192x4, .f32⟩
  | 7 => ⟨S2x4x8192x8192, .f32⟩
  | 8 => ⟨S_, .f32⟩
  | 9 => ⟨S2x4x8192x8192, .f32⟩
  | 10 => ⟨S2x4x8192x8192, .f32⟩
  | 11 => ⟨S8192, .i32⟩
  | 12 => ⟨S8192x1, .i32⟩
  | 13 => ⟨S1x8192, .i32⟩
  | 14 => ⟨S8192x8192, .i32⟩
  | 15 => ⟨S8192x8192, .i32⟩
  | 16 => ⟨S8192x8192, .i32⟩
  | 17 => ⟨S8192x8192, .i32⟩
  | 18 => ⟨S_, .i32⟩
  | 19 => ⟨S8192x8192, .i32⟩
  | 20 => ⟨S8192x8192, .i1⟩
  | 21 => ⟨S1x1x8192x8192, .i1⟩
  | 22 => ⟨S_, .f32⟩
  | 23 => ⟨S_, .f32⟩
  | 24 => ⟨S2x4x8192x8192, .i1⟩
  | 25 => ⟨S2x4x8192x8192, .f32⟩
  | 26 => ⟨S2x4x8192x8192, .f32⟩
  | 27 => ⟨S2x4, .f32⟩
  | 28 => ⟨S2x4x1, .f32⟩
  | 29 => ⟨S_, .f32⟩
  | 30 => ⟨S2x4x8192, .f32⟩
  | 31 => ⟨S2x4x8192, .f32⟩
  | 32 => ⟨S2x4x8192, .f32⟩
  | 33 => ⟨S2x4x8192x1, .f32⟩
  | 34 => ⟨S2x4x8192x8192, .f32⟩
  | 35 => ⟨S2x4x8192x8192, .f32⟩
  | 36 => ⟨S2x4x8192x8192, .f32⟩
  | 37 => ⟨S_, .f32⟩
  | 38 => ⟨S2x4x8192, .f32⟩
  | 39 => ⟨S2x4x8192, .f32⟩
  | 40 => ⟨S2x4x8192, .f32⟩
  | 41 => ⟨S2x4x8192, .f32⟩
  | 42 => ⟨S2x4x8192, .f32⟩
  | 43 => ⟨S2x64x4x8192, .f32⟩
  | 44 => ⟨S8192x2x4x64, .f32⟩
  | 45 => ⟨S8192x2x4, .f32⟩
  | 46 => ⟨S8192x2x4x1, .f32⟩
  | 47 => ⟨S8192x2x4x64, .f32⟩
  | 48 => ⟨S8192x2x4x64, .f32⟩
  | 49 => ⟨S2x4x8192, .f32⟩
  | 50 => ⟨S2x4x8192, .f32⟩
  | 51 => ⟨S8192x2x4x64, .f32⟩
  | 52 => ⟨S8192x2x4x64, .f32⟩
  | 53 => ⟨S_, .f32⟩
  | 54 => ⟨S8192x2x4, .f32⟩
  | 55 => ⟨S2x4x8192, .f32⟩
  | 56 => ⟨S_, .f32⟩
  | 57 => ⟨S8192x8x64, .f32⟩
  | 58 => ⟨S8192x8x64, .f32⟩
  | 59 => ⟨S64x128x2x4x64, .f32⟩
  | 60 => ⟨S2x64x4x128x64, .f32⟩
  | 61 => ⟨S2x32768x64, .f32⟩
  | 62 => ⟨S2x1x128, .i32⟩
  | 63 => ⟨S_, .i32⟩
  | 64 => ⟨S_, .i32⟩
  | 65 => ⟨S2x1x128, .i32⟩
  | 66 => ⟨S2x1x128, .i32⟩
  | 67 => ⟨S2x1x128, .i32⟩
  | 68 => ⟨S_, .i32⟩
  | 69 => ⟨S2x1x128, .i32⟩
  | 70 => ⟨S2x1x128, .i1⟩
  | 71 => ⟨S2x1x128, .i32⟩
  | 72 => ⟨S2x1x128, .i32⟩
  | 73 => ⟨S_, .i32⟩
  | 74 => ⟨S2x1x128, .i32⟩
  | 75 => ⟨S2x1x128, .i1⟩
  | 76 => ⟨S2x1x128, .i1⟩
  | 77 => ⟨S_, .i32⟩
  | 78 => ⟨S2x1x128, .i32⟩
  | 79 => ⟨S2x1x128, .i32⟩
  | 80 => ⟨S2x1x128, .i32⟩
  | 81 => ⟨S2x1x128, .i32⟩
  | 82 => ⟨S2x1x128, .i1⟩
  | 83 => ⟨S2x32768x128, .f32⟩
  | 84 => ⟨S_, .f32⟩
  | 85 => ⟨S_, .f32⟩
  | 86 => ⟨S2x32768x128, .i1⟩
  | 87 => ⟨S2x32768x128, .f32⟩
  | 88 => ⟨S2x32768x128, .f32⟩
  | 89 => ⟨S2x32768x128, .bf16⟩
  | 90 => ⟨S64x128x2x4x64, .f32⟩
  | 91 => ⟨S2x64x4x128x64, .f32⟩
  | 92 => ⟨S2x32768x64, .f32⟩
  | 93 => ⟨S2x1x128, .i32⟩
  | 94 => ⟨S_, .i32⟩
  | 95 => ⟨S_, .i32⟩
  | 96 => ⟨S2x1x128, .i32⟩
  | 97 => ⟨S2x1x128, .i32⟩
  | 98 => ⟨S2x1x128, .i32⟩
  | 99 => ⟨S_, .i32⟩
  | 100 => ⟨S2x1x128, .i32⟩
  | 101 => ⟨S2x1x128, .i1⟩
  | 102 => ⟨S2x1x128, .i32⟩
  | 103 => ⟨S2x1x128, .i32⟩
  | 104 => ⟨S_, .i32⟩
  | 105 => ⟨S2x1x128, .i32⟩
  | 106 => ⟨S2x1x128, .i1⟩
  | 107 => ⟨S2x1x128, .i1⟩
  | 108 => ⟨S_, .i32⟩
  | 109 => ⟨S2x1x128, .i32⟩
  | 110 => ⟨S2x1x128, .i32⟩
  | 111 => ⟨S2x1x128, .i32⟩
  | 112 => ⟨S2x1x128, .i32⟩
  | 113 => ⟨S2x1x128, .i1⟩
  | 114 => ⟨S2x32768x128, .f32⟩
  | 115 => ⟨S_, .f32⟩
  | 116 => ⟨S_, .f32⟩
  | 117 => ⟨S2x32768x128, .i1⟩
  | 118 => ⟨S2x32768x128, .f32⟩
  | 119 => ⟨S2x32768x128, .f32⟩
  | 120 => ⟨S2x32768x128, .bf16⟩
  | 121 => ⟨S2x4x64x128, .f32⟩
  | 122 => ⟨S2x64x4x128, .f32⟩
  | 123 => ⟨S2x32768x1, .f32⟩
  | 124 => ⟨S2x32768x64, .f32⟩
  | 125 => ⟨S2x4x64x128, .f32⟩
  | 126 => ⟨S2x64x4x128, .f32⟩
  | 127 => ⟨S2x32768x1, .f32⟩
  | _ => ⟨S8192x8x64, .f32⟩

abbrev hbmTy0_1 (i : Nat) : BufTy := match i % 128 with
  | 0 => ⟨S2x32768x64, .f32⟩
  | 1 => ⟨S2x32768x128, .f32⟩
  | 2 => ⟨S8192x128, .f32⟩
  | 3 => ⟨S8192x128, .bf16⟩
  | 4 => ⟨S8192x128, .f32⟩
  | 5 => ⟨S8192x128, .bf16⟩
  | 6 => ⟨S2x32768x128, .f32⟩
  | 7 => ⟨S8192x128, .f32⟩
  | 8 => ⟨S8192x128, .f32⟩
  | 9 => ⟨S8x128, .f32⟩
  | 10 => ⟨S1x32768x64, .f32⟩
  | 11 => ⟨S32768x64, .f32⟩
  | 12 => ⟨S1x32768x64, .f32⟩
  | 13 => ⟨S32768x64, .f32⟩
  | 14 => ⟨S1x32768x64, .f32⟩
  | 15 => ⟨S1x32768x64, .f32⟩
  | 16 => ⟨S2x32768x64, .f32⟩
  | 17 => ⟨S2x64x4x128x64, .f32⟩
  | 18 => ⟨S64x128x2x4x64, .f32⟩
  | 19 => ⟨S8192x8x64, .f32⟩
  | 20 => ⟨S_, .f32⟩
  | 21 => ⟨S8192x8x64, .f32⟩
  | 22 => ⟨S8192x8x64, .f32⟩
  | 23 => ⟨S8192x2x64, .f32⟩
  | 24 => ⟨S8192x2x64, .f32⟩
  | 25 => ⟨S8x1, .f32⟩
  | 26 => ⟨S8, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | .local _ .vmem, ⟨0, _⟩ => ⟨S2x512x128, .bf16⟩
  | .local _ .vmem, ⟨1, _⟩ => ⟨S2x512x128, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S2x512x128, .bf16⟩
  | .local _ .vmem, ⟨15, _⟩ => ⟨S2x512x128, .bf16⟩
  | .local _ .vmem, ⟨16, _⟩ => ⟨S2x512x128, .f32⟩
  | .local _ .vmem, ⟨17, _⟩ => ⟨S2x512x128, .f32⟩
  | .local _ .vmem, ⟨18, _⟩ => ⟨S2x512x128, .f32⟩
  | .local _ .vmem, ⟨19, _⟩ => ⟨S2x512x128, .f32⟩
  | .local _ .vmem, ⟨20, _⟩ => ⟨S8192x128, .f32⟩
  | .local _ .vmem, ⟨21, _⟩ => ⟨S8192x128, .f32⟩
  | .local _ .vmem, ⟨22, _⟩ => ⟨S8x128, .f32⟩
  | .local _ .smem, ⟨0, _⟩ => ⟨S8, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_c : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_0 : Ref sig .tc := ⟨.hbm, 77, rfl⟩
abbrev main_call1_v12 : Ref sig .tc := ⟨.hbm, 78, rfl⟩
abbrev main_call1_v13 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_7 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_c : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_0 : Ref sig .tc := ⟨.hbm, 108, rfl⟩
abbrev main_call3_v12 : Ref sig .tc := ⟨.hbm, 109, rfl⟩
abbrev main_call3_v13 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_8 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77_0 : Ref sig .tc := ⟨.hbm, 134, rfl⟩
abbrev main_v77_1 : Ref sig .tc := ⟨.hbm, 135, rfl⟩
abbrev main_v77_2 : Ref sig .tc := ⟨.hbm, 136, rfl⟩
abbrev main_v77_3 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_9 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![64], ![false]⟩

def k0_mult1 (i : grid0.Coords) : BitVec 32 :=
  let c63_i32_4 : BitVec 32 := 63#32
  let c0_i32_3 : BitVec 32 := 0#32
  let arg0 : BitVec 32 := BitVec.ofNat 32 (i 0).val
  let c1_i32 : BitVec 32 := 1#32
  let v15 : BitVec 32 := Scalar.subi arg0 c1_i32
  let c0_i32_2 : BitVec 32 := 0#32
  let v16 : BitVec 32 := Scalar.addi v15 c0_i32_2
  let v17 : BitVec 32 := Scalar.maxsi c0_i32_3 v16
  let v18 : BitVec 32 := Scalar.minsi c63_i32_4 v17
  let c128_i32 : BitVec 32 := 128#32
  let v19 : BitVec 32 := Scalar.muli v18 c128_i32
  v19
def k0_mult2 (i : grid0.Coords) : BitVec 32 :=
  let c63_i32_8 : BitVec 32 := 63#32
  let c0_i32_7 : BitVec 32 := 0#32
  let arg0 : BitVec 32 := BitVec.ofNat 32 (i 0).val
  let c1_i32_5 : BitVec 32 := 1#32
  let v21 : BitVec 32 := Scalar.subi arg0 c1_i32_5
  let c1_i32_6 : BitVec 32 := 1#32
  let v22 : BitVec 32 := Scalar.addi v21 c1_i32_6
  let v23 : BitVec 32 := Scalar.maxsi c0_i32_7 v22
  let v24 : BitVec 32 := Scalar.minsi c63_i32_8 v23
  let c128_i32_9 : BitVec 32 := 128#32
  let v25 : BitVec 32 := Scalar.muli v24 c128_i32_9
  v25
def k0_mult3 (i : grid0.Coords) : BitVec 32 :=
  let c63_i32_12 : BitVec 32 := 63#32
  let c0_i32_11 : BitVec 32 := 0#32
  let arg0 : BitVec 32 := BitVec.ofNat 32 (i 0).val
  let c1_i32_10 : BitVec 32 := 1#32
  let v27 : BitVec 32 := Scalar.subi arg0 c1_i32_10
  let c2_i32 : BitVec 32 := 2#32
  let v28 : BitVec 32 := Scalar.addi v27 c2_i32
  let v29 : BitVec 32 := Scalar.maxsi c0_i32_11 v28
  let v30 : BitVec 32 := Scalar.minsi c63_i32_12 v29
  let c128_i32_13 : BitVec 32 := 128#32
  let v31 : BitVec 32 := Scalar.muli v30 c128_i32_13
  v31
def k0_off1 (i : grid0.Coords) (c0_i32_2 : BitVec 32) : Fin 2 → Nat :=
  let c63_i32_4 : BitVec 32 := 63#32
  let c0_i32_3 : BitVec 32 := 0#32
  let arg0 : BitVec 32 := BitVec.ofNat 32 (i 0).val
  let c1_i32 : BitVec 32 := 1#32
  let v15 : BitVec 32 := Scalar.subi arg0 c1_i32
  let v16 : BitVec 32 := Scalar.addi v15 c0_i32_2
  let v17 : BitVec 32 := Scalar.maxsi c0_i32_3 v16
  let v18 : BitVec 32 := Scalar.minsi c63_i32_4 v17
  let c128_i32 : BitVec 32 := 128#32
  let v19 : BitVec 32 := Scalar.muli v18 c128_i32
  let v20 : BitVec 32 := v19
  let v62 : Index := Scalar.indexCast v20
  let c0_32 : Index := 0#32
  ![v62.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8192x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8192x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x8x64 : Shape := ⟨3, ![8192, 8, 64]⟩
abbrev S8192x2x64 : Shape := ⟨3, ![8192, 2, 64]⟩
abbrev S8 : Shape := ⟨1, ![8]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x8192x8192 : Shape := ⟨4, ![1, 1, 8192, 8192]⟩
abbrev S2x4 : Shape := ⟨2, ![2, 4]⟩
abbrev S2x4x1 : Shape := ⟨3, ![2, 4, 1]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x2x4 : Shape := ⟨3, ![8192, 2, 4]⟩
abbrev S8192x2x4x1 : Shape := ⟨4, ![8192, 2, 4, 1]⟩
abbrev S2x64x8192 : Shape := ⟨3, ![2, 64, 8192]⟩
abbrev S2x8192x4x64 : Shape := ⟨4, ![2, 8192, 4, 64]⟩
abbrev S2x8192x64 : Shape := ⟨3, ![2, 8192, 64]⟩

abbrev nBuf : Space → Nat
  | .hbm => 143
  | .vmem => 0
  | .smem => 0
  | _ => 0

abbrev hbmTy0_0 (i : Nat) : BufTy := match i % 128 with
  | 0 => ⟨S8192x8x64, .f32⟩
  | 1 => ⟨S8192x2x64, .f32⟩
  | 2 => ⟨S8192x2x64, .f32⟩
  | 3 => ⟨S8, .f32⟩
  | 4 => ⟨S8192x8x64, .f32⟩
  | 5 => ⟨S8192x2x4x64, .f32⟩
  | 6 => ⟨S2x8192x8192x4, .f32⟩
  | 7 => ⟨S2x4x8192x8192, .f32⟩
  | 8 => ⟨S_, .f32⟩
  | 9 => ⟨S2x4x8192x8192, .f32⟩
  | 10 => ⟨S2x4x8192x8192, .f32⟩
  | 11 => ⟨S8192, .i32⟩
  | 12 => ⟨S8192x1, .i32⟩
  | 13 => ⟨S1x8192, .i32⟩
  | 14 => ⟨S8192x8192, .i32⟩
  | 15 => ⟨S8192x8192, .i32⟩
  | 16 => ⟨S8192x8192, .i32⟩
  | 17 => ⟨S8192x8192, .i32⟩
  | 18 => ⟨S_, .i32⟩
  | 19 => ⟨S8192x8192, .i32⟩
  | 20 => ⟨S8192x8192, .i1⟩
  | 21 => ⟨S1x1x8192x8192, .i1⟩
  | 22 => ⟨S_, .f32⟩
  | 23 => ⟨S_, .f32⟩
  | 24 => ⟨S2x4x8192x8192, .i1⟩
  | 25 => ⟨S2x4x8192x8192, .f32⟩
  | 26 => ⟨S2x4x8192x8192, .f32⟩
  | 27 => ⟨S_, .f32⟩
  | 28 => ⟨S2x4x8192x8192, .f32⟩
  | 29 => ⟨S2x4, .f32⟩
  | 30 => ⟨S2x4x1, .f32⟩
  | 31 => ⟨S_, .f32⟩
  | 32 => ⟨S2x4x8192, .f32⟩
  | 33 => ⟨S2x4x8192x1, .f32⟩
  | 34 => ⟨S2x4x8192x8192, .f32⟩
  | 35 => ⟨S2x4x8192x8192, .i1⟩
  | 36 => ⟨S2x4x8192x8192, .f32⟩
  | 37 => ⟨S_, .f32⟩
  | 38 => ⟨S2x4x8192, .f32⟩
  | 39 => ⟨S2x4x8192, .f32⟩
  | 40 => ⟨S2x4x8192, .f32⟩
  | 41 => ⟨S2x4x8192, .f32⟩
  | 42 => ⟨S2x4x8192, .i1⟩
  | 43 => ⟨S2x4x8192, .f32⟩
  | 44 => ⟨S2x4x8192, .i1⟩
  | 45 => ⟨S_, .f32⟩
  | 46 => ⟨S2x4x8192, .f32⟩
  | 47 => ⟨S_, .f32⟩
  | 48 => ⟨S2x4x8192, .f32⟩
  | 49 => ⟨S_, .f32⟩
  | 50 => ⟨S2x4x8192, .f32⟩
  | 51 => ⟨S2x4x8192, .f32⟩
  | 52 => ⟨S2x4x8192, .f32⟩
  | 53 => ⟨S2x4x8192, .f32⟩
  | 54 => ⟨S2x4x8192, .i1⟩
  | 55 => ⟨S2x4x8192, .f32⟩
  | 56 => ⟨S2x4x8192, .i1⟩
  | 57 => ⟨S_, .f32⟩
  | 58 => ⟨S2x4x8192, .f32⟩
  | 59 => ⟨S_, .f32⟩
  | 60 => ⟨S2x4x8192, .f32⟩
  | 61 => ⟨S_, .f32⟩
  | 62 => ⟨S2x4x8192, .f32⟩
  | 63 => ⟨S2x4x8192, .f32⟩
  | 64 => ⟨S2x4x8192, .f32⟩
  | 65 => ⟨S2x4x8192x1, .f32⟩
  | 66 => ⟨S2x4x8192x8192, .f32⟩
  | 67 => ⟨S2x4x8192x8192, .f32⟩
  | 68 => ⟨S2x4x8192x8192, .f32⟩
  | 69 => ⟨S_, .f32⟩
  | 70 => ⟨S2x4x8192, .f32⟩
  | 71 => ⟨S2x4x8192, .f32⟩
  | 72 => ⟨S2x4x8192, .f32⟩
  | 73 => ⟨S2x4x8192, .f32⟩
  | 74 => ⟨S2x4x8192, .f32⟩
  | 75 => ⟨S2x64x4x8192, .f32⟩
  | 76 => ⟨S8192x2x4x64, .f32⟩
  | 77 => ⟨S8192x2x4, .f32⟩
  | 78 => ⟨S8192x2x4x1, .f32⟩
  | 79 => ⟨S8192x2x4x64, .f32⟩
  | 80 => ⟨S8192x2x4x64, .f32⟩
  | 81 => ⟨S8192x2x4x1, .f32⟩
  | 82 => ⟨S_, .f32⟩
  | 83 => ⟨S8192x2x4x1, .f32⟩
  | 84 => ⟨S8192x2x4x1, .f32⟩
  | 85 => ⟨S8192x8x64, .f32⟩
  | 86 => ⟨S8192x2x4x64, .f32⟩
  | 87 => ⟨S8192x2x4x64, .f32⟩
  | 88 => ⟨S8192x2x4x64, .f32⟩
  | 89 => ⟨S8192x2x4x64, .f32⟩
  | 90 => ⟨S_, .f32⟩
  | 91 => ⟨S8192x2x4, .f32⟩
  | 92 => ⟨S8192x2x4x1, .f32⟩
  | 93 => ⟨S8192x2x4x1, .f32⟩
  | 94 => ⟨S8192x2x4x64, .f32⟩
  | 95 => ⟨S8192x2x4x64, .f32⟩
  | 96 => ⟨S_, .f32⟩
  | 97 => ⟨S8192x2x4, .f32⟩
  | 98 => ⟨S2x4x8192, .f32⟩
  | 99 => ⟨S2x64x4x8192, .f32⟩
  | 100 => ⟨S2x4x8192x8192, .f32⟩
  | 101 => ⟨S2x64x8192, .f32⟩
  | 102 => ⟨S8192x2x64, .f32⟩
  | 103 => ⟨S2x4x8192, .f32⟩
  | 104 => ⟨S_, .f32⟩
  | 105 => ⟨S2x4, .f32⟩
  | 106 => ⟨S2x4x1, .f32⟩
  | 107 => ⟨S2x4x8192, .f32⟩
  | 108 => ⟨S2x4x8192x8192, .f32⟩
  | 109 => ⟨S2x4x8192x8192, .f32⟩
  | 110 => ⟨S2x4x8192x8192, .f32⟩
  | 111 => ⟨S2x4x8192x8192, .f32⟩
  | 112 => ⟨S_, .f32⟩
  | 113 => ⟨S2x4x8192, .f32⟩
  | 114 => ⟨S2x4x8192x1, .f32⟩
  | 115 => ⟨S_, .f32⟩
  | 116 => ⟨S2x4x8192, .f32⟩
  | 117 => ⟨S2x4x8192, .f32⟩
  | 118 => ⟨S2x4x8192, .f32⟩
  | 119 => ⟨S_, .f32⟩
  | 120 => ⟨S2x4, .f32⟩
  | 121 => ⟨S2x4x1, .f32⟩
  | 122 => ⟨S2x4x1, .f32⟩
  | 123 => ⟨S2x4x8192, .f32⟩
  | 124 => ⟨S2x4x8192, .f32⟩
  | 125 => ⟨S2x4x8192x8192, .f32⟩
  | 126 => ⟨S2x4x8192x8192, .f32⟩
  | 127 => ⟨S2x4x8192x8192, .f32⟩
  | _ => ⟨S8192x8x64, .f32⟩

abbrev hbmTy0_1 (i : Nat) : BufTy := match i % 128 with
  | 0 => ⟨S_, .f32⟩
  | 1 => ⟨S2x4, .f32⟩
  | 2 => ⟨S8, .f32⟩
  | 3 => ⟨S_, .f32⟩
  | 4 => ⟨S2x4x8192x8192, .f32⟩
  | 5 => ⟨S2x4x8192x8192, .f32⟩
  | 6 => ⟨S_, .f32⟩
  | 7 => ⟨S2x4x8192x8192, .f32⟩
  | 8 => ⟨S2x4x8192x8192, .f32⟩
  | 9 => ⟨S2x8192x8192x4, .f32⟩
  | 10 => ⟨S2x8192x4x64, .f32⟩
  | 11 => ⟨S8192x2x4x64, .f32⟩
  | 12 => ⟨S2x8192x64, .f32⟩
  | 13 => ⟨S8192x2x64, .f32⟩
  | 14 => ⟨S8192x8x64, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_v15_1 : Ref sig .tc := ⟨.hbm, 24, rfl⟩
abbrev main_call0_v2 : Ref sig .tc := ⟨.hbm, 25, rfl⟩
abbrev main_v15_0 : Ref sig .tc := ⟨.hbm, 26, rfl⟩
abbrev main_call0_cst : Ref sig .tc := ⟨.hbm, 27, rfl⟩
abbrev main_v15_2 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_14 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_17 : Ref sig .tc := ⟨.hbm, 128, rfl⟩
abbrev main_v99 : Ref sig .tc := ⟨.hbm, 129, rfl⟩
abbrev main_v100 : Ref sig .tc := ⟨.hbm, 130, rfl⟩
abbrev main_call1_cst : Ref sig .tc := ⟨.hbm, 131, rfl⟩
abbrev main_call1_v0 : Ref sig .tc := ⟨.hbm, 132, rfl⟩
abbrev main_v101 : Ref sig .tc := ⟨.hbm, 133, rfl⟩
abbrev main_cst_18 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S1x2816x1024 : Shape := ⟨3, ![1, 2816, 1024]⟩
abbrev S512x1024 : Shape := ⟨2, ![512, 1024]⟩
abbrev S2x512x1408 : Shape := ⟨3, ![2, 512, 1408]⟩
abbrev S1x1408x1024 : Shape := ⟨3, ![1, 1408, 1024]⟩
abbrev S512x1408 : Shape := ⟨2, ![512, 1408]⟩
abbrev S1408x1024 : Shape := ⟨2, ![1408, 1024]⟩
abbrev S1x512x1408 : Shape := ⟨3, ![1, 512, 1408]⟩
abbrev S2x512x2816 : Shape := ⟨3, ![2, 512, 2816]⟩
abbrev S1x512x2816 : Shape := ⟨3, ![1, 512, 2816]⟩
abbrev S512x2816 : Shape := ⟨2, ![512, 2816]⟩
abbrev S1x1x1024x1408 : Shape := ⟨4, ![1, 1, 1024, 1408]⟩
abbrev S1024x1408 : Shape := ⟨2, ![1024, 1408]⟩

abbrev nBuf : Space → Nat
  | .hbm => 27
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1024x5632, .bf16⟩
  | .hbm, ⟨19, _⟩ => ⟨S1024x4x1408, .bf16⟩
  | .hbm, ⟨20, _⟩ => ⟨S4x1024x1408, .bf16⟩
  | .hbm, ⟨21, _⟩ => ⟨S1x4x1024x1408, .bf16⟩
  | .hbm, ⟨22, _⟩ => ⟨S2816x1024, .bf16⟩
  | .hbm, ⟨23, _⟩ => ⟨S1x2816x1024, .bf16⟩
  | .hbm, ⟨24, _⟩ => ⟨S2x8192x2816, .bf16⟩
  | .hbm, ⟨25, _⟩ => ⟨S8192x2816, .bf16⟩
  | .hbm, ⟨26, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S2x512x1408, .bf16⟩
  | .local _ .vmem, ⟨3, _⟩ => ⟨S2x512x1408, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1024, .f32⟩
  | .local _ .vmem, ⟨11, _⟩ => ⟨S512x1024, .f32⟩
  | .local _ .vmem, ⟨12, _⟩ => ⟨S2x512x2816, .bf16⟩
  | .local _ .vmem, ⟨13, _⟩ => ⟨S2x512x2816, .bf16⟩
  | .local _ .vmem, ⟨14, _⟩ => ⟨S1x4x1024x1408, .bf16⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4x1024x1408 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference2Ideal.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x5632, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x5632, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x5632, .f32⟩
  | .hbm, ⟨79, _⟩ => ⟨S8192x2816, .f32⟩
  | .hbm, ⟨80, _⟩ => ⟨S8192x2816, .f32⟩
  | .hbm, ⟨81, _⟩ => ⟨S1x8192x2816, .f32⟩
  | .hbm, ⟨82, _⟩ => ⟨S1x8192x2816, .f32⟩
  | .hbm, ⟨83, _⟩ => ⟨S2x8192x2816, .f32⟩
  | .hbm, ⟨84, _⟩ => ⟨S2x8192x2816, .bf16⟩
  | .hbm, ⟨85, _⟩ => ⟨S8192x5632, .f32⟩
  | .hbm, ⟨86, _⟩ => ⟨S8192x2816, .f32⟩
  | .hbm, ⟨87, _⟩ => ⟨S8192x2816, .f32⟩
  | .hbm, ⟨88, _⟩ => ⟨S8192x2816, .f32⟩
  | .hbm, ⟨89, _⟩ => ⟨S8192x2816, .f32⟩
  | .hbm, ⟨90, _⟩ => ⟨S_, .f32⟩
  | .hbm, ⟨91, _⟩ => ⟨S8192x2816, .f32⟩
  | .hbm, ⟨92, _⟩ => ⟨S8192x2816, .f32⟩
  | .hbm, ⟨93, _⟩ => ⟨S_, .f32⟩
  | .hbm, ⟨94, _⟩ => ⟨S8192x2816, .f32⟩
  | .hbm, ⟨95, _⟩ => ⟨S8192x2816, .f32⟩
  | .hbm, ⟨96, _⟩ => ⟨S8192x2816, .f32⟩
  | .hbm, ⟨97, _⟩ => ⟨S8192x2816, .f32⟩
  | .hbm, ⟨98, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_v27_2 : Ref sig .tc := ⟨.hbm, 57, rfl⟩
abbrev main_call2_cst_1 : Ref sig .tc := ⟨.hbm, 58, rfl⟩
abbrev main_call2_v6 : Ref sig .tc := ⟨.hbm, 59, rfl⟩
abbrev main_call2_v7 : Ref sig .tc := ⟨.hbm, 60, rfl⟩
abbrev main_v27_1 : Ref sig .tc := ⟨.hbm, 61, rfl⟩
abbrev main_v27_0 : Ref sig .tc := ⟨.hbm, 62, rfl⟩
abbrev main_v28 : Ref sig .tc := ⟨.hbm, 63, rfl⟩
abbrev main_v29 : Ref sig .tc := ⟨.hbm, 64, rfl⟩
abbrev main_cst_3 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x2816, .f32⟩
  | .hbm, ⟨3, _⟩ => ⟨S8192x2816, .f32⟩
  | .hbm, ⟨4, _⟩ => ⟨S1x8192x2816, .f32⟩
  | .hbm, ⟨5, _⟩ => ⟨S1x8192x2816, .f32⟩
  | .hbm, ⟨6, _⟩ => ⟨S2x8192x2816, .f32⟩
  | .hbm, ⟨7, _⟩ => ⟨S2x8192x2816, .bf16⟩
  | .hbm, ⟨8, _⟩ => ⟨S4x1024x1408, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S1x2816x1024 : Shape := ⟨3, ![1, 2816, 1024]⟩
abbrev S1x1024 : Shape := ⟨2, ![1, 1024]⟩
abbrev S2x8192x2816 : Shape := ⟨3, ![2, 8192, 2816]⟩
abbrev S512x1024 : Shape := ⟨2, ![512, 1024]⟩
abbrev S1x1x1024x1408 : Shape := ⟨4, ![1, 1, 1024, 1408]⟩
abbrev S1x1408x1024 : Shape := ⟨3, ![1, 1408, 1024]⟩
abbrev S2x512x1408 : Shape := ⟨3, ![2, 512, 1408]⟩
abbrev S1024x1408 : Shape := ⟨2, ![1024, 1408]⟩
abbrev S512x1408 : Shape := ⟨2, ![512, 1408]⟩
abbrev S1x512x1408 : Shape := ⟨3, ![1, 512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 16
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S1x4x1024x1408, .bf16⟩
  | .hbm, ⟨9, _⟩ => ⟨S2816x1024, .bf16⟩
  | .hbm, ⟨10, _⟩ => ⟨S1x2816x1024, .bf16⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S2x512x1408, .bf16⟩
  | .local _ .vmem, ⟨15, _⟩ => ⟨S2x512x1408, .bf16⟩
  | .local _ .vmem, ⟨16, _⟩ => ⟨S512x1024, .bf16⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v36 : BitVec 1 := Scalar.cmpi .eq arg1 c1_i32
  let v37 : BitVec 32 := Scalar.extui v36
  let c0_i32_27 : BitVec 32 := 0#32
  let v38 : BitVec 1 := Scalar.cmpi .ne v37 c0_i32_27
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192x5632 : Shape := ⟨2, ![8192, 5632]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S1x8192x2816 : Shape := ⟨3, ![1, 8192, 2816]⟩
abbrev S2x8192x2816 : Shape := ⟨3, ![2, 8192, 2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x5632, .f32⟩
  | .hbm, ⟨56, _⟩ => ⟨S8192x2816, .f32⟩
  | .hbm, ⟨57, _⟩ => ⟨S8192x2816, .f32⟩
  | .hbm, ⟨58, _⟩ => ⟨S1x8192x2816, .f32⟩
  | .hbm, ⟨59, _⟩ => ⟨S1x8192x2816, .f32⟩
  | .hbm, ⟨60, _⟩ => ⟨S2x8192x2816, .f32⟩
  | .hbm, ⟨61, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024x1024 : Shape := ⟨3, ![1, 1024, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x1024, .bf16⟩
  | .hbm, ⟨11, _⟩ => ⟨S1x1024x1024, .bf16⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .bf16⟩
  | .hbm, ⟨99, _⟩ => ⟨S1x1024, .f32⟩
  | .hbm, ⟨100, _⟩ => ⟨S1x1024, .f32⟩
  | .hbm, ⟨101, _⟩ => ⟨S2x1024, .f32⟩
  | .hbm, ⟨102, _⟩ => ⟨S_, .f32⟩
  | .hbm, ⟨103, _⟩ => ⟨S6x1024, .f32⟩
  | .hbm, ⟨104, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_19 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_20 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x4x1024x512 : Shape := ⟨4, ![1, 4, 1024, 512]⟩
abbrev S8192x2048 : Shape := ⟨2, ![8192, 2048]⟩
abbrev S512x1024 : Shape := ⟨2, ![512, 1024]⟩
abbrev S512x2048 : Shape := ⟨2, ![512, 2048]⟩
abbrev S1x1x1024x512 : Shape := ⟨4, ![1, 1, 1024, 512]⟩
abbrev S1024x512 : Shape := ⟨2, ![1024, 512]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x2048, .bf16⟩
  | .hbm, ⟨3, _⟩ => ⟨S1024x4x512, .bf16⟩
  | .hbm, ⟨4, _⟩ => ⟨S4x1024x512, .bf16⟩
  | .hbm, ⟨5, _⟩ => ⟨S1x4x1024x512, .bf16⟩
  | .hbm, ⟨6, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x4x1024x512, .bf16⟩
  | .local _ .vmem, ⟨3, _⟩ => ⟨S512x2048, .f32⟩
  | .local _ .vmem, ⟨4, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S1x1024x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel10.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S1024x4x512 : Shape := ⟨3, ![1024, 4, 512]⟩
abbrev S4x1024x512 : Shape := ⟨3, ![4, 1024, 512]⟩
abbrev S1x4x1024x512 : Shape := ⟨4, ![1, 4, 1024, 512]⟩
abbrev S_ : Shape := ⟨0, ![]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512x512 : Shape := ⟨2, ![512, 512]⟩
abbrev S1x1x1024x512 : Shape := ⟨4, ![1, 1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S8192x1024, .f32⟩
  | .hbm, ⟨5, _⟩ => ⟨S8192x2048, .f32⟩
  | .hbm, ⟨6, _⟩ => ⟨S1024x2048, .bf16⟩
  | .hbm, ⟨7, _⟩ => ⟨S1024x4x512, .bf16⟩
  | .hbm, ⟨8, _⟩ => ⟨S4x1024x512, .bf16⟩
  | .hbm, ⟨9, _⟩ => ⟨S1x4x1024x512, .bf16⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S8x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S1x4x1024x512, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S8192x1024, .f32⟩
  | .hbm, ⟨5, _⟩ => ⟨S8192x2048, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x2048, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S8192x1024, .f32⟩
  | .hbm, ⟨104, _⟩ => ⟨S8192x1024, .f32⟩
  | .hbm, ⟨105, _⟩ => ⟨S8192x1024, .bf16⟩
  | .hbm, ⟨106, _⟩ => ⟨S1x1024, .f32⟩
  | .hbm, ⟨107, _⟩ => ⟨S1x1024, .f32⟩
  | .hbm, ⟨108, _⟩ => ⟨S2x1024, .f32⟩
  | .hbm, ⟨109, _⟩ => ⟨S_, .f32⟩
  | .hbm, ⟨110, _⟩ => ⟨S6x1024, .f32⟩
  | .hbm, ⟨111, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_cst_19 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_20 : Ref sig .tc := ⟨.hbm, 99, rfl⟩
abbrev main_v72 : Ref sig .tc := ⟨.hbm, 100, rfl⟩
abbrev main_v73 : Ref sig .tc := ⟨.hbm, 101, rfl⟩
abbrev main_cst_21 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_22 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S1x2816x1024 : Shape := ⟨3, ![1, 2816, 1024]⟩
abbrev S1x1024 : Shape := ⟨2, ![1, 1024]⟩
abbrev S512x1024 : Shape := ⟨2, ![512, 1024]⟩
abbrev S2x512x1408 : Shape := ⟨3, ![2, 512, 1408]⟩
abbrev S1x1408x1024 : Shape := ⟨3, ![1, 1408, 1024]⟩
abbrev S512x1408 : Shape := ⟨2, ![512, 1408]⟩
abbrev S1408x1024 : Shape := ⟨2, ![1408, 1024]⟩
abbrev S1x512x1408 : Shape := ⟨3, ![1, 512, 1408]⟩
abbrev S8x1024 : Shape := ⟨2, ![8, 1024]⟩
abbrev S2x512x2816 : Shape := ⟨3, ![2, 512, 2816]⟩
abbrev S1x512x2816 : Shape := ⟨3, ![1, 512, 2816]⟩
abbrev S512x2816 : Shape := ⟨2, ![512, 2816]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 40
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S1x8192x2816, .f32⟩
  | .hbm, ⟨11, _⟩ => ⟨S1x8192x2816, .f32⟩
  | .hbm, ⟨12, _⟩ => ⟨S2x8192x2816, .f32⟩
  | .hbm, ⟨13, _⟩ => ⟨S2x8192x2816, .bf16⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x5632, .bf16⟩
  | .hbm, ⟨22, _⟩ => ⟨S1024x4x1408, .bf16⟩
  | .hbm, ⟨23, _⟩ => ⟨S4x1024x1408, .bf16⟩
  | .hbm, ⟨24, _⟩ => ⟨S1x4x1024x1408, .bf16⟩
  | .hbm, ⟨25, _⟩ => ⟨S2816x1024, .bf16⟩
  | .hbm, ⟨26, _⟩ => ⟨S1x2816x1024, .bf16⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S2x8192x2816, .bf16⟩
  | .hbm, ⟨36, _⟩ => ⟨S8192x2816, .bf16⟩
  | .hbm, ⟨37, _⟩ => ⟨S8192x1024, .f32⟩
  | .hbm, ⟨38, _⟩ => ⟨S8192x1024, .bf16⟩
  | .hbm, ⟨39, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S2x512x1408, .bf16⟩
  | .local _ .vmem, ⟨3, _⟩ => ⟨S2x512x1408, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1024, .f32⟩
  | .local _ .vmem, ⟨11, _⟩ => ⟨S512x1024, .f32⟩
  | .local _ .vmem, ⟨12, _⟩ => ⟨S2x512x2816, .bf16⟩
  | .local _ .vmem, ⟨13, _⟩ => ⟨S2x512x2816, .bf16⟩
  | .local _ .vmem, ⟨14, _⟩ => ⟨S1x4x1024x1408, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4x1024x1408 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== Reference11Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩
abbrev S6x1024 : Shape := ⟨2, ![6, 1024]⟩
abbrev S8x1024 : Shape := ⟨2, ![8, 1024]⟩
abbrev S1x8192x2816 : Shape := ⟨3, ![1, 8192, 2816]⟩
abbrev S2x8192x2816 : Shape := ⟨3, ![2, 8192, 2816]⟩

abbrev nBuf : Space → Nat
  | .hbm => 204
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S8192x1024, .f32⟩
  | 4 => ⟨S1024x5632, .f32⟩
  | 5 => ⟨S2816x1024, .f32⟩
  | 6 => ⟨S8192x1024, .f32⟩
  | 7 => ⟨S_, .f32⟩
  | 8 => ⟨S8192x1024, .f32⟩
  | 9 => ⟨S8192x1024, .f32⟩
  | 10 => ⟨S8192x5632, .f32⟩
  | 11 => ⟨S8192x2816, .f32⟩
  | 12 => ⟨S8192x2816, .f32⟩
  | 13 => ⟨S8192x2816, .f32⟩
  | 14 => ⟨S8192x2816, .f32⟩
  | 15 => ⟨S_, .f32⟩
  | 16 => ⟨S8192x2816, .f32⟩
  | 17 => ⟨S8192x2816, .f32⟩
  | 18 => ⟨S_, .f32⟩
  | 19 => ⟨S8192x2816, .f32⟩
  | 20 => ⟨S8192x2816, .f32⟩
  | 21 => ⟨S_, .f32⟩
  | 22 => ⟨S8192x2816, .f32⟩
  | 23 => ⟨S8192x2816, .f32⟩
  | 24 => ⟨S8192x2816, .f32⟩
  | 25 => ⟨S8192x2816, .f32⟩
  | 26 => ⟨S8192x2816, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x2816, .f32⟩
  | 43 => ⟨S8192x2816, .f32⟩
  | 44 => ⟨S8192x5632, .f32⟩
  | 45 => ⟨S8192x1024, .f32⟩
  | 46 => ⟨S_, .f32⟩
  | 47 => ⟨S8192x1024, .f32⟩
  | 48 => ⟨S8192x1024, .f32⟩
  | 49 => ⟨S8192x1024, .f32⟩
  | 50 => ⟨S8192x5632, .f32⟩
  | 51 => ⟨S8192x2816, .f32⟩
  | 52 => ⟨S8192x2816, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S8192x2816, .f32⟩
  | 65 => ⟨S8192x2816, .f32⟩
  | 66 => ⟨S8192x2816, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x2816, .f32⟩
  | 75 => ⟨S8192x2816, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x5632, .f32⟩
  | 82 => ⟨S_, .f32⟩
  | 83 => ⟨S1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x1024, .f32⟩
  | 110 => ⟨S8192x1024, .f32⟩
  | 111 => ⟨S_, .f32⟩
  | 112 => ⟨S8192x1, .f32⟩
  | 113 => ⟨S8192x1, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x1024, .f32⟩
  | 120 => ⟨S8192x1024, .f32⟩
  | 121 => ⟨S1x1024, .f32⟩
  | 122 => ⟨S8192x1024, .f32⟩
  | 123 => ⟨S8192x1024, .f32⟩
  | 124 => ⟨S1x1024, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1x1024, .f32⟩
  | 2 => ⟨S_, .f32⟩
  | 3 => ⟨S1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1024, .f32⟩
  | 18 => ⟨S8192x1, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S8192x1024, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S8192x1024, .bf16⟩
  | 50 => ⟨S1x1024, .f32⟩
  | 51 => ⟨S1x1024, .f32⟩
  | 52 => ⟨S2x1024, .f32⟩
  | 53 => ⟨S_, .f32⟩
  | 54 => ⟨S6x1024, .f32⟩
  | 55 => ⟨S8x1024, .f32⟩
  | 56 => ⟨S8192x2816, .f32⟩
  | 57 => ⟨S8192x2816, .f32⟩
  | 58 => ⟨S1x8192x2816, .f32⟩
  | 59 => ⟨S1x8192x2816, .f32⟩
  | 60 => ⟨S2x8192x2816, .f32⟩
  | 61 => ⟨S2x8192x2816, .bf16⟩
  | 62 => ⟨S8192x5632, .f32⟩
  | 63 => ⟨S8192x2816, .f32⟩
  | 64 => ⟨S8192x2816, .f32⟩
  | 65 => ⟨S8192x2816, .f32⟩
  | 66 => ⟨S8192x2816, .f32⟩
  | 67 => ⟨S_, .f32⟩
  | 68 => ⟨S8192x2816, .f32⟩
  | 69 => ⟨S8192x2816, .f32⟩
  | 70 => ⟨S_, .f32⟩
  | 71 => ⟨S8192x2816, .f32⟩
  | 72 => ⟨S8192x2816, .f32⟩
  | 73 => ⟨S8192x2816, .f32⟩
  | 74 => ⟨S8192x2816, .f32⟩
  | 75 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v5_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v5_1 : Ref sig .tc := ⟨.hbm, 24, rfl⟩
abbrev main_v5_0 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_v27_2 : Ref sig .tc := ⟨.hbm, 60, rfl⟩
abbrev main_call2_cst_1 : Ref sig .tc := ⟨.hbm, 61, rfl⟩
abbrev main_call2_v6 : Ref sig .tc := ⟨.hbm, 62, rfl⟩
abbrev main_call2_v7 : Ref sig .tc := ⟨.hbm, 63, rfl⟩
abbrev main_v27_1 : Ref sig .tc := ⟨.hbm, 64, rfl⟩
abbrev main_v27_0 : Ref sig .tc := ⟨.hbm, 65, rfl⟩
abbrev main_v28 : Ref sig .tc := ⟨.hbm, 66, rfl⟩
abbrev main_v29 : Ref sig .tc := ⟨.hbm, 67, rfl⟩
abbrev main_cst_3 : Ref sig .tc := ⟨.hbm, 68, rfl⟩
abbrev main_v30 : Ref sig .tc := ⟨.hbm, 69, rfl⟩
abbrev main_v31 : Ref sig .tc := ⟨.hbm, 70, rfl⟩
abbrev main_cst_4 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v37 : Ref sig .tc := ⟨.hbm, 80, rfl⟩
abbrev main_v38 : Ref sig .tc := ⟨.hbm, 81, rfl⟩
abbrev main_cst_5 : Ref sig .tc := ⟨.hbm, 82, rfl⟩
abbrev main_v39 : Ref sig .tc := ⟨.hbm, 83, rfl⟩
abbrev main_cst_6 : Ref sig .tc := ⟨.hbm, 84, rfl⟩
abbrev main_v40 : Ref sig .tc := ⟨.hbm, 85, rfl⟩
abbrev main_v41 : Ref sig .tc := ⟨.hbm, 86, rfl⟩
abbrev main_cst_7 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_8 : Ref sig .tc := ⟨.hbm, 91, rfl⟩
abbrev main_v45 : Ref sig .tc := ⟨.hbm, 92, rfl⟩
abbrev main_v46 : Ref sig .tc := ⟨.hbm, 93, rfl⟩
abbrev main_cst_9 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_10 : Ref sig .tc := ⟨.hbm, 100, rfl⟩
abbrev main_v52 : Ref sig .tc := ⟨.hbm, 101, rfl⟩
abbrev main_v53 : Ref sig .tc := ⟨.hbm, 102, rfl⟩
abbrev main_cst_11 : Ref sig .tc := ⟨.hbm, 103, rfl⟩
abbrev main_v54 : Ref sig .tc := ⟨.hbm, 104, rfl⟩
abbrev main_v55 : Ref sig .tc := ⟨.hbm, 105, rfl⟩
abbrev main_cst_12 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_13 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_14 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_15 : Ref sig .tc := ⟨.hbm, 127, rfl⟩
abbrev main_v74 : Ref sig .tc := ⟨.hbm, 128, rfl⟩
abbrev main_v75 : Ref sig .tc := ⟨.hbm, 129, rfl⟩
abbrev main_cst_16 : Ref sig .tc := ⟨.hbm, 130, rfl⟩
abbrev main_v76 : Ref sig .tc := ⟨.hbm, 131, rfl⟩
abbrev main_v77 : Ref sig .tc := ⟨.hbm, 132, rfl⟩
abbrev main_cst_17 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_18 : Ref sig .tc := ⟨.hbm, 138, rfl⟩
abbrev main_v82 : Ref sig .tc := ⟨.hbm, 139, rfl⟩
abbrev main_v83 : Ref sig .tc := ⟨.hbm, 140, rfl⟩
abbrev main_cst_19 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_20 : Ref sig .tc := ⟨.hbm, 148, rfl⟩
abbrev main_v90 : Ref sig .tc := ⟨.hbm, 149, rfl⟩
abbrev main_v91 : Ref sig .tc := ⟨.hbm, 150, rfl⟩
abbrev main_cst_21 : Ref sig .tc := ⟨.hbm, 151, rfl⟩
abbrev main_v92 : Ref sig .tc := ⟨.hbm, 152, rfl⟩
abbrev main_v93 : Ref sig .tc := ⟨.hbm, 153, rfl⟩
abbrev main_cst_22 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_23 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_24 : Ref sig .tc := ⟨.hbm, 164, rfl⟩
abbrev main_v102 : Ref sig .tc := ⟨.hbm, 165, rfl⟩
abbrev main_v103 : Ref sig .tc := ⟨.hbm, 166, rfl⟩
abbrev main_cst_25 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_26 : Ref sig .tc := ⟨.hbm, 171, rfl⟩
abbrev main_v107 : Ref sig .tc := ⟨.hbm, 172, rfl⟩
abbrev main_v108 : Ref sig .tc := ⟨.hbm, 173, rfl⟩
abbrev main_cst_27 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_cst_28 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_call4_v0 : Ref sig .tc := ⟨.hbm, 193, rfl⟩
abbrev main_call4_v1 : Ref sig .tc := ⟨.hbm, 194, rfl⟩
abbrev main_call4_cst : Ref sig .tc := ⟨.hbm, 195, rfl⟩
abbrev main_call4_v2 : Ref sig .tc := ⟨.hbm, 196, rfl⟩
abbrev main_call4_v3 : Ref sig .tc := ⟨.hbm, 197, rfl⟩
abbrev main_call4_cst_0 : Ref sig .tc := ⟨.hbm, 198, rfl⟩
abbrev main_call4_v4 : Ref sig .tc := ⟨.hbm, 199, rfl⟩
abbrev main_call4_v5 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S4x1024x512 : Shape := ⟨3, ![4, 1024, 512]⟩
abbrev S512x1024 : Shape := ⟨2, ![512, 1024]⟩
abbrev S512x2048 : Shape := ⟨2, ![512, 2048]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .bf16⟩
  | .hbm, ⟨3, _⟩ => ⟨S4x1024x512, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S4x1024x512, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference12Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x1408 : Shape := ⟨2, ![2048, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2048x512 : Shape := ⟨2, ![2048, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S40x1024 : Shape := ⟨2, ![40, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S40x1024, .f32⟩
  | .hbm, ⟨1, _⟩ => ⟨S40x1024, .f32⟩
  | .hbm, ⟨2, _⟩ => ⟨S40x1024, .f32⟩
  | .hbm, ⟨3, _⟩ => ⟨S40x1024, .f32⟩
  | .hbm, ⟨4, _⟩ => ⟨S40x1024, .f32⟩
  | .hbm, ⟨5, _⟩ => ⟨S40x1024, .f32⟩
  | .hbm, ⟨6, _⟩ => ⟨S40x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S40x1024 : Shape := ⟨2, ![40, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S40x1024, .f32⟩
  | .hbm, ⟨2, _⟩ => ⟨S40x1024, .f32⟩
  | .hbm, ⟨3, _⟩ => ⟨S40x1024, .f32⟩
  | .hbm, ⟨4, _⟩ => ⟨S_, .f32⟩
  | .hbm, ⟨5, _⟩ => ⟨S40x1024, .f32⟩
  | .hbm, ⟨6, _⟩ => ⟨S40x1024, .f32⟩
  | .hbm, ⟨7, _⟩ => ⟨S_, .f32⟩
  | .hbm, ⟨8, _⟩ => ⟨S40x1024, .f32⟩
  | .hbm, ⟨9, _⟩ => ⟨S40x1024, .f32⟩
  | .hbm, ⟨10, _⟩ => ⟨S40x1024, .f32⟩
  | .hbm, ⟨11, _⟩ => ⟨S_, .f32⟩
  | .hbm, ⟨12, _⟩ => ⟨S40x1024, .f32⟩
  | .hbm, ⟨13, _⟩ => ⟨S40x1024, .f32⟩
  | .hbm, ⟨14, _⟩ => ⟨S40x1024, .f32⟩
  | .hbm, ⟨15, _⟩ => ⟨S_, .f32⟩
  | .hbm, ⟨16, _⟩ => ⟨S40x1024, .f32⟩
  | .hbm, ⟨17, _⟩ => ⟨S40x1024, .f32⟩
  | .hbm, ⟨18, _⟩ => ⟨S40x1024, .f32⟩
  | .hbm, ⟨19, _⟩ => ⟨S_, .f32⟩
  | .hbm, ⟨20, _⟩ => ⟨S40x1024, .f32⟩
  | .hbm, ⟨21, _⟩ => ⟨S40x1024, .f32⟩
  | .hbm, ⟨22, _⟩ => ⟨S_, .f32⟩
  | .hbm, ⟨23, _⟩ => ⟨S40x1024, .f32⟩
  | .hbm, ⟨24, _⟩ => ⟨S40x1024, .f32⟩
  | .hbm, ⟨25, _⟩ => ⟨S40x1024, .f32⟩
  | .hbm, ⟨26, _⟩ => ⟨S_, .f32⟩
  | .hbm, ⟨27, _⟩ => ⟨S40x1024, .f32⟩
  | .hbm, ⟨28, _⟩ => ⟨S40x1024, .f32⟩
  | .hbm, ⟨29, _⟩ => ⟨S40x1024, .f32⟩
  | .hbm, ⟨30, _⟩ => ⟨S_, .f32⟩
  | .hbm, ⟨31, _⟩ => ⟨S40x1024, .f32⟩
  | .hbm, ⟨32, _⟩ => ⟨S40x1024, .f32⟩
  | .hbm, ⟨33, _⟩ => ⟨S40x1024, .f32⟩
  | .hbm, ⟨34, _⟩ => ⟨S_, .f32⟩
  | .hbm, ⟨35, _⟩ => ⟨S40x1024, .f32⟩
  | .hbm, ⟨36, _⟩ => ⟨S40x1024, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Attn.Real.lean ====
/- Sliding-window attention with sinks and its gradients, over the real numbers: the probabilities, the scores' cotangent,
   the four gradients, and the window's keys counted block by block. -/
module

public import Idealize.ShloMosaic.PureOps.Ideal.Laws
public import Mathlib.Analysis.SpecialFunctions.Log.Basic

@[expose] public section

noncomputable section

namespace Cert.Attn

open Idealize.ShloMosaic
open scoped BigOperators

/-- A finite sum of reals, summed among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals. -/
theorem coe_div {x y : ℝ} (h : y ≠ 0) : Ideal.div (x : EReal) (y : EReal) = ((x / y : ℝ) : EReal) := by
  rw [Ideal.div_coe h, ← EReal.coe_mul, one_div, div_eq_mul_inv]

/-- The queries (8 heads), keys and values (2 heads), the sinks, and the output's cotangent. -/
structure Data where
  q : Fin 8192 → Fin 8 → Fin 64 → ℝ
  k : Fin 8192 → Fin 2 → Fin 64 → ℝ
  v : Fin 8192 → Fin 2 → Fin 64 → ℝ
  s : Fin 8 → ℝ
  d : Fin 8192 → Fin 8 → Fin 64 → ℝ

/-- Query head `g` of kv head `a`. -/
def hd (a : Fin 2) (g : Fin 4) : Fin 8 := ⟨a.val * 4 + g.val, by omega⟩
/-- The kv head of a query head. -/
def kv (h : Fin 8) : Fin 2 := ⟨h.val / 4, by omega⟩
@[simp] theorem kv_hd (a : Fin 2) (g : Fin 4) : kv (hd a g) = a := by ext; simp only [kv, hd]; omega

/-- Query `i` sees key `j`. -/
def near (i j : Fin 8192) : Prop := i.val ≤ j.val + 128 ∧ j.val ≤ i.val + 128
instance (i j : Fin 8192) : Decidable (near i j) := inferInstanceAs (Decidable (_ ∧ _))

namespace Data

variable (D : Data)

def score (h : Fin 8) (i j : Fin 8192) : ℝ := (∑ l, D.k j (kv h) l * D.q i h l) * (1 / 8)
/-- The score, outside the window minus infinity. -/
def masked (h : Fin 8) (i j : Fin 8192) : EReal := if near i j then (D.score h i j : EReal) else ⊥
/-- The largest score in the window. -/
def top (h : Fin 8) (i : Fin 8192) : EReal := Finset.univ.fold max ⊥ fun j => D.masked h i j
def rmax (h : Fin 8) (i : Fin 8192) : ℝ := (D.top h i).toReal
def mx (h : Fin 8) (i : Fin 8192) : ℝ := max (D.rmax h i) (D.s h)
def E (h : Fin 8) (i j : Fin 8192) : ℝ := if near i j then Real.exp (D.score h i j - D.mx h i) else 0
def es (h : Fin 8) (i : Fin 8192) : ℝ := Real.exp (D.s h - D.mx h i)
def Z (h : Fin 8) (i : Fin 8192) : ℝ := ∑ j, D.E h i j + D.es h i
def O (h : Fin 8) (i : Fin 8192) (l : Fin 64) : ℝ := ∑ j, D.v j (kv h) l * D.E h i j
/-- The row's log-sum. -/
def L (h : Fin 8) (i : Fin 8192) : ℝ := D.mx h i + Real.log (D.Z h i)
/-- The row's sum of cotangent times output. -/
def Δ (h : Fin 8) (i : Fin 8192) : ℝ := ∑ l, D.d i h l * (D.O h i l / D.Z h i)
def U (h : Fin 8) (i j : Fin 8192) : ℝ := ∑ l, D.d i h l * D.v j (kv h) l
/-- The probability. -/
def P (h : Fin 8) (i j : Fin 8192) : ℝ := D.E h i j / D.Z h i
/-- The score's cotangent. -/
def W (h : Fin 8) (i j : Fin 8192) : ℝ := D.P h i j * (D.U h i j - D.Δ h i)

/-- The gradients of the queries, keys, values and sinks. -/
def gq (i : Fin 8192) (h : Fin 8) (l : Fin 64) : ℝ := (∑ j, D.W h i j * D.k j (kv h) l) * (1 / 8)
def gk (j : Fin 8192) (a : Fin 2) (l : Fin 64) : ℝ := ∑ i, ∑ g, D.W (hd a g) i j * (D.q i (hd a g) l * (1 / 8))
def gv (j : Fin 8192) (a : Fin 2) (l : Fin 64) : ℝ := ∑ i, ∑ g, D.P (hd a g) i j * D.d i (hd a g) l
def gs (h : Fin 8) : ℝ := -∑ i, Real.exp (D.s h - D.L h i) * D.Δ h i

theorem E_nonneg (h : Fin 8) (i j : Fin 8192) : 0 ≤ D.E h i j := by unfold E; split <;> positivity
theorem es_pos (h : Fin 8) (i : Fin 8192) : 0 < D.es h i := Real.exp_pos _
theorem Z_pos (h : Fin 8) (i : Fin 8192) : 0 < D.Z h i :=
  add_pos_of_nonneg_of_pos (Finset.sum_nonneg fun j _ => D.E_nonneg h i j) (D.es_pos h i)
theorem Z_ne (h : Fin 8) (i : Fin 8192) : D.Z h i ≠ 0 := (D.Z_pos h i).ne'

theorem top_eq_sup (h : Fin 8) (i : Fin 8192) : D.top h i = Finset.univ.sup fun j => D.masked h i j := rfl

/-- The largest score is one of them, -/
theorem top_mem (h : Fin 8) (i : Fin 8192) : ∃ j, D.masked h i j = D.top h i := by
  obtain ⟨j, _, hj⟩ := Finset.exists_mem_eq_sup (Finset.univ : Finset (Fin 8192)) ⟨i, Finset.mem_univ i⟩ fun j => D.masked h i j
  exact ⟨j, hj.symm⟩

/-- and no infinity, since a query sees its own key. -/
theorem coe_rmax (h : Fin 8) (i : Fin 8192) : (D.rmax h i : EReal) = D.top h i := by
  have hi : near i i := ⟨by omega, by omega⟩
  have hle : D.masked h i i ≤ D.top h i := Finset.le_sup (f := fun j => D.masked h i j) (Finset.mem_univ i)
  have hb : D.top h i ≠ ⊥ := by
    intro hc
    rw [hc, le_bot_iff, masked, if_pos hi] at hle
    exact EReal.coe_ne_bot _ hle
  have ht : D.top h i ≠ ⊤ := by
    obtain ⟨j, hj⟩ := D.top_mem h i
    rw [← hj, masked]
    split
    · exact EReal.coe_ne_top _
    · exact bot_ne_top
  exact EReal.coe_toReal ht hb

theorem coe_mx (h : Fin 8) (i : Fin 8192) : (D.mx h i : EReal) = max (D.top h i) (D.s h : EReal) := by
  rw [← D.coe_rmax, mx]
  exact EReal.coe_strictMono.monotone.map_max

theorem coe_E (h : Fin 8) (i j : Fin 8192) : Ideal.exp (D.masked h i j - (D.mx h i : EReal)) = (D.E h i j : EReal) := by
  unfold masked E
  split
  · rw [← EReal.coe_sub, Ideal.exp_coe]
  · simp

/-- The probability by the log-sum. -/
theorem exp_sub_L (h : Fin 8) (i : Fin 8192) (x : ℝ) : Real.exp (x - D.L h i) = Real.exp (x - D.mx h i) / D.Z h i := by
  rw [L, ← sub_sub, Real.exp_sub _ (Real.log _), Real.exp_log (D.Z_pos h i)]

theorem P_eq (h : Fin 8) (i j : Fin 8192) : D.P h i j = if near i j then Real.exp (D.score h i j - D.L h i) else 0 := by
  unfold P E
  split
  · rw [exp_sub_L]
  · simp

theorem P_far {h : Fin 8} {i j : Fin 8192} (hn : ¬near i j) : D.P h i j = 0 := by rw [P_eq, if_neg hn]
theorem W_far {h : Fin 8} {i j : Fin 8192} (hn : ¬near i j) : D.W h i j = 0 := by rw [W, P_far D hn, zero_mul]

theorem sum_EU (h : Fin 8) (i : Fin 8192) : ∑ j, D.E h i j * (D.U h i j / D.Z h i) = D.Δ h i := by
  simp only [U, Δ, O, Finset.sum_div, Finset.mul_sum]
  rw [Finset.sum_comm]
  refine Finset.sum_congr rfl fun l _ => Finset.sum_congr rfl fun j _ => ?_
  ring

/-- The cotangent of a row's maximum is zero: the softmax does not depend on it. -/
theorem max_zero (h : Fin 8) (i : Fin 8192) :
    D.Δ h i / D.Z h i * D.es h i - ∑ j, D.E h i j * (D.U h i j / D.Z h i - D.Δ h i / D.Z h i) = 0 := by
  simp only [mul_sub, Finset.sum_sub_distrib, sum_EU, ← Finset.sum_mul]
  have hz := D.Z_ne h i
  have e : ∑ j, D.E h i j = D.Z h i - D.es h i := by rw [Z]; ring
  rw [e]
  field_simp
  ring

end Data

/-! ## The window, block by block -/

/-- Row `a` of block `n`. -/
def row (n : Fin 64) (a : Fin 128) : Fin 8192 := ⟨n.val * 128 + a.val, by omega⟩
/-- The block of keys that neighbour `b` of block `n` is. -/
def nbr (n : Fin 64) (b : Fin 3) : Fin 64 := ⟨min 63 (n.val + b.val - 1), by omega⟩
/-- Key `c` of that block is in the window of row `a` of block `n`, the clamped blocks at the ends left out. -/
def valid (n : Fin 64) (b : Fin 3) (a c : Fin 128) : Prop :=
  (b.val = 0 → a.val ≤ c.val ∧ 0 < n.val) ∧ (b.val = 2 → c.val ≤ a.val ∧ n.val < 63)
instance (n : Fin 64) (b : Fin 3) (a c : Fin 128) : Decidable (valid n b a c) := inferInstanceAs (Decidable (_ ∧ _))

theorem near_of_valid {n : Fin 64} {b : Fin 3} {a c : Fin 128} (h : valid n b a c) : near (row n a) (row (nbr n b) c) := by
  simp only [valid, near, row, nbr] at *
  omega

/-- Every key in the window is met in exactly one neighbour. -/
theorem sum_nbr (n J : Fin 64) (a c : Fin 128) (x : ℝ) (hx : ¬near (row n a) (row J c) → x = 0) :
    ∑ b : Fin 3, (if nbr n b = J then (if valid n b a c then x else 0) else 0) = x := by
  by_cases hn : near (row n a) (row J c)
  · have e : ∀ b : Fin 3, (if nbr n b = J then (if valid n b a c then x else 0) else 0) = if J.val + 1 = n.val + b.val then x else 0 := by
      intro b
      rw [← ite_and]
      refine if_congr ?_ rfl rfl
      have := b.isLt
      simp only [near, row] at hn
      simp only [nbr, valid, Fin.ext_iff]
      omega
    rw [Finset.sum_congr rfl fun b _ => e b, Fin.sum_univ_three]
    simp only [near, row] at hn
    have h3 : J.val + 1 = n.val ∨ J.val = n.val ∨ J.val = n.val + 1 := by omega
    simp only [Fin.val_zero, Fin.val_one, Fin.val_two]
    rcases h3 with h | h | h
    · rw [if_pos (by omega), if_neg (by omega), if_neg (by omega)]; ring
    · rw [if_neg (by omega), if_pos (by omega), if_neg (by omega)]; ring
    · rw [if_neg (by omega), if_neg (by omega), if_pos (by omega)]; ring
  · rw [hx hn]; simp

/-- The rows, block by block. -/
theorem sum_rows (f : Fin 8192 → ℝ) : ∑ i, f i = ∑ n : Fin 64, ∑ a : Fin 128, f (row n a) := by
  rw [← Fintype.sum_prod_type' fun n a => f (row n a)]
  refine (Fintype.sum_equiv (finProdFinEquiv (m := 64) (n := 128)) _ _ fun x => ?_).symm
  exact congrArg f (Fin.ext (by simp only [row, finProdFinEquiv_apply_val]; omega))

/-- A sum over the window's keys, neighbour by neighbour. -/
theorem sum_keys (n : Fin 64) (a : Fin 128) (f : Fin 8192 → ℝ) (hf : ∀ j, ¬near (row n a) j → f j = 0) :
    ∑ j, f j = ∑ b : Fin 3, ∑ c : Fin 128, if valid n b a c then f (row (nbr n b) c) else 0 := by
  rw [sum_rows]
  have e : ∀ J c, f (row J c) = ∑ b : Fin 3, (if nbr n b = J then (if valid n b a c then f (row J c) else 0) else 0) :=
    fun J c => (sum_nbr n J a c _ (hf _)).symm
  rw [Finset.sum_congr rfl fun J _ => Finset.sum_congr rfl fun c _ => e J c]
  rw [Finset.sum_congr rfl fun J _ => Finset.sum_comm, Finset.sum_comm]
  refine Finset.sum_congr rfl fun b _ => ?_
  rw [Finset.sum_comm]
  refine Finset.sum_congr rfl fun c _ => ?_
  rw [Finset.sum_ite_eq]
  simp

/-- A sum over the rows whose window a key is in, by the neighbour it is of each row's block. -/
theorem sum_queries (J : Fin 64) (c : Fin 128) (f : Fin 8192 → ℝ) (hf : ∀ i, ¬near i (row J c) → f i = 0) :
    ∑ i, f i = ∑ n : Fin 64, ∑ b : Fin 3, if nbr n b = J then (∑ a : Fin 128, if valid n b a c then f (row n a) else 0) else 0 := by
  rw [sum_rows]
  refine Finset.sum_congr rfl fun n _ => ?_
  rw [Finset.sum_congr rfl fun a _ => (sum_nbr n J a c (f (row n a)) (hf _)).symm, Finset.sum_comm]
  refine Finset.sum_congr rfl fun b _ => ?_
  split
  · rfl
  · simp

end Cert.Attn

end
-- ==== Proof.Ffn.Sum.lean ====
/- A long sum taken a stretch at a time. -/
module

public import proofs.«01_k».proof.Proof.Attn.Real
public import Idealize.ShloMosaic.Lib.Pointwise

@[expose] public section

noncomputable section

namespace Cert.Ffn

open Idealize.ShloMosaic

/-- The terms of a finite family, and nothing past its end. -/
def term {n : ℕ} (f : Fin n → EReal) (s : ℕ) : EReal := if h : s < n then f ⟨s, h⟩ else 0

theorem term_at {n : ℕ} (f : Fin n → EReal) (s : ℕ) (h : s < n) : term f s = f ⟨s, h⟩ := dif_pos h

theorem term_all {n : ℕ} (f : Fin n → EReal) : ∑ s ∈ Finset.range n, term f s = ∑ s : Fin n, f s := by
  rw [Finset.sum_range]
  exact Finset.sum_congr rfl fun s _ => term_at f s.val s.isLt

/-- One more stretch. -/
theorem sum_next (f : ℕ → EReal) (n k : ℕ) :
    ∑ s ∈ Finset.range (n * k), f s + ∑ j : Fin k, f (n * k + j.val) = ∑ s ∈ Finset.range ((n + 1) * k), f s := by
  rw [Nat.succ_mul, Finset.sum_range_add, Finset.sum_range (fun j => f (n * k + j))]

theorem sum_first (f : ℕ → EReal) (k : ℕ) : (0 : EReal) + ∑ j : Fin k, f j.val = ∑ s ∈ Finset.range ((0 + 1) * k), f s := by
  rw [← sum_next]
  simp

/-- An index is its coordinates. -/
theorem eta2 {a b : ℕ} (i : (⟨2, ![a, b]⟩ : Shape).Idx) : i = ix2 (i 0) (i 1) := by
  funext k
  match k with
  | ⟨0, _⟩ => rfl
  | ⟨1, _⟩ => rfl

theorem eta3 {a b c : ℕ} (i : (⟨3, ![a, b, c]⟩ : Shape).Idx) : i = ix3 (i 0) (i 1) (i 2) := by
  funext k
  match k with
  | ⟨0, _⟩ => rfl
  | ⟨1, _⟩ => rfl
  | ⟨2, _⟩ => rfl

end Cert.Ffn
end
-- ==== Proof.Ffn.Dwgu.lean ====
/- The gate and up projections' gradient: what the call adds up over its blocks of rows, and the transposed product in column blocks. -/
module

public import proofs.«01_k».proof.Defs
public import proofs.«01_k».proof.Proof.Ffn.Sum
public import proofs.«01_k».proof.Proof.Gen.Kernel3.Frame
public import proofs.«01_k».proof.Proof.Gen.Kernel3Ideal.Value
public import proofs.«01_k».proof.Proof.Gen.Reference3Ideal.Read
public import Idealize.ShloMosaic.Lib.StableHlo.ReadAt
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem Cert.Kernel3Ideal Cert.Kernel3Ideal.Gen Cert.Ffn

section
variable {F : FTy → Type} [FloatOps F]

theorem hz : (![0, 0] : Fin 2 → Nat) = fun _ => 0 := funext fun a => by fin_cases a <;> rfl

theorem hz3 : (![0, 0, 0] : Fin 3 → Nat) = fun _ => 0 := funext fun a => by fin_cases a <;> rfl

variable (c : Dev nD) (i : grid0.Coords) (a2 : Memref sig .tc .vmem S1024x1024 .f32) (h2 : a2.IsWhole) (a3 : Memref sig .tc .vmem S1x1024x1408 .bf16) (h3 : a3.IsWhole)
  (a4 : Memref sig .tc .vmem S1x1024x1408 .f32) (h4 : a4.IsWhole) (a5 : Memref sig .tc .vmem S1024x1408 .f32) (h5 : a5.IsWhole)
  (x0 : Vec F S1024x1024 .f32) (x1 : Vec F S1x1024x1408 .bf16) (xs : Vec F S1024x1408 .f32)

theorem sout_B (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S1024x1408) hz, View.ld_unit_zero (S := S1024x1024) hz, View.ld_unit_zero (S := S1x1024x1408) hz3]

theorem sout_C (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1024x1408) hz, View.ld_unit_zero (S := S1024x1024) hz, View.ld_unit_zero (S := S1x1024x1408) hz3]

theorem out_C (hc0 : ¬cond0_0 i) (hc1 : cond0_1 i) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3]
  simp only [View.readCov_unit_zero (S := S1024x1408) _ hz, View.readAt_eq_ld, h2.read_unread, h3.read_unread, h5.read_unread, View.ld_unit_zero (S := S1024x1408) hz, View.ld_unit_zero (S := S1024x1024) hz, View.ld_unit_zero (S := S1x1024x1408) hz3]

theorem sout_A (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1408) hz, View.readCov_unit_zero (S := S1024x1408) _ hz]
  simp only [View.readAt_eq_ld, h2.read_unread, h3.read_unread, View.ld_unit_zero (S := S1024x1024) hz, View.ld_unit_zero (S := S1x1024x1408) hz3]
end

/-- An entry of a block's transpose times another. -/
def dotAt (x : FVec Ideal S1024x1024 .f32) (y : FVec Ideal S1x1024x1408 .bf16) (r : Fin 1024) (l : Fin 1408) : EReal := ∑ k : Fin 1024, x (ix2 k r) * y (ix3 0 k l)

theorem pay2_at (acc : FVec Ideal S1024x1408 .f32) (x : FVec Ideal S1024x1024 .f32) (y : FVec Ideal S1x1024x1408 .bf16) (r : Fin 1024) (l : Fin 1408) :
    k0_pay2 (F := Ideal) acc x y (ix2 r l) = acc (ix2 r l) + dotAt x y r l := by
  unfold k0_pay2 dotAt
  pointwise

theorem pay1_at (r : Fin 1024) (l : Fin 1408) : k0_pay1 (F := Ideal) (ix2 r l) = 0 := by
  unfold k0_pay1
  pointwise

theorem pay3_at (x : FVec Ideal S1024x1408 .f32) (g : Fin 1) (r : Fin 1024) (l : Fin 1408) : k0_pay3 (F := Ideal) x (ix3 g r l) = x (ix2 r l) := by
  unfold k0_pay3
  pointwise

variable (m : (ℓ : Loc nD τ sig) → Buf (Elt Ideal) ℓ)

/-- The two arguments. -/
def X (c : Dev nD) : FVec Ideal S8192x1024 .f32 := m ((c : Thread nD τ).loc main_arg0)
def D (c : Dev nD) : FVec Ideal S8192x5632 .f32 := m ((c : Thread nD τ).loc main_arg1)

/-- The two halves of the columns, one after the other. -/
def halves (d : FVec Ideal S8192x5632 .f32) : FVec Ideal S2x8192x2816 .bf16 :=
  truncf .bf16 (concatenate S2x8192x2816 0
    [⟨S1x8192x2816, broadcastInDim S1x8192x2816 ![1, 2] bcast_S8192x2816_S1x8192x2816_1_2 (extractStridedSlice S8192x2816 ![0, 0] d slices_S8192x5632_S8192x2816_0_0)⟩,
     ⟨S1x8192x2816, broadcastInDim S1x8192x2816 ![1, 2] bcast_S8192x2816_S1x8192x2816_1_2 (extractStridedSlice S8192x2816 ![0, 2816] d slices_S8192x5632_S8192x2816_0_2816)⟩]
    concatenates_S1x8192x2816_S1x8192x2816_S2x8192x2816_d0) bitsLt_bf16_f32

theorem halves_at (d : FVec Ideal S8192x5632 .f32) (g : Fin 2) (s : Fin 8192) (q : Fin 2816) :
    halves d (ix3 g s q) = d (ix2 s ⟨g.val * 2816 + q.val, by omega⟩) := by
  unfold halves
  pointwise
  fin_cases g <;> simp <;> rfl

theorem v5_eq (c : Dev nD) : (V m c main_v5 : FVec Ideal S2x8192x2816 .bf16) = halves (D m c) := by
  simp only [V, hostOps0, List.flatten_cons, List.flatten_nil, List.append_nil, List.cons_append, List.nil_append]
  after_reads_simp
  rfl

theorem lt32 (t : Fin cfg0.N) : t.val < 32 := lt_of_lt_of_eq t.isLt N_0
theorem idx_x : ∀ t : Fin cfg0.N, win0_0.index t = ![t.val % 8, 0] := (by decide +kernel : ∀ t : Fin grid0.N, win0_0.index t = ![t.val % 8, 0])
theorem idx_y : ∀ t : Fin cfg0.N, win0_1.index t = ![t.val / 8 / 2, t.val % 8, t.val / 8 % 2] := (by decide +kernel : ∀ t : Fin grid0.N, win0_1.index t = ![t.val / 8 / 2, t.val % 8, t.val / 8 % 2])

theorem iblk_x (c : Dev nD) (t : Fin cfg0.N) (k : Fin 1024) (r : Fin 1024) :
    iblk m c 0 t (ix2 k r) = V m c main_arg0 (ix2 ⟨t.val % 8 * 1024 + k.val, by omega⟩ r) := by
  blk_ext [iblk, idx_x t]
theorem iblk_y (c : Dev nD) (t : Fin cfg0.N) (k : Fin 1024) (l : Fin 1408) :
    iblk m c 1 t (ix3 0 k l) = V m c main_v5 (ix3 ⟨t.val / 8 / 2, by have := lt32 t; omega⟩ ⟨t.val % 8 * 1024 + k.val, by omega⟩ ⟨t.val / 8 % 2 * 1408 + l.val, by omega⟩) := by
  blk_ext [iblk, idx_y t]

/-- A row's contribution to an entry. -/
def prod (c : Dev nD) (q : Fin 1024) (l : Fin 5632) (s : Fin 8192) : EReal := X m c (ix2 s q) * D m c (ix2 s l)

theorem blocks_sum (c : Dev nD) (t : Fin cfg0.N) (r : Fin 1024) (l : Fin 1408) (q : Fin 5632) (hq : q.val = t.val / 8 * 1408 + l.val) :
    dotAt (iblk m c 0 t) (iblk m c 1 t) r l = ∑ k : Fin 1024, term (prod m c r q) (t.val % 8 * 1024 + k.val) := by
  refine Finset.sum_congr rfl fun k _ => ?_
  rw [term_at _ _ (by omega)]
  have e0 := iblk_x m c t k r
  have e1 := iblk_y m c t k l
  have eq : q = ⟨t.val / 8 / 2 * 2816 + (t.val / 8 % 2 * 1408 + l.val), by have := lt32 t; omega⟩ := Fin.ext (by show q.val = t.val / 8 / 2 * 2816 + (t.val / 8 % 2 * 1408 + l.val); omega)
  rw [eq]
  exact congrArg₂ (fun a b : EReal => a * b) (e0.trans (congrFun (V_main_arg0 m c) _)) (e1.trans ((congrFun (v5_eq m c) _).trans (halves_at _ _ _ _)))

/-- What the running sum holds after a point. -/
theorem acc_at (c : Dev nD) (r : Fin 1024) (l : Fin 1408) (q : Fin 5632) : ∀ (n : ℕ) (h : n < cfg0.N), q.val = n / 8 * 1408 + l.val →
    (outsAt0 m c n h).2 (ix2 r l) = ∑ s ∈ Finset.range ((n % 8 + 1) * 1024), term (prod m c r q) s
  | n, h, hq => by
    have hN := lt_of_lt_of_eq h (show cfg0.N = 32 from N_0)
    have hb := blocks_sum m c ⟨n, h⟩ r l q hq
    by_cases h0 : n % 8 = 0
    · have h1 : ¬n % 8 = 7 := by omega
      rw [outsAt0_A m c ⟨n, h⟩ h0 h1]
      dsimp only
      rw [sout_A, pay2_at, hb, pay1_at]
      dsimp only
      rw [h0]
      simp only [Nat.zero_mul, Nat.zero_add]
      have := sum_first (term (prod m c r q)) 1024
      simpa using this
    · have ih := acc_at c r l q (n - 1) (by omega) (by omega)
      have e8 : (n - 1) % 8 + 1 = n % 8 := by omega
      rw [e8] at ih
      rw [← sum_next, ← ih]
      by_cases h1 : n % 8 = 7
      · rw [outsAt0_C m c ⟨n, h⟩ h0 h1]
        dsimp only
        rw [sout_C, pay2_at, hb]
      · rw [outsAt0_B m c ⟨n, h⟩ h0 h1]
        dsimp only
        rw [sout_B, pay2_at, hb]

theorem same_C (c : Dev nD) (n : ℕ) (h : n < cfg0.N) (h1 : n % 8 = 7) : (outsAt0 m c n h).1 = k0_pay3 (outsAt0 m c n h).2 := by
  have h0 : ¬n % 8 = 0 := by omega
  rw [outsAt0_C m c ⟨n, h⟩ h0 h1]
  dsimp only
  rw [out_C, sout_C]

/-- The result: the first argument's transpose times the second, in four blocks of columns. -/
def result (c : Dev nD) : FVec Ideal S4x1024x1408 .f32 := fun i => ∑ s : Fin 8192, X m c (ix2 s (i 1)) * D m c (ix2 s ⟨(i 0).val * 1408 + (i 2).val, by have h0 : (i 0).val < 4 := (i 0).isLt; have h2 : (i 2).val < 1408 := (i 2).isLt; omega⟩)

theorem G2_eq (c : Dev nD) : Value.G2 m c = result m c := by
  funext i
  have hi0 : (i 0).val < 4 := (i 0).isLt
  have hi1 : (i 1).val < 1024 := (i 1).isLt
  have hi2 : (i 2).val < 1408 := (i 2).isLt
  have hr : Value.run2Of i = (i 0).val := by
    show 1 * ((i 0).val / 1 - 0) + 1 * ((i 1).val / 1024 - 0) + 1 * ((i 2).val / 1408 - 0) = _
    omega
  have hp : Value.pt2Of i = 8 * (i 0).val + 7 := by
    show 8 * Value.run2Of i + 7 = _
    rw [hr]
  have hlt : Value.pt2Of i < cfg0.N := lt_of_lt_of_eq (by rw [hp]; omega) N_0.symm
  unfold Value.G2
  rw [dif_pos hlt, ← Value.outsAt0_sweep m c (Value.pt2Of i) hlt, same_C m c _ hlt (by rw [hp]; omega)]
  have hl : Value.loc2Of i = ix3 (0 : Fin 1) (⟨(i 1).val, hi1⟩ : Fin 1024) (⟨(i 2).val, hi2⟩ : Fin 1408) := by
    funext a; apply Fin.ext
    match a with
    | ⟨0, _⟩ => show (i 0).val % 1 = 0; omega
    | ⟨1, _⟩ => show (i 1).val % 1024 = (i 1).val; omega
    | ⟨2, _⟩ => show (i 2).val % 1408 = (i 2).val; omega
  rw [hl, pay3_at, acc_at m c _ _ ⟨(i 0).val * 1408 + (i 2).val, by omega⟩ _ hlt (by rw [hp]; show (i 0).val * 1408 + (i 2).val = _ + (i 2).val; omega)]
  have e8 : (Value.pt2Of i % 8 + 1) * 1024 = 8192 := by rw [hp]; omega
  rw [e8, term_all]
  rfl

end Cert.Kernel3Ideal.Ffn

namespace Cert.Ffn

open Idealize.ShloMosaic Idealize.ShloMosaic.TcCoe Idealize.SL.Sem

theorem dwgu_frame : quiescent_Kernel3 := fun m ρ _ => Kernel3.Gen.frame m ρ
theorem dwgu_frame_ideal : quiescent_Kernel3Ideal := fun m ρ _ => Kernel3Ideal.Gen.frame m ρ
theorem dwgu_frame_reference : quiescent_Reference3Ideal := fun m ρ _ =>
  (θ_run Reference3Ideal.defs _ _).mono (fun r h => ⟨fun c => (h c).2, sem_eq_zero_of_no_sems (by decide) r.2⟩) (Reference3Ideal.Value.run (F := Ideal) m ρ)

theorem dwgu_reference (x : FVec Ideal Reference3Ideal.S8192x1024 .f32) (d : FVec Ideal Reference3Ideal.S8192x5632 .f32) (i : Reference3Ideal.S4x1024x1408.Idx) :
    Reference3Ideal.Read.val_main_v5 (F := Ideal) x d i = ∑ s : Fin 8192, x (ix2 s (i 1)) * d (ix2 s ⟨(i 0).val * 1408 + (i 2).val, by have h0 : (i 0).val < 4 := (i 0).isLt; have h2 : (i 2).val < 1408 := (i 2).isLt; omega⟩) := by
  have h0 : (i 0).val < 4 := (i 0).isLt
  have h1 : (i 1).val < 1024 := (i 1).isLt
  have h2 : (i 2).val < 1408 := (i 2).isLt
  rw [Reference3Ideal.Read.val_main_v5_apply, Reference3Ideal.Read.val_main_v4_apply, Reference3Ideal.Read.val_main_v3_apply, Reference3Ideal.Read.val_main_v2_apply]
  refine Finset.sum_congr rfl fun s _ => ?_
  refine (mul_comm _ _).trans (congrArg₂ (fun x y : EReal => x * y) (congrArg x ?_) (congrArg d ?_))
  · funext k
    apply Fin.ext
    match k with
    | ⟨0, _⟩ => rfl
    | ⟨1, _⟩ => simp [Reference3Ideal.Read.ridx_main_v2, Reference3Ideal.Read.idx_main_v3, Reference3Ideal.Read.idx_main_v4, Reference3Ideal.Read.idx_main_v5]; omega
  · funext k
    apply Fin.ext
    match k with
    | ⟨0, _⟩ => rfl
    | ⟨1, _⟩ => simp [Reference3Ideal.Read.lidx_main_v2, Reference3Ideal.Read.idx_main_v3, Reference3Ideal.Read.idx_main_v4, Reference3Ideal.Read.idx_main_v5]; omega

theorem dwgu_equal : algebraic_Kernel3Ideal_Reference3Ideal := by
  intro m g m' g' _ hm
  refine ⟨fun c => Kernel3Ideal.Ffn.result m c, (θ_run _ _ _).mono (fun r hr c => ⟨(hr c).1.trans (Kernel3Ideal.Ffn.G2_eq m c), (hr c).2⟩) (Kernel3Ideal.Value.run m g), ?_⟩
  refine (θ_run Reference3Ideal.defs _ _).mono (fun r hr c => ?_) (Reference3Ideal.Value.run (F := Ideal) m' g')
  obtain ⟨e0, e1⟩ := hm c
  refine ⟨(hr c).1.trans ?_, (hr c).2⟩
  rw [Reference3Ideal.Read.val_main_v5_eq, e0, e1]
  funext i
  exact dwgu_reference _ _ i

end Cert.Ffn
end
-- ==== Proof.Ffn.Dwd.lean ====
/- The down projection's gradient: what the call adds up over its blocks of rows, and the transposed product. -/
module

public import proofs.«01_k».proof.Defs
public import proofs.«01_k».proof.Proof.Ffn.Sum
public import proofs.«01_k».proof.Proof.Gen.Kernel4.Frame
public import proofs.«01_k».proof.Proof.Gen.Kernel4Ideal.Value
public import proofs.«01_k».proof.Proof.Gen.Reference4Ideal.Read
public import Idealize.ShloMosaic.Lib.StableHlo.ReadAt
public import Idealize.ShloMosaic.Lib.Pipeline.ValueKit

@[expose] public section

set_option maxRecDepth 16384

noncomputable section

namespace Cert.Kernel4Ideal.Ffn

open Idealize.ShloMosaic Idealize.ShloMosaic.TcCoe Idealize.SL.Sem Cert.Kernel4Ideal Cert.Kernel4Ideal.Gen Cert.Ffn

section
variable {F : FTy → Type} [FloatOps F]

theorem hz : (![0, 0] : Fin 2 → Nat) = fun _ => 0 := funext fun a => by fin_cases a <;> rfl

variable (c : Dev nD) (i : grid0.Coords) (a2 : Memref sig .tc .vmem S1024x1408 .bf16) (h2 : a2.IsWhole) (a3 : Memref sig .tc .vmem S1024x1024 .bf16) (h3 : a3.IsWhole)
  (a4 : Memref sig .tc .vmem S1408x1024 .f32) (h4 : a4.IsWhole) (a5 : Memref sig .tc .vmem S1408x1024 .f32) (h5 : a5.IsWhole)
  (x0 : Vec F S1024x1408 .bf16) (x1 : Vec F S1024x1024 .bf16) (xs : Vec F S1408x1024 .f32)

theorem sout_B (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S1408x1024) hz, View.ld_unit_zero (S := S1024x1408) hz, View.ld_unit_zero (S := S1024x1024) hz]

theorem sout_C (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1408x1024) hz, View.ld_unit_zero (S := S1024x1408) hz, View.ld_unit_zero (S := S1024x1024) hz]

theorem out_C (hc0 : ¬cond0_0 i) (hc1 : cond0_1 i) :
    out0_C_2 c i a2 h2 a3 h3 a4 h4 a5 h5 hc0 hc1 x0 x1 xs = k0_pay2 xs x0 x1 := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz]
  simp only [View.readCov_unit_zero (S := S1408x1024) _ hz, View.readAt_eq_ld, h2.read_unread, h3.read_unread, h5.read_unread, View.ld_unit_zero (S := S1408x1024) hz, View.ld_unit_zero (S := S1024x1408) hz, View.ld_unit_zero (S := S1024x1024) hz]
  try unfold k0_pay3
  try rfl

theorem sout_A (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1408x1024) hz, View.readCov_unit_zero (S := S1408x1024) _ hz]
  simp only [View.readAt_eq_ld, h2.read_unread, h3.read_unread, View.ld_unit_zero (S := S1024x1408) hz, View.ld_unit_zero (S := S1024x1024) hz]
end

/-- An entry of a block's transpose times another. -/
def dotAt (x : FVec Ideal S1024x1408 .bf16) (y : FVec Ideal S1024x1024 .bf16) (r : Fin 1408) (l : Fin 1024) : EReal := ∑ k : Fin 1024, x (ix2 k r) * y (ix2 k l)

theorem pay2_at (acc : FVec Ideal S1408x1024 .f32) (x : FVec Ideal S1024x1408 .bf16) (y : FVec Ideal S1024x1024 .bf16) (r : Fin 1408) (l : Fin 1024) :
    k0_pay2 (F := Ideal) acc x y (ix2 r l) = acc (ix2 r l) + dotAt x y r l := by
  unfold k0_pay2 dotAt
  pointwise

theorem pay1_at (r : Fin 1408) (l : Fin 1024) : k0_pay1 (F := Ideal) (ix2 r l) = 0 := by
  unfold k0_pay1
  pointwise

variable (m : (ℓ : Loc nD τ sig) → Buf (Elt Ideal) ℓ)

theorem v0_eq (c : Dev nD) : (V m c main_v0 : FVec Ideal S8192x2816 .bf16) = (m ((c : Thread nD τ).loc main_arg0) : FVec Ideal S8192x2816 .f32) := by
  simp only [V, hostOps0, List.flatten_cons, List.flatten_nil, List.append_nil, List.cons_append, List.nil_append]
  after_reads_simp
  rfl
theorem v1_eq (c : Dev nD) : (V m c main_v1 : FVec Ideal S8192x1024 .bf16) = (m ((c : Thread nD τ).loc main_arg1) : FVec Ideal S8192x1024 .f32) := by
  simp only [V, hostOps0, List.flatten_cons, List.flatten_nil, List.append_nil, List.cons_append, List.nil_append]
  after_reads_simp
  rfl

theorem lt16 (t : Fin cfg0.N) : t.val < 16 := lt_of_lt_of_eq t.isLt N_0
theorem idx_x : ∀ t : Fin cfg0.N, win0_0.index t = ![t.val % 8, t.val / 8] := (by decide +kernel : ∀ t : Fin grid0.N, win0_0.index t = ![t.val % 8, t.val / 8])
theorem idx_y : ∀ t : Fin cfg0.N, win0_1.index t = ![t.val % 8, 0] := (by decide +kernel : ∀ t : Fin grid0.N, win0_1.index t = ![t.val % 8, 0])

theorem iblk_x (c : Dev nD) (t : Fin cfg0.N) (k : Fin 1024) (r : Fin 1408) :
    iblk m c 0 t (ix2 k r) = V m c main_v0 (ix2 ⟨t.val % 8 * 1024 + k.val, by omega⟩ ⟨t.val / 8 * 1408 + r.val, by have := lt16 t; omega⟩) := by
  blk_ext [iblk, idx_x t]
theorem iblk_y (c : Dev nD) (t : Fin cfg0.N) (k : Fin 1024) (r : Fin 1024) :
    iblk m c 1 t (ix2 k r) = V m c main_v1 (ix2 ⟨t.val % 8 * 1024 + k.val, by omega⟩ r) := by
  blk_ext [iblk, idx_y t]

/-- The two arguments. -/
def A (c : Dev nD) : FVec Ideal S8192x2816 .f32 := m ((c : Thread nD τ).loc main_arg0)
def D (c : Dev nD) : FVec Ideal S8192x1024 .f32 := m ((c : Thread nD τ).loc main_arg1)

/-- A row's contribution to an entry. -/
def prod (c : Dev nD) (q : Fin 2816) (l : Fin 1024) (s : Fin 8192) : EReal := A m c (ix2 s q) * D m c (ix2 s l)

theorem blocks_sum (c : Dev nD) (t : Fin cfg0.N) (r : Fin 1408) (l : Fin 1024) (q : Fin 2816) (hq : q.val = t.val / 8 * 1408 + r.val) :
    dotAt (iblk m c 0 t) (iblk m c 1 t) r l = ∑ k : Fin 1024, term (prod m c q l) (t.val % 8 * 1024 + k.val) := by
  refine Finset.sum_congr rfl fun k _ => ?_
  rw [term_at _ _ (by omega)]
  have e0 := iblk_x m c t k r
  have e1 := iblk_y m c t k l
  have eq : q = ⟨t.val / 8 * 1408 + r.val, by have := lt16 t; omega⟩ := Fin.ext hq
  rw [eq]
  exact congrArg₂ (fun a b : EReal => a * b) (e0.trans (congrFun (v0_eq m c) _)) (e1.trans (congrFun (v1_eq m c) _))

/-- What the running sum holds after a point. -/
theorem acc_at (c : Dev nD) (r : Fin 1408) (l : Fin 1024) (q : Fin 2816) : ∀ (n : ℕ) (h : n < cfg0.N), q.val = n / 8 * 1408 + r.val →
    (outsAt0 m c n h).2 (ix2 r l) = ∑ s ∈ Finset.range ((n % 8 + 1) * 1024), term (prod m c q l) s
  | n, h, hq => by
    have hN := lt_of_lt_of_eq h (show cfg0.N = 16 from N_0)
    have hb := blocks_sum m c ⟨n, h⟩ r l q hq
    by_cases h0 : n % 8 = 0
    · have h1 : ¬n % 8 = 7 := by omega
      rw [outsAt0_A m c ⟨n, h⟩ h0 h1]
      dsimp only
      rw [sout_A, pay2_at, hb, pay1_at]
      dsimp only
      rw [h0]
      simp only [Nat.zero_mul, Nat.zero_add]
      have := sum_first (term (prod m c q l)) 1024
      simpa using this
    · have ih := acc_at c r l q (n - 1) (by omega) (by omega)
      have e8 : (n - 1) % 8 + 1 = n % 8 := by omega
      rw [e8] at ih
      rw [← sum_next, ← ih]
      by_cases h1 : n % 8 = 7
      · rw [outsAt0_C m c ⟨n, h⟩ h0 h1]
        dsimp only
        rw [sout_C, pay2_at, hb]
      · rw [outsAt0_B m c ⟨n, h⟩ h0 h1]
        dsimp only
        rw [sout_B, pay2_at, hb]

theorem same_C (c : Dev nD) (n : ℕ) (h : n < cfg0.N) (h1 : n % 8 = 7) : (outsAt0 m c n h).1 = (outsAt0 m c n h).2 := by
  have h0 : ¬n % 8 = 0 := by omega
  rw [outsAt0_C m c ⟨n, h⟩ h0 h1]
  dsimp only
  rw [out_C, sout_C]

/-- The result: the first argument's transpose times the second. -/
def result (c : Dev nD) : FVec Ideal S2816x1024 .f32 := fun i => ∑ s : Fin 8192, A m c (ix2 s (i 0)) * D m c (ix2 s (i 1))

theorem G2_eq (c : Dev nD) : Value.G2 m c = result m c := by
  funext i
  have hi0 : (i 0).val < 2816 := (i 0).isLt
  have hi1 : (i 1).val < 1024 := (i 1).isLt
  have hr : Value.run2Of i = (i 0).val / 1408 := by
    show 1 * ((i 0).val / 1408 - 0) + 1 * ((i 1).val / 1024 - 0) = _
    omega
  have hp : Value.pt2Of i = 8 * ((i 0).val / 1408) + 7 := by
    show 8 * Value.run2Of i + 7 = _
    rw [hr]
  have hlt : Value.pt2Of i < cfg0.N := lt_of_lt_of_eq (by rw [hp]; omega) N_0.symm
  unfold Value.G2
  rw [dif_pos hlt, ← Value.outsAt0_sweep m c (Value.pt2Of i) hlt, same_C m c _ hlt (by rw [hp]; omega)]
  have hl : Value.loc2Of i = ix2 (⟨(i 0).val % 1408, by omega⟩ : Fin 1408) (⟨(i 1).val, hi1⟩ : Fin 1024) := by
    funext a; apply Fin.ext
    match a with
    | ⟨0, _⟩ => rfl
    | ⟨1, _⟩ => show (i 1).val % 1024 = (i 1).val; omega
  rw [hl, acc_at m c _ _ ⟨(i 0).val, hi0⟩ _ hlt (by rw [hp]; show (i 0).val = _ + (i 0).val % 1408; omega)]
  have e8 : (Value.pt2Of i % 8 + 1) * 1024 = 8192 := by rw [hp]; omega
  rw [e8, term_all]
  rfl

end Cert.Kernel4Ideal.Ffn

namespace Cert.Ffn

open Idealize.ShloMosaic Idealize.ShloMosaic.TcCoe Idealize.SL.Sem

theorem dwd_frame : quiescent_Kernel4 := fun m ρ _ => Kernel4.Gen.frame m ρ
theorem dwd_frame_ideal : quiescent_Kernel4Ideal := fun m ρ _ => Kernel4Ideal.Gen.frame m ρ
theorem dwd_frame_reference : quiescent_Reference4Ideal := fun m ρ _ =>
  (θ_run Reference4Ideal.defs _ _).mono (fun r h => ⟨fun c => (h c).2, sem_eq_zero_of_no_sems (by decide) r.2⟩) (Reference4Ideal.Value.run (F := Ideal) m ρ)

theorem dwd_reference (a : FVec Ideal Reference4Ideal.S8192x2816 .f32) (d : FVec Ideal Reference4Ideal.S8192x1024 .f32) (i : Reference4Ideal.S2816x1024.Idx) :
    Reference4Ideal.Read.val_main_v3 (F := Ideal) a d i = ∑ s : Fin 8192, a (ix2 s (i 0)) * d (ix2 s (i 1)) := by
  rw [Reference4Ideal.Read.val_main_v3_apply, Reference4Ideal.Read.val_main_v2_apply]
  refine Finset.sum_congr rfl fun s _ => ?_
  refine (mul_comm _ _).trans (congrArg₂ (fun x y : EReal => x * y) (congrArg a ?_) (congrArg d ?_))
  · funext k
    match k with
    | ⟨0, _⟩ => rfl
    | ⟨1, _⟩ => rfl
  · funext k
    match k with
    | ⟨0, _⟩ => rfl
    | ⟨1, _⟩ => rfl

theorem dwd_equal : algebraic_Kernel4Ideal_Reference4Ideal := by
  intro m g m' g' _ hm
  refine ⟨fun c => Kernel4Ideal.Ffn.result m c, (θ_run _ _ _).mono (fun r hr c => ⟨(hr c).1.trans (Kernel4Ideal.Ffn.G2_eq m c), (hr c).2⟩) (Kernel4Ideal.Value.run m g), ?_⟩
  refine (θ_run Reference4Ideal.defs _ _).mono (fun r hr c => ?_) (Reference4Ideal.Value.run (F := Ideal) m' g')
  obtain ⟨e0, e1⟩ := hm c
  refine ⟨(hr c).1.trans ?_, (hr c).2⟩
  rw [Reference4Ideal.Read.val_main_v3_eq, e0, e1]
  funext i
  exact dwd_reference _ _ i

end Cert.Ffn
end
-- ==== Proof.Ffn.FwdBody.lean ====
/- The forward call: what one point leaves in its outputs and its carried blocks. -/
module

public import proofs.«01_k».proof.Proof.Gen.Kernel5Ideal.Value
public import Idealize.ShloMosaic.Lib.Pipeline.ValueKit

@[expose] public section

set_option maxRecDepth 16384

noncomputable section

namespace Cert.Kernel5Ideal.Ffn

open Idealize.ShloMosaic Idealize.ShloMosaic.TcCoe Idealize.SL.Sem Cert.Kernel5Ideal Cert.Kernel5Ideal.Gen

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable {F : FTy → Type} [FloatOps F]

/-- The running sum after a block of hidden columns. -/
def step (acc : Vec F S512x1024 .f32) (xb : Vec F S512x1024 .bf16) (wg wu : Vec F S1x1x1024x1408 .bf16) (wd : Vec F S1x1408x1024 .bf16) : Vec F S512x1024 .f32 :=
  k0_pay1 acc (k0_pay10 xb wg wu) wd

/-- Two slabs written one after the other. -/
theorem two_slabs (P0 P1 : Vec F S1x512x1408 .bf16) (g : Fin 2) (r : Fin 512) (l : Fin 1408) :
    View.canon [⟨Rect.unit (s := S2x512x1408) ![1, 0, 0] S1x512x1408.size inb_S2x512x1408_S1x512x1408_1_0_0, P1⟩,
      ⟨Rect.unit (s := S2x512x1408) ![0, 0, 0] S1x512x1408.size inb_S2x512x1408_S1x512x1408_0_0_0, P0⟩] (ix3 g r l)
      = if g = 0 then P0 (ix3 0 r l) else P1 (ix3 0 r l) := by
  by_cases hg : g = 0
  · subst hg
    rw [if_pos rfl, View.canon_cons_of_not_mem _ _ (by
      rw [Rect.mem_set_unit]
      intro h
      exact absurd (show (1 : ℕ) ≤ 0 from (h 0).1) (by decide))]
    have e : (ix3 0 r l : S2x512x1408.Idx) = (Rect.unit (s := S2x512x1408) ![0, 0, 0] S1x512x1408.size inb_S2x512x1408_S1x512x1408_0_0_0).emb (ix3 0 r l) := by
      funext a; apply Fin.ext
      match a with
      | ⟨0, _⟩ => rfl
      | ⟨1, _⟩ => show r.val = 0 + 1 * r.val; omega
      | ⟨2, _⟩ => show l.val = 0 + 1 * l.val; omega
    rw [e]
    exact View.canon_cons_emb _ _ _ _
  · rw [if_neg hg]
    obtain rfl : g = 1 := by omega
    have e : (ix3 1 r l : S2x512x1408.Idx) = (Rect.unit (s := S2x512x1408) ![1, 0, 0] S1x512x1408.size inb_S2x512x1408_S1x512x1408_1_0_0).emb (ix3 0 r l) := by
      funext a; apply Fin.ext
      match a with
      | ⟨0, _⟩ => rfl
      | ⟨1, _⟩ => show r.val = 0 + 1 * r.val; omega
      | ⟨2, _⟩ => show l.val = 0 + 1 * l.val; omega
    rw [e]
    exact View.canon_cons_emb _ _ _ _

variable (c : Dev nD) (i : grid0.Coords)
  (a2 : Memref sig .tc .vmem S512x1024 .f32) (h2 : a2.IsWhole) (a3 : Memref sig .tc .vmem S1x1x1024x1408 .bf16) (h3 : a3.IsWhole)
  (a4 : Memref sig .tc .vmem S1x1x1024x1408 .bf16) (h4 : a4.IsWhole) (a5 : Memref sig .tc .vmem S1x1408x1024 .bf16) (h5 : a5.IsWhole)
  (a6 : Memref sig .tc .vmem S1x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .f32) (h9 : a9.IsWhole)
  (a10 : Memref sig .tc .vmem S2x512x1408 .bf16) (h10 : a10.IsWhole) (a11 : Memref sig .tc .vmem S512x1024 .bf16) (h11 : a11.IsWhole)
  (a12 : Memref sig .tc .vmem S512x1024 .f32) (h12 : a12.IsWhole)
  (x0 : Vec F S512x1024 .f32) (x1 x2 : Vec F S1x1x1024x1408 .bf16) (x3 : Vec F S1x1408x1024 .bf16) (x4 x5 : Vec F S1x1024 .f32)
  (s0 : Vec F S512x1024 .bf16) (s1 : Vec F S512x1024 .f32)

section
variable (hc0 : cond0_0 i) (hc1 : ¬cond0_1 i)

theorem xb_A : sout0_A_0 c i a2 h2 a3 h3 a4 h4 a5 h5 a6 h6 a7 h7 a8 h8 a9 h9 a10 h10 a11 h11 a12 h12 hc0 hc1 x0 x1 x2 x3 x4 x5 = k0_pay4 x0 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_unit_zero (S := S512x1024) hz]
  simp only [View.readAt_eq_ld, h2.read_unread, View.ld_unit_zero (S := S512x1024) hz]

theorem acc_A : sout0_A_1 c i a2 h2 a3 h3 a4 h4 a5 h5 a6 h6 a7 h7 a8 h8 a9 h9 a10 h10 a11 h11 a12 h12 hc0 hc1 x0 x1 x2 x3 x4 x5 = step k0_pay5 (k0_pay4 x0) x1 x2 x3 := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  rw [View.canon_cons_unit_zero (S := S512x1024) hz]
  simp only [View.readCov_unit_zero (S := S512x1024) _ hz, View.readAt_eq_ld, h2.read_unread, h3.read_unread, h4.read_unread, h5.read_unread, View.ld_unit_zero (S := S512x1024) hz, View.ld_unit_zero (S := S1x1x1024x1408) hz4, View.ld_unit_zero (S := S1x1408x1024) hz3]
  rfl

theorem gu_A (g : Fin 2) (r : Fin 512) (l : Fin 1408) :
    out0_A_8 c i a2 h2 a3 h3 a4 h4 a5 h5 a6 h6 a7 h7 a8 h8 a9 h9 a10 h10 a11 h11 a12 h12 hc0 hc1 x0 x1 x2 x3 x4 x5 (ix3 g r l)
      = if g = 0 then k0_pay8 (k0_pay4 x0) x1 (ix3 0 r l) else k0_pay9 (k0_pay4 x0) x2 (ix3 0 r l) := by
  unfold out0_A_8
  rw [View.read_writes_eq_canon _ _ _ (cover0_A_8 c i a2 h2 a3 h3 a4 h4 a5 h5 a6 h6 a7 h7 a8 h8 a9 h9 a10 h10 a11 h11 a12 h12 hc0 hc1 x0 x1 x2 x3 x4 x5)]
  unfold kernelRun0_A
  dsimp only
  sl_unfold_words
  simp only [View.readCov_unit_zero (S := S512x1024) _ hz, View.readAt_eq_ld, h2.read_unread, h3.read_unread, h4.read_unread, View.ld_unit_zero (S := S512x1024) hz, View.ld_unit_zero (S := S1x1x1024x1408) hz4]
  exact two_slabs _ _ g r l
end

section
variable (hc0 : ¬cond0_0 i) (hc1 : cond0_1 i)

theorem acc_B : sout0_B_1 c i a2 h2 a3 h3 a4 h4 a5 h5 a6 h6 a7 h7 a8 h8 a9 h9 a10 h10 a11 h11 a12 h12 hc0 hc1 x0 x1 x2 x3 x4 x5 s0 s1 = step s1 s0 x1 x2 x3 := by
  unfold sout0_B_1
  rw [View.read_writes_eq_canon _ _ _ (scover0_B_1 c i a2 h2 a3 h3 a4 h4 a5 h5 a6 h6 a7 h7 a8 h8 a9 h9 a10 h10 a11 h11 a12 h12 hc0 hc1 x0 x1 x2 x3 x4 x5 s0 s1)]
  unfold kernelRun0_B
  dsimp only
  sl_unfold_words
  rw [View.canon_unit_zero (S := S512x1024) hz]
  simp only [View.readAt_eq_ld, h3.read_unread, h4.read_unread, h5.read_unread, h11.read_unread, h12.read_unread, View.ld_unit_zero (S := S512x1024) hz, View.ld_unit_zero (S := S1x1x1024x1408) hz4, View.ld_unit_zero (S := S1x1408x1024) hz3]
  rfl

theorem r_B : out0_B_7 c i a2 h2 a3 h3 a4 h4 a5 h5 a6 h6 a7 h7 a8 h8 a9 h9 a10 h10 a11 h11 a12 h12 hc0 hc1 x0 x1 x2 x3 x4 x5 s0 s1 = k0_pay2 x0 (step s1 s0 x1 x2 x3) := by
  unfold out0_B_7
  rw [View.read_writes_eq_canon _ _ _ (cover0_B_7 c i a2 h2 a3 h3 a4 h4 a5 h5 a6 h6 a7 h7 a8 h8 a9 h9 a10 h10 a11 h11 a12 h12 hc0 hc1 x0 x1 x2 x3 x4 x5 s0 s1)]
  unfold kernelRun0_B
  dsimp only
  sl_unfold_words
  rw [View.canon_unit_zero (S := S512x1024) hz]
  simp only [View.readCov_unit_zero (S := S512x1024) _ hz, View.readAt_eq_ld, h2.read_unread, h3.read_unread, h4.read_unread, h5.read_unread, h11.read_unread, h12.read_unread, View.ld_unit_zero (S := S512x1024) hz, View.ld_unit_zero (S := S1x1x1024x1408) hz4, View.ld_unit_zero (S := S1x1408x1024) hz3]
  rfl

theorem y_B : out0_B_6 c i a2 h2 a3 h3 a4 h4 a5 h5 a6 h6 a7 h7 a8 h8 a9 h9 a10 h10 a11 h11 a12 h12 hc0 hc1 x0 x1 x2 x3 x4 x5 s0 s1 = k0_pay3 x0 (step s1 s0 x1 x2 x3) x4 x5 := by
  unfold out0_B_6
  rw [View.read_writes_eq_canon _ _ _ (cover0_B_6 c i a2 h2 a3 h3 a4 h4 a5 h5 a6 h6 a7 h7 a8 h8 a9 h9 a10 h10 a11 h11 a12 h12 hc0 hc1 x0 x1 x2 x3 x4 x5 s0 s1)]
  unfold kernelRun0_B
  dsimp only
  sl_unfold_words
  rw [View.canon_unit_zero (S := S512x1024) hz]
  simp only [View.readCov_unit_zero (S := S512x1024) _ hz, View.readAt_eq_ld, h2.read_unread, h3.read_unread, h4.read_unread, h5.read_unread, h6.read_unread, h7.read_unread, h11.read_unread, h12.read_unread, View.ld_unit_zero (S := S512x1024) hz, View.ld_unit_zero (S := S1x1x1024x1408) hz4, View.ld_unit_zero (S := S1x1408x1024) hz3, View.ld_unit_zero (S := S1x1024) hz]
  rfl

theorem gu_B (g : Fin 2) (r : Fin 512) (l : Fin 1408) :
    out0_B_8 c i a2 h2 a3 h3 a4 h4 a5 h5 a6 h6 a7 h7 a8 h8 a9 h9 a10 h10 a11 h11 a12 h12 hc0 hc1 x0 x1 x2 x3 x4 x5 s0 s1 (ix3 g r l)
      = if g = 0 then k0_pay8 s0 x1 (ix3 0 r l) else k0_pay9 s0 x2 (ix3 0 r l) := by
  unfold out0_B_8
  rw [View.read_writes_eq_canon _ _ _ (cover0_B_8 c i a2 h2 a3 h3 a4 h4 a5 h5 a6 h6 a7 h7 a8 h8 a9 h9 a10 h10 a11 h11 a12 h12 hc0 hc1 x0 x1 x2 x3 x4 x5 s0 s1)]
  unfold kernelRun0_B
  dsimp only
  sl_unfold_words
  simp only [View.readAt_eq_ld, h3.read_unread, h4.read_unread, h11.read_unread, View.ld_unit_zero (S := S512x1024) hz, View.ld_unit_zero (S := S1x1x1024x1408) hz4]
  exact two_slabs _ _ g r l
end

end Cert.Kernel5Ideal.Ffn
end
-- ==== Proof.Ffn.FwdAt.lean ====
/- The forward call's blocks entry by entry, over the extended reals. -/
module

public import proofs.«01_k».proof.Proof.Ffn.FwdBody
public import proofs.«01_k».proof.Proof.Ffn.Sum

@[expose] public section

set_option maxRecDepth 16384

noncomputable section

namespace Cert.Kernel5Ideal.Ffn

open Idealize.ShloMosaic Idealize.ShloMosaic.TcCoe Idealize.SL.Sem Cert.Kernel5Ideal Cert.Kernel5Ideal.Gen

/-- One gated entry from its two products. -/
def gate (a b : EReal) : EReal := a * Ideal.div 1 (1 + Ideal.exp (0 - a)) * b

/-- One entry of the weighted residual sum. -/
def mixed (x a : EReal) : EReal := Ideal.ofBits .f32 1068827891#32 * x + Ideal.ofBits .f32 1056964608#32 * a

/-- A row's mean. -/
def mean (f : Fin 1024 → EReal) : EReal := Ideal.div (∑ k, f k) (Ideal.ofBits .f32 1149239296#32)

/-- One entry of a normalised row. -/
def lnorm (f : Fin 1024 → EReal) (g b : EReal) (l : Fin 1024) : EReal :=
  (f l - mean f) * Ideal.rsqrt (mean (fun k => (f k - mean f) * (f k - mean f)) + Ideal.ofBits .f32 925353388#32) * g + b

section
variable (x : FVec Ideal S8192x1024 .f32) (w : FVec Ideal S1024x5632 .f32) (d : FVec Ideal S2816x1024 .f32)

/-- The first product, both halves side by side. -/
def pre (R : Fin 8192) (q : Fin 5632) : EReal := ∑ k : Fin 1024, x (ix2 R k) * w (ix2 k q)

/-- The gated hidden columns. -/
def hid (R : Fin 8192) (q : Fin 2816) : EReal := gate (pre x w R ⟨q.val, by omega⟩) (pre x w R ⟨2816 + q.val, by omega⟩)

/-- The residual sum. -/
def res (R : Fin 8192) (j : Fin 1024) : EReal := mixed (x (ix2 R j)) (∑ q : Fin 2816, hid x w R q * d (ix2 q j))
end

theorem pay6_at (x : FVec Ideal S512x1024 .bf16) (w : FVec Ideal S1x1x1024x1408 .bf16) (r : Fin 512) (l : Fin 1408) :
    k0_pay6 (F := Ideal) x w (ix2 r l) = ∑ k : Fin 1024, x (ix2 r k) * w (ix4 0 0 k l) := by
  unfold k0_pay6
  pointwise

theorem pay7_at (x : FVec Ideal S512x1024 .bf16) (w : FVec Ideal S1x1x1024x1408 .bf16) (r : Fin 512) (l : Fin 1408) :
    k0_pay7 (F := Ideal) x w (ix2 r l) = ∑ k : Fin 1024, x (ix2 r k) * w (ix4 0 0 k l) := by
  unfold k0_pay7
  pointwise

theorem pay8_at (x : FVec Ideal S512x1024 .bf16) (w : FVec Ideal S1x1x1024x1408 .bf16) (r : Fin 512) (l : Fin 1408) :
    k0_pay8 (F := Ideal) x w (ix3 0 r l) = ∑ k : Fin 1024, x (ix2 r k) * w (ix4 0 0 k l) := by
  unfold k0_pay8
  pointwise
  exact pay6_at x w r l

theorem pay9_at (x : FVec Ideal S512x1024 .bf16) (w : FVec Ideal S1x1x1024x1408 .bf16) (r : Fin 512) (l : Fin 1408) :
    k0_pay9 (F := Ideal) x w (ix3 0 r l) = ∑ k : Fin 1024, x (ix2 r k) * w (ix4 0 0 k l) := by
  unfold k0_pay9
  pointwise
  exact pay7_at x w r l

theorem pay4_at (x : FVec Ideal S512x1024 .f32) (r : Fin 512) (l : Fin 1024) : k0_pay4 (F := Ideal) x (ix2 r l) = x (ix2 r l) := by
  unfold k0_pay4
  pointwise

theorem pay5_at (r : Fin 512) (l : Fin 1024) : k0_pay5 (F := Ideal) (ix2 r l) = 0 := by
  unfold k0_pay5
  pointwise

theorem pay10_at (x : FVec Ideal S512x1024 .bf16) (w v : FVec Ideal S1x1x1024x1408 .bf16) (r : Fin 512) (l : Fin 1408) :
    k0_pay10 (F := Ideal) x w v (ix2 r l) = gate (∑ k : Fin 1024, x (ix2 r k) * w (ix4 0 0 k l)) (∑ k : Fin 1024, x (ix2 r k) * v (ix4 0 0 k l)) := by
  rw [← pay6_at x w r l, ← pay7_at x v r l]
  unfold gate
  unfold k0_pay10
  pointwise

theorem pay1_at (acc : FVec Ideal S512x1024 .f32) (x : FVec Ideal S512x1408 .bf16) (w : FVec Ideal S1x1408x1024 .bf16) (r : Fin 512) (l : Fin 1024) :
    k0_pay1 (F := Ideal) acc x w (ix2 r l) = acc (ix2 r l) + ∑ k : Fin 1408, x (ix2 r k) * w (ix3 0 k l) := by
  unfold k0_pay1
  pointwise

theorem pay2_at (x a : FVec Ideal S512x1024 .f32) (r : Fin 512) (l : Fin 1024) :
    k0_pay2 (F := Ideal) x a (ix2 r l) = mixed (x (ix2 r l)) (a (ix2 r l)) := by
  unfold k0_pay2 mixed
  pointwise

theorem pay3_at (x a : FVec Ideal S512x1024 .f32) (g b : FVec Ideal S1x1024 .f32) (r : Fin 512) (l : Fin 1024) :
    k0_pay3 (F := Ideal) x a g b (ix2 r l) = lnorm (fun k => k0_pay2 (F := Ideal) x a (ix2 r k)) (g (ix2 0 l)) (b (ix2 0 l)) l := by
  unfold k0_pay3 lnorm mean
  generalize hy : k0_pay2 (F := Ideal) x a = y
  pointwise

end Cert.Kernel5Ideal.Ffn
end
-- ==== Proof.Ffn.FwdVal.lean ====
/- The forward call's three results, summed up over its points. -/
module

public import proofs.«01_k».proof.Proof.Ffn.FwdAt
public import Idealize.ShloMosaic.Lib.StableHlo.ReadAt

@[expose] public section

set_option maxRecDepth 16384

noncomputable section

namespace Cert.Kernel5Ideal.Ffn

open Idealize.ShloMosaic Idealize.ShloMosaic.TcCoe Idealize.SL.Sem Cert.Kernel5Ideal Cert.Kernel5Ideal.Gen Cert.Ffn

variable (m : (ℓ : Loc nD τ sig) → Buf (Elt Ideal) ℓ)

/-- The five arguments. -/
def X (c : Dev nD) : FVec Ideal S8192x1024 .f32 := m ((c : Thread nD τ).loc main_arg0)
def W (c : Dev nD) : FVec Ideal S1024x5632 .f32 := m ((c : Thread nD τ).loc main_arg1)
def D (c : Dev nD) : FVec Ideal S2816x1024 .f32 := m ((c : Thread nD τ).loc main_arg2)
def G (c : Dev nD) : FVec Ideal S1024 .f32 := m ((c : Thread nD τ).loc main_arg3)
def B (c : Dev nD) : FVec Ideal S1024 .f32 := m ((c : Thread nD τ).loc main_arg4)

theorem v3_at (c : Dev nD) (n : Fin 4) (k : Fin 1024) (l : Fin 1408) :
    (V m c main_v3 : FVec Ideal S1x4x1024x1408 .bf16) (ix4 0 n k l) = W m c (ix2 k ⟨n.val * 1408 + l.val, by omega⟩) := by
  simp only [V, hostOps0, List.flatten_cons, List.flatten_nil, List.append_nil, List.cons_append, List.nil_append]
  after_reads_simp
  pointwise
  rfl

theorem v5_at (c : Dev nD) (k : Fin 2816) (l : Fin 1024) :
    (V m c main_v5 : FVec Ideal S1x2816x1024 .bf16) (ix3 0 k l) = D m c (ix2 k l) := by
  simp only [V, hostOps0, List.flatten_cons, List.flatten_nil, List.append_nil, List.cons_append, List.nil_append]
  after_reads_simp
  pointwise
  rfl

theorem v6_at (c : Dev nD) (l : Fin 1024) : (V m c main_v6 : FVec Ideal S1x1024 .f32) (ix2 0 l) = G m c (ix1 l) := by
  simp only [V, hostOps0, List.flatten_cons, List.flatten_nil, List.append_nil, List.cons_append, List.nil_append]
  after_reads_simp
  pointwise
  rfl

theorem v7_at (c : Dev nD) (l : Fin 1024) : (V m c main_v7 : FVec Ideal S1x1024 .f32) (ix2 0 l) = B m c (ix1 l) := by
  simp only [V, hostOps0, List.flatten_cons, List.flatten_nil, List.append_nil, List.cons_append, List.nil_append]
  after_reads_simp
  pointwise
  rfl

theorem lt32 (t : Fin cfg0.N) : t.val < 32 := lt_of_lt_of_eq t.isLt N_0
theorem idx_x : ∀ t : Fin cfg0.N, win0_0.index t = ![t.val / 2, 0] := (by decide +kernel : ∀ t : Fin grid0.N, win0_0.index t = ![t.val / 2, 0])
theorem idx_wg : ∀ t : Fin cfg0.N, win0_1.index t = ![0, t.val % 2, 0, 0] := (by decide +kernel : ∀ t : Fin grid0.N, win0_1.index t = ![0, t.val % 2, 0, 0])
theorem idx_wu : ∀ t : Fin cfg0.N, win0_2.index t = ![0, 2 + t.val % 2, 0, 0] := (by decide +kernel : ∀ t : Fin grid0.N, win0_2.index t = ![0, 2 + t.val % 2, 0, 0])
theorem idx_wd : ∀ t : Fin cfg0.N, win0_3.index t = ![0, t.val % 2, 0] := (by decide +kernel : ∀ t : Fin grid0.N, win0_3.index t = ![0, t.val % 2, 0])
theorem idx_g : ∀ t : Fin cfg0.N, win0_4.index t = ![0, 0] := (by decide +kernel : ∀ t : Fin grid0.N, win0_4.index t = ![0, 0])
theorem idx_b : ∀ t : Fin cfg0.N, win0_5.index t = ![0, 0] := (by decide +kernel : ∀ t : Fin grid0.N, win0_5.index t = ![0, 0])

theorem iblk_x (c : Dev nD) (t : Fin cfg0.N) (r : Fin 512) (k : Fin 1024) :
    iblk m c 0 t (ix2 r k) = V m c main_arg0 (ix2 ⟨t.val / 2 * 512 + r.val, by have := lt32 t; omega⟩ k) := by
  blk_ext [iblk, idx_x t]
theorem iblk_wg (c : Dev nD) (t : Fin cfg0.N) (k : Fin 1024) (l : Fin 1408) :
    iblk m c 1 t (ix4 0 0 k l) = V m c main_v3 (ix4 0 ⟨t.val % 2, by omega⟩ k l) := by
  blk_ext [iblk, idx_wg t]
theorem iblk_wu (c : Dev nD) (t : Fin cfg0.N) (k : Fin 1024) (l : Fin 1408) :
    iblk m c 2 t (ix4 0 0 k l) = V m c main_v3 (ix4 0 ⟨2 + t.val % 2, by omega⟩ k l) := by
  blk_ext [iblk, idx_wu t]
theorem iblk_wd (c : Dev nD) (t : Fin cfg0.N) (k : Fin 1408) (l : Fin 1024) :
    iblk m c 3 t (ix3 0 k l) = V m c main_v5 (ix3 0 ⟨t.val % 2 * 1408 + k.val, by omega⟩ l) := by
  blk_ext [iblk, idx_wd t]
theorem iblk_g (c : Dev nD) (t : Fin cfg0.N) (l : Fin 1024) : iblk m c 4 t (ix2 0 l) = V m c main_v6 (ix2 0 l) := by
  blk_ext [iblk, idx_g t]
theorem iblk_b (c : Dev nD) (t : Fin cfg0.N) (l : Fin 1024) : iblk m c 5 t (ix2 0 l) = V m c main_v7 (ix2 0 l) := by
  blk_ext [iblk, idx_b t]

section
variable (x : FVec Ideal S8192x1024 .f32) (w : FVec Ideal S1024x5632 .f32) (d : FVec Ideal S2816x1024 .f32)
variable (acc : FVec Ideal S512x1024 .f32) (xb : FVec Ideal S512x1024 .bf16) (wg wu : FVec Ideal S1x1x1024x1408 .bf16) (wd : FVec Ideal S1x1408x1024 .bf16)
variable (R : Fin 8192) (n : Fin 2) (r : Fin 512)

theorem pre_block (hx : ∀ k, xb (ix2 r k) = x (ix2 R k)) (l : Fin 1408) (q : Fin 5632) (hg : ∀ k, wg (ix4 0 0 k l) = w (ix2 k q)) :
    ∑ k : Fin 1024, xb (ix2 r k) * wg (ix4 0 0 k l) = pre x w R q := by
  unfold pre
  exact Finset.sum_congr rfl fun k _ => by rw [hx, hg]

theorem step_at (hx : ∀ k, xb (ix2 r k) = x (ix2 R k)) (hg : ∀ (k : Fin 1024) (l : Fin 1408), wg (ix4 0 0 k l) = w (ix2 k ⟨n.val * 1408 + l.val, by omega⟩))
    (hu : ∀ (k : Fin 1024) (l : Fin 1408), wu (ix4 0 0 k l) = w (ix2 k ⟨(2 + n.val) * 1408 + l.val, by omega⟩))
    (hd : ∀ (k : Fin 1408) (l : Fin 1024), wd (ix3 0 k l) = d (ix2 ⟨n.val * 1408 + k.val, by omega⟩ l)) (l : Fin 1024) :
    (step (F := Ideal) acc xb wg wu wd : FVec Ideal S512x1024 .f32) (ix2 r l) = acc (ix2 r l) + ∑ k : Fin 1408, term (fun q => hid x w R q * d (ix2 q l)) (n.val * 1408 + k.val) := by
  unfold step
  refine (pay1_at acc (k0_pay10 (F := Ideal) xb wg wu) wd r l).trans ?_
  refine congrArg _ (Finset.sum_congr rfl fun k _ => ?_)
  rw [term_at _ _ (by omega), pay10_at, hd, pre_block x w xb wg R r hx k _ (fun j => hg j k), pre_block x w xb wu R r hx k _ (fun j => hu j k)]
  have e : (⟨(2 + n.val) * 1408 + k.val, by omega⟩ : Fin 5632) = ⟨2816 + (n.val * 1408 + k.val), by omega⟩ := Fin.ext (by
    show (2 + n.val) * 1408 + k.val = 2816 + (n.val * 1408 + k.val)
    omega)
  rw [e]
  rfl
end

theorem b_x (c : Dev nD) (t : Fin cfg0.N) (r : Fin 512) (k : Fin 1024) :
    (iblk m c 0 t : FVec Ideal S512x1024 .f32) (ix2 r k) = X m c (ix2 ⟨t.val / 2 * 512 + r.val, by have := lt32 t; omega⟩ k) :=
  (iblk_x m c t r k).trans (congrFun (V_main_arg0 m c) _)
theorem b_wg (c : Dev nD) (t : Fin cfg0.N) (k : Fin 1024) (l : Fin 1408) :
    (iblk m c 1 t : FVec Ideal S1x1x1024x1408 .bf16) (ix4 0 0 k l) = W m c (ix2 k ⟨t.val % 2 * 1408 + l.val, by omega⟩) :=
  (iblk_wg m c t k l).trans (v3_at m c _ k l)
theorem b_wu (c : Dev nD) (t : Fin cfg0.N) (k : Fin 1024) (l : Fin 1408) :
    (iblk m c 2 t : FVec Ideal S1x1x1024x1408 .bf16) (ix4 0 0 k l) = W m c (ix2 k ⟨(2 + t.val % 2) * 1408 + l.val, by omega⟩) :=
  (iblk_wu m c t k l).trans (v3_at m c _ k l)
theorem b_wd (c : Dev nD) (t : Fin cfg0.N) (k : Fin 1408) (l : Fin 1024) :
    (iblk m c 3 t : FVec Ideal S1x1408x1024 .bf16) (ix3 0 k l) = D m c (ix2 ⟨t.val % 2 * 1408 + k.val, by omega⟩ l) :=
  (iblk_wd m c t k l).trans (v5_at m c _ l)

/-- The carried copy of the rows. -/
theorem xb_at (c : Dev nD) (r : Fin 512) (k : Fin 1024) : ∀ (n : ℕ) (h : n < cfg0.N),
    ((outsAt0 m c n h).2.2.2.1 : FVec Ideal S512x1024 .bf16) (ix2 r k) = X m c (ix2 ⟨n / 2 * 512 + r.val, by have := lt32 ⟨n, h⟩; dsimp only at this; omega⟩ k)
  | n, h => by
    have hN := lt_of_lt_of_eq h (show cfg0.N = 32 from N_0)
    by_cases h0 : n % 2 = 0
    · rw [outsAt0_A m c ⟨n, h⟩ h0 (by show ¬n % 2 = 1; omega)]
      dsimp only
      rw [xb_A, pay4_at]
      exact b_x m c ⟨n, h⟩ r k
    · have ih := xb_at c r k (n - 1) (by omega)
      rw [outsAt0_B m c ⟨n, h⟩ h0 (by show n % 2 = 1; omega)]
      refine Eq.trans (?_ : _ = _) (ih.trans ?_)
      · rfl
      · exact congrArg (fun z : Fin 8192 => X m c (ix2 z k)) (Fin.ext (by show (n - 1) / 2 * 512 + r.val = n / 2 * 512 + r.val; omega))

/-- The running sum after the first block of hidden columns. -/
theorem acc_even (c : Dev nD) (r : Fin 512) (l : Fin 1024) (n : ℕ) (h : n < cfg0.N) (h0 : n % 2 = 0) (R : Fin 8192) (hR : R.val = n / 2 * 512 + r.val) :
    ((outsAt0 m c n h).2.2.2.2 : FVec Ideal S512x1024 .f32) (ix2 r l)
      = ∑ s ∈ Finset.range ((0 + 1) * 1408), term (fun q => hid (X m c) (W m c) R q * D m c (ix2 q l)) s := by
  have eR : R = ⟨n / 2 * 512 + r.val, by have := lt32 ⟨n, h⟩; dsimp only at this; omega⟩ := Fin.ext hR
  have hs := step_at (X m c) (W m c) (D m c) (k0_pay5 (F := Ideal)) (k0_pay4 (F := Ideal) (iblk m c 0 ⟨n, h⟩)) (iblk m c 1 ⟨n, h⟩) (iblk m c 2 ⟨n, h⟩) (iblk m c 3 ⟨n, h⟩) R ⟨n % 2, by omega⟩ r
    (fun k => by rw [pay4_at, eR]; exact b_x m c ⟨n, h⟩ r k) (b_wg m c ⟨n, h⟩) (b_wu m c ⟨n, h⟩) (b_wd m c ⟨n, h⟩) l
  rw [outsAt0_A m c ⟨n, h⟩ h0 (by show ¬n % 2 = 1; omega)]
  dsimp only
  rw [acc_A]
  refine hs.trans ?_
  rw [pay5_at, ← sum_first]
  refine congrArg _ (Finset.sum_congr rfl fun k _ => congrArg _ ?_)
  show n % 2 * 1408 + k.val = k.val
  omega

/-- The whole sum, at a point that closes a block of rows. -/
theorem acc_odd (c : Dev nD) (r : Fin 512) (l : Fin 1024) (n : ℕ) (h : n < cfg0.N) (h1 : n % 2 = 1) (R : Fin 8192) (hR : R.val = n / 2 * 512 + r.val) :
    (step (F := Ideal) (outsAt0 m c (n - 1) (by omega)).2.2.2.2 (outsAt0 m c (n - 1) (by omega)).2.2.2.1 (iblk m c 1 ⟨n, h⟩) (iblk m c 2 ⟨n, h⟩) (iblk m c 3 ⟨n, h⟩) : FVec Ideal S512x1024 .f32) (ix2 r l)
      = ∑ q : Fin 2816, hid (X m c) (W m c) R q * D m c (ix2 q l) := by
  have hs := step_at (X m c) (W m c) (D m c) (outsAt0 m c (n - 1) (by omega)).2.2.2.2 (outsAt0 m c (n - 1) (by omega)).2.2.2.1 (iblk m c 1 ⟨n, h⟩) (iblk m c 2 ⟨n, h⟩) (iblk m c 3 ⟨n, h⟩) R ⟨n % 2, by omega⟩ r
    (fun k => by
      rw [xb_at m c r k (n - 1) (by omega)]
      exact congrArg (fun z : Fin 8192 => X m c (ix2 z k)) (Fin.ext (by show (n - 1) / 2 * 512 + r.val = R.val; omega)))
    (b_wg m c ⟨n, h⟩) (b_wu m c ⟨n, h⟩) (b_wd m c ⟨n, h⟩) l
  refine hs.trans ?_
  rw [acc_even m c r l (n - 1) (by omega) (by omega) R (by omega)]
  dsimp only
  rw [h1]
  refine (sum_next (term fun q => hid (X m c) (W m c) R q * D m c (ix2 q l)) 1 1408).trans ?_
  exact term_all _

theorem r_at (c : Dev nD) (r : Fin 512) (l : Fin 1024) (n : ℕ) (h : n < cfg0.N) (h1 : n % 2 = 1) (R : Fin 8192) (hR : R.val = n / 2 * 512 + r.val) :
    ((outsAt0 m c n h).2.1 : FVec Ideal S512x1024 .f32) (ix2 r l) = res (X m c) (W m c) (D m c) R l := by
  have eR : R = ⟨n / 2 * 512 + r.val, by have := lt32 ⟨n, h⟩; dsimp only at this; omega⟩ := Fin.ext hR
  rw [outsAt0_B m c ⟨n, h⟩ (by show ¬n % 2 = 0; omega) h1]
  dsimp only
  rw [r_B, pay2_at]
  exact congrArg₂ mixed ((b_x m c ⟨n, h⟩ r l).trans (by rw [eR])) (acc_odd m c r l n h h1 R hR)

theorem y_at (c : Dev nD) (r : Fin 512) (l : Fin 1024) (n : ℕ) (h : n < cfg0.N) (h1 : n % 2 = 1) (R : Fin 8192) (hR : R.val = n / 2 * 512 + r.val) :
    ((outsAt0 m c n h).1 : FVec Ideal S512x1024 .f32) (ix2 r l) = lnorm (res (X m c) (W m c) (D m c) R) (G m c (ix1 l)) (B m c (ix1 l)) l := by
  have eR : R = ⟨n / 2 * 512 + r.val, by have := lt32 ⟨n, h⟩; dsimp only at this; omega⟩ := Fin.ext hR
  rw [outsAt0_B m c ⟨n, h⟩ (by show ¬n % 2 = 0; omega) h1]
  dsimp only
  rw [y_B, pay3_at, (iblk_g m c ⟨n, h⟩ l).trans (v6_at m c l), (iblk_b m c ⟨n, h⟩ l).trans (v7_at m c l)]
  refine congrArg (fun f => lnorm f (G m c (ix1 l)) (B m c (ix1 l)) l) (funext fun k => ?_)
  rw [pay2_at]
  exact congrArg₂ mixed ((b_x m c ⟨n, h⟩ r k).trans (by rw [eR])) (acc_odd m c r k n h h1 R hR)

theorem gu_at (c : Dev nD) (g : Fin 2) (r : Fin 512) (l : Fin 1408) (n : ℕ) (h : n < cfg0.N) (R : Fin 8192) (hR : R.val = n / 2 * 512 + r.val) (q : Fin 5632)
    (hq : q.val = g.val * 2816 + (n % 2 * 1408 + l.val)) :
    ((outsAt0 m c n h).2.2.1 : FVec Ideal S2x512x1408 .bf16) (ix3 g r l) = pre (X m c) (W m c) R q := by
  have hN := lt_of_lt_of_eq h (show cfg0.N = 32 from N_0)
  have eR : R = ⟨n / 2 * 512 + r.val, by omega⟩ := Fin.ext hR
  have hg : ∀ (g0 : g = 0) (k : Fin 1024), (iblk m c 1 ⟨n, h⟩ : FVec Ideal S1x1x1024x1408 .bf16) (ix4 0 0 k l) = W m c (ix2 k q) := fun g0 k =>
    (b_wg m c ⟨n, h⟩ k l).trans (congrArg (fun z : Fin 5632 => W m c (ix2 k z)) (Fin.ext (by
      subst g0
      show n % 2 * 1408 + l.val = q.val
      rw [hq]
      show _ = 0 * 2816 + (n % 2 * 1408 + l.val)
      omega)))
  have hu : ∀ (g0 : g ≠ 0) (k : Fin 1024), (iblk m c 2 ⟨n, h⟩ : FVec Ideal S1x1x1024x1408 .bf16) (ix4 0 0 k l) = W m c (ix2 k q) := fun g0 k =>
    (b_wu m c ⟨n, h⟩ k l).trans (congrArg (fun z : Fin 5632 => W m c (ix2 k z)) (Fin.ext (by
      have : g.val ≠ 0 := fun e => g0 (Fin.ext e)
      have := g.isLt
      show (2 + n % 2) * 1408 + l.val = q.val
      omega)))
  by_cases h0 : n % 2 = 0
  · rw [outsAt0_A m c ⟨n, h⟩ h0 (by show ¬n % 2 = 1; omega)]
    dsimp only
    rw [gu_A]
    by_cases g0 : g = 0
    · rw [if_pos g0, pay8_at]
      exact pre_block (X m c) (W m c) _ _ R r (fun k => by rw [pay4_at, eR]; exact b_x m c ⟨n, h⟩ r k) l q (hg g0)
    · rw [if_neg g0, pay9_at]
      exact pre_block (X m c) (W m c) _ _ R r (fun k => by rw [pay4_at, eR]; exact b_x m c ⟨n, h⟩ r k) l q (hu g0)
  · rw [outsAt0_B m c ⟨n, h⟩ h0 (by show n % 2 = 1; omega)]
    dsimp only
    have hx : ∀ k, ((outsAt0 m c (n - 1) (by omega)).2.2.2.1 : FVec Ideal S512x1024 .bf16) (ix2 r k) = X m c (ix2 R k) := fun k => by
      rw [xb_at m c r k (n - 1) (by omega)]
      exact congrArg (fun z : Fin 8192 => X m c (ix2 z k)) (Fin.ext (by show (n - 1) / 2 * 512 + r.val = R.val; omega))
    rw [gu_B]
    by_cases g0 : g = 0
    · rw [if_pos g0, pay8_at]
      exact pre_block (X m c) (W m c) _ _ R r hx l q (hg g0)
    · rw [if_neg g0, pay9_at]
      exact pre_block (X m c) (W m c) _ _ R r hx l q (hu g0)

end Cert.Kernel5Ideal.Ffn
end
-- ==== Proof.Ffn.FwdRef.lean ====
/- The forward call's reference, entry by entry. -/
module

public import proofs.«01_k».proof.Proof.Ffn.FwdAt
public import proofs.«01_k».proof.Proof.Gen.Reference5Ideal.Read

@[expose] public section

set_option maxRecDepth 16384

noncomputable section

namespace Cert.Reference5Ideal.Ffn

open Idealize.ShloMosaic Cert.Reference5Ideal Cert.Reference5Ideal.Read
open Cert.Kernel5Ideal.Ffn (gate mixed mean lnorm pre hid res)

variable (x : FVec Ideal S8192x1024 .f32) (w : FVec Ideal S1024x5632 .f32) (d : FVec Ideal S2816x1024 .f32) (g b : FVec Ideal S1024 .f32)

theorem v2_at (R : Fin 8192) (q : Fin 5632) : (val_main_v2 (F := Ideal) x w : FVec Ideal S8192x5632 .f32) (ix2 R q) = pre x w R q := by
  unfold val_main_v2 pre
  pointwise

theorem v35_at (R : Fin 8192) (q : Fin 5632) : (val_main_v35 (F := Ideal) x w : FVec Ideal S8192x5632 .f32) (ix2 R q) = pre x w R q := by
  unfold val_main_v35 pre
  pointwise

theorem v3_at (R : Fin 8192) (q : Fin 2816) : (val_main_v3 (F := Ideal) x w : FVec Ideal S8192x2816 .f32) (ix2 R q) = pre x w R ⟨q.val, by omega⟩ := by
  rw [← v2_at]
  unfold val_main_v3
  pointwise

theorem v4_at (R : Fin 8192) (q : Fin 2816) : (val_main_v4 (F := Ideal) x w : FVec Ideal S8192x2816 .f32) (ix2 R q) = pre x w R ⟨2816 + q.val, by omega⟩ := by
  rw [← v2_at]
  unfold val_main_v4
  pointwise

theorem v6_at (R : Fin 8192) (q : Fin 2816) : (val_main_v6 (F := Ideal) x w : FVec Ideal S8192x2816 .f32) (ix2 R q) = hid x w R q := by
  unfold hid gate
  rw [← v3_at, ← v4_at]
  unfold val_main_v6 val_main_v5 val_main_call0_v5 val_main_call0_v4 val_main_call0_v3 val_main_call0_v2 val_main_call0_v1 val_main_call0_v0 val_main_call0_cst val_main_call0_cst_0
  pointwise
  rw [sub_eq_add_neg, zero_add]

theorem v7_at (R : Fin 8192) (j : Fin 1024) : (val_main_v7 (F := Ideal) x w d : FVec Ideal S8192x1024 .f32) (ix2 R j) = ∑ q : Fin 2816, hid x w R q * d (ix2 q j) := by
  simp only [← v6_at]
  unfold val_main_v7
  pointwise

theorem v10_at (R : Fin 8192) (j : Fin 1024) : (val_main_v10 (F := Ideal) x w d : FVec Ideal S8192x1024 .f32) (ix2 R j) = res x w d R j := by
  unfold res mixed
  rw [← v7_at]
  unfold val_main_v10 val_main_v9 val_main_v1 val_main_v0 val_main_v8 val_main_cst val_main_cst_0
  pointwise

theorem v14_at (R : Fin 8192) : (val_main_v14 (F := Ideal) x w d : FVec Ideal S8192x1 .f32) (ix2 R 0) = mean (res x w d R) := by
  unfold mean
  simp only [← v10_at]
  unfold val_main_v14 val_main_v12 val_main_v11 val_main_v13 val_main_cst_2 val_main_cst_1
  pointwise

theorem v21_at (R : Fin 8192) : (val_main_v21 (F := Ideal) x w d : FVec Ideal S8192x1 .f32) (ix2 R 0) = mean (fun k => (res x w d R k - mean (res x w d R)) * (res x w d R k - mean (res x w d R))) := by
  conv_rhs => unfold mean
  rw [show Ideal.div (∑ k, res x w d R k) (Ideal.ofBits .f32 1149239296#32) = mean (res x w d R) from rfl]
  simp only [← v10_at, ← v14_at]
  unfold val_main_v21 val_main_v19 val_main_v18 val_main_v17 val_main_v16 val_main_v15 val_main_v20 val_main_cst_3 val_main_cst_4
  pointwise

theorem v34_at (R : Fin 8192) (j : Fin 1024) : (val_main_v34 (F := Ideal) x w d g b : FVec Ideal S8192x1024 .f32) (ix2 R j) = lnorm (res x w d R) (g (ix1 j)) (b (ix1 j)) j := by
  unfold lnorm
  rw [← v21_at, ← v14_at, ← v10_at]
  unfold val_main_v34 val_main_v33 val_main_v32 val_main_v31 val_main_v30 val_main_v29 val_main_v28 val_main_v27 val_main_v26 val_main_v25 val_main_v24 val_main_v23 val_main_v22 val_main_cst_5
  pointwise

theorem v40_low (R : Fin 8192) (l : Fin 2816) : val_main_v40 (F := Ideal) x w (ix3 0 R l) = val_main_v38 (F := Ideal) x w (ix3 0 R l) := by
  unfold val_main_v40
  exact concatenate_pair_apply_left (t := S2x8192x2816) (s₁ := S1x8192x2816) (s₂ := S1x8192x2816) 0 _ _ _ (ix3 0 R l) rfl (ix3 0 R l) fun a => match a with
    | ⟨0, _⟩ => rfl
    | ⟨1, _⟩ => rfl
    | ⟨2, _⟩ => rfl

theorem v40_high (R : Fin 8192) (l : Fin 2816) : val_main_v40 (F := Ideal) x w (ix3 1 R l) = val_main_v39 (F := Ideal) x w (ix3 0 R l) := by
  unfold val_main_v40
  exact concatenate_pair_apply_right (t := S2x8192x2816) (s₁ := S1x8192x2816) (s₂ := S1x8192x2816) 0 _ _ _ (ix3 1 R l) rfl rfl (ix3 0 R l) (fun a ha => match a, ha with
    | ⟨0, _⟩, ha => absurd rfl ha
    | ⟨1, _⟩, _ => rfl
    | ⟨2, _⟩, _ => rfl) rfl

theorem v41_at (n : Fin 2) (R : Fin 8192) (l : Fin 2816) (q : Fin 5632) (hq : q.val = n.val * 2816 + l.val) :
    (val_main_v41 (F := Ideal) x w : FVec Ideal S2x8192x2816 .bf16) (ix3 n R l) = pre x w R q := by
  rw [← v35_at]
  have h01 : n = 0 ∨ n = 1 := by omega
  rcases h01 with h | h
  · subst h
    have e : q = ⟨l.val, by omega⟩ := Fin.ext (by
      show q.val = l.val
      rw [hq]
      show 0 * 2816 + l.val = l.val
      omega)
    refine (v40_low x w R l).trans ?_
    rw [e]
    unfold val_main_v38 val_main_v36
    pointwise
  · subst h
    have e : q = ⟨2816 + l.val, by omega⟩ := Fin.ext (by
      show q.val = 2816 + l.val
      rw [hq]
      show 1 * 2816 + l.val = 2816 + l.val
      omega)
    refine (v40_high x w R l).trans ?_
    rw [e]
    unfold val_main_v39 val_main_v37
    pointwise

end Cert.Reference5Ideal.Ffn
end
-- ==== Proof.Ffn.Fwd.lean ====
/- The forward call's claims: its three results are the reference's. -/
module

public import proofs.«01_k».proof.Defs
public import proofs.«01_k».proof.Proof.Ffn.FwdVal
public import proofs.«01_k».proof.Proof.Ffn.FwdRef
public import proofs.«01_k».proof.Proof.Gen.Kernel5.Frame

@[expose] public section

set_option maxRecDepth 16384

noncomputable section

namespace Cert.Kernel5Ideal.Ffn

open Idealize.ShloMosaic Idealize.ShloMosaic.TcCoe Idealize.SL.Sem Cert.Kernel5Ideal Cert.Kernel5Ideal.Gen

variable (m : (ℓ : Loc nD τ sig) → Buf (Elt Ideal) ℓ)

theorem G6_at (c : Dev nD) (R : Fin 8192) (j : Fin 1024) :
    (Value.G6 m c : FVec Ideal S8192x1024 .f32) (ix2 R j) = lnorm (res (X m c) (W m c) (D m c) R) (G m c (ix1 j)) (B m c (ix1 j)) j := by
  have hp : Value.pt6Of (ix2 R j) = 2 * (R.val / 512) + 1 := by
    show 2 * (1 * (R.val / 512 - 0) + 1 * (j.val / 1024 - 0)) + 1 = _
    omega
  have hlt : Value.pt6Of (ix2 R j) < cfg0.N := lt_of_lt_of_eq (by rw [hp]; omega) N_0.symm
  unfold Value.G6
  rw [dif_pos hlt, ← Value.outsAt0_sweep m c _ hlt]
  have hl : Value.loc6Of (ix2 R j) = ix2 (⟨R.val % 512, by omega⟩ : Fin 512) j := by
    funext a; apply Fin.ext
    match a with
    | ⟨0, _⟩ => rfl
    | ⟨1, _⟩ => show j.val % 1024 = j.val; omega
  rw [hl]
  exact y_at m c _ _ _ hlt (by rw [hp]; omega) R (by rw [hp]; show R.val = _ + R.val % 512; omega)

theorem G7_at (c : Dev nD) (R : Fin 8192) (j : Fin 1024) :
    (Value.G7 m c : FVec Ideal S8192x1024 .f32) (ix2 R j) = res (X m c) (W m c) (D m c) R j := by
  have hp : Value.pt7Of (ix2 R j) = 2 * (R.val / 512) + 1 := by
    show 2 * (1 * (R.val / 512 - 0) + 1 * (j.val / 1024 - 0)) + 1 = _
    omega
  have hlt : Value.pt7Of (ix2 R j) < cfg0.N := lt_of_lt_of_eq (by rw [hp]; omega) N_0.symm
  unfold Value.G7
  rw [dif_pos hlt, ← Value.outsAt0_sweep m c _ hlt]
  have hl : Value.loc7Of (ix2 R j) = ix2 (⟨R.val % 512, by omega⟩ : Fin 512) j := by
    funext a; apply Fin.ext
    match a with
    | ⟨0, _⟩ => rfl
    | ⟨1, _⟩ => show j.val % 1024 = j.val; omega
  rw [hl]
  exact r_at m c _ _ _ hlt (by rw [hp]; omega) R (by rw [hp]; show R.val = _ + R.val % 512; omega)

theorem G8_at (c : Dev nD) (g : Fin 2) (R : Fin 8192) (j : Fin 2816) :
    (Value.G8 m c : FVec Ideal S2x8192x2816 .bf16) (ix3 g R j) = pre (X m c) (W m c) R ⟨g.val * 2816 + j.val, by omega⟩ := by
  have hp : Value.pt8Of (ix3 g R j) = 2 * (R.val / 512) + j.val / 1408 := by
    show 32 * (g.val / 2 - 0) + 2 * (R.val / 512 - 0) + 1 * (j.val / 1408 - 0) = _
    omega
  have hlt : Value.pt8Of (ix3 g R j) < cfg0.N := lt_of_lt_of_eq (by rw [hp]; omega) N_0.symm
  unfold Value.G8
  rw [dif_pos hlt, ← Value.outsAt0_sweep m c _ hlt]
  have hl : Value.loc8Of (ix3 g R j) = ix3 g (⟨R.val % 512, by omega⟩ : Fin 512) (⟨j.val % 1408, by omega⟩ : Fin 1408) := by
    funext a; apply Fin.ext
    match a with
    | ⟨0, _⟩ => show g.val % 2 = g.val; omega
    | ⟨1, _⟩ => rfl
    | ⟨2, _⟩ => rfl
  rw [hl]
  exact gu_at m c _ _ _ _ hlt R (by rw [hp]; show R.val = _ + R.val % 512; omega) _ (by rw [hp]; show _ = g.val * 2816 + ((2 * (R.val / 512) + j.val / 1408) % 2 * 1408 + j.val % 1408); show g.val * 2816 + j.val = _; omega)

end Cert.Kernel5Ideal.Ffn

namespace Cert.Ffn

open Idealize.ShloMosaic Idealize.ShloMosaic.TcCoe Idealize.SL.Sem
open Cert.Kernel5Ideal.Ffn (X W D G B)

theorem fwd_frame : quiescent_Kernel5 := fun m ρ _ => Kernel5.Gen.frame m ρ
theorem fwd_frame_ideal : quiescent_Kernel5Ideal := fun m ρ _ => Kernel5Ideal.Gen.frame m ρ
theorem fwd_frame_reference : quiescent_Reference5Ideal := fun m ρ _ =>
  (θ_run Reference5Ideal.defs _ _).mono (fun r h => ⟨fun c => (h c).2.2.2, sem_eq_zero_of_no_sems (by decide) r.2⟩) (Reference5Ideal.Value.run (F := Ideal) m ρ)

theorem fwd_equal : algebraic_Kernel5Ideal_Reference5Ideal := by
  intro m g m' g' _ hm
  refine ⟨fun c => Reference5Ideal.Read.val_main_v34 (F := Ideal) (X m c) (W m c) (D m c) (G m c) (B m c),
    fun c => Reference5Ideal.Read.val_main_v10 (F := Ideal) (X m c) (W m c) (D m c),
    fun c => Reference5Ideal.Read.val_main_v41 (F := Ideal) (X m c) (W m c), ?_, ?_⟩
  · refine (θ_run _ _ _).mono (fun r hr c => ?_) (Kernel5Ideal.Value.run m g)
    obtain ⟨e0, e1, e2, rest⟩ := hr c
    refine ⟨e0.trans ?_, e1.trans ?_, e2.trans ?_, rest⟩
    · funext i
      rw [eta2 i]
      exact (Kernel5Ideal.Ffn.G6_at m c _ _).trans (Reference5Ideal.Ffn.v34_at _ _ _ _ _ _ _).symm
    · funext i
      rw [eta2 i]
      exact (Kernel5Ideal.Ffn.G7_at m c _ _).trans (Reference5Ideal.Ffn.v10_at _ _ _ _ _).symm
    · funext i
      rw [eta3 i]
      exact (Kernel5Ideal.Ffn.G8_at m c _ _ _).trans (Reference5Ideal.Ffn.v41_at _ _ _ _ _ _ rfl).symm
  · refine (θ_run Reference5Ideal.defs _ _).mono (fun r hr c => ?_) (Reference5Ideal.Value.run (F := Ideal) m' g')
    obtain ⟨e0, e1, e2, e3, e4⟩ := hm c
    obtain ⟨h0, h1, h2, rest⟩ := hr c
    refine ⟨h0.trans ?_, h1.trans ?_, h2.trans ?_, rest⟩
    · rw [Reference5Ideal.Read.val_main_v34_eq, e0, e1, e2, e3, e4]
      rfl
    · rw [Reference5Ideal.Read.val_main_v10_eq, e0, e1, e2]
      rfl
    · rw [Reference5Ideal.Read.val_main_v41_eq, e0, e1]
      rfl

end Cert.Ffn
end
-- ==== Proof.Ffn.TailRun.lean ====
/- The backward call's run: every array ends at what the last boundary of its segments says. -/
module

public import proofs.«01_k».proof.Proof.Gen.Kernel11Ideal.Frame

@[expose] public section

set_option maxRecDepth 16384

noncomputable section

namespace Cert.Kernel11Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal Cert.Kernel11Ideal.Gen

variable {F : FTy → Type} [FloatOps F] (m : (ℓ : Loc nD τ sig) → Buf (Elt F) ℓ) (ρ : Dev nD → PrngReg)

set_option backward.isDefEq.respectTransparency.types false in
/-- The two calls run to the end: every array holds what the last boundary says, and every counter is back at zero. -/
theorem run_all : θ_run defs (onTc (τ := τ) (main (F := F))) ⟨m, fun _ => 0, ρ⟩ (fun r =>
      (∀ (c : Dev nD) (b : Ref sig .tc), ¬ (Proc.devRef .tc b : DevRef τ sig).isScoped →
        r.2.mem ((c.tc : Thread nD τ).loc b) = W3 m ρ c (Proc.devRef .tc b)) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h hz => ⟨fun c b hb => h c _ (mem_uc b hb), funext fun g => hz g (.inr (no_unscoped g.2))⟩)

end Cert.Kernel11Ideal.Ffn
end
-- ==== Proof.Proj.BwdBody.lean ====
/- The output projection's backward call: what one point leaves in its outputs. -/
module

public import proofs.«01_k».proof.Proof.Gen.Kernel6Ideal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Kernel6Ideal.Proj

open Idealize.ShloMosaic Idealize.ShloMosaic.TcCoe Idealize.SL.Sem Cert.Kernel6Ideal Cert.Kernel6Ideal.Gen

theorem hz : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- The two running rows after a block: one more block's column sums. -/
def up (o : Vec F S8x1024 .f32) (x0 x1 : Vec F S512x1024 .f32) (n : Fin 8) (l : Fin 1024) : Elt F .f32 :=
  if n.val = 0 then k0_pay5 (k0_pay10 x1) x0 (View.ld o (Rect.unit (s := S8x1024) ![0, 0] S1x1024.size inb_S8x1024_S1x1024_0_0)) (ix2 0 l)
  else if n.val = 1 then k0_pay6 x0 (View.ld o (Rect.unit (s := S8x1024) ![1, 0] S1x1024.size inb_S8x1024_S1x1024_1_0)) (ix2 0 l)
  else o (ix2 n l)

/-- Two rows written over what a buffer held. -/
theorem two_rows {sig : RefSig} {κ : Kind} {sp : Space} (v : View sig κ sp S8x1024 .f32) (f : v.ty.Contents (Elt F)) (P0 P1 : Vec F S1x1024 .f32)
    (L : List (View.Piece (Elt F) S8x1024 .f32)) (B : Elt F .f32) (n : Fin 8) (l : Fin 1024) (hB : v.read (Elt F) (v.writes (Elt F) f L) (ix2 n l) = B) :
    v.read (Elt F) (v.writes (Elt F) f (⟨Rect.unit (s := S8x1024) ![1, 0] S1x1024.size inb_S8x1024_S1x1024_1_0, P1⟩ ::
      ⟨Rect.unit (s := S8x1024) ![0, 0] S1x1024.size inb_S8x1024_S1x1024_0_0, P0⟩ :: L)) (ix2 n l)
      = if n.val = 0 then P0 (ix2 0 l) else if n.val = 1 then P1 (ix2 0 l) else B := by
  by_cases h0 : n.val = 0
  · rw [if_pos h0, View.read_writes_cons_unit_of_not_mem v f _ _ _ (ix2 n l) rfl 0 (Or.inl (by show n.val < 1; omega))]
    exact View.read_writes_cons_unit_of_mem v f _ _ _ (ix2 n l) (ix2 0 l) rfl fun a => match a with
      | ⟨0, _⟩ => h0
      | ⟨1, _⟩ => (Nat.zero_add _).symm
  · rw [if_neg h0]
    by_cases h1 : n.val = 1
    · rw [if_pos h1]
      exact View.read_writes_cons_unit_of_mem v f _ _ _ (ix2 n l) (ix2 0 l) rfl fun a => match a with
        | ⟨0, _⟩ => h1
        | ⟨1, _⟩ => (Nat.zero_add _).symm
    · rw [if_neg h1, View.read_writes_cons_unit_of_not_mem v f _ _ _ (ix2 n l) rfl 0 (Or.inr (by show 1 + 1 ≤ n.val; omega)),
        View.read_writes_cons_unit_of_not_mem v f _ _ _ (ix2 n l) rfl 0 (Or.inr (by show 0 + 1 ≤ n.val; omega))]
      exact hB

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S1x1024x1024 .bf16) (h3 : a3.IsWhole) (a4 : Memref sig .tc .vmem S1x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S512x1024 .f32) (h7 : a7.IsWhole) (a8 : Memref sig .tc .vmem S8x1024 .f32) (h8 : a8.IsWhole)
  (x0 x1 : Vec F S512x1024 .f32) (x2 : Vec F S1x1024x1024 .bf16) (x3 : Vec F S1x1024 .f32) (o : Vec F S8x1024 .f32)

section
variable (hc : cond0_0 i)

theorem res_A : out0_A_4 c i a1 h1 a2 h2 a3 h3 a4 h4 a5 h5 a6 h6 a7 h7 a8 h8 hc x0 x1 x2 x3 = k0_pay2 (k0_pay11 x1 x0 x3) (k0_pay12 x1) := by
  unfold out0_A_4
  rw [View.read_writes_eq_canon _ _ _ (cover0_A_4 c i a1 h1 a2 h2 a3 h3 a4 h4 a5 h5 a6 h6 a7 h7 a8 h8 hc x0 x1 x2 x3)]
  unfold kernelRun0_A
  dsimp only
  sl_unfold_words
  rw [View.canon_unit_zero (S := S512x1024) hz]
  simp only [View.readAt_eq_ld, h1.read_unread, h2.read_unread, h3.read_unread, h4.read_unread, View.ld_unit_zero (S := S512x1024) hz, View.ld_unit_zero (S := S1x1024) hz, View.ld_unit_zero (S := S1x1024x1024) hz3]

theorem dm_A : out0_A_5 c i a1 h1 a2 h2 a3 h3 a4 h4 a5 h5 a6 h6 a7 h7 a8 h8 hc x0 x1 x2 x3 = k0_pay3 (k0_pay11 x1 x0 x3) (k0_pay12 x1) := by
  unfold out0_A_5
  rw [View.read_writes_eq_canon _ _ _ (cover0_A_5 c i a1 h1 a2 h2 a3 h3 a4 h4 a5 h5 a6 h6 a7 h7 a8 h8 hc x0 x1 x2 x3)]
  unfold kernelRun0_A
  dsimp only
  sl_unfold_words
  rw [View.canon_unit_zero (S := S512x1024) hz]
  simp only [View.readAt_eq_ld, h1.read_unread, h2.read_unread, h3.read_unread, h4.read_unread, View.ld_unit_zero (S := S512x1024) hz, View.ld_unit_zero (S := S1x1024) hz, View.ld_unit_zero (S := S1x1024x1024) hz3]

theorem dy_A : out0_A_6 c i a1 h1 a2 h2 a3 h3 a4 h4 a5 h5 a6 h6 a7 h7 a8 h8 hc x0 x1 x2 x3 = k0_pay4 (k0_pay11 x1 x0 x3) (k0_pay12 x1) x2 := by
  unfold out0_A_6
  rw [View.read_writes_eq_canon _ _ _ (cover0_A_6 c i a1 h1 a2 h2 a3 h3 a4 h4 a5 h5 a6 h6 a7 h7 a8 h8 hc x0 x1 x2 x3)]
  unfold kernelRun0_A
  dsimp only
  sl_unfold_words
  rw [View.canon_unit_zero (S := S512x1024) hz]
  simp only [View.readAt_eq_ld, h1.read_unread, h2.read_unread, h3.read_unread, h4.read_unread, View.ld_unit_zero (S := S512x1024) hz, View.ld_unit_zero (S := S1x1024) hz, View.ld_unit_zero (S := S1x1024x1024) hz3]

theorem gb_A (n : Fin 8) (l : Fin 1024) : out0_A_7 c i a1 h1 a2 h2 a3 h3 a4 h4 a5 h5 a6 h6 a7 h7 a8 h8 hc x0 x1 x2 x3 (ix2 n l) = up k0_pay7 x0 x1 n l := by
  unfold out0_A_7
  unfold kernelRun0_A
  dsimp only
  sl_unfold_words
  simp only [View.readCov_skip _ (Rect.unit (s := S8x1024) ![0, 0] S1x1024.size inb_S8x1024_S1x1024_0_0) _ _ (Rect.unit (s := S8x1024) ![1, 0] S1x1024.size inb_S8x1024_S1x1024_1_0).toLoadRect rfl, View.readAt_eq_ld, h1.read_unread, h2.read_unread, View.ld_unit_zero (S := S512x1024) hz]
  rw [View.readCov_fill _ _ _ _ _ (fun a => by fin_cases a <;> rfl), View.readCov_fill _ _ _ _ _ (fun a => by fin_cases a <;> rfl)]
  refine (two_rows _ _ _ _ _ _ n l ?_).trans rfl
  exact View.read_writes_cons_unit_of_mem _ _ _ _ _ (ix2 n l) (ix2 n l) rfl fun a => match a with
    | ⟨0, _⟩ => (Nat.zero_add _).symm
    | ⟨1, _⟩ => (Nat.zero_add _).symm
end

section
variable (hc : ¬cond0_0 i)

theorem res_B : out0_B_4 c i a1 h1 a2 h2 a3 h3 a4 h4 a5 h5 a6 h6 a7 h7 a8 h8 hc x0 x1 x2 x3 o = k0_pay2 (k0_pay11 x1 x0 x3) (k0_pay12 x1) := by
  unfold out0_B_4
  rw [View.read_writes_eq_canon _ _ _ (cover0_B_4 c i a1 h1 a2 h2 a3 h3 a4 h4 a5 h5 a6 h6 a7 h7 a8 h8 hc x0 x1 x2 x3 o)]
  unfold kernelRun0_B
  dsimp only
  sl_unfold_words
  rw [View.canon_unit_zero (S := S512x1024) hz]
  simp only [View.readAt_eq_ld, h1.read_unread, h2.read_unread, h3.read_unread, h4.read_unread, View.ld_unit_zero (S := S512x1024) hz, View.ld_unit_zero (S := S1x1024) hz, View.ld_unit_zero (S := S1x1024x1024) hz3]

theorem dm_B : out0_B_5 c i a1 h1 a2 h2 a3 h3 a4 h4 a5 h5 a6 h6 a7 h7 a8 h8 hc x0 x1 x2 x3 o = k0_pay3 (k0_pay11 x1 x0 x3) (k0_pay12 x1) := by
  unfold out0_B_5
  rw [View.read_writes_eq_canon _ _ _ (cover0_B_5 c i a1 h1 a2 h2 a3 h3 a4 h4 a5 h5 a6 h6 a7 h7 a8 h8 hc x0 x1 x2 x3 o)]
  unfold kernelRun0_B
  dsimp only
  sl_unfold_words
  rw [View.canon_unit_zero (S := S512x1024) hz]
  simp only [View.readAt_eq_ld, h1.read_unread, h2.read_unread, h3.read_unread, h4.read_unread, View.ld_unit_zero (S := S512x1024) hz, View.ld_unit_zero (S := S1x1024) hz, View.ld_unit_zero (S := S1x1024x1024) hz3]

theorem dy_B : out0_B_6 c i a1 h1 a2 h2 a3 h3 a4 h4 a5 h5 a6 h6 a7 h7 a8 h8 hc x0 x1 x2 x3 o = k0_pay4 (k0_pay11 x1 x0 x3) (k0_pay12 x1) x2 := by
  unfold out0_B_6
  rw [View.read_writes_eq_canon _ _ _ (cover0_B_6 c i a1 h1 a2 h2 a3 h3 a4 h4 a5 h5 a6 h6 a7 h7 a8 h8 hc x0 x1 x2 x3 o)]
  unfold kernelRun0_B
  dsimp only
  sl_unfold_words
  rw [View.canon_unit_zero (S := S512x1024) hz]
  simp only [View.readAt_eq_ld, h1.read_unread, h2.read_unread, h3.read_unread, h4.read_unread, View.ld_unit_zero (S := S512x1024) hz, View.ld_unit_zero (S := S1x1024) hz, View.ld_unit_zero (S := S1x1024x1024) hz3]

theorem gb_B (n : Fin 8) (l : Fin 1024) : out0_B_7 c i a1 h1 a2 h2 a3 h3 a4 h4 a5 h5 a6 h6 a7 h7 a8 h8 hc x0 x1 x2 x3 o (ix2 n l) = up o x0 x1 n l := by
  unfold out0_B_7
  unfold kernelRun0_B
  dsimp only
  sl_unfold_words
  simp only [View.readAt_eq_ld, h1.read_unread, h2.read_unread, h8.read_unread, View.ld_unit_zero (S := S512x1024) hz]
  refine (two_rows _ _ _ _ _ _ n l ?_).trans rfl
  exact congrFun (h8.read_unread o) _
end

end Cert.Kernel6Ideal.Proj
end
-- ==== Proof.Ffn.BwdAt.lean ====
/- The backward calls' blocks entry by entry, over the extended reals. -/
module

public import proofs.«01_k».proof.Proof.Gen.Kernel2Ideal.Frame
public import proofs.«01_k».proof.Proof.Ffn.Sum
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

theorem hz : (![0, 0] : Fin 2 → Nat) = fun _ => 0 := funext fun a => by fin_cases a <;> rfl
theorem hz3 : (![0, 0, 0] : Fin 3 → Nat) = fun _ => 0 := funext fun a => by fin_cases a <;> rfl

/-- The logistic of one entry. -/
def sg (a : EReal) : EReal := Ideal.div 1 (1 + Ideal.exp (0 - a))

/-- The cotangent of a gate's first entry, from that of the product. -/
def toG (d a b : EReal) : EReal := d * b * (sg a * (1 + a * (1 - sg a)))

/-- The cotangent of a gate's second entry. -/
def toU (d a : EReal) : EReal := d * (a * sg a)

/-- The gated entry. -/
def gated (a b : EReal) : EReal := a * sg a * b

section
variable (x : FVec Ideal S512x1024 .bf16) (w : FVec Ideal S1x1408x1024 .bf16) (a b : FVec Ideal S1x512x1408 .bf16)
variable (r : Fin 512) (l : Fin 1408)

theorem pay2_at : k0_pay2 (F := Ideal) x w (ix2 r l) = ∑ k : Fin 1024, x (ix2 r k) * w (ix3 0 l k) := by
  unfold k0_pay2
  pointwise

theorem pay3_at : k0_pay3 (F := Ideal) a (ix2 r l) = a (ix3 0 r l) := by
  unfold k0_pay3
  pointwise

theorem pay4_at : k0_pay4 (F := Ideal) a (ix2 r l) = a (ix3 0 r l) := by
  unfold k0_pay4
  pointwise

theorem pay5_at : k0_pay5 (F := Ideal) a (ix2 r l) = sg (a (ix3 0 r l)) := by
  rw [← pay3_at a r l]
  unfold k0_pay5 sg
  pointwise

theorem pay6_at : k0_pay6 (F := Ideal) a (ix2 r l) = a (ix3 0 r l) * sg (a (ix3 0 r l)) := by
  rw [← pay5_at a r l, ← pay3_at a r l]
  unfold k0_pay6
  pointwise

theorem pay7_at : k0_pay7 (F := Ideal) a b (ix2 r l) = gated (a (ix3 0 r l)) (b (ix3 0 r l)) := by
  unfold gated
  rw [← pay6_at a r l, ← pay4_at b r l]
  unfold k0_pay7
  pointwise

theorem pay1_at (d e : FVec Ideal S512x1408 .f32) : k0_pay1 (F := Ideal) d e (ix3 0 r l) = d (ix2 r l) * e (ix2 r l) := by
  unfold k0_pay1
  pointwise

theorem pay8_at : k0_pay8 (F := Ideal) x w a b (ix3 0 r l) = toG (∑ k : Fin 1024, x (ix2 r k) * w (ix3 0 l k)) (a (ix3 0 r l)) (b (ix3 0 r l)) := by
  unfold toG
  rw [← pay2_at x w r l, ← pay5_at a r l, ← pay3_at a r l, ← pay4_at b r l]
  unfold k0_pay8
  pointwise
end

section
variable {F : FTy → Type} [FloatOps F]

/-- Two slabs written one after the other. -/
theorem two_slabs (P0 P1 : Vec F S1x512x1408 .bf16) (g : Fin 2) (r : Fin 512) (l : Fin 1408) :
    View.canon [⟨r0_3, P1⟩, ⟨r0_2, P0⟩] (ix3 g r l) = if g = 0 then P0 (ix3 0 r l) else P1 (ix3 0 r l) := by
  by_cases hg : g = 0
  · subst hg
    rw [if_pos rfl, View.canon_cons_of_not_mem _ _ (by
      rw [Rect.mem_set_unit]
      intro h
      exact absurd (show (1 : ℕ) ≤ 0 from (h 0).1) (by decide))]
    have e : (ix3 0 r l : S2x512x1408.Idx) = r0_2.emb (ix3 0 r l) := by
      funext a; apply Fin.ext
      match a with
      | ⟨0, _⟩ => rfl
      | ⟨1, _⟩ => show r.val = 0 + 1 * r.val; omega
      | ⟨2, _⟩ => show l.val = 0 + 1 * l.val; omega
    rw [e]
    exact View.canon_cons_emb _ _ _ _
  · rw [if_neg hg]
    obtain rfl : g = 1 := by omega
    have e : (ix3 1 r l : S2x512x1408.Idx) = r0_3.emb (ix3 0 r l) := by
      funext a; apply Fin.ext
      match a with
      | ⟨0, _⟩ => rfl
      | ⟨1, _⟩ => show r.val = 0 + 1 * r.val; omega
      | ⟨2, _⟩ => show l.val = 0 + 1 * l.val; omega
    rw [e]
    exact View.canon_cons_emb _ _ _ _

theorem ld_g (x : Vec F S2x512x1408 .bf16) (r : Fin 512) (l : Fin 1408) : View.ld x r0_2 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_u (x : Vec F S2x512x1408 .bf16) (r : Fin 512) (l : Fin 1408) : View.ld x r0_3 (ix3 0 r l) = x (ix3 1 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_low (x : Vec F S2x512x2816 .bf16) (r : Fin 512) (l : Fin 2816) : View.ld x r1_1 (ix3 0 r l) = x (ix3 0 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_high (x : Vec F S2x512x2816 .bf16) (r : Fin 512) (l : Fin 2816) : View.ld x r1_4 (ix3 0 r l) = x (ix3 1 r l) := by
  refine congrArg x (funext fun a => Fin.ext ?_)
  match a with
  | ⟨0, _⟩ => rfl
  | ⟨1, _⟩ => show 0 + 1 * r.val = r.val; omega
  | ⟨2, _⟩ => show 0 + 1 * l.val = l.val; omega

theorem ld_w0 (x : Vec F S1x4x1024x1408 .bf16) (k : Fin 1024) (l : Fin 1408) : View.ld x r1_2 (ix4 0 0 k l) = x (ix4 0 0 k l) := by
  refine congrArg x (funext fun a => Fin.ext ?_)
  match a with
  | ⟨0, _⟩ => rfl
  | ⟨1, _⟩ => rfl
  | ⟨2, _⟩ => show 0 + 1 * k.val = k.val; omega
  | ⟨3, _⟩ => show 0 + 1 * l.val = l.val; omega
theorem ld_w1 (x : Vec F S1x4x1024x1408 .bf16) (k : Fin 1024) (l : Fin 1408) : View.ld x r1_3 (ix4 0 0 k l) = x (ix4 0 1 k l) := by
  refine congrArg x (funext fun a => Fin.ext ?_)
  match a with
  | ⟨0, _⟩ => rfl
  | ⟨1, _⟩ => rfl
  | ⟨2, _⟩ => show 0 + 1 * k.val = k.val; omega
  | ⟨3, _⟩ => show 0 + 1 * l.val = l.val; omega
theorem ld_w2 (x : Vec F S1x4x1024x1408 .bf16) (k : Fin 1024) (l : Fin 1408) : View.ld x r1_5 (ix4 0 0 k l) = x (ix4 0 2 k l) := by
  refine congrArg x (funext fun a => Fin.ext ?_)
  match a with
  | ⟨0, _⟩ => rfl
  | ⟨1, _⟩ => rfl
  | ⟨2, _⟩ => show 0 + 1 * k.val = k.val; omega
  | ⟨3, _⟩ => show 0 + 1 * l.val = l.val; omega
theorem ld_w3 (x : Vec F S1x4x1024x1408 .bf16) (k : Fin 1024) (l : Fin 1408) : View.ld x r1_6 (ix4 0 0 k l) = x (ix4 0 3 k l) := by
  refine congrArg x (funext fun a => Fin.ext ?_)
  match a with
  | ⟨0, _⟩ => rfl
  | ⟨1, _⟩ => rfl
  | ⟨2, _⟩ => show 0 + 1 * k.val = k.val; omega
  | ⟨3, _⟩ => show 0 + 1 * l.val = l.val; omega
end

theorem payx_at (x : FVec Ideal S512x1024 .f32) (h0 h1 : FVec Ideal S1x512x2816 .bf16) (w0 w1 w2 w3 : FVec Ideal S1x1x1024x1408 .bf16) (r : Fin 512) (j : Fin 1024) :
    k1_pay1 (F := Ideal) (k1_pay2 (F := Ideal) x h0 w0 h0 w1 h1 w2) (k1_pay3 (F := Ideal) h1) w3 (ix2 r j)
      = x (ix2 r j) + (∑ k : Fin 1408, h0 (ix3 0 r ⟨k.val, by omega⟩) * w0 (ix4 0 0 j k)) + (∑ k : Fin 1408, h0 (ix3 0 r ⟨1408 + k.val, by omega⟩) * w1 (ix4 0 0 j k))
        + (∑ k : Fin 1408, h1 (ix3 0 r ⟨k.val, by omega⟩) * w2 (ix4 0 0 j k)) + (∑ k : Fin 1408, h1 (ix3 0 r ⟨1408 + k.val, by omega⟩) * w3 (ix4 0 0 j k)) := by
  unfold k1_pay1 k1_pay2 k1_pay3
  pointwise

/-- One block of the cotangent of the two gate entries. -/
theorem out3_at (x : FVec Ideal S512x1024 .bf16) (h : FVec Ideal S2x512x1408 .bf16) (w : FVec Ideal S1x1408x1024 .bf16) (g : Fin 2) (r : Fin 512) (l : Fin 1408) :
    out0_3 (F := Ideal) x h w (ix3 g r l)
      = if g = 0 then toG (∑ k : Fin 1024, x (ix2 r k) * w (ix3 0 l k)) (h (ix3 0 r l)) (h (ix3 1 r l))
        else toU (∑ k : Fin 1024, x (ix2 r k) * w (ix3 0 l k)) (h (ix3 0 r l)) := by
  unfold out0_3
  refine (two_slabs _ _ g r l).trans ?_
  simp only [View.ld_unit_zero (S := S512x1024) hz, View.ld_unit_zero (S := S1x1408x1024) hz3]
  by_cases hg : g = 0
  · rw [if_pos hg, if_pos hg]
    exact (pay8_at x w _ _ r l).trans (congrArg₂ (toG _) (ld_g (F := Ideal) h r l) (ld_u (F := Ideal) h r l))
  · rw [if_neg hg, if_neg hg, pay1_at, pay2_at, pay6_at]
    exact congrArg (toU _) (ld_g (F := Ideal) h r l)

/-- One block of the gated columns. -/
theorem out4_at (x : FVec Ideal S512x1024 .bf16) (h : FVec Ideal S2x512x1408 .bf16) (w : FVec Ideal S1x1408x1024 .bf16) (r : Fin 512) (l : Fin 1408) :
    out0_4 (F := Ideal) x h w (ix2 r l) = gated (h (ix3 0 r l)) (h (ix3 1 r l)) := by
  unfold out0_4
  rw [View.canon_unit_zero (S := S512x1408) hz]
  exact (pay7_at _ _ r l).trans (congrArg₂ gated (ld_g (F := Ideal) h r l) (ld_u (F := Ideal) h r l))

/-- One block of the input's cotangent. -/
theorem outx_at (x : FVec Ideal S512x1024 .f32) (h : FVec Ideal S2x512x2816 .bf16) (w : FVec Ideal S1x4x1024x1408 .bf16) (r : Fin 512) (j : Fin 1024) :
    out1_3 (F := Ideal) x h w (ix2 r j)
      = x (ix2 r j) + (∑ k : Fin 1408, h (ix3 0 r ⟨k.val, by omega⟩) * w (ix4 0 0 j k)) + (∑ k : Fin 1408, h (ix3 0 r ⟨1408 + k.val, by omega⟩) * w (ix4 0 1 j k))
        + (∑ k : Fin 1408, h (ix3 1 r ⟨k.val, by omega⟩) * w (ix4 0 2 j k)) + (∑ k : Fin 1408, h (ix3 1 r ⟨1408 + k.val, by omega⟩) * w (ix4 0 3 j k)) := by
  unfold out1_3
  rw [View.canon_unit_zero (S := S512x1024) hz]
  simp only [View.ld_unit_zero (S := S512x1024) hz]
  refine (payx_at x _ _ _ _ _ _ r j).trans ?_
  exact congrArg₂ (· + ·) (congrArg₂ (· + ·) (congrArg₂ (· + ·) (congrArg (x (ix2 r j) + ·)
    (Finset.sum_congr rfl fun k _ => congrArg₂ (· * ·) (ld_low (F := Ideal) h r _) (ld_w0 (F := Ideal) w j k)))
    (Finset.sum_congr rfl fun k _ => congrArg₂ (· * ·) (ld_low (F := Ideal) h r _) (ld_w1 (F := Ideal) w j k)))
    (Finset.sum_congr rfl fun k _ => congrArg₂ (· * ·) (ld_high (F := Ideal) h r _) (ld_w2 (F := Ideal) w j k)))
    (Finset.sum_congr rfl fun k _ => congrArg₂ (· * ·) (ld_high (F := Ideal) h r _) (ld_w3 (F := Ideal) w j k))

end Cert.Kernel2Ideal.Ffn
end
-- ==== Proof.Ffn.BwdVal.lean ====
/- The backward calls' three results as whole arrays. -/
module

public import proofs.«01_k».proof.Proof.Ffn.BwdAt
public import Idealize.ShloMosaic.Lib.StableHlo.ReadAt

@[expose] public section

set_option maxRecDepth 16384

noncomputable section

namespace Cert.Kernel2Ideal.Ffn

open Idealize.ShloMosaic Idealize.ShloMosaic.TcCoe Idealize.SL.Sem Cert.Kernel2Ideal Cert.Kernel2Ideal.Gen Cert.Ffn

section
variable (V : (c : Dev nD) → (b : Ref sig .tc) → Buf (Elt Ideal) ((c : Thread nD τ).loc b)) (c : Dev nD)

theorem lt32 (t : Fin cfg0.N) : t.val < 32 := lt_of_lt_of_eq t.isLt N_0
theorem lt16 (t : Fin cfg1.N) : t.val < 16 := lt_of_lt_of_eq t.isLt N_1
theorem idx_d : ∀ t : Fin cfg0.N, win0_0.index t = ![t.val % 16, 0] := (by decide +kernel : ∀ t : Fin grid0.N, win0_0.index t = ![t.val % 16, 0])
theorem idx_h : ∀ t : Fin cfg0.N, win0_1.index t = ![0, t.val % 16, t.val / 16] := (by decide +kernel : ∀ t : Fin grid0.N, win0_1.index t = ![0, t.val % 16, t.val / 16])
theorem idx_w : ∀ t : Fin cfg0.N, win0_2.index t = ![0, t.val / 16, 0] := (by decide +kernel : ∀ t : Fin grid0.N, win0_2.index t = ![0, t.val / 16, 0])
theorem idx_x : ∀ t : Fin cfg1.N, win1_0.index t = ![t.val, 0] := (by decide +kernel : ∀ t : Fin grid1.N, win1_0.index t = ![t.val, 0])
theorem idx_dh : ∀ t : Fin cfg1.N, win1_1.index t = ![0, t.val, 0] := (by decide +kernel : ∀ t : Fin grid1.N, win1_1.index t = ![0, t.val, 0])
theorem idx_ws : ∀ t : Fin cfg1.N, win1_2.index t = ![0, 0, 0, 0] := (by decide +kernel : ∀ t : Fin grid1.N, win1_2.index t = ![0, 0, 0, 0])

theorem b_d (t : Fin cfg0.N) (r : Fin 512) (k : Fin 1024) :
    (iblk0 V c 0 t : FVec Ideal S512x1024 .bf16) (ix2 r k) = (V c main_v11 : FVec Ideal S8192x1024 .bf16) (ix2 ⟨t.val % 16 * 512 + r.val, by omega⟩ k) := by
  blk_ext [iblk0, idx_d t]
theorem b_h (t : Fin cfg0.N) (g : Fin 2) (r : Fin 512) (l : Fin 1408) :
    (iblk0 V c 1 t : FVec Ideal S2x512x1408 .bf16) (ix3 g r l)
      = (V c main_v6 : FVec Ideal S2x8192x2816 .bf16) (ix3 g ⟨t.val % 16 * 512 + r.val, by omega⟩ ⟨t.val / 16 * 1408 + l.val, by have := lt32 t; omega⟩) := by
  blk_ext [iblk0, idx_h t]
theorem b_w (t : Fin cfg0.N) (l : Fin 1408) (k : Fin 1024) :
    (iblk0 V c 2 t : FVec Ideal S1x1408x1024 .bf16) (ix3 0 l k)
      = (V c main_v17 : FVec Ideal S1x2816x1024 .bf16) (ix3 0 ⟨t.val / 16 * 1408 + l.val, by have := lt32 t; omega⟩ k) := by
  blk_ext [iblk0, idx_w t]
theorem b_x (t : Fin cfg1.N) (r : Fin 512) (k : Fin 1024) :
    (iblk1 V c 0 t : FVec Ideal S512x1024 .f32) (ix2 r k) = (V c main_v8 : FVec Ideal S8192x1024 .f32) (ix2 ⟨t.val * 512 + r.val, by have := lt16 t; omega⟩ k) := by
  blk_ext [iblk1, idx_x t]
theorem b_dh (t : Fin cfg1.N) (g : Fin 2) (r : Fin 512) (l : Fin 2816) :
    (iblk1 V c 1 t : FVec Ideal S2x512x2816 .bf16) (ix3 g r l)
      = (V c main_v18_0 : FVec Ideal S2x8192x2816 .bf16) (ix3 g ⟨t.val * 512 + r.val, by have := lt16 t; omega⟩ l) := by
  blk_ext [iblk1, idx_dh t]
theorem b_ws (t : Fin cfg1.N) (n : Fin 4) (k : Fin 1024) (l : Fin 1408) :
    (iblk1 V c 2 t : FVec Ideal S1x4x1024x1408 .bf16) (ix4 0 n k l) = (V c main_v15 : FVec Ideal S1x4x1024x1408 .bf16) (ix4 0 n k l) := by
  blk_ext [iblk1, idx_ws t]

/-- One entry of the gated columns' cotangent, in a block and in the whole. -/
def sumB (x : FVec Ideal S512x1024 .bf16) (w : FVec Ideal S1x1408x1024 .bf16) (r : Fin 512) (l : Fin 1408) : EReal := ∑ k : Fin 1024, x (ix2 r k) * w (ix3 0 l k)
def DA (d : FVec Ideal S8192x1024 .bf16) (w : FVec Ideal S1x2816x1024 .bf16) (R : Fin 8192) (q : Fin 2816) : EReal := ∑ k : Fin 1024, d (ix2 R k) * w (ix3 0 q k)

/-- The cotangents of the two gate entries, side by side. -/
def DH (d : FVec Ideal S8192x1024 .bf16) (h : FVec Ideal S2x8192x2816 .bf16) (w : FVec Ideal S1x2816x1024 .bf16) : FVec Ideal S2x8192x2816 .bf16 := fun i =>
  if (show Fin 2 from i 0) = 0 then toG (DA d w (i 1) (i 2)) (h (ix3 0 (i 1) (i 2))) (h (ix3 1 (i 1) (i 2)))
  else toU (DA d w (i 1) (i 2)) (h (ix3 0 (i 1) (i 2)))

/-- The gated columns. -/
def GA (h : FVec Ideal S2x8192x2816 .bf16) : FVec Ideal S8192x2816 .bf16 := fun i => gated (h (ix3 0 (i 0) (i 1))) (h (ix3 1 (i 0) (i 1)))

/-- The input's cotangent. -/
def DX (x : FVec Ideal S8192x1024 .f32) (h : FVec Ideal S2x8192x2816 .bf16) (w : FVec Ideal S1x4x1024x1408 .bf16) : FVec Ideal S8192x1024 .f32 := fun i =>
  x (ix2 (i 0) (i 1)) + (∑ k : Fin 1408, h (ix3 0 (i 0) ⟨k.val, by omega⟩) * w (ix4 0 0 (i 1) k)) + (∑ k : Fin 1408, h (ix3 0 (i 0) ⟨1408 + k.val, by omega⟩) * w (ix4 0 1 (i 1) k))
    + (∑ k : Fin 1408, h (ix3 1 (i 0) ⟨k.val, by omega⟩) * w (ix4 0 2 (i 1) k)) + (∑ k : Fin 1408, h (ix3 1 (i 0) ⟨1408 + k.val, by omega⟩) * w (ix4 0 3 (i 1) k))

theorem idx_o3 : ∀ t : Fin cfg0.N, win0_3.index t = ![0, t.val % 16, t.val / 16] := (by decide +kernel : ∀ t : Fin grid0.N, win0_3.index t = ![0, t.val % 16, t.val / 16])
theorem idx_o4 : ∀ t : Fin cfg0.N, win0_4.index t = ![t.val % 16, t.val / 16] := (by decide +kernel : ∀ t : Fin grid0.N, win0_4.index t = ![t.val % 16, t.val / 16])
theorem idx_ox : ∀ t : Fin cfg1.N, win1_3.index t = ![t.val, 0] := (by decide +kernel : ∀ t : Fin grid1.N, win1_3.index t = ![t.val, 0])

theorem emb3 (t : Fin cfg0.N) (g : Fin 2) (r : Fin 512) (l : Fin 1408) : ((win0_3.blk t).view.emb (ix3 g r l) : S2x8192x2816.Idx)
    = ix3 g ⟨t.val % 16 * 512 + r.val, by omega⟩ ⟨t.val / 16 * 1408 + l.val, by have := lt32 t; omega⟩ := by
  funext a; apply Fin.ext
  refine (Pipeline.Window.rect_emb_val win0_3 t _ a).trans ?_
  rw [idx_o3 t]
  match a with
  | ⟨0, _⟩ => show 0 * 2 + g.val = g.val; omega
  | ⟨1, _⟩ => rfl
  | ⟨2, _⟩ => rfl
theorem emb4 (t : Fin cfg0.N) (r : Fin 512) (l : Fin 1408) : ((win0_4.blk t).view.emb (ix2 r l) : S8192x2816.Idx)
    = ix2 ⟨t.val % 16 * 512 + r.val, by omega⟩ ⟨t.val / 16 * 1408 + l.val, by have := lt32 t; omega⟩ := by
  funext a; apply Fin.ext
  refine (Pipeline.Window.rect_emb_val win0_4 t _ a).trans ?_
  rw [idx_o4 t]
  match a with
  | ⟨0, _⟩ => rfl
  | ⟨1, _⟩ => rfl
theorem embx (t : Fin cfg1.N) (r : Fin 512) (l : Fin 1024) : ((win1_3.blk t).view.emb (ix2 r l) : S8192x1024.Idx)
    = ix2 ⟨t.val * 512 + r.val, by have := lt16 t; omega⟩ l := by
  funext a; apply Fin.ext
  refine (Pipeline.Window.rect_emb_val win1_3 t _ a).trans ?_
  rw [idx_ox t]
  match a with
  | ⟨0, _⟩ => rfl
  | ⟨1, _⟩ => show 0 * 1024 + l.val = l.val; omega

theorem ex3 (y : S2x512x1408.Idx) : ∃ g r l, y = ix3 g r l := ⟨y 0, y 1, y 2, Cert.Ffn.eta3 y⟩

theorem dh_arr : ((dat0 V c).arrAt 3 cfg0.N : FVec Ideal S2x8192x2816 .bf16) = DH (V c main_v11) (V c main_v6) (V c main_v17) := by
  refine (dat0 V c).arrAt_eq_of_covers 3 _ (by decide +kernel) fun t hf y => ?_
  blk_simp
  rw [after0_3]
  obtain ⟨g, r, l, rfl⟩ := ex3 y
  refine (out3_at _ _ _ g r l).trans (Eq.trans ?_ (congrArg (DH (V c main_v11) (V c main_v6) (V c main_v17)) (emb3 t g r l)).symm)
  have hs : sumB (iblk0 V c 0 t) (iblk0 V c 2 t) r l = DA (V c main_v11) (V c main_v17) ⟨t.val % 16 * 512 + r.val, by omega⟩ ⟨t.val / 16 * 1408 + l.val, by have := lt32 t; omega⟩ :=
    Finset.sum_congr rfl fun k _ => congrArg₂ (· * ·) (b_d V c t r k) (b_w V c t l k)
  show (if g = 0 then toG (sumB (iblk0 V c 0 t) (iblk0 V c 2 t) r l) _ _ else toU (sumB (iblk0 V c 0 t) (iblk0 V c 2 t) r l) _) = _
  unfold DH
  rw [hs, b_h, b_h]
  rfl

theorem ga_arr : ((dat0 V c).arrAt 4 cfg0.N : FVec Ideal S8192x2816 .bf16) = GA (V c main_v6) := by
  refine (dat0 V c).arrAt_eq_of_covers 4 _ (by decide +kernel) fun t hf y => ?_
  blk_simp
  rw [after0_4]
  obtain ⟨r, l, rfl⟩ : ∃ (r : Fin 512) (l : Fin 1408), y = ix2 r l := ⟨y 0, y 1, Cert.Ffn.eta2 y⟩
  refine (out4_at _ _ _ r l).trans (Eq.trans ?_ (congrArg (GA (V c main_v6)) (emb4 t r l)).symm)
  exact congrArg₂ gated (b_h V c t 0 r l) (b_h V c t 1 r l)

theorem dx_arr : ((dat1 V c).arrAt 3 cfg1.N : FVec Ideal S8192x1024 .f32) = DX (V c main_v8) (V c main_v18_0) (V c main_v15) := by
  refine (dat1 V c).arrAt_eq_of_covers 3 _ (by decide +kernel) fun t hf y => ?_
  blk_simp
  rw [after1_3]
  obtain ⟨r, l, rfl⟩ : ∃ (r : Fin 512) (l : Fin 1024), y = ix2 r l := ⟨y 0, y 1, Cert.Ffn.eta2 y⟩
  refine (outx_at _ _ _ r l).trans (Eq.trans ?_ (congrArg (DX (V c main_v8) (V c main_v18_0) (V c main_v15)) (embx t r l)).symm)
  exact congrArg₂ (· + ·) (congrArg₂ (· + ·) (congrArg₂ (· + ·) (congrArg₂ (· + ·) (b_x V c t r l)
    (Finset.sum_congr rfl fun k _ => congrArg₂ (· * ·) (b_dh V c t 0 r _) (b_ws V c t 0 l k)))
    (Finset.sum_congr rfl fun k _ => congrArg₂ (· * ·) (b_dh V c t 0 r _) (b_ws V c t 1 l k)))
    (Finset.sum_congr rfl fun k _ => congrArg₂ (· * ·) (b_dh V c t 1 r _) (b_ws V c t 2 l k)))
    (Finset.sum_congr rfl fun k _ => congrArg₂ (· * ·) (b_dh V c t 1 r _) (b_ws V c t 3 l k))
end

end Cert.Kernel2Ideal.Ffn
end
-- ==== Proof.Ffn.BwdHost.lean ====
/- What the backward calls read: the arrays the host lines lay out, entry by entry. -/
module

public import proofs.«01_k».proof.Proof.Ffn.BwdVal

@[expose] public section

set_option maxRecDepth 16384

noncomputable section

namespace Cert.Kernel2Ideal.Ffn

open Idealize.ShloMosaic Idealize.ShloMosaic.TcCoe Idealize.SL.Sem Cert.Kernel2Ideal Cert.Kernel2Ideal.Gen Cert.Ffn

variable (m : (ℓ : Loc nD τ sig) → Buf (Elt Ideal) ℓ) (ρ : Dev nD → PrngReg) (c : Dev nD)

/-- The four arguments. -/
def X : FVec Ideal S8192x1024 .f32 := m ((c : Thread nD τ).loc main_arg0)
def W : FVec Ideal S1024x5632 .f32 := m ((c : Thread nD τ).loc main_arg1)
def D : FVec Ideal S2816x1024 .f32 := m ((c : Thread nD τ).loc main_arg2)
def R : FVec Ideal S8192x1024 .f32 := m ((c : Thread nD τ).loc main_arg3)

/-- The product of a row with the first weights. -/
def pre (x : FVec Ideal S8192x1024 .f32) (w : FVec Ideal S1024x5632 .f32) (r : Fin 8192) (q : Fin 5632) : EReal := ∑ k : Fin 1024, x (ix2 r k) * w (ix2 k q)

/-- The cotangent of the gated columns. -/
def dga (d : FVec Ideal S2816x1024 .f32) (e : FVec Ideal S8192x1024 .f32) (r : Fin 8192) (q : Fin 2816) : EReal :=
  ∑ k : Fin 1024, Ideal.ofBits .f32 1056964608#32 * e (ix2 r k) * d (ix2 q k)

theorem v8_at (r : Fin 8192) (j : Fin 1024) : (V1 m ρ c main_v8 : FVec Ideal S8192x1024 .f32) (ix2 r j) = Ideal.ofBits .f32 1068827891#32 * R m c (ix2 r j) := by
  simp only [V1, W1, hostOps0, List.flatten_cons, List.flatten_nil, List.append_nil, List.cons_append, List.nil_append]
  after_reads_simp
  pointwise
  rfl

theorem v11_at (r : Fin 8192) (j : Fin 1024) : (V1 m ρ c main_v11 : FVec Ideal S8192x1024 .bf16) (ix2 r j) = Ideal.ofBits .f32 1056964608#32 * R m c (ix2 r j) := by
  simp only [V1, W1, hostOps0, List.flatten_cons, List.flatten_nil, List.append_nil, List.cons_append, List.nil_append]
  after_reads_simp
  pointwise
  rfl

theorem v15_at (n : Fin 4) (k : Fin 1024) (l : Fin 1408) :
    (V1 m ρ c main_v15 : FVec Ideal S1x4x1024x1408 .bf16) (ix4 0 n k l) = W m c (ix2 k ⟨n.val * 1408 + l.val, by omega⟩) := by
  simp only [V1, W1, hostOps0, List.flatten_cons, List.flatten_nil, List.append_nil, List.cons_append, List.nil_append]
  after_reads_simp
  pointwise
  rfl

theorem v17_at (q : Fin 2816) (k : Fin 1024) :
    (V1 m ρ c main_v17 : FVec Ideal S1x2816x1024 .bf16) (ix3 0 q k) = D m c (ix2 q k) := by
  simp only [V1, W1, hostOps0, List.flatten_cons, List.flatten_nil, List.append_nil, List.cons_append, List.nil_append]
  after_reads_simp
  pointwise
  rfl

theorem v3_at (r : Fin 8192) (q : Fin 2816) : (V1 m ρ c main_v3 : FVec Ideal S1x8192x2816 .f32) (ix3 0 r q) = pre (X m c) (W m c) r ⟨q.val, by omega⟩ := by
  simp only [V1, W1, hostOps0, List.flatten_cons, List.flatten_nil, List.append_nil, List.cons_append, List.nil_append]
  after_reads_simp
  pointwise
  rfl

theorem v4_at (r : Fin 8192) (q : Fin 2816) : (V1 m ρ c main_v4 : FVec Ideal S1x8192x2816 .f32) (ix3 0 r q) = pre (X m c) (W m c) r ⟨2816 + q.val, by omega⟩ := by
  simp only [V1, W1, hostOps0, List.flatten_cons, List.flatten_nil, List.append_nil, List.cons_append, List.nil_append]
  after_reads_simp
  pointwise
  rfl

/-- Two arrays, one on top of the other. -/
def pile (a b : FVec Ideal S1x8192x2816 .f32) : FVec Ideal S2x8192x2816 .f32 :=
  concatenate S2x8192x2816 0 [⟨S1x8192x2816, a⟩, ⟨S1x8192x2816, b⟩] concatenates_S1x8192x2816_S1x8192x2816_S2x8192x2816_d0
def stack (a b : FVec Ideal S1x8192x2816 .f32) : FVec Ideal S2x8192x2816 .bf16 := truncf (F := Ideal) .bf16 (pile a b) bitsLt_bf16_f32

theorem stack_apply (a b : FVec Ideal S1x8192x2816 .f32) (i : S2x8192x2816.Idx) : stack a b i = pile a b i := by
  unfold stack
  pointwise

theorem v6_eq : (V1 m ρ c main_v6 : FVec Ideal S2x8192x2816 .bf16) = stack (V1 m ρ c main_v3) (V1 m ρ c main_v4) := by
  simp only [V1, W1, hostOps0, List.flatten_cons, List.flatten_nil, List.append_nil, List.cons_append, List.nil_append]
  after_reads_simp
  rfl

theorem gate_at (r : Fin 8192) (q : Fin 2816) : (V1 m ρ c main_v6 : FVec Ideal S2x8192x2816 .bf16) (ix3 0 r q) = pre (X m c) (W m c) r ⟨q.val, by omega⟩ := by
  rw [v6_eq, stack_apply]
  unfold pile
  refine Eq.trans ?_ (v3_at m ρ c r q)
  exact concatenate_pair_apply_left (t := S2x8192x2816) (s₁ := S1x8192x2816) (s₂ := S1x8192x2816) 0 _ _ _ (ix3 0 r q) rfl (ix3 0 r q) fun a => match a with
    | ⟨0, _⟩ => rfl
    | ⟨1, _⟩ => rfl
    | ⟨2, _⟩ => rfl

theorem up_at (r : Fin 8192) (q : Fin 2816) : (V1 m ρ c main_v6 : FVec Ideal S2x8192x2816 .bf16) (ix3 1 r q) = pre (X m c) (W m c) r ⟨2816 + q.val, by omega⟩ := by
  rw [v6_eq, stack_apply]
  unfold pile
  refine Eq.trans ?_ (v4_at m ρ c r q)
  exact concatenate_pair_apply_right (t := S2x8192x2816) (s₁ := S1x8192x2816) (s₂ := S1x8192x2816) 0 _ _ _ (ix3 1 r q) rfl rfl (ix3 0 r q) (fun a ha => match a, ha with
    | ⟨0, _⟩, ha => absurd rfl ha
    | ⟨1, _⟩, _ => rfl
    | ⟨2, _⟩, _ => rfl) rfl

theorem da_at (r : Fin 8192) (q : Fin 2816) : DA (V1 m ρ c main_v11) (V1 m ρ c main_v17) r q = dga (D m c) (R m c) r q :=
  Finset.sum_congr rfl fun k _ => congrArg₂ (· * ·) (v11_at m ρ c r k) (v17_at m ρ c q k)

section
variable (x : FVec Ideal S8192x1024 .f32) (w : FVec Ideal S1024x5632 .f32) (d : FVec Ideal S2816x1024 .f32) (e : FVec Ideal S8192x1024 .f32)

/-- The cotangent of the first product: the gates' columns, then the others'. -/
def dpre (r : Fin 8192) (q : Fin 5632) : EReal :=
  if h : q.val < 2816 then toG (dga d e r ⟨q.val, h⟩) (pre x w r q) (pre x w r ⟨2816 + q.val, by omega⟩)
  else toU (dga d e r ⟨q.val - 2816, by omega⟩) (pre x w r ⟨q.val - 2816, by omega⟩)
theorem dpre_low (r : Fin 8192) (q : Fin 2816) : dpre x w d e r ⟨q.val, by omega⟩
    = toG (dga d e r q) (pre x w r ⟨q.val, by omega⟩) (pre x w r ⟨2816 + q.val, by omega⟩) := dif_pos q.isLt
theorem dpre_high (r : Fin 8192) (q : Fin 2816) : dpre x w d e r ⟨2816 + q.val, by omega⟩
    = toU (dga d e r q) (pre x w r ⟨q.val, by omega⟩) := by
  unfold dpre
  rw [dif_neg (by show ¬2816 + q.val < 2816; omega)]
  have e1 : (⟨2816 + q.val - 2816, by omega⟩ : Fin 2816) = q := Fin.ext (by show 2816 + q.val - 2816 = q.val; omega)
  have e2 : (⟨2816 + q.val - 2816, by omega⟩ : Fin 5632) = ⟨q.val, by omega⟩ := Fin.ext (by show 2816 + q.val - 2816 = q.val; omega)
  exact congrArg₂ toU (congrArg _ e1) (congrArg _ e2)
end

/-- The first call's results. -/
theorem dh_low (r : Fin 8192) (q : Fin 2816) : (W3 m ρ c (Proc.devRef .tc main_v18_0) : FVec Ideal S2x8192x2816 .bf16) (ix3 0 r q)
    = dpre (X m c) (W m c) (D m c) (R m c) r ⟨q.val, by omega⟩ := by
  rw [dpre_low, ← gate_at m ρ, ← up_at m ρ, ← da_at m ρ]
  refine (congrFun ((W3_of m ρ c main_v18_0 (by decide)).trans ((W2_arr m ρ c 3).trans (dh_arr (V1 m ρ) c))) _).trans ?_
  rfl
theorem dh_high (r : Fin 8192) (q : Fin 2816) : (W3 m ρ c (Proc.devRef .tc main_v18_0) : FVec Ideal S2x8192x2816 .bf16) (ix3 1 r q)
    = dpre (X m c) (W m c) (D m c) (R m c) r ⟨2816 + q.val, by omega⟩ := by
  rw [dpre_high, ← gate_at m ρ, ← da_at m ρ]
  refine (congrFun ((W3_of m ρ c main_v18_0 (by decide)).trans ((W2_arr m ρ c 3).trans (dh_arr (V1 m ρ) c))) _).trans ?_
  rfl
theorem ga_at (r : Fin 8192) (q : Fin 2816) : (W3 m ρ c (Proc.devRef .tc main_v18_1) : FVec Ideal S8192x2816 .bf16) (ix2 r q)
    = gated (pre (X m c) (W m c) r ⟨q.val, by omega⟩) (pre (X m c) (W m c) r ⟨2816 + q.val, by omega⟩) := by
  rw [← gate_at m ρ, ← up_at m ρ]
  refine (congrFun ((W3_of m ρ c main_v18_1 (by decide)).trans ((W2_arr m ρ c 4).trans (ga_arr (V1 m ρ) c))) _).trans ?_
  rfl

theorem dh2_low (r : Fin 8192) (q : Fin 2816) : (V2 m ρ c main_v18_0 : FVec Ideal S2x8192x2816 .bf16) (ix3 0 r q)
    = dpre (X m c) (W m c) (D m c) (R m c) r ⟨q.val, by omega⟩ :=
  (congrFun (W3_of m ρ c main_v18_0 (by decide)) _).symm.trans (dh_low m ρ c r q)
theorem dh2_high (r : Fin 8192) (q : Fin 2816) : (V2 m ρ c main_v18_0 : FVec Ideal S2x8192x2816 .bf16) (ix3 1 r q)
    = dpre (X m c) (W m c) (D m c) (R m c) r ⟨2816 + q.val, by omega⟩ :=
  (congrFun (W3_of m ρ c main_v18_0 (by decide)) _).symm.trans (dh_high m ρ c r q)
theorem w2_at (n : Fin 4) (k : Fin 1024) (l : Fin 1408) :
    (V2 m ρ c main_v15 : FVec Ideal S1x4x1024x1408 .bf16) (ix4 0 n k l) = W m c (ix2 k ⟨n.val * 1408 + l.val, by omega⟩) :=
  (congrFun (W2_of m ρ c main_v15 (by decide)) _).trans (v15_at m ρ c n k l)

/-- Four stretches of one row's columns, summed up. -/
theorem DX_sum (x : FVec Ideal S8192x1024 .f32) (h : FVec Ideal S2x8192x2816 .bf16) (w : FVec Ideal S1x4x1024x1408 .bf16) (r : Fin 8192) (j : Fin 1024)
    (g v : Fin 5632 → EReal) (hl : ∀ q : Fin 2816, h (ix3 0 r q) = g ⟨q.val, by omega⟩) (hh : ∀ q : Fin 2816, h (ix3 1 r q) = g ⟨2816 + q.val, by omega⟩)
    (hw : ∀ (n : Fin 4) (l : Fin 1408), w (ix4 0 n j l) = v ⟨n.val * 1408 + l.val, by omega⟩) :
    DX x h w (ix2 r j) = x (ix2 r j) + ∑ q : Fin 5632, g q * v q := by
  rw [← term_all]
  generalize hf : (fun q : Fin 5632 => g q * v q) = f
  have e0 : ∑ k : Fin 1408, h (ix3 0 r ⟨k.val, by omega⟩) * w (ix4 0 0 j k) = ∑ k : Fin 1408, term f (0 * 1408 + k.val) := Finset.sum_congr rfl fun k _ => by
    rw [term_at _ _ (by omega), ← hf, hl, hw]
    exact congrArg₂ (· * ·) (congrArg g (Fin.ext (by show k.val = 0 * 1408 + k.val; omega))) (congrArg v (Fin.ext rfl))
  have e1 : ∑ k : Fin 1408, h (ix3 0 r ⟨1408 + k.val, by omega⟩) * w (ix4 0 1 j k) = ∑ k : Fin 1408, term f (1 * 1408 + k.val) := Finset.sum_congr rfl fun k _ => by
    rw [term_at _ _ (by omega), ← hf, hl, hw]
    exact congrArg₂ (· * ·) (congrArg g (Fin.ext (by show 1408 + k.val = 1 * 1408 + k.val; omega))) (congrArg v (Fin.ext rfl))
  have e2 : ∑ k : Fin 1408, h (ix3 1 r ⟨k.val, by omega⟩) * w (ix4 0 2 j k) = ∑ k : Fin 1408, term f (2 * 1408 + k.val) := Finset.sum_congr rfl fun k _ => by
    rw [term_at _ _ (by omega), ← hf, hh, hw]
    exact congrArg₂ (· * ·) (congrArg g (Fin.ext (by show 2816 + k.val = 2 * 1408 + k.val; omega))) (congrArg v (Fin.ext rfl))
  have e3 : ∑ k : Fin 1408, h (ix3 1 r ⟨1408 + k.val, by omega⟩) * w (ix4 0 3 j k) = ∑ k : Fin 1408, term f (3 * 1408 + k.val) := Finset.sum_congr rfl fun k _ => by
    rw [term_at _ _ (by omega), ← hf, hh, hw]
    exact congrArg₂ (· * ·) (congrArg g (Fin.ext (by show 2816 + (1408 + k.val) = 3 * 1408 + k.val; omega))) (congrArg v (Fin.ext rfl))
  have hs : ∑ s ∈ Finset.range (4 * 1408), term f s = ∑ k : Fin 1408, term f (0 * 1408 + k.val) + ∑ k : Fin 1408, term f (1 * 1408 + k.val)
      + ∑ k : Fin 1408, term f (2 * 1408 + k.val) + ∑ k : Fin 1408, term f (3 * 1408 + k.val) := by
    rw [← sum_next (term f) 3 1408, ← sum_next (term f) 2 1408, ← sum_next (term f) 1 1408, ← sum_next (term f) 0 1408]
    simp only [Nat.zero_mul, Finset.range_zero, Finset.sum_empty, zero_add]
  refine Eq.trans ?_ (congrArg (x (ix2 r j) + ·) hs.symm)
  simp only [← add_assoc]
  exact congrArg₂ (· + ·) (congrArg₂ (· + ·) (congrArg₂ (· + ·) (congrArg (x (ix2 r j) + ·) e0) e1) e2) e3

/-- The second call's result. -/
theorem dx_at (r : Fin 8192) (j : Fin 1024) : (W3 m ρ c (Proc.devRef .tc main_v19) : FVec Ideal S8192x1024 .f32) (ix2 r j)
    = Ideal.ofBits .f32 1068827891#32 * R m c (ix2 r j) + ∑ q : Fin 5632, dpre (X m c) (W m c) (D m c) (R m c) r q * W m c (ix2 j q) := by
  refine (congrFun ((W3_arr m ρ c 3).trans (dx_arr (V2 m ρ) c)) _).trans ?_
  refine (DX_sum _ _ _ r j (dpre (X m c) (W m c) (D m c) (R m c) r) (fun q => W m c (ix2 j q)) (dh2_low m ρ c r) (dh2_high m ρ c r) (fun n l => w2_at m ρ c n j l)).trans ?_
  exact congrArg (· + _) ((congrFun (W2_of m ρ c main_v8 (by decide)) _).trans (v8_at m ρ c r j))

end Cert.Kernel2Ideal.Ffn
end
-- ==== Proof.Attn.RefVal.lean ====
/- What the reference computes from finite arguments: each of its stages as a real number, and its four results as the
   gradients of Real.lean. -/
module

public import proofs.«01_k».proof.Proof.Gen.ReferenceIdeal.Read
public import proofs.«01_k».proof.Proof.Attn.Real
public import Idealize.ShloMosaic.Lib.Pointwise
public import Idealize.ShloMosaic.Lib.WordCmp

@[expose] public section

set_option maxRecDepth 16384

noncomputable section

namespace Cert.Attn

open Idealize.ShloMosaic
open Cert.ReferenceIdeal Cert.ReferenceIdeal.Read

namespace Data
variable (D : Data)

/-- The arguments' arrays. -/
def aq : (⟨S8192x8x64, .f32⟩ : BufTy).Contents (Elt Ideal) := fun i => ((D.q (i 0) (i 1) (i 2) : ℝ) : EReal)
def ak : (⟨S8192x2x64, .f32⟩ : BufTy).Contents (Elt Ideal) := fun i => ((D.k (i 0) (i 1) (i 2) : ℝ) : EReal)
def av : (⟨S8192x2x64, .f32⟩ : BufTy).Contents (Elt Ideal) := fun i => ((D.v (i 0) (i 1) (i 2) : ℝ) : EReal)
def asink : (⟨S8, .f32⟩ : BufTy).Contents (Elt Ideal) := fun i => ((D.s (i 0) : ℝ) : EReal)
def ad : (⟨S8192x8x64, .f32⟩ : BufTy).Contents (Elt Ideal) := fun i => ((D.d (i 0) (i 1) (i 2) : ℝ) : EReal)

theorem aq_at (i : Fin 8192) (h : Fin 8) (l : Fin 64) : D.aq (ix3 i h l) = ((D.q i h l : ℝ) : EReal) := rfl
theorem ak_at (i : Fin 8192) (a : Fin 2) (l : Fin 64) : D.ak (ix3 i a l) = ((D.k i a l : ℝ) : EReal) := rfl
theorem av_at (i : Fin 8192) (a : Fin 2) (l : Fin 64) : D.av (ix3 i a l) = ((D.v i a l : ℝ) : EReal) := rfl
theorem asink_at (h : Fin 8) : D.asink (ix1 h) = ((D.s h : ℝ) : EReal) := rfl
theorem ad_at (i : Fin 8192) (h : Fin 8) (l : Fin 64) : D.ad (ix3 i h l) = ((D.d i h l : ℝ) : EReal) := rfl
end Data

open Data

variable (D : Data)

/-- The programs' constants. -/
theorem eighth : Ideal.ofBits .f32 1040187392#32 = ((1 / 8 : ℝ) : EReal) := by
  simp [Ideal.ofBits, Ideal.ieee, -EReal.coe_mul]; norm_num
theorem half_word : Ideal.ofBits .f32 1056964608#32 = ((1 / 2 : ℝ) : EReal) := by
  simp [Ideal.ofBits, Ideal.ieee, -EReal.coe_mul]; norm_num
theorem one_word : Ideal.ofBits .f32 1065353216#32 = ((1 : ℝ) : EReal) := by
  simp [Ideal.ofBits, Ideal.ieee, -EReal.coe_mul]; norm_num
theorem zero_word : Ideal.ofBits .f32 0#32 = ((0 : ℝ) : EReal) := by
  simp [Ideal.ofBits, Ideal.ieee]
theorem minus_inf : Ideal.ofBits .f32 4286578688#32 = ⊥ := by
  simp [Ideal.ofBits, Ideal.ieee]

/-- The distance of two positions, as the programs compute it. -/
theorem dist_word (i j : Fin 8192) :
    IntOp.absi (IntOp.subi (BitVec.ofNat 32 i.val) (BitVec.ofNat 32 j.val)) = BitVec.ofNat 32 (i.val - j.val + (j.val - i.val)) := by
  have hi := i.isLt
  have hj := j.isLt
  have e : (IntOp.subi (BitVec.ofNat 32 i.val) (BitVec.ofNat 32 j.val)).toNat = (4294967296 - j.val + i.val) % 4294967296 := by
    show (BitVec.ofNat 32 i.val - BitVec.ofNat 32 j.val).toNat = _
    rw [BitVec.toNat_sub, BitVec.toNat_ofNat, BitVec.toNat_ofNat]
    omega
  generalize IntOp.subi (BitVec.ofNat 32 i.val) (BitVec.ofNat 32 j.val) = x at e
  unfold IntOp.absi
  apply BitVec.eq_of_toNat_eq
  rw [BitVec.msb_eq_decide]
  split <;> rename_i h
  · rw [decide_eq_true_eq] at h
    rw [BitVec.toNat_neg, BitVec.toNat_ofNat]
    omega
  · rw [decide_eq_true_eq] at h
    rw [BitVec.toNat_ofNat]
    omega

/-- The window's test, as the programs write it. -/
theorem near_word (i j : Fin 8192) :
    IntOp.cmpi CmpIPredicate.sle (IntOp.absi (IntOp.subi (BitVec.ofNat 32 i.val) (BitVec.ofNat 32 j.val))) 128#32 = if near i j then 1#1 else 0#1 := by
  have hi := i.isLt
  have hj := j.isLt
  rw [dist_word]
  simp (disch := word_cmp_side) only [hlo_ix]
  by_cases h : i.val - j.val + (j.val - i.val) ≤ 128
  · rw [decide_eq_true h, if_pos (show near i j by unfold near; omega)]; rfl
  · rw [decide_eq_false h, if_neg (show ¬ near i j by unfold near; omega)]; rfl

theorem r15 (a : Fin 2) (g : Fin 4) (i j : Fin 8192) : val_main_v15_0 (F := Ideal) D.aq D.ak (ix4 a g i j) = D.masked (hd a g) i j := by
  unfold val_main_v15_0 val_main_v15_1 val_main_call0_v2 val_main_call0_v0 val_main_cst_0 val_main_v14 val_main_v13 val_main_v12 val_main_v11 val_main_v10 val_main_v9 val_main_v8 val_main_v7 val_main_v6 val_main_v5 val_main_c val_main_v4 val_main_v3 val_main_cst val_main_v2 val_main_v1 val_main_v0
  pointwise
  rw [near_word, eighth]
  change Scalar.select _ ((∑ x, (((D.k j a x : ℝ) : EReal)) * ((D.q i (hd a g) x : ℝ) : EReal)) * _) (Ideal.ofBits .f32 4286578688#32) = _
  rw [minus_inf, masked, score, kv_hd]
  simp only [← EReal.coe_mul, ← coe_sum]
  by_cases hn : near i j
  · rw [if_pos hn, if_pos hn]; rfl
  · rw [if_neg hn, if_neg hn]; rfl

theorem r15_bit (a : Fin 2) (g : Fin 4) (i j : Fin 8192) : val_main_v15_1 (F := Ideal) (ix4 a g i j) = if near i j then 1#1 else 0#1 := by
  unfold val_main_v15_1 val_main_v14 val_main_v13 val_main_v12 val_main_v11 val_main_v10 val_main_v9 val_main_v8 val_main_v7 val_main_v6 val_main_v5 val_main_c
  pointwise
  exact near_word i j

theorem r17 (a : Fin 2) (g : Fin 4) (o : Fin 1) : val_main_v17 (F := Ideal) D.asink (ix3 a g o) = ((D.s (hd a g) : ℝ) : EReal) := by
  unfold val_main_v17 val_main_v16
  pointwise
  rfl

theorem r18 (a : Fin 2) (g : Fin 4) (i : Fin 8192) : val_main_v18 (F := Ideal) D.aq D.ak (ix3 a g i) = ((D.rmax (hd a g) i : ℝ) : EReal) := by
  unfold val_main_v18
  pointwise
  simp only [r15]
  rw [coe_rmax, top]
  unfold val_main_cst_1
  exact congrArg (fun b => Finset.fold max b (fun j => D.masked (hd a g) i j) Finset.univ) minus_inf

theorem ideal_max (x y : EReal) : FloatOps.maximumf (F := Ideal) (φ := FTy.f32) x y = max x y := rfl

theorem ix_v24 (a : Fin 2) (g : Fin 4) (i : Fin 8192) : idx_main_v24 (ix3 a g i) = ix3 a g 0 := by
  funext x
  match x with
  | ⟨0, _⟩ => rfl
  | ⟨1, _⟩ => rfl
  | ⟨2, _⟩ => rfl

theorem r25 (a : Fin 2) (g : Fin 4) (i : Fin 8192) : val_main_v25 (F := Ideal) D.aq D.ak D.asink (ix3 a g i) = ((D.mx (hd a g) i : ℝ) : EReal) := by
  rw [val_main_v25_apply, val_main_v24_apply, ix_v24, r17, r18, ideal_max, coe_mx, coe_rmax]

theorem r47 (a : Fin 2) (g : Fin 4) (i j : Fin 8192) : val_main_v47 (F := Ideal) D.aq D.ak D.asink (ix4 a g i j) = ((D.E (hd a g) i j : ℝ) : EReal) := by
  have e := r25 D a g i
  unfold val_main_v47 val_main_v46 val_main_v45 val_main_v44
  generalize val_main_v25 (F := Ideal) D.aq D.ak D.asink = y at e ⊢
  pointwise
  rw [r15, e, coe_E]

theorem ix_v49 (a : Fin 2) (g : Fin 4) (i : Fin 8192) : idx_main_v49 (ix3 a g i) = ix3 a g 0 := by
  funext x
  match x with
  | ⟨0, _⟩ => rfl
  | ⟨1, _⟩ => rfl
  | ⟨2, _⟩ => rfl

theorem ideal_sub (x y : EReal) : FloatOps.subf (F := Ideal) (φ := FTy.f32) x y = x - y := rfl
theorem ideal_exp (x : EReal) : FloatOps.hostUnary (F := Ideal) (φ := FTy.f32) .exp x = Ideal.exp x := rfl

theorem r51 (a : Fin 2) (g : Fin 4) (i : Fin 8192) : val_main_v51 (F := Ideal) D.aq D.ak D.asink (ix3 a g i) = ((D.es (hd a g) i : ℝ) : EReal) := by
  rw [val_main_v51_apply, val_main_v50_apply, val_main_v49_apply, ix_v49, r17, r25, ideal_sub, ideal_exp, ← EReal.coe_sub, Ideal.exp_coe, es]

theorem r52 (a : Fin 2) (g : Fin 4) (i : Fin 8192) : val_main_v52 (F := Ideal) D.aq D.ak D.asink (ix3 a g i) = ((D.Z (hd a g) i : ℝ) : EReal) := by
  unfold val_main_v52 val_main_v48 val_main_cst_9
  pointwise
  simp only [r47, r51]
  rw [Z, EReal.coe_add, coe_sum]
  try rw [zero_word]

theorem r54 (a : Fin 2) (g : Fin 4) (i : Fin 8192) (l : Fin 64) : val_main_v54 (F := Ideal) D.aq D.ak D.av D.asink (ix4 i a g l) = ((D.O (hd a g) i l : ℝ) : EReal) := by
  unfold val_main_v54 val_main_v53
  pointwise
  simp only [r47, O, kv_hd, coe_sum, EReal.coe_mul]
  rfl

theorem r56 (a : Fin 2) (g : Fin 4) (i : Fin 8192) (o : Fin 1) : val_main_v56 (F := Ideal) D.aq D.ak D.asink (ix4 i a g o) = ((D.Z (hd a g) i : ℝ) : EReal) := by
  unfold val_main_v56 val_main_v55
  pointwise
  rw [r52]

theorem r58 (a : Fin 2) (g : Fin 4) (i : Fin 8192) (l : Fin 64) : val_main_v58 (F := Ideal) D.aq D.ak D.av D.asink (ix4 i a g l) = ((D.O (hd a g) i l / D.Z (hd a g) i : ℝ) : EReal) := by
  unfold val_main_v58 val_main_v57
  pointwise
  rw [r54, r56, coe_div (D.Z_ne _ _)]

theorem r63 (a : Fin 2) (g : Fin 4) (i : Fin 8192) (l : Fin 64) : val_main_v63 (F := Ideal) D.ad (ix4 i a g l) = ((D.d i (hd a g) l : ℝ) : EReal) := by
  unfold val_main_v63
  pointwise
  rfl

theorem r61 (a : Fin 2) (g : Fin 4) (i : Fin 8192) (o : Fin 1) : val_main_v61 (F := Ideal) D.aq D.ak D.asink (ix4 i a g o) = ((1 / (D.Z (hd a g) i * D.Z (hd a g) i) : ℝ) : EReal) := by
  unfold val_main_v61 val_main_v60 val_main_v59 val_main_cst_10
  pointwise
  rw [r56, ← EReal.coe_mul, ← EReal.coe_one, coe_div (mul_ne_zero (D.Z_ne _ _) (D.Z_ne _ _))]

end Cert.Attn

end
-- ==== Proof.Ffn.BwdRef.lean ====
/- The backward call's reference, entry by entry, and its one place that needs finite numbers: the gate's derivative. -/
module

public import proofs.«01_k».proof.Proof.Ffn.BwdHost
public import proofs.«01_k».proof.Proof.Attn.RefVal
public import proofs.«01_k».proof.Proof.Gen.Reference2Ideal.Read

@[expose] public section

set_option maxRecDepth 16384

noncomputable section

namespace Cert.Reference2Ideal.Ffn

open Idealize.ShloMosaic Cert.Reference2Ideal Cert.Reference2Ideal.Read
open Cert.Kernel2Ideal.Ffn (pre dga sg gated toG toU dpre dpre_low dpre_high)

/-- A real number among the extended reals. -/
def IsR (a : EReal) : Prop := ∃ r : ℝ, a = (r : EReal)

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.sum {n : ℕ} {f : Fin n → EReal} (h : ∀ i, IsR (f i)) : IsR (∑ i, f i) := by
  choose r hr using h
  exact ⟨∑ i, r i, by rw [Cert.Attn.coe_sum]; exact Finset.sum_congr rfl fun i _ => hr i⟩

theorem sg_coe (a : ℝ) : sg (a : EReal) = ((1 / (1 + Real.exp (-a)) : ℝ) : EReal) := by
  unfold sg
  rw [sub_eq_add_neg, zero_add, ← EReal.coe_neg, Ideal.exp_coe, ← EReal.coe_one, ← EReal.coe_add, Cert.Attn.coe_div (by positivity)]

/-- The gate's derivative in the two shapes it is written in. -/
theorem slope {c a b : EReal} (hc : IsR c) (ha : IsR a) (hb : IsR b) :
    toG c a b = c * b * sg a + a * (c * b) * (sg a * (1 - sg a)) := by
  obtain ⟨c, rfl⟩ := hc
  obtain ⟨a, rfl⟩ := ha
  obtain ⟨b, rfl⟩ := hb
  unfold toG
  rw [sg_coe]
  generalize 1 / (1 + Real.exp (-a)) = s
  simp only [← EReal.coe_one, ← EReal.coe_mul, ← EReal.coe_sub, ← EReal.coe_add]
  exact congrArg _ (by ring)

variable (x : FVec Ideal S8192x1024 .f32) (w : FVec Ideal S1024x5632 .f32) (d : FVec Ideal S2816x1024 .f32) (e : FVec Ideal S8192x1024 .f32)
variable (R : Fin 8192) (q : Fin 2816)

theorem pre_real (hx : ∀ i, IsR (x i)) (hw : ∀ i, IsR (w i)) (p : Fin 5632) : IsR (pre x w R p) := IsR.sum fun _ => (hx _).mul (hw _)
theorem dga_real (hd : ∀ i, IsR (d i)) (he : ∀ i, IsR (e i)) : IsR (dga d e R q) :=
  IsR.sum fun _ => (IsR.mul ⟨_, Cert.Attn.half_word⟩ (he _)).mul (hd _)

theorem v2_at (p : Fin 5632) : (val_main_v2 (F := Ideal) x w : FVec Ideal S8192x5632 .f32) (ix2 R p) = pre x w R p := by
  unfold val_main_v2 pre
  pointwise

theorem v3_at : (val_main_v3 (F := Ideal) x w : FVec Ideal S8192x2816 .f32) (ix2 R q) = pre x w R ⟨q.val, by omega⟩ := by
  rw [← v2_at]
  unfold val_main_v3
  pointwise

theorem v4_at : (val_main_v4 (F := Ideal) x w : FVec Ideal S8192x2816 .f32) (ix2 R q) = pre x w R ⟨2816 + q.val, by omega⟩ := by
  rw [← v2_at]
  unfold val_main_v4
  pointwise

theorem s_at : (val_main_v5_2 (F := Ideal) x w : FVec Ideal S8192x2816 .f32) (ix2 R q) = sg (pre x w R ⟨q.val, by omega⟩) := by
  unfold sg
  rw [sub_eq_add_neg, zero_add, ← v3_at]
  unfold val_main_v5_2 val_main_call0_v4 val_main_call0_v3 val_main_call0_v2 val_main_call0_v1 val_main_call0_v0 val_main_call0_cst val_main_call0_cst_0
  pointwise

theorem slope_at : (val_main_v5_1 (F := Ideal) x w : FVec Ideal S8192x2816 .f32) (ix2 R q)
    = sg (pre x w R ⟨q.val, by omega⟩) * (1 - sg (pre x w R ⟨q.val, by omega⟩)) := by
  rw [← s_at]
  unfold val_main_v5_1 val_main_call0_v7 val_main_call0_v6 val_main_call0_cst_1
  pointwise

theorem silu_at : (val_main_v5_0 (F := Ideal) x w : FVec Ideal S8192x2816 .f32) (ix2 R q)
    = pre x w R ⟨q.val, by omega⟩ * sg (pre x w R ⟨q.val, by omega⟩) := by
  rw [← s_at, ← v3_at]
  unfold val_main_v5_0
  pointwise

theorem v15_at : (val_main_v15 (F := Ideal) d e : FVec Ideal S8192x2816 .f32) (ix2 R q) = dga d e R q := by
  unfold val_main_v15 val_main_v14 val_main_v13 val_main_v12 val_main_cst_1 dga
  pointwise

theorem v16_at : (val_main_v16 (F := Ideal) x w d e : FVec Ideal S8192x2816 .f32) (ix2 R q) = dpre x w d e R ⟨2816 + q.val, by omega⟩ := by
  rw [dpre_high]
  unfold toU
  rw [mul_comm, ← silu_at, ← v15_at]
  unfold val_main_v16
  pointwise

theorem v18_at (hx : ∀ i, IsR (x i)) (hw : ∀ i, IsR (w i)) (hd : ∀ i, IsR (d i)) (he : ∀ i, IsR (e i)) :
    (val_main_v18 (F := Ideal) x w d e : FVec Ideal S8192x2816 .f32) (ix2 R q) = dpre x w d e R ⟨q.val, by omega⟩ := by
  rw [dpre_low, slope (dga_real d e R q hd he) (pre_real x w R hx hw _) (pre_real x w R hx hw _), ← slope_at, ← s_at, ← v15_at, ← v4_at, ← v3_at]
  unfold val_main_v18 val_main_call1_v1 val_main_call1_v2 val_main_call1_v0 val_main_v17
  pointwise

theorem v19_low : val_main_v19 (F := Ideal) x w d e (ix2 R ⟨q.val, by omega⟩) = val_main_v18 (F := Ideal) x w d e (ix2 R q) := by
  unfold val_main_v19
  exact concatenate_pair_apply_left (t := S8192x5632) (s₁ := S8192x2816) (s₂ := S8192x2816) 1 _ _ _ (ix2 R ⟨q.val, by omega⟩) rfl (ix2 R q) fun a => match a with
    | ⟨0, _⟩ => rfl
    | ⟨1, _⟩ => rfl

theorem v19_high : val_main_v19 (F := Ideal) x w d e (ix2 R ⟨2816 + q.val, by omega⟩) = val_main_v16 (F := Ideal) x w d e (ix2 R q) := by
  unfold val_main_v19
  exact concatenate_pair_apply_right (t := S8192x5632) (s₁ := S8192x2816) (s₂ := S8192x2816) 1 _ _ _ (ix2 R ⟨2816 + q.val, by omega⟩) rfl rfl (ix2 R q) (fun a ha => match a, ha with
    | ⟨0, _⟩, _ => rfl
    | ⟨1, _⟩, ha => absurd rfl ha) (by show q.val + 2816 = 2816 + q.val; omega)

theorem v34_at : (val_main_v34 (F := Ideal) d e : FVec Ideal S8192x2816 .f32) (ix2 R q) = dga d e R q := by
  unfold val_main_v34 val_main_v33 val_main_v32 val_main_cst_4 dga
  pointwise

theorem v34_eq : val_main_v34 (F := Ideal) d e = val_main_v15 (F := Ideal) d e := by
  funext i
  rw [Cert.Ffn.eta2 i]
  exact (v34_at d e _ _).trans (v15_at d e _ _).symm

/-- The second writing of the hidden cotangent is the first. -/
theorem v38_eq : val_main_v38 (F := Ideal) x w d e = val_main_v19 (F := Ideal) x w d e := by
  unfold val_main_v38 val_main_v37 val_main_v35 val_main_call3_v1 val_main_call3_v2 val_main_call3_v0 val_main_v36
  rw [v34_eq]
  rfl

section
variable (hx : ∀ i, IsR (x i)) (hw : ∀ i, IsR (w i)) (hd : ∀ i, IsR (d i)) (he : ∀ i, IsR (e i))
include hx hw hd he

theorem v19_at (p : Fin 5632) : (val_main_v19 (F := Ideal) x w d e : FVec Ideal S8192x5632 .f32) (ix2 R p) = dpre x w d e R p := by
  by_cases hp : p.val < 2816
  · exact (v19_low x w d e R ⟨p.val, hp⟩).trans (v18_at x w d e R ⟨p.val, hp⟩ hx hw hd he)
  · have ep : p = ⟨2816 + (p.val - 2816), by omega⟩ := Fin.ext (by show p.val = 2816 + (p.val - 2816); omega)
    rw [ep]
    exact (v19_high x w d e R ⟨p.val - 2816, by omega⟩).trans (v16_at x w d e R _)

/-- The input's cotangent. -/
theorem v23_at (j : Fin 1024) : (val_main_v23 (F := Ideal) x w d e : FVec Ideal S8192x1024 .f32) (ix2 R j)
    = Ideal.ofBits .f32 1068827891#32 * e (ix2 R j) + ∑ p : Fin 5632, dpre x w d e R p * w (ix2 j p) := by
  simp only [← v19_at x w d e R hx hw hd he]
  rw [add_comm]
  unfold val_main_v23 val_main_v22 val_main_v21 val_main_v20 val_main_v11 val_main_cst_2
  pointwise

theorem v38_at (p : Fin 5632) : (val_main_v38 (F := Ideal) x w d e : FVec Ideal S8192x5632 .f32) (ix2 R p) = dpre x w d e R p := by
  rw [← v19_at x w d e R hx hw hd he, v38_eq]

theorem v41_at : (val_main_v41 (F := Ideal) x w d e : FVec Ideal S1x8192x2816 .f32) (ix3 0 R q) = dpre x w d e R ⟨q.val, by omega⟩ := by
  rw [← v38_at x w d e R hx hw hd he]
  unfold val_main_v41 val_main_v39
  pointwise

theorem v42_at : (val_main_v42 (F := Ideal) x w d e : FVec Ideal S1x8192x2816 .f32) (ix3 0 R q) = dpre x w d e R ⟨2816 + q.val, by omega⟩ := by
  rw [← v38_at x w d e R hx hw hd he]
  unfold val_main_v42 val_main_v40
  pointwise
end

theorem v44_apply (i : S2x8192x2816.Idx) : (val_main_v44 (F := Ideal) x w d e : FVec Ideal S2x8192x2816 .bf16) i = val_main_v43 (F := Ideal) x w d e i := by
  unfold val_main_v44
  pointwise

theorem v43_low : val_main_v43 (F := Ideal) x w d e (ix3 0 R q) = val_main_v41 (F := Ideal) x w d e (ix3 0 R q) := by
  unfold val_main_v43
  exact concatenate_pair_apply_left (t := S2x8192x2816) (s₁ := S1x8192x2816) (s₂ := S1x8192x2816) 0 _ _ _ (ix3 0 R q) rfl (ix3 0 R q) fun a => match a with
    | ⟨0, _⟩ => rfl
    | ⟨1, _⟩ => rfl
    | ⟨2, _⟩ => rfl

theorem v43_high : val_main_v43 (F := Ideal) x w d e (ix3 1 R q) = val_main_v42 (F := Ideal) x w d e (ix3 0 R q) := by
  unfold val_main_v43
  exact concatenate_pair_apply_right (t := S2x8192x2816) (s₁ := S1x8192x2816) (s₂ := S1x8192x2816) 0 _ _ _ (ix3 1 R q) rfl rfl (ix3 0 R q) (fun a ha => match a, ha with
    | ⟨0, _⟩, ha => absurd rfl ha
    | ⟨1, _⟩, _ => rfl
    | ⟨2, _⟩, _ => rfl) rfl

theorem v45_at (p : Fin 5632) : (val_main_v45 (F := Ideal) x w : FVec Ideal S8192x5632 .f32) (ix2 R p) = pre x w R p := by
  unfold val_main_v45 pre
  pointwise

theorem v46_at : (val_main_v46 (F := Ideal) x w : FVec Ideal S8192x2816 .f32) (ix2 R q) = pre x w R ⟨q.val, by omega⟩ := by
  rw [← v45_at]
  unfold val_main_v46
  pointwise

theorem v47_at : (val_main_v47 (F := Ideal) x w : FVec Ideal S8192x2816 .f32) (ix2 R q) = pre x w R ⟨2816 + q.val, by omega⟩ := by
  rw [← v45_at]
  unfold val_main_v47
  pointwise

/-- The gated columns. -/
theorem v50_at : (val_main_v50 (F := Ideal) x w : FVec Ideal S8192x2816 .bf16) (ix2 R q) = gated (pre x w R ⟨q.val, by omega⟩) (pre x w R ⟨2816 + q.val, by omega⟩) := by
  unfold gated sg
  rw [sub_eq_add_neg, zero_add, ← v46_at, ← v47_at]
  unfold val_main_v50 val_main_v49 val_main_v48 val_main_call4_v5 val_main_call4_v4 val_main_call4_v3 val_main_call4_v2 val_main_call4_v1 val_main_call4_v0 val_main_call4_cst val_main_call4_cst_0
  pointwise

end Cert.Reference2Ideal.Ffn
end
-- ==== Proof.Proj.BwdAt.lean ====
/- The output projection's backward call, entry by entry; and the norm's derivative as the kernel writes it and as the reference does. -/
module

public import proofs.«01_k».proof.Proof.Proj.BwdBody
public import proofs.«01_k».proof.Proof.Ffn.FwdAt
public import proofs.«01_k».proof.Proof.Ffn.BwdRef

@[expose] public section

set_option maxRecDepth 16384

noncomputable section

namespace Cert.Proj.Norm

open Idealize.ShloMosaic
open Cert.Kernel5Ideal.Ffn (mean)
open Cert.Reference2Ideal.Ffn (IsR)

/-- A row about its mean, the reciprocal of its deviation, and the normalised row. -/
def cen (f : Fin 1024 → EReal) (l : Fin 1024) : EReal := f l - mean f
def vr (f : Fin 1024 → EReal) : EReal := mean (fun k => cen f k * cen f k) + Ideal.ofBits .f32 925353388#32
def rs (f : Fin 1024 → EReal) : EReal := Ideal.rsqrt (vr f)
def xh (f : Fin 1024 → EReal) (l : Fin 1024) : EReal := cen f l * rs f

/-- The norm's derivative as the kernel writes it. -/
def ker (f e : Fin 1024 → EReal) (l : Fin 1024) : EReal :=
  rs f * (e l - mean e - xh f l * mean (fun k => e k * xh f k))

/-- The part of it that comes through the deviation, in the reference's form. -/
def thr (f e : Fin 1024 → EReal) : EReal :=
  Ideal.div ((∑ k, cen f k * e k) * (Ideal.ofBits .f32 3204448256#32 * Ideal.div (rs f) (vr f))) (Ideal.ofBits .f32 1149239296#32)

/-- The norm's derivative as the reference writes it. -/
def ref (f e : Fin 1024 → EReal) (l : Fin 1024) : EReal :=
  e l * rs f + thr f e * (Ideal.ofBits .f32 1073741824#32 * cen f l)
    + Ideal.div ((∑ k, -(e k * rs f)) + ∑ k, -(thr f e * (Ideal.ofBits .f32 1073741824#32 * cen f k))) (Ideal.ofBits .f32 1149239296#32)

theorem n_word : Ideal.ofBits .f32 1149239296#32 = ((1024 : ℝ) : EReal) := by
  simp [Ideal.ofBits, Ideal.ieee, -EReal.coe_mul]; norm_num
theorem two_word : Ideal.ofBits .f32 1073741824#32 = ((2 : ℝ) : EReal) := by
  simp [Ideal.ofBits, Ideal.ieee, -EReal.coe_mul]; norm_num
theorem neg_word : Ideal.ofBits .f32 3204448256#32 = ((-(1 / 2) : ℝ) : EReal) := by
  simp [Ideal.ofBits, Ideal.ieee, -EReal.coe_mul]; norm_num
theorem eps_word : ∃ z : ℝ, 0 < z ∧ Ideal.ofBits .f32 925353388#32 = ((z : ℝ) : EReal) := by
  refine ⟨(10995116 : ℝ) / 1099511627776, by norm_num, ?_⟩
  simp [Ideal.ofBits, Ideal.ieee, -EReal.coe_mul]; norm_num

theorem mean_coe (f : Fin 1024 → ℝ) : mean (fun k => ((f k : ℝ) : EReal)) = (((∑ k, f k) / 1024 : ℝ) : EReal) := by
  unfold mean
  rw [n_word, ← Cert.Attn.coe_sum, Cert.Attn.coe_div (by norm_num)]

/-- On real rows the two forms agree. -/
theorem same {f e : Fin 1024 → EReal} (hf : ∀ k, IsR (f k)) (he : ∀ k, IsR (e k)) (l : Fin 1024) : ref f e l = ker f e l := by
  choose a ha using hf
  choose b hb using he
  obtain rfl : f = fun k => ((a k : ℝ) : EReal) := funext ha
  obtain rfl : e = fun k => ((b k : ℝ) : EReal) := funext hb
  obtain ⟨z, hz, ez⟩ := eps_word
  obtain ⟨u, hu⟩ : ∃ u : Fin 1024 → ℝ, u = fun k => a k - (∑ j, a j) / 1024 := ⟨_, rfl⟩
  have hc : ∀ k, cen (fun k => ((a k : ℝ) : EReal)) k = ((u k : ℝ) : EReal) := fun k => by
    unfold cen
    rw [mean_coe, ← EReal.coe_sub, hu]
  have s0 : ∑ k, u k = 0 := by
    rw [hu, Finset.sum_sub_distrib, Finset.sum_const, Finset.card_univ, Fintype.card_fin]
    simp
    ring
  obtain ⟨v, hv⟩ : ∃ v : ℝ, v = (∑ k, u k * u k) / 1024 + z := ⟨_, rfl⟩
  have pv : 0 < v := by
    rw [hv]
    have : 0 ≤ ∑ k, u k * u k := Finset.sum_nonneg fun k _ => mul_self_nonneg _
    positivity
  have ev : vr (fun k => ((a k : ℝ) : EReal)) = ((v : ℝ) : EReal) := by
    unfold vr
    simp only [hc, ← EReal.coe_mul]
    rw [mean_coe, ez, ← EReal.coe_add, hv]
  obtain ⟨q, hq⟩ : ∃ q : ℝ, q = (Real.sqrt v)⁻¹ := ⟨_, rfl⟩
  have er : rs (fun k => ((a k : ℝ) : EReal)) = ((q : ℝ) : EReal) := by
    unfold rs
    rw [ev, hq]
    show (if v < 0 then ⊥ else if v = 0 then ⊤ else (((Real.sqrt v)⁻¹ : ℝ) : EReal)) = _
    rw [if_neg (not_lt.mpr pv.le), if_neg pv.ne']
  have hqv : q / v = q * q * q := by
    have hs : Real.sqrt v * Real.sqrt v = v := Real.mul_self_sqrt pv.le
    have hs0 : Real.sqrt v ≠ 0 := (Real.sqrt_pos.mpr pv).ne'
    rw [hq]
    generalize Real.sqrt v = s at hs hs0
    rw [← hs]
    field_simp
  obtain ⟨w, hw⟩ : ∃ w : ℝ, w = ∑ k, u k * b k := ⟨_, rfl⟩
  have et : thr (fun k => ((a k : ℝ) : EReal)) (fun k => ((b k : ℝ) : EReal)) = ((w * (-(1 / 2) * (q / v)) / 1024 : ℝ) : EReal) := by
    unfold thr
    simp only [hc, er, ev, ← EReal.coe_mul]
    rw [← Cert.Attn.coe_sum, neg_word, n_word, Cert.Attn.coe_div pv.ne', ← EReal.coe_mul, ← EReal.coe_mul, Cert.Attn.coe_div (by norm_num), hw]
  have m1 : ∑ k, b k * (u k * q) = q * w := by
    rw [hw, Finset.mul_sum]
    exact Finset.sum_congr rfl fun k _ => by ring
  have m2 : ∑ k, -(b k * q) = -(q * ∑ k, b k) := by
    rw [Finset.sum_neg_distrib, Finset.mul_sum]
    exact congrArg _ (Finset.sum_congr rfl fun k _ => by ring)
  have m3 : ∀ t : ℝ, ∑ k, -(t * (2 * u k)) = 0 := fun t => by
    rw [Finset.sum_neg_distrib]
    have : ∑ k, t * (2 * u k) = t * 2 * ∑ k, u k := by
      rw [Finset.mul_sum]
      exact Finset.sum_congr rfl fun k _ => by ring
    rw [this, s0]
    ring
  unfold ref ker xh
  simp only [hc, er, et, two_word, n_word, ← EReal.coe_mul, ← EReal.coe_neg, ← EReal.coe_sub, ← EReal.coe_add, ← Cert.Attn.coe_sum, mean_coe]
  rw [Cert.Attn.coe_div (by norm_num), ← EReal.coe_add, m1, m2, m3, hqv]
  refine congrArg _ ?_
  ring

end Cert.Proj.Norm

namespace Cert.Kernel6Ideal.Proj

open Idealize.ShloMosaic Idealize.ShloMosaic.TcCoe Idealize.SL.Sem Cert.Kernel6Ideal Cert.Kernel6Ideal.Gen
open Cert.Kernel5Ideal.Ffn (mean)
open Cert.Proj.Norm

variable (f : FVec Ideal S512x1024 .f32) (d : FVec Ideal S512x1024 .f32) (g : FVec Ideal S1x1024 .f32) (w : FVec Ideal S1x1024x1024 .bf16) (o : FVec Ideal S8x1024 .f32)
variable (r : Fin 512) (l : Fin 1024)

theorem pay8_at : k0_pay8 (F := Ideal) f (ix2 r l) = cen (fun k => f (ix2 r k)) l := by
  unfold k0_pay8 cen mean
  pointwise

theorem pay9_at : k0_pay9 (F := Ideal) f (ix2 r 0) = rs (fun k => f (ix2 r k)) := by
  unfold rs vr mean
  simp only [← pay8_at f r]
  unfold k0_pay9
  generalize k0_pay8 (F := Ideal) f = y
  pointwise

theorem pay10_at : k0_pay10 (F := Ideal) f (ix2 r l) = xh (fun k => f (ix2 r k)) l := by
  unfold xh
  rw [← pay8_at f r, ← pay9_at f r]
  unfold k0_pay10
  generalize k0_pay8 (F := Ideal) f = y
  generalize k0_pay9 (F := Ideal) f = z
  pointwise

theorem pay12_at : k0_pay12 (F := Ideal) f (ix2 r l) = rs (fun k => f (ix2 r k)) := by
  rw [← pay9_at f r]
  unfold k0_pay12
  generalize k0_pay9 (F := Ideal) f = z
  pointwise

/-- The derivative's rows. -/
def dr (r : Fin 512) (l : Fin 1024) : EReal := ker (fun k => f (ix2 r k)) (fun k => d (ix2 r k) * g (ix2 0 k)) l

theorem pay1_at : k0_pay1 (F := Ideal) (k0_pay11 (F := Ideal) f d g) (k0_pay12 (F := Ideal) f) (ix2 r l) = dr f d g r l := by
  unfold dr ker mean
  simp only [← pay10_at f r, ← pay12_at f r l]
  unfold k0_pay1 k0_pay11
  generalize k0_pay10 (F := Ideal) f = y
  generalize k0_pay12 (F := Ideal) f = z
  pointwise

theorem pay2_at : k0_pay2 (F := Ideal) (k0_pay11 (F := Ideal) f d g) (k0_pay12 (F := Ideal) f) (ix2 r l) = Ideal.ofBits .f32 1068827891#32 * dr f d g r l := by
  rw [← pay1_at]
  unfold k0_pay2
  generalize k0_pay1 (F := Ideal) (k0_pay11 (F := Ideal) f d g) (k0_pay12 (F := Ideal) f) = y
  pointwise

theorem pay3_at : k0_pay3 (F := Ideal) (k0_pay11 (F := Ideal) f d g) (k0_pay12 (F := Ideal) f) (ix2 r l) = dr f d g r l := by
  rw [← pay1_at]
  unfold k0_pay3
  generalize k0_pay1 (F := Ideal) (k0_pay11 (F := Ideal) f d g) (k0_pay12 (F := Ideal) f) = y
  pointwise

theorem pay4_at : k0_pay4 (F := Ideal) (k0_pay11 (F := Ideal) f d g) (k0_pay12 (F := Ideal) f) w (ix2 r l) = ∑ k : Fin 1024, dr f d g r k * w (ix3 0 l k) := by
  simp only [← pay3_at]
  unfold k0_pay4
  generalize k0_pay3 (F := Ideal) (k0_pay11 (F := Ideal) f d g) (k0_pay12 (F := Ideal) f) = y
  pointwise

theorem ld_0 : View.ld (Val := Elt Ideal) (e' := .f32) o (Rect.unit (s := S8x1024) ![0, 0] S1x1024.size inb_S8x1024_S1x1024_0_0) (ix2 0 l) = o (ix2 0 l) :=
  congrArg o (funext fun a => Fin.ext (match a with
    | ⟨0, _⟩ => rfl
    | ⟨1, _⟩ => by show 0 + 1 * l.val = l.val; omega))

theorem ld_1 : View.ld (Val := Elt Ideal) (e' := .f32) o (Rect.unit (s := S8x1024) ![1, 0] S1x1024.size inb_S8x1024_S1x1024_1_0) (ix2 0 l) = o (ix2 1 l) :=
  congrArg o (funext fun a => Fin.ext (match a with
    | ⟨0, _⟩ => rfl
    | ⟨1, _⟩ => by show 0 + 1 * l.val = l.val; omega))

theorem pay5_at (y : FVec Ideal S512x1024 .f32) (p : FVec Ideal S1x1024 .f32) : k0_pay5 (F := Ideal) y d p (ix2 0 l) = p (ix2 0 l) + ∑ r : Fin 512, d (ix2 r l) * y (ix2 r l) := by
  unfold k0_pay5
  pointwise

theorem pay6_at (p : FVec Ideal S1x1024 .f32) : k0_pay6 (F := Ideal) d p (ix2 0 l) = p (ix2 0 l) + ∑ r : Fin 512, d (ix2 r l) := by
  unfold k0_pay6
  pointwise

theorem up_0 : up (F := Ideal) o d f 0 l = o (ix2 0 l) + ∑ r : Fin 512, d (ix2 r l) * xh (fun k => f (ix2 r k)) l := by
  unfold up
  refine (if_pos (show (0 : Fin 8).val = 0 from rfl)).trans ((pay5_at d l _ _).trans (congrArg₂ (· + ·) (ld_0 o l) (Finset.sum_congr rfl fun r _ => ?_)))
  rw [pay10_at]

theorem up_1 : up (F := Ideal) o d f 1 l = o (ix2 1 l) + ∑ r : Fin 512, d (ix2 r l) := by
  unfold up
  refine (if_neg (show ¬(1 : Fin 8).val = 0 by decide)).trans ((if_pos (show (1 : Fin 8).val = 1 from rfl)).trans ((pay6_at d l _).trans ?_))
  exact congrArg (· + _) (ld_1 o l)

theorem up_2 (n : Fin 8) (h0 : n.val ≠ 0) (h1 : n.val ≠ 1) : up (F := Ideal) o d f n l = o (ix2 n l) := by
  unfold up
  rw [if_neg h0, if_neg h1]

theorem pay7_at (n : Fin 8) : k0_pay7 (F := Ideal) (ix2 n l) = 0 := by
  unfold k0_pay7
  pointwise

end Cert.Kernel6Ideal.Proj
end
-- ==== Proof.Proj.InBwdBody.lean ====
/- The backward call of the projection into the mixers: what one point leaves in its outputs. -/
module

public import proofs.«01_k».proof.Proof.Proj.BwdAt
public import proofs.«01_k».proof.Proof.Gen.Kernel10Ideal.Value

@[expose] public section

set_option maxRecDepth 16384

noncomputable section

namespace Cert.Kernel10Ideal.Proj

open Idealize.ShloMosaic Idealize.ShloMosaic.TcCoe Idealize.SL.Sem Cert.Kernel10Ideal Cert.Kernel10Ideal.Gen

open Cert.Kernel6Ideal.Proj (hz two_rows)

variable {F : FTy → Type} [FloatOps F]

/-- The cotangent of the norm's output in a block: what comes to it directly, and what comes through the four shards. -/
def acc (x0 : Vec F S512x2048 .f32) (x1 : Vec F S512x1024 .f32) (x2 : Vec F S1x4x1024x512 .bf16) : Vec F S512x1024 .f32 :=
  k0_pay3 x1 (View.ld x0 (Rect.unit (s := S512x2048) ![0, 0] S512x512.size inb_S512x2048_S512x512_0_0))
    (View.ld x2 (Rect.unit (s := S1x4x1024x512) ![0, 0, 0, 0] S1x1x1024x512.size inb_S1x4x1024x512_S1x1x1024x512_0_0_0_0)) (View.ld x0 (Rect.unit (s := S512x2048) ![0, 512] S512x512.size inb_S512x2048_S512x512_0_512))
    (View.ld x2 (Rect.unit (s := S1x4x1024x512) ![0, 1, 0, 0] S1x1x1024x512.size inb_S1x4x1024x512_S1x1x1024x512_0_1_0_0)) (View.ld x0 (Rect.unit (s := S512x2048) ![0, 1024] S512x512.size inb_S512x2048_S512x512_0_1024))
    (View.ld x2 (Rect.unit (s := S1x4x1024x512) ![0, 2, 0, 0] S1x1x1024x512.size inb_S1x4x1024x512_S1x1x1024x512_0_2_0_0)) (View.ld x0 (Rect.unit (s := S512x2048) ![0, 1536] S512x512.size inb_S512x2048_S512x512_0_1536))
    (View.ld x2 (Rect.unit (s := S1x4x1024x512) ![0, 3, 0, 0] S1x1x1024x512.size inb_S1x4x1024x512_S1x1x1024x512_0_3_0_0))

/-- The two running rows after a block: one more block's column sums. -/
def up (o : Vec F S8x1024 .f32) (d f : Vec F S512x1024 .f32) (n : Fin 8) (l : Fin 1024) : Elt F .f32 :=
  if n.val = 0 then k0_pay1 d (k0_pay7 f) (View.ld o (Rect.unit (s := S8x1024) ![0, 0] S1x1024.size inb_S8x1024_S1x1024_0_0)) (ix2 0 l)
  else if n.val = 1 then k0_pay2 d (View.ld o (Rect.unit (s := S8x1024) ![1, 0] S1x1024.size inb_S8x1024_S1x1024_1_0)) (ix2 0 l)
  else o (ix2 n l)

variable (c : Dev nD) (i : grid0.Coords)
  (a1 : Memref sig .tc .vmem S512x2048 .f32) (h1 : a1.IsWhole) (a2 : Memref sig .tc .vmem S512x1024 .f32) (h2 : a2.IsWhole)
  (a3 : Memref sig .tc .vmem S1x4x1024x512 .bf16) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S8x1024 .f32) (h8 : a8.IsWhole)
  (x0 : Vec F S512x2048 .f32) (x1 : Vec F S512x1024 .f32) (x2 : Vec F S1x4x1024x512 .bf16) (x3 : Vec F S512x1024 .f32) (x4 : Vec F S1x1024 .f32) (o : Vec F S8x1024 .f32)

section
variable (hc : cond0_0 i)

theorem res_A : out0_A_5 c i a1 h1 a2 h2 a3 h3 a4 h4 a5 h5 a6 h6 a7 h7 a8 h8 hc x0 x1 x2 x3 x4 = k0_pay10 (acc x0 x1 x2) x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A acc
  dsimp only
  sl_unfold_words
  rw [View.canon_unit_zero (S := S512x1024) hz]
  simp only [View.readAt_eq_ld, h1.read_unread, h2.read_unread, h3.read_unread, h4.read_unread, h5.read_unread, View.ld_unit_zero (S := S512x1024) hz, View.ld_unit_zero (S := S1x1024) hz]

theorem dm_A : out0_A_6 c i a1 h1 a2 h2 a3 h3 a4 h4 a5 h5 a6 h6 a7 h7 a8 h8 hc x0 x1 x2 x3 x4 = k0_pay9 (acc x0 x1 x2) x3 x4 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A acc
  dsimp only
  sl_unfold_words
  rw [View.canon_unit_zero (S := S512x1024) hz]
  simp only [View.readAt_eq_ld, h1.read_unread, h2.read_unread, h3.read_unread, h4.read_unread, h5.read_unread, View.ld_unit_zero (S := S512x1024) hz, View.ld_unit_zero (S := S1x1024) hz]

theorem gb_A (n : Fin 8) (l : Fin 1024) : out0_A_7 c i a1 h1 a2 h2 a3 h3 a4 h4 a5 h5 a6 h6 a7 h7 a8 h8 hc x0 x1 x2 x3 x4 (ix2 n l) = up k0_pay4 (acc x0 x1 x2) x3 n l := by
  unfold out0_A_7
  unfold kernelRun0_A acc
  dsimp only
  sl_unfold_words
  simp only [View.readCov_skip _ (Rect.unit (s := S8x1024) ![0, 0] S1x1024.size inb_S8x1024_S1x1024_0_0) _ _ (Rect.unit (s := S8x1024) ![1, 0] S1x1024.size inb_S8x1024_S1x1024_1_0).toLoadRect rfl, View.readAt_eq_ld, h1.read_unread, h2.read_unread, h3.read_unread, h4.read_unread, View.ld_unit_zero (S := S512x1024) hz]
  rw [View.readCov_fill _ _ _ _ _ (fun a => by fin_cases a <;> rfl), View.readCov_fill _ _ _ _ _ (fun a => by fin_cases a <;> rfl)]
  refine (two_rows _ _ _ _ _ _ n l ?_).trans rfl
  exact View.read_writes_cons_unit_of_mem _ _ _ _ _ (ix2 n l) (ix2 n l) rfl fun a => match a with
    | ⟨0, _⟩ => (Nat.zero_add _).symm
    | ⟨1, _⟩ => (Nat.zero_add _).symm
end

section
variable (hc : ¬cond0_0 i)

theorem res_B : out0_B_5 c i a1 h1 a2 h2 a3 h3 a4 h4 a5 h5 a6 h6 a7 h7 a8 h8 hc x0 x1 x2 x3 x4 o = k0_pay10 (acc x0 x1 x2) x3 x4 := by
  unfold out0_B_5
  rw [View.read_writes_eq_canon _ _ _ (cover0_B_5 c i a1 h1 a2 h2 a3 h3 a4 h4 a5 h5 a6 h6 a7 h7 a8 h8 hc x0 x1 x2 x3 x4 o)]
  unfold kernelRun0_B acc
  dsimp only
  sl_unfold_words
  rw [View.canon_unit_zero (S := S512x1024) hz]
  simp only [View.readAt_eq_ld, h1.read_unread, h2.read_unread, h3.read_unread, h4.read_unread, h5.read_unread, View.ld_unit_zero (S := S512x1024) hz, View.ld_unit_zero (S := S1x1024) hz]

theorem dm_B : out0_B_6 c i a1 h1 a2 h2 a3 h3 a4 h4 a5 h5 a6 h6 a7 h7 a8 h8 hc x0 x1 x2 x3 x4 o = k0_pay9 (acc x0 x1 x2) x3 x4 := by
  unfold out0_B_6
  rw [View.read_writes_eq_canon _ _ _ (cover0_B_6 c i a1 h1 a2 h2 a3 h3 a4 h4 a5 h5 a6 h6 a7 h7 a8 h8 hc x0 x1 x2 x3 x4 o)]
  unfold kernelRun0_B acc
  dsimp only
  sl_unfold_words
  rw [View.canon_unit_zero (S := S512x1024) hz]
  simp only [View.readAt_eq_ld, h1.read_unread, h2.read_unread, h3.read_unread, h4.read_unread, h5.read_unread, View.ld_unit_zero (S := S512x1024) hz, View.ld_unit_zero (S := S1x1024) hz]

theorem gb_B (n : Fin 8) (l : Fin 1024) : out0_B_7 c i a1 h1 a2 h2 a3 h3 a4 h4 a5 h5 a6 h6 a7 h7 a8 h8 hc x0 x1 x2 x3 x4 o (ix2 n l) = up o (acc x0 x1 x2) x3 n l := by
  unfold out0_B_7
  unfold kernelRun0_B acc
  dsimp only
  sl_unfold_words
  simp only [View.readAt_eq_ld, h1.read_unread, h2.read_unread, h3.read_unread, h4.read_unread, h8.read_unread, View.ld_unit_zero (S := S512x1024) hz]
  refine (two_rows _ _ _ _ _ _ n l ?_).trans rfl
  exact congrFun (h8.read_unread o) _
end

end Cert.Kernel10Ideal.Proj
end
-- ==== Proof.Proj.InBwdVal.lean ====
/- The backward call of the projection into the mixers: entry by entry, and its three results, summed up over its points. -/
module

public import proofs.«01_k».proof.Proof.Proj.InBwdBody

@[expose] public section

set_option maxRecDepth 16384

noncomputable section

namespace Cert.Kernel10Ideal.Proj

open Idealize.ShloMosaic Idealize.ShloMosaic.TcCoe Idealize.SL.Sem Cert.Kernel10Ideal Cert.Kernel10Ideal.Gen Cert.Ffn Cert.Proj.Norm
open Cert.Kernel5Ideal.Ffn (mean)
open Cert.Kernel6Ideal.Proj (ld_0 ld_1)

section
variable (d f : FVec Ideal S512x1024 .f32) (g : FVec Ideal S1x1024 .f32) (o : FVec Ideal S8x1024 .f32) (r : Fin 512) (l : Fin 1024)

theorem pay5_at : k0_pay5 (F := Ideal) f (ix2 r l) = cen (fun k => f (ix2 r k)) l := by
  unfold k0_pay5 cen mean
  pointwise

theorem pay6_at : k0_pay6 (F := Ideal) f (ix2 r 0) = rs (fun k => f (ix2 r k)) := by
  unfold rs vr mean
  simp only [← pay5_at f r]
  unfold k0_pay6
  generalize k0_pay5 (F := Ideal) f = y
  pointwise

theorem pay7_at : k0_pay7 (F := Ideal) f (ix2 r l) = xh (fun k => f (ix2 r k)) l := by
  unfold xh
  rw [← pay5_at f r, ← pay6_at f r]
  unfold k0_pay7
  generalize k0_pay5 (F := Ideal) f = y
  generalize k0_pay6 (F := Ideal) f = z
  pointwise

/-- The derivative's rows. -/
def dr (r : Fin 512) (l : Fin 1024) : EReal := ker (fun k => f (ix2 r k)) (fun k => d (ix2 r k) * g (ix2 0 k)) l

theorem pay8_at : k0_pay8 (F := Ideal) d f g (ix2 r l) = dr d f g r l := by
  unfold dr ker mean
  simp only [← pay7_at f r, ← pay6_at f r]
  unfold k0_pay8
  generalize k0_pay7 (F := Ideal) f = y
  generalize k0_pay6 (F := Ideal) f = z
  pointwise

theorem pay10_at : k0_pay10 (F := Ideal) d f g (ix2 r l) = Ideal.ofBits .f32 1068827891#32 * dr d f g r l := by
  rw [← pay8_at]
  unfold k0_pay10
  generalize k0_pay8 (F := Ideal) d f g = y
  pointwise

theorem pay9_at : k0_pay9 (F := Ideal) d f g (ix2 r l) = Ideal.ofBits .f32 1056964608#32 * dr d f g r l := by
  rw [← pay8_at]
  unfold k0_pay9
  generalize k0_pay8 (F := Ideal) d f g = y
  pointwise

theorem pay1_at (y : FVec Ideal S512x1024 .f32) (p : FVec Ideal S1x1024 .f32) : k0_pay1 (F := Ideal) d y p (ix2 0 l) = p (ix2 0 l) + ∑ r : Fin 512, d (ix2 r l) * y (ix2 r l) := by
  unfold k0_pay1
  pointwise

theorem pay2_at (p : FVec Ideal S1x1024 .f32) : k0_pay2 (F := Ideal) d p (ix2 0 l) = p (ix2 0 l) + ∑ r : Fin 512, d (ix2 r l) := by
  unfold k0_pay2
  pointwise

theorem up_0 : up (F := Ideal) o d f 0 l = o (ix2 0 l) + ∑ r : Fin 512, d (ix2 r l) * xh (fun k => f (ix2 r k)) l := by
  unfold up
  refine (if_pos (show (0 : Fin 8).val = 0 from rfl)).trans ((pay1_at d l _ _).trans (congrArg₂ (· + ·) (ld_0 o l) (Finset.sum_congr rfl fun r _ => ?_)))
  rw [pay7_at]

theorem up_1 : up (F := Ideal) o d f 1 l = o (ix2 1 l) + ∑ r : Fin 512, d (ix2 r l) := by
  unfold up
  refine (if_neg (show ¬(1 : Fin 8).val = 0 by decide)).trans ((if_pos (show (1 : Fin 8).val = 1 from rfl)).trans ((pay2_at d l _).trans ?_))
  exact congrArg (· + _) (ld_1 o l)

theorem up_2 (n : Fin 8) (h0 : n.val ≠ 0) (h1 : n.val ≠ 1) : up (F := Ideal) o d f n l = o (ix2 n l) := by
  unfold up
  rw [if_neg h0, if_neg h1]

theorem pay4_at (n : Fin 8) : k0_pay4 (F := Ideal) (ix2 n l) = 0 := by
  unfold k0_pay4
  pointwise

theorem pay3_at (a0 a1 a2 a3 : FVec Ideal S512x512 .f32) (b0 b1 b2 b3 : FVec Ideal S1x1x1024x512 .bf16) : k0_pay3 (F := Ideal) d a0 b0 a1 b1 a2 b2 a3 b3 (ix2 r l)
    = d (ix2 r l) + ∑ k : Fin 512, a0 (ix2 r k) * b0 (ix4 0 0 l k) + ∑ k : Fin 512, a1 (ix2 r k) * b1 (ix4 0 0 l k)
      + ∑ k : Fin 512, a2 (ix2 r k) * b2 (ix4 0 0 l k) + ∑ k : Fin 512, a3 (ix2 r k) * b3 (ix4 0 0 l k) := by
  unfold k0_pay3
  pointwise

/-- Four stretches of a sum. -/
theorem four (a : EReal) (h : ℕ → EReal) : a + ∑ k : Fin 512, h (0 * 512 + k.val) + ∑ k : Fin 512, h (1 * 512 + k.val) + ∑ k : Fin 512, h (2 * 512 + k.val)
    + ∑ k : Fin 512, h (3 * 512 + k.val) = a + ∑ s ∈ Finset.range 2048, h s := by
  have e : ∑ s ∈ Finset.range 2048, h s = ∑ k : Fin 512, h (0 * 512 + k.val) + ∑ k : Fin 512, h (1 * 512 + k.val) + ∑ k : Fin 512, h (2 * 512 + k.val) + ∑ k : Fin 512, h (3 * 512 + k.val) := by
    rw [show 2048 = (3 + 1) * 512 from rfl, ← sum_next h 3, show 3 = 2 + 1 from rfl, ← sum_next h 2, show 2 = 1 + 1 from rfl, ← sum_next h 1, show 1 = 0 + 1 from rfl, ← sum_next h 0, Nat.zero_mul, Finset.range_zero, Finset.sum_empty, zero_add]
  rw [e]
  simp only [add_assoc]
end

section
variable (x0 : FVec Ideal S512x2048 .f32) (x1 : FVec Ideal S512x1024 .f32) (x2 : FVec Ideal S1x4x1024x512 .bf16) (r : Fin 512) (l : Fin 1024)

/-- The sum over the four shards is one sum. -/
theorem acc_at (h : Fin 2048 → EReal)
    (hh : ∀ (n : Fin 4) (k : Fin 512), x0 (ix2 r ⟨n.val * 512 + k.val, by omega⟩) * x2 (ix4 0 n l k) = h ⟨n.val * 512 + k.val, by omega⟩) :
    acc (F := Ideal) x0 x1 x2 (ix2 r l) = x1 (ix2 r l) + ∑ k : Fin 2048, h k := by
  have key : ∀ (n : Fin 4) (a : FVec Ideal S512x512 .f32) (b : FVec Ideal S1x1x1024x512 .bf16)
      (ha : ∀ k : Fin 512, a (ix2 r k) = x0 (ix2 r ⟨n.val * 512 + k.val, by omega⟩)) (hb : ∀ k : Fin 512, b (ix4 0 0 l k) = x2 (ix4 0 n l k)),
      ∑ k : Fin 512, a (ix2 r k) * b (ix4 0 0 l k) = ∑ k : Fin 512, term h (n.val * 512 + k.val) := fun n a b ha hb =>
    Finset.sum_congr rfl fun k _ => by
      rw [ha, hb, hh]
      exact (term_at h _ _).symm
  have xs : ∀ (n : Fin 4) (inb : ∀ a, (![0, n.val * 512] : Fin 2 → ℕ) a + S512x512.size a ≤ S512x2048.size a) (k : Fin 512),
      View.ld (Val := Elt Ideal) (e' := .f32) x0 (Rect.unit (s := S512x2048) ![0, n.val * 512] S512x512.size inb) (ix2 r k) = x0 (ix2 r ⟨n.val * 512 + k.val, by omega⟩) := fun n inb k =>
    congrArg x0 (funext fun a => Fin.ext (match a with
      | ⟨0, _⟩ => by show 0 + 1 * r.val = r.val; omega
      | ⟨1, _⟩ => by show n.val * 512 + 1 * k.val = n.val * 512 + k.val; omega))
  have ws : ∀ (n : Fin 4) (inb : ∀ a, (![0, n.val, 0, 0] : Fin 4 → ℕ) a + S1x1x1024x512.size a ≤ S1x4x1024x512.size a) (k : Fin 512),
      View.ld (Val := Elt Ideal) (e' := .bf16) x2 (Rect.unit (s := S1x4x1024x512) ![0, n.val, 0, 0] S1x1x1024x512.size inb) (ix4 0 0 l k) = x2 (ix4 0 n l k) := fun n inb k =>
    congrArg x2 (funext fun a => Fin.ext (match a with
      | ⟨0, _⟩ => rfl
      | ⟨1, _⟩ => by show n.val + 1 * 0 = n.val; omega
      | ⟨2, _⟩ => by show 0 + 1 * l.val = l.val; omega
      | ⟨3, _⟩ => by show 0 + 1 * k.val = k.val; omega))
  unfold acc
  refine (pay3_at _ r l _ _ _ _ _ _ _ _).trans (Eq.trans ?_ ((four _ (term h)).trans (congrArg _ (term_all h))))
  refine congrArg₂ (· + ·) (congrArg₂ (· + ·) (congrArg₂ (· + ·) (congrArg (x1 (ix2 r l) + ·) (key 0 _ _ ?_ ?_)) (key 1 _ _ ?_ ?_)) (key 2 _ _ ?_ ?_)) (key 3 _ _ ?_ ?_)
  exacts [xs 0 (by decide), ws 0 (by decide), xs 1 (by decide), ws 1 (by decide), xs 2 (by decide), ws 2 (by decide), xs 3 (by decide), ws 3 (by decide)]
end

variable (m : (ℓ : Loc nD τ sig) → Buf (Elt Ideal) ℓ) (c : Dev nD)

/-- The six arguments. -/
def X : FVec Ideal S8192x1024 .f32 := m ((c : Thread nD τ).loc main_arg0)
def Y : FVec Ideal S8192x1024 .f32 := m ((c : Thread nD τ).loc main_arg1)
def W : FVec Ideal S1024x2048 .f32 := m ((c : Thread nD τ).loc main_arg2)
def G : FVec Ideal S1024 .f32 := m ((c : Thread nD τ).loc main_arg3)
def E : FVec Ideal S8192x1024 .f32 := m ((c : Thread nD τ).loc main_arg4)
def Z : FVec Ideal S8192x2048 .f32 := m ((c : Thread nD τ).loc main_arg5)

/-- The row that was normalised, and the cotangent of the norm's output. -/
def mx (x y : FVec Ideal S8192x1024 .f32) (R : Fin 8192) (k : Fin 1024) : EReal :=
  Ideal.ofBits .f32 1068827891#32 * x (ix2 R k) + Ideal.ofBits .f32 1056964608#32 * y (ix2 R k)
def ct (w : FVec Ideal S1024x2048 .f32) (e : FVec Ideal S8192x1024 .f32) (z : FVec Ideal S8192x2048 .f32) (R : Fin 8192) (k : Fin 1024) : EReal :=
  e (ix2 R k) + ∑ j : Fin 2048, z (ix2 R j) * w (ix2 k j)

theorem v3_at (n : Fin 4) (k : Fin 1024) (l : Fin 512) : (V m c main_v3 : FVec Ideal S1x4x1024x512 .bf16) (ix4 0 n k l) = W m c (ix2 k ⟨n.val * 512 + l.val, by omega⟩) := by
  simp only [V, hostOps0, List.flatten_cons, List.flatten_nil, List.append_nil, List.cons_append, List.nil_append]
  after_reads_simp
  unfold W
  pointwise
theorem v8_at (R : Fin 8192) (k : Fin 1024) : (V m c main_v8 : FVec Ideal S8192x1024 .f32) (ix2 R k) = mx (X m c) (Y m c) R k := by
  simp only [V, hostOps0, List.flatten_cons, List.flatten_nil, List.append_nil, List.cons_append, List.nil_append]
  after_reads_simp
  unfold mx X Y
  pointwise
theorem v9_at (l : Fin 1024) : (V m c main_v9 : FVec Ideal S1x1024 .f32) (ix2 0 l) = G m c (ix1 l) := by
  simp only [V, hostOps0, List.flatten_cons, List.flatten_nil, List.append_nil, List.cons_append, List.nil_append]
  after_reads_simp
  unfold G
  pointwise

theorem lt16 (t : Fin cfg0.N) : t.val < 16 := lt_of_lt_of_eq t.isLt N_0
theorem idx_z : ∀ t : Fin cfg0.N, win0_0.index t = ![t.val, 0] := (by decide +kernel : ∀ t : Fin grid0.N, win0_0.index t = ![t.val, 0])
theorem idx_e : ∀ t : Fin cfg0.N, win0_1.index t = ![t.val, 0] := (by decide +kernel : ∀ t : Fin grid0.N, win0_1.index t = ![t.val, 0])
theorem idx_w : ∀ t : Fin cfg0.N, win0_2.index t = ![0, 0, 0, 0] := (by decide +kernel : ∀ t : Fin grid0.N, win0_2.index t = ![0, 0, 0, 0])
theorem idx_f : ∀ t : Fin cfg0.N, win0_3.index t = ![t.val, 0] := (by decide +kernel : ∀ t : Fin grid0.N, win0_3.index t = ![t.val, 0])
theorem idx_g : ∀ t : Fin cfg0.N, win0_4.index t = ![0, 0] := (by decide +kernel : ∀ t : Fin grid0.N, win0_4.index t = ![0, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![0, 0] := (by decide +kernel : ∀ t : Fin grid0.N, win0_7.index t = ![0, 0])

/-- The row of the whole array that a block's row is. -/
def row (t : Fin cfg0.N) (r : Fin 512) : Fin 8192 := ⟨t.val * 512 + r.val, by have := lt16 t; omega⟩

theorem b_z (t : Fin cfg0.N) (r : Fin 512) (k : Fin 2048) :
    (iblk m c 0 t : FVec Ideal S512x2048 .f32) (ix2 r k) = (V m c main_arg5 : FVec Ideal S8192x2048 .f32) (ix2 ⟨t.val * 512 + r.val, by have := lt16 t; omega⟩ k) := by
  blk_ext [iblk, idx_z t]
theorem b_e (t : Fin cfg0.N) (r : Fin 512) (k : Fin 1024) :
    (iblk m c 1 t : FVec Ideal S512x1024 .f32) (ix2 r k) = (V m c main_arg4 : FVec Ideal S8192x1024 .f32) (ix2 ⟨t.val * 512 + r.val, by have := lt16 t; omega⟩ k) := by
  blk_ext [iblk, idx_e t]
theorem b_w (t : Fin cfg0.N) (n : Fin 4) (k : Fin 1024) (l : Fin 512) :
    (iblk m c 2 t : FVec Ideal S1x4x1024x512 .bf16) (ix4 0 n k l) = (V m c main_v3 : FVec Ideal S1x4x1024x512 .bf16) (ix4 0 n k l) := by
  blk_ext [iblk, idx_w t]
theorem b_f (t : Fin cfg0.N) (r : Fin 512) (k : Fin 1024) :
    (iblk m c 3 t : FVec Ideal S512x1024 .f32) (ix2 r k) = (V m c main_v8 : FVec Ideal S8192x1024 .f32) (ix2 ⟨t.val * 512 + r.val, by have := lt16 t; omega⟩ k) := by
  blk_ext [iblk, idx_f t]
theorem b_g (t : Fin cfg0.N) (l : Fin 1024) : (iblk m c 4 t : FVec Ideal S1x1024 .f32) (ix2 0 l) = (V m c main_v9 : FVec Ideal S1x1024 .f32) (ix2 0 l) := by
  blk_ext [iblk, idx_g t]

theorem i_f (t : Fin cfg0.N) (r : Fin 512) : (fun k => (iblk m c 3 t : FVec Ideal S512x1024 .f32) (ix2 r k)) = mx (X m c) (Y m c) (row t r) :=
  funext fun k => (b_f m c t r k).trans (v8_at m c _ k)
theorem i_g (t : Fin cfg0.N) (l : Fin 1024) : (iblk m c 4 t : FVec Ideal S1x1024 .f32) (ix2 0 l) = G m c (ix1 l) :=
  (b_g m c t l).trans (v9_at m c l)

/-- The norm's cotangent in a point's block. -/
def ac (t : Fin cfg0.N) : FVec Ideal S512x1024 .f32 := acc (F := Ideal) (iblk m c 0 t) (iblk m c 1 t) (iblk m c 2 t)

theorem ac_at (t : Fin cfg0.N) (r : Fin 512) (k : Fin 1024) : ac m c t (ix2 r k) = ct (W m c) (E m c) (Z m c) (row t r) k := by
  unfold ac
  refine (acc_at _ _ _ r k (fun j => Z m c (ix2 (row t r) j) * W m c (ix2 k j)) fun n j => ?_).trans ?_
  · exact congrArg₂ (· * ·) ((b_z m c t r _).trans (congrFun (V_main_arg5 m c) _)) ((b_w m c t n k j).trans (v3_at m c n k j))
  · exact congrArg (· + _) ((b_e m c t r k).trans (congrFun (V_main_arg4 m c) _))

/-- The norm's derivative on the whole arrays. -/
def dn (x y : FVec Ideal S8192x1024 .f32) (w : FVec Ideal S1024x2048 .f32) (g : FVec Ideal S1024 .f32) (e : FVec Ideal S8192x1024 .f32) (z : FVec Ideal S8192x2048 .f32) (R : Fin 8192) (l : Fin 1024) : EReal :=
  ker (mx x y R) (fun k => ct w e z R k * g (ix1 k)) l

theorem dr_at (t : Fin cfg0.N) (r : Fin 512) (l : Fin 1024) :
    dr (ac m c t) (iblk m c 3 t) (iblk m c 4 t) r l = dn (X m c) (Y m c) (W m c) (G m c) (E m c) (Z m c) (row t r) l := by
  unfold dr dn
  rw [i_f m c t r]
  refine congrArg (fun e => ker (mx (X m c) (Y m c) (row t r)) e l) (funext fun k => ?_)
  exact congrArg₂ (· * ·) (ac_at m c t r k) (i_g m c t k)

/-- The first two results. -/
def R0 : FVec Ideal S8192x1024 .f32 := fun i => Ideal.ofBits .f32 1068827891#32 * dn (X m c) (Y m c) (W m c) (G m c) (E m c) (Z m c) (i 0) (i 1)
def R1 : FVec Ideal S8192x1024 .bf16 := fun i => Ideal.ofBits .f32 1056964608#32 * dn (X m c) (Y m c) (W m c) (G m c) (E m c) (Z m c) (i 0) (i 1)

/-- What every point leaves in the first two outputs. -/
theorem o_res (t : Fin cfg0.N) : (outsAt0 m c t.val t.isLt).1 = k0_pay10 (ac m c t) (iblk m c 3 t) (iblk m c 4 t) := by
  unfold ac
  by_cases h0 : t.val % 16 = 0
  · rw [outsAt0_A m c t h0]
    dsimp only
    rw [res_A]
  · rw [outsAt0_B m c t h0]
    dsimp only
    rw [res_B]
theorem o_dm (t : Fin cfg0.N) : (outsAt0 m c t.val t.isLt).2.1 = k0_pay9 (ac m c t) (iblk m c 3 t) (iblk m c 4 t) := by
  unfold ac
  by_cases h0 : t.val % 16 = 0
  · rw [outsAt0_A m c t h0]
    dsimp only
    rw [dm_A]
  · rw [outsAt0_B m c t h0]
    dsimp only
    rw [dm_B]

theorem emb5 (t : Fin cfg0.N) (r : Fin 512) (l : Fin 1024) : ((win0_5.blk t).view.emb (ix2 r l) : S8192x1024.Idx) = ix2 (row t r) l := by
  funext a; apply Fin.ext
  refine (Pipeline.Window.rect_emb_val win0_5 t _ a).trans ?_
  rw [idx_5 t]
  match a with
  | ⟨0, _⟩ => rfl
  | ⟨1, _⟩ => show 0 * 1024 + l.val = l.val; omega
theorem emb6 (t : Fin cfg0.N) (r : Fin 512) (l : Fin 1024) : ((win0_6.blk t).view.emb (ix2 r l) : S8192x1024.Idx) = ix2 (row t r) l := by
  funext a; apply Fin.ext
  refine (Pipeline.Window.rect_emb_val win0_6 t _ a).trans ?_
  rw [idx_6 t]
  match a with
  | ⟨0, _⟩ => rfl
  | ⟨1, _⟩ => show 0 * 1024 + l.val = l.val; omega
theorem emb7 (t : Fin cfg0.N) (n : Fin 8) (l : Fin 1024) : ((win0_7.blk t).view.emb (ix2 n l) : S8x1024.Idx) = ix2 n l := by
  funext a; apply Fin.ext
  refine (Pipeline.Window.rect_emb_val win0_7 t _ a).trans ?_
  rw [idx_7 t]
  match a with
  | ⟨0, _⟩ => show 0 * 8 + n.val = n.val; omega
  | ⟨1, _⟩ => show 0 * 1024 + l.val = l.val; omega

theorem arr5 : ((dats m 0 c).arrAt 5 cfg0.N : FVec Ideal S8192x1024 .f32) = R0 m c := by
  refine (dats m 0 c).arrAt_eq_of_covers 5 _ (by decide +kernel) fun t hf y => ?_
  blk_simp
  rw [after0_5, o_res]
  obtain ⟨r, l, rfl⟩ : ∃ (r : Fin 512) (l : Fin 1024), y = ix2 r l := ⟨y 0, y 1, eta2 y⟩
  refine (pay10_at _ _ _ r l).trans (Eq.trans ?_ (congrArg (R0 m c) (emb5 t r l)).symm)
  exact congrArg (_ * ·) (dr_at m c t r l)

theorem arr6 : ((dats m 0 c).arrAt 6 cfg0.N : FVec Ideal S8192x1024 .bf16) = R1 m c := by
  refine (dats m 0 c).arrAt_eq_of_covers 6 _ (by decide +kernel) fun t hf y => ?_
  blk_simp
  rw [after0_6, o_dm]
  obtain ⟨r, l, rfl⟩ : ∃ (r : Fin 512) (l : Fin 1024), y = ix2 r l := ⟨y 0, y 1, eta2 y⟩
  refine (pay9_at _ _ _ r l).trans (Eq.trans ?_ (congrArg (R1 m c) (emb6 t r l)).symm)
  exact congrArg (_ * ·) (dr_at m c t r l)

/-- One row's terms of the gain's gradient, and of the bias's. -/
def tg (x y : FVec Ideal S8192x1024 .f32) (w : FVec Ideal S1024x2048 .f32) (e : FVec Ideal S8192x1024 .f32) (z : FVec Ideal S8192x2048 .f32) (l : Fin 1024) (R : Fin 8192) : EReal := ct w e z R l * xh (mx x y R) l
def tb (w : FVec Ideal S1024x2048 .f32) (e : FVec Ideal S8192x1024 .f32) (z : FVec Ideal S8192x2048 .f32) (l : Fin 1024) (R : Fin 8192) : EReal := ct w e z R l

/-- What the two rows hold after a point. -/
def held (t : ℕ) (n : Fin 8) (l : Fin 1024) : EReal :=
  if n.val = 0 then ∑ s ∈ Finset.range ((t + 1) * 512), term (tg (X m c) (Y m c) (W m c) (E m c) (Z m c) l) s
  else if n.val = 1 then ∑ s ∈ Finset.range ((t + 1) * 512), term (tb (W m c) (E m c) (Z m c) l) s else 0

theorem blk_g (d f : FVec Ideal S512x1024 .f32) (t : Fin cfg0.N) (l : Fin 1024) (hd : ∀ r, d (ix2 r l) = ct (W m c) (E m c) (Z m c) (row t r) l)
    (hf : ∀ r, (fun k => f (ix2 r k)) = mx (X m c) (Y m c) (row t r)) :
    ∑ r : Fin 512, d (ix2 r l) * xh (fun k => f (ix2 r k)) l = ∑ r : Fin 512, term (tg (X m c) (Y m c) (W m c) (E m c) (Z m c) l) (t.val * 512 + r.val) :=
  Finset.sum_congr rfl fun r _ => by
    rw [hf r, hd r]
    exact (term_at (tg (X m c) (Y m c) (W m c) (E m c) (Z m c) l) _ (row t r).isLt).symm
theorem blk_b (d : FVec Ideal S512x1024 .f32) (t : Fin cfg0.N) (l : Fin 1024) (hd : ∀ r, d (ix2 r l) = ct (W m c) (E m c) (Z m c) (row t r) l) :
    ∑ r : Fin 512, d (ix2 r l) = ∑ r : Fin 512, term (tb (W m c) (E m c) (Z m c) l) (t.val * 512 + r.val) :=
  Finset.sum_congr rfl fun r _ => by
    rw [hd r]
    exact (term_at (tb (W m c) (E m c) (Z m c) l) _ (row t r).isLt).symm

/-- One more block. -/
theorem more (t : Fin cfg0.N) (o : FVec Ideal S8x1024 .f32) (n : Fin 8) (l : Fin 1024)
    (h0 : o (ix2 0 l) + ∑ r : Fin 512, term (tg (X m c) (Y m c) (W m c) (E m c) (Z m c) l) (t.val * 512 + r.val) = ∑ s ∈ Finset.range ((t.val + 1) * 512), term (tg (X m c) (Y m c) (W m c) (E m c) (Z m c) l) s)
    (h1 : o (ix2 1 l) + ∑ r : Fin 512, term (tb (W m c) (E m c) (Z m c) l) (t.val * 512 + r.val) = ∑ s ∈ Finset.range ((t.val + 1) * 512), term (tb (W m c) (E m c) (Z m c) l) s)
    (h2 : n.val ≠ 0 → n.val ≠ 1 → o (ix2 n l) = 0) :
    up (F := Ideal) o (ac m c t) (iblk m c 3 t) n l = held m c t.val n l := by
  unfold held
  by_cases e0 : n.val = 0
  · obtain rfl : n = 0 := Fin.ext e0
    rw [if_pos e0, up_0]
    exact (congrArg (_ + ·) (blk_g m c _ _ t l (fun r => ac_at m c t r l) (fun r => i_f m c t r))).trans h0
  · rw [if_neg e0]
    by_cases e1 : n.val = 1
    · obtain rfl : n = 1 := Fin.ext e1
      rw [if_pos e1, up_1]
      exact (congrArg (_ + ·) (blk_b m c _ t l (fun r => ac_at m c t r l))).trans h1
    · rw [if_neg e1, up_2 _ _ _ _ _ e0 e1]
      exact h2 e0 e1

theorem gb_at : ∀ (t : ℕ) (h : t < cfg0.N) (n : Fin 8) (l : Fin 1024), ((outsAt0 m c t h).2.2 : FVec Ideal S8x1024 .f32) (ix2 n l) = held m c t n l
  | t, h, n, l => by
    have hN := lt_of_lt_of_eq h (show cfg0.N = 16 from N_0)
    by_cases h0 : t % 16 = 0
    · have e : t = 0 := by omega
      subst e
      rw [outsAt0_A m c ⟨0, h⟩ h0]
      dsimp only
      rw [gb_A]
      refine more m c ⟨0, h⟩ _ n l ?_ ?_ fun _ _ => pay4_at l n
      · rw [pay4_at]
        refine Eq.trans ?_ (sum_first _ 512)
        refine congrArg _ (Finset.sum_congr rfl fun k _ => congrArg _ ?_)
        show 0 * 512 + k.val = k.val
        omega
      · rw [pay4_at]
        refine Eq.trans ?_ (sum_first _ 512)
        refine congrArg _ (Finset.sum_congr rfl fun k _ => congrArg _ ?_)
        show 0 * 512 + k.val = k.val
        omega
    · have ih := gb_at (t - 1) (by omega)
      rw [outsAt0_B m c ⟨t, h⟩ h0]
      dsimp only
      rw [gb_B]
      refine more m c ⟨t, h⟩ _ n l ?_ ?_ fun e0 e1 => ?_
      · refine (congrArg (· + _) ((ih 0 l).trans (if_pos (show (0 : Fin 8).val = 0 from rfl)))).trans ?_
        rw [show t - 1 + 1 = t by omega]
        exact sum_next _ t 512
      · refine (congrArg (· + _) ((ih 1 l).trans ((if_neg (show ¬(1 : Fin 8).val = 0 by decide)).trans (if_pos (show (1 : Fin 8).val = 1 from rfl))))).trans ?_
        rw [show t - 1 + 1 = t by omega]
        exact sum_next _ t 512
      · exact (ih n l).trans ((if_neg e0).trans (if_neg e1))

/-- The last result. -/
def R2 : FVec Ideal S8x1024 .f32 := fun i => held m c 15 (i 0) (i 1)

theorem last7 : ∀ t : Fin cfg0.N, (cfg0.win 7).flush t = true → t.val = 15 := (by decide +kernel : ∀ t : Fin grid0.N, win0_7.flush t = true → t.val = 15)

theorem arr7 : ((dats m 0 c).arrAt 7 cfg0.N : FVec Ideal S8x1024 .f32) = R2 m c := by
  refine (dats m 0 c).arrAt_eq_of_covers 7 _ (by decide +kernel) fun t hf y => ?_
  have ht := last7 t hf
  blk_simp
  rw [after0_7]
  obtain ⟨n, l, rfl⟩ : ∃ (n : Fin 8) (l : Fin 1024), y = ix2 n l := ⟨y 0, y 1, eta2 y⟩
  refine (gb_at m c t.val t.isLt n l).trans (Eq.trans ?_ (congrArg (R2 m c) (emb7 t n l)).symm)
  rw [ht]
  rfl

end Cert.Kernel10Ideal.Proj
end
-- ==== Proof.Ffn.TailBody.lean ====
/- The backward call with the norm's backward after it: what one point leaves in its outputs. -/
module

public import proofs.«01_k».proof.Proof.Proj.InBwdVal
public import proofs.«01_k».proof.Proof.Gen.Kernel11Ideal.Frame

@[expose] public section

set_option maxRecDepth 16384

noncomputable section

namespace Cert.Kernel11Ideal.Ffn

open Idealize.ShloMosaic Idealize.ShloMosaic.TcCoe Idealize.SL.Sem Cert.Kernel11Ideal Cert.Kernel11Ideal.Gen

open Cert.Kernel6Ideal.Proj (hz two_rows)
open Cert.Kernel10Ideal.Proj (up)

variable {F : FTy → Type} [FloatOps F]

/-- The cotangent of the norm's output in a block: what comes to it directly, and what comes through the four stretches. -/
def acc (x0 : Vec F S512x1024 .f32) (x1 : Vec F S2x512x2816 .bf16) (x2 : Vec F S1x4x1024x1408 .bf16) : Vec F S512x1024 .f32 :=
  Kernel2Ideal.Gen.k1_pay1 (Kernel2Ideal.Gen.k1_pay2 x0 (View.ld x1 Kernel2Ideal.Gen.r1_1) (View.ld x2 Kernel2Ideal.Gen.r1_2) (View.ld x1 Kernel2Ideal.Gen.r1_1) (View.ld x2 Kernel2Ideal.Gen.r1_3)
    (View.ld x1 Kernel2Ideal.Gen.r1_4) (View.ld x2 Kernel2Ideal.Gen.r1_5)) (Kernel2Ideal.Gen.k1_pay3 (View.ld x1 Kernel2Ideal.Gen.r1_4)) (View.ld x2 Kernel2Ideal.Gen.r1_6)

variable (c : Dev nD) (i : grid1.Coords)
  (a1 : Memref sig .tc .vmem S512x1024 .f32) (h1 : a1.IsWhole) (a2 : Memref sig .tc .vmem S2x512x2816 .bf16) (h2 : a2.IsWhole)
  (a3 : Memref sig .tc .vmem S1x4x1024x1408 .bf16) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S8x1024 .f32) (h8 : a8.IsWhole)
  (x0 : Vec F S512x1024 .f32) (x1 : Vec F S2x512x2816 .bf16) (x2 : Vec F S1x4x1024x1408 .bf16) (x3 : Vec F S512x1024 .f32) (x4 : Vec F S1x1024 .f32) (o : Vec F S8x1024 .f32)

section
variable (hc : cond1_0 i)

theorem res_A : out1_A_5 c i a1 h1 a2 h2 a3 h3 a4 h4 a5 h5 a6 h6 a7 h7 a8 h8 hc x0 x1 x2 x3 x4 = Kernel10Ideal.Gen.k0_pay10 (acc x0 x1 x2) x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A acc
  dsimp only
  sl_unfold_words
  rw [View.canon_unit_zero (S := S512x1024) hz]
  simp only [View.readAt_eq_ld, h1.read_unread, h2.read_unread, h3.read_unread, h4.read_unread, h5.read_unread, View.ld_unit_zero (S := S512x1024) hz, View.ld_unit_zero (S := S1x1024) hz]
  rfl

theorem dm_A : out1_A_6 c i a1 h1 a2 h2 a3 h3 a4 h4 a5 h5 a6 h6 a7 h7 a8 h8 hc x0 x1 x2 x3 x4 = Kernel10Ideal.Gen.k0_pay9 (acc x0 x1 x2) x3 x4 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A acc
  dsimp only
  sl_unfold_words
  rw [View.canon_unit_zero (S := S512x1024) hz]
  simp only [View.readAt_eq_ld, h1.read_unread, h2.read_unread, h3.read_unread, h4.read_unread, h5.read_unread, View.ld_unit_zero (S := S512x1024) hz, View.ld_unit_zero (S := S1x1024) hz]
  rfl

theorem gb_A (n : Fin 8) (l : Fin 1024) : out1_A_7 c i a1 h1 a2 h2 a3 h3 a4 h4 a5 h5 a6 h6 a7 h7 a8 h8 hc x0 x1 x2 x3 x4 (ix2 n l) = up Kernel10Ideal.Gen.k0_pay4 (acc x0 x1 x2) x3 n l := by
  unfold out1_A_7
  unfold kernelRun1_A acc
  dsimp only
  sl_unfold_words
  simp only [View.readCov_skip _ (Rect.unit (s := S8x1024) ![0, 0] S1x1024.size inb_S8x1024_S1x1024_0_0) _ _ (Rect.unit (s := S8x1024) ![1, 0] S1x1024.size inb_S8x1024_S1x1024_1_0).toLoadRect rfl, View.readAt_eq_ld, h1.read_unread, h2.read_unread, h3.read_unread, h4.read_unread, View.ld_unit_zero (S := S512x1024) hz]
  rw [View.readCov_fill _ _ _ _ _ (fun a => by fin_cases a <;> rfl), View.readCov_fill _ _ _ _ _ (fun a => by fin_cases a <;> rfl)]
  refine (two_rows _ _ _ _ _ _ n l ?_).trans rfl
  exact View.read_writes_cons_unit_of_mem _ _ _ _ _ (ix2 n l) (ix2 n l) rfl fun a => match a with
    | ⟨0, _⟩ => (Nat.zero_add _).symm
    | ⟨1, _⟩ => (Nat.zero_add _).symm
end

section
variable (hc : ¬cond1_0 i)

theorem res_B : out1_B_5 c i a1 h1 a2 h2 a3 h3 a4 h4 a5 h5 a6 h6 a7 h7 a8 h8 hc x0 x1 x2 x3 x4 o = Kernel10Ideal.Gen.k0_pay10 (acc x0 x1 x2) x3 x4 := by
  unfold out1_B_5
  rw [View.read_writes_eq_canon _ _ _ (cover1_B_5 c i a1 h1 a2 h2 a3 h3 a4 h4 a5 h5 a6 h6 a7 h7 a8 h8 hc x0 x1 x2 x3 x4 o)]
  unfold kernelRun1_B acc
  dsimp only
  sl_unfold_words
  rw [View.canon_unit_zero (S := S512x1024) hz]
  simp only [View.readAt_eq_ld, h1.read_unread, h2.read_unread, h3.read_unread, h4.read_unread, h5.read_unread, View.ld_unit_zero (S := S512x1024) hz, View.ld_unit_zero (S := S1x1024) hz]
  rfl

theorem dm_B : out1_B_6 c i a1 h1 a2 h2 a3 h3 a4 h4 a5 h5 a6 h6 a7 h7 a8 h8 hc x0 x1 x2 x3 x4 o = Kernel10Ideal.Gen.k0_pay9 (acc x0 x1 x2) x3 x4 := by
  unfold out1_B_6
  rw [View.read_writes_eq_canon _ _ _ (cover1_B_6 c i a1 h1 a2 h2 a3 h3 a4 h4 a5 h5 a6 h6 a7 h7 a8 h8 hc x0 x1 x2 x3 x4 o)]
  unfold kernelRun1_B acc
  dsimp only
  sl_unfold_words
  rw [View.canon_unit_zero (S := S512x1024) hz]
  simp only [View.readAt_eq_ld, h1.read_unread, h2.read_unread, h3.read_unread, h4.read_unread, h5.read_unread, View.ld_unit_zero (S := S512x1024) hz, View.ld_unit_zero (S := S1x1024) hz]
  rfl

theorem gb_B (n : Fin 8) (l : Fin 1024) : out1_B_7 c i a1 h1 a2 h2 a3 h3 a4 h4 a5 h5 a6 h6 a7 h7 a8 h8 hc x0 x1 x2 x3 x4 o (ix2 n l) = up o (acc x0 x1 x2) x3 n l := by
  unfold out1_B_7
  unfold kernelRun1_B acc
  dsimp only
  sl_unfold_words
  simp only [View.readAt_eq_ld, h1.read_unread, h2.read_unread, h3.read_unread, h4.read_unread, h8.read_unread, View.ld_unit_zero (S := S512x1024) hz]
  refine (two_rows _ _ _ _ _ _ n l ?_).trans rfl
  exact congrFun (h8.read_unread o) _
end

end Cert.Kernel11Ideal.Ffn
end
-- ==== Proof.Ffn.TailVal.lean ====
/- The backward call with the norm's backward after it: its five results as whole arrays. -/
module

public import proofs.«01_k».proof.Proof.Ffn.TailBody

@[expose] public section

set_option maxRecDepth 16384

noncomputable section

namespace Cert.Kernel11Ideal.Ffn

open Idealize.ShloMosaic Idealize.ShloMosaic.TcCoe Idealize.SL.Sem Cert.Kernel11Ideal Cert.Kernel11Ideal.Gen Cert.Ffn Cert.Proj.Norm
open Cert.Kernel2Ideal.Ffn (out3_at out4_at outx_at sumB DA DH GA DX DX_sum ex3 toG toU gated pre dga dpre dpre_low dpre_high pile stack stack_apply)
open Cert.Kernel10Ideal.Proj (up up_0 up_1 up_2 pay4_at pay9_at pay10_at dr mx)

section
variable (V : (c : Dev nD) → (b : Ref sig .tc) → Buf (Elt Ideal) ((c : Thread nD τ).loc b)) (c : Dev nD)

theorem lt32 (t : Fin cfg0.N) : t.val < 32 := lt_of_lt_of_eq t.isLt N_0
theorem lt16 (t : Fin cfg1.N) : t.val < 16 := lt_of_lt_of_eq t.isLt N_1
theorem idx_d : ∀ t : Fin cfg0.N, win0_0.index t = ![t.val % 16, 0] := (by decide +kernel : ∀ t : Fin grid0.N, win0_0.index t = ![t.val % 16, 0])
theorem idx_h : ∀ t : Fin cfg0.N, win0_1.index t = ![0, t.val % 16, t.val / 16] := (by decide +kernel : ∀ t : Fin grid0.N, win0_1.index t = ![0, t.val % 16, t.val / 16])
theorem idx_w : ∀ t : Fin cfg0.N, win0_2.index t = ![0, t.val / 16, 0] := (by decide +kernel : ∀ t : Fin grid0.N, win0_2.index t = ![0, t.val / 16, 0])
theorem idx_x : ∀ t : Fin cfg1.N, win1_0.index t = ![t.val, 0] := (by decide +kernel : ∀ t : Fin grid1.N, win1_0.index t = ![t.val, 0])
theorem idx_dh : ∀ t : Fin cfg1.N, win1_1.index t = ![0, t.val, 0] := (by decide +kernel : ∀ t : Fin grid1.N, win1_1.index t = ![0, t.val, 0])
theorem idx_ws : ∀ t : Fin cfg1.N, win1_2.index t = ![0, 0, 0, 0] := (by decide +kernel : ∀ t : Fin grid1.N, win1_2.index t = ![0, 0, 0, 0])

theorem b_d (t : Fin cfg0.N) (r : Fin 512) (k : Fin 1024) :
    (iblk0 V c 0 t : FVec Ideal S512x1024 .bf16) (ix2 r k) = (V c main_v11 : FVec Ideal S8192x1024 .bf16) (ix2 ⟨t.val % 16 * 512 + r.val, by omega⟩ k) := by
  blk_ext [iblk0, idx_d t]
theorem b_h (t : Fin cfg0.N) (g : Fin 2) (r : Fin 512) (l : Fin 1408) :
    (iblk0 V c 1 t : FVec Ideal S2x512x1408 .bf16) (ix3 g r l)
      = (V c main_v6 : FVec Ideal S2x8192x2816 .bf16) (ix3 g ⟨t.val % 16 * 512 + r.val, by omega⟩ ⟨t.val / 16 * 1408 + l.val, by have := lt32 t; omega⟩) := by
  blk_ext [iblk0, idx_h t]
theorem b_w (t : Fin cfg0.N) (l : Fin 1408) (k : Fin 1024) :
    (iblk0 V c 2 t : FVec Ideal S1x1408x1024 .bf16) (ix3 0 l k)
      = (V c main_v17 : FVec Ideal S1x2816x1024 .bf16) (ix3 0 ⟨t.val / 16 * 1408 + l.val, by have := lt32 t; omega⟩ k) := by
  blk_ext [iblk0, idx_w t]
theorem b_x (t : Fin cfg1.N) (r : Fin 512) (k : Fin 1024) :
    (iblk1 V c 0 t : FVec Ideal S512x1024 .f32) (ix2 r k) = (V c main_v8 : FVec Ideal S8192x1024 .f32) (ix2 ⟨t.val * 512 + r.val, by have := lt16 t; omega⟩ k) := by
  blk_ext [iblk1, idx_x t]
theorem b_dh (t : Fin cfg1.N) (g : Fin 2) (r : Fin 512) (l : Fin 2816) :
    (iblk1 V c 1 t : FVec Ideal S2x512x2816 .bf16) (ix3 g r l)
      = (V c main_v24_0 : FVec Ideal S2x8192x2816 .bf16) (ix3 g ⟨t.val * 512 + r.val, by have := lt16 t; omega⟩ l) := by
  blk_ext [iblk1, idx_dh t]
theorem b_ws (t : Fin cfg1.N) (n : Fin 4) (k : Fin 1024) (l : Fin 1408) :
    (iblk1 V c 2 t : FVec Ideal S1x4x1024x1408 .bf16) (ix4 0 n k l) = (V c main_v15 : FVec Ideal S1x4x1024x1408 .bf16) (ix4 0 n k l) := by
  blk_ext [iblk1, idx_ws t]

theorem idx_f : ∀ t : Fin cfg1.N, win1_3.index t = ![t.val, 0] := (by decide +kernel : ∀ t : Fin grid1.N, win1_3.index t = ![t.val, 0])
theorem idx_g : ∀ t : Fin cfg1.N, win1_4.index t = ![0, 0] := (by decide +kernel : ∀ t : Fin grid1.N, win1_4.index t = ![0, 0])
theorem idx_5 : ∀ t : Fin cfg1.N, win1_5.index t = ![t.val, 0] := (by decide +kernel : ∀ t : Fin grid1.N, win1_5.index t = ![t.val, 0])
theorem idx_6 : ∀ t : Fin cfg1.N, win1_6.index t = ![t.val, 0] := (by decide +kernel : ∀ t : Fin grid1.N, win1_6.index t = ![t.val, 0])
theorem idx_7 : ∀ t : Fin cfg1.N, win1_7.index t = ![0, 0] := (by decide +kernel : ∀ t : Fin grid1.N, win1_7.index t = ![0, 0])
theorem b_f (t : Fin cfg1.N) (r : Fin 512) (k : Fin 1024) :
    (iblk1 V c 3 t : FVec Ideal S512x1024 .f32) (ix2 r k) = (V c main_v22 : FVec Ideal S8192x1024 .f32) (ix2 ⟨t.val * 512 + r.val, by have := lt16 t; omega⟩ k) := by
  blk_ext [iblk1, idx_f t]
theorem b_g (t : Fin cfg1.N) (l : Fin 1024) : (iblk1 V c 4 t : FVec Ideal S1x1024 .f32) (ix2 0 l) = (V c main_v23 : FVec Ideal S1x1024 .f32) (ix2 0 l) := by
  blk_ext [iblk1, idx_g t]

theorem idx_o3 : ∀ t : Fin cfg0.N, win0_3.index t = ![0, t.val % 16, t.val / 16] := (by decide +kernel : ∀ t : Fin grid0.N, win0_3.index t = ![0, t.val % 16, t.val / 16])
theorem idx_o4 : ∀ t : Fin cfg0.N, win0_4.index t = ![t.val % 16, t.val / 16] := (by decide +kernel : ∀ t : Fin grid0.N, win0_4.index t = ![t.val % 16, t.val / 16])

theorem emb3 (t : Fin cfg0.N) (g : Fin 2) (r : Fin 512) (l : Fin 1408) : ((win0_3.blk t).view.emb (ix3 g r l) : S2x8192x2816.Idx)
    = ix3 g ⟨t.val % 16 * 512 + r.val, by omega⟩ ⟨t.val / 16 * 1408 + l.val, by have := lt32 t; omega⟩ := by
  funext a; apply Fin.ext
  refine (Pipeline.Window.rect_emb_val win0_3 t _ a).trans ?_
  rw [idx_o3 t]
  match a with
  | ⟨0, _⟩ => show 0 * 2 + g.val = g.val; omega
  | ⟨1, _⟩ => rfl
  | ⟨2, _⟩ => rfl
theorem emb4 (t : Fin cfg0.N) (r : Fin 512) (l : Fin 1408) : ((win0_4.blk t).view.emb (ix2 r l) : S8192x2816.Idx)
    = ix2 ⟨t.val % 16 * 512 + r.val, by omega⟩ ⟨t.val / 16 * 1408 + l.val, by have := lt32 t; omega⟩ := by
  funext a; apply Fin.ext
  refine (Pipeline.Window.rect_emb_val win0_4 t _ a).trans ?_
  rw [idx_o4 t]
  match a with
  | ⟨0, _⟩ => rfl
  | ⟨1, _⟩ => rfl
theorem dh_arr : ((dat0 V c).arrAt 3 cfg0.N : FVec Ideal S2x8192x2816 .bf16) = DH (V c main_v11) (V c main_v6) (V c main_v17) := by
  refine (dat0 V c).arrAt_eq_of_covers 3 _ (by decide +kernel) fun t hf y => ?_
  blk_simp
  rw [after0_3]
  obtain ⟨g, r, l, rfl⟩ := ex3 y
  refine (out3_at _ _ _ g r l).trans (Eq.trans ?_ (congrArg (DH (V c main_v11) (V c main_v6) (V c main_v17)) (emb3 t g r l)).symm)
  have hs : sumB (iblk0 V c 0 t) (iblk0 V c 2 t) r l = DA (V c main_v11) (V c main_v17) ⟨t.val % 16 * 512 + r.val, by omega⟩ ⟨t.val / 16 * 1408 + l.val, by have := lt32 t; omega⟩ :=
    Finset.sum_congr rfl fun k _ => congrArg₂ (· * ·) (b_d V c t r k) (b_w V c t l k)
  show (if g = 0 then toG (sumB (iblk0 V c 0 t) (iblk0 V c 2 t) r l) _ _ else toU (sumB (iblk0 V c 0 t) (iblk0 V c 2 t) r l) _) = _
  unfold DH
  rw [hs, b_h, b_h]
  rfl

theorem ga_arr : ((dat0 V c).arrAt 4 cfg0.N : FVec Ideal S8192x2816 .bf16) = GA (V c main_v6) := by
  refine (dat0 V c).arrAt_eq_of_covers 4 _ (by decide +kernel) fun t hf y => ?_
  blk_simp
  rw [after0_4]
  obtain ⟨r, l, rfl⟩ : ∃ (r : Fin 512) (l : Fin 1408), y = ix2 r l := ⟨y 0, y 1, Cert.Ffn.eta2 y⟩
  refine (out4_at (iblk0 V c 0 t) (iblk0 V c 1 t) (iblk0 V c 2 t) r l).trans (Eq.trans ?_ (congrArg (GA (V c main_v6)) (emb4 t r l)).symm)
  exact congrArg₂ gated (b_h V c t 0 r l) (b_h V c t 1 r l)

/-- The row of the whole array that a block's row is. -/
def row (t : Fin cfg1.N) (r : Fin 512) : Fin 8192 := ⟨t.val * 512 + r.val, by have := lt16 t; omega⟩

/-- The norm's cotangent in a point's block. -/
def ac (t : Fin cfg1.N) : FVec Ideal S512x1024 .f32 := acc (F := Ideal) (iblk1 V c 0 t) (iblk1 V c 1 t) (iblk1 V c 2 t)

theorem ac_at (t : Fin cfg1.N) (r : Fin 512) (k : Fin 1024) : ac V c t (ix2 r k) = DX (V c main_v8) (V c main_v24_0) (V c main_v15) (ix2 (row t r) k) := by
  have e : ac V c t = Kernel2Ideal.Gen.out1_3 (F := Ideal) (iblk1 V c 0 t) (iblk1 V c 1 t) (iblk1 V c 2 t) := by
    unfold ac acc Kernel2Ideal.Gen.out1_3
    rw [View.canon_unit_zero (S := Kernel2Ideal.S512x1024) Kernel2Ideal.Ffn.hz]
    simp only [View.ld_unit_zero (S := Kernel2Ideal.S512x1024) Kernel2Ideal.Ffn.hz]
  rw [e]
  refine (outx_at _ _ _ r k).trans ?_
  exact congrArg₂ (· + ·) (congrArg₂ (· + ·) (congrArg₂ (· + ·) (congrArg₂ (· + ·) (b_x V c t r k)
    (Finset.sum_congr rfl fun q _ => congrArg₂ (· * ·) (b_dh V c t 0 r _) (b_ws V c t 0 k q)))
    (Finset.sum_congr rfl fun q _ => congrArg₂ (· * ·) (b_dh V c t 0 r _) (b_ws V c t 1 k q)))
    (Finset.sum_congr rfl fun q _ => congrArg₂ (· * ·) (b_dh V c t 1 r _) (b_ws V c t 2 k q)))
    (Finset.sum_congr rfl fun q _ => congrArg₂ (· * ·) (b_dh V c t 1 r _) (b_ws V c t 3 k q))

variable (f : Fin 8192 → Fin 1024 → EReal) (d : Fin 8192 → Fin 1024 → EReal) (g : Fin 1024 → EReal)
  (hf : ∀ R k, (V c main_v22 : FVec Ideal S8192x1024 .f32) (ix2 R k) = f R k) (hg : ∀ k, (V c main_v23 : FVec Ideal S1x1024 .f32) (ix2 0 k) = g k)
  (hd : ∀ R k, DX (V c main_v8) (V c main_v24_0) (V c main_v15) (ix2 R k) = d R k)

/-- The norm's derivative on the whole arrays. -/
def dn (R : Fin 8192) (l : Fin 1024) : EReal := ker (f R) (fun k => d R k * g k) l

/-- The results of the second call. -/
def R0 : FVec Ideal S8192x1024 .f32 := fun i => Ideal.ofBits .f32 1068827891#32 * dn f d g (i 0) (i 1)
def R1 : FVec Ideal S8192x1024 .bf16 := fun i => Ideal.ofBits .f32 1056964608#32 * dn f d g (i 0) (i 1)

/-- What every point leaves in the first two outputs. -/
theorem o_res (t : Fin cfg1.N) : (outsAt1 V c t.val t.isLt).1 = Kernel10Ideal.Gen.k0_pay10 (ac V c t) (iblk1 V c 3 t) (iblk1 V c 4 t) := by
  unfold ac
  by_cases h0 : t.val % 16 = 0
  · rw [outsAt1_A V c t h0]
    dsimp only
    rw [res_A]
  · rw [outsAt1_B V c t h0]
    dsimp only
    rw [res_B]
theorem o_dm (t : Fin cfg1.N) : (outsAt1 V c t.val t.isLt).2.1 = Kernel10Ideal.Gen.k0_pay9 (ac V c t) (iblk1 V c 3 t) (iblk1 V c 4 t) := by
  unfold ac
  by_cases h0 : t.val % 16 = 0
  · rw [outsAt1_A V c t h0]
    dsimp only
    rw [dm_A]
  · rw [outsAt1_B V c t h0]
    dsimp only
    rw [dm_B]

theorem emb5 (t : Fin cfg1.N) (r : Fin 512) (l : Fin 1024) : ((win1_5.blk t).view.emb (ix2 r l) : S8192x1024.Idx) = ix2 (row t r) l := by
  funext a; apply Fin.ext
  refine (Pipeline.Window.rect_emb_val win1_5 t _ a).trans ?_
  rw [idx_5 t]
  match a with
  | ⟨0, _⟩ => rfl
  | ⟨1, _⟩ => show 0 * 1024 + l.val = l.val; omega
theorem emb6 (t : Fin cfg1.N) (r : Fin 512) (l : Fin 1024) : ((win1_6.blk t).view.emb (ix2 r l) : S8192x1024.Idx) = ix2 (row t r) l := by
  funext a; apply Fin.ext
  refine (Pipeline.Window.rect_emb_val win1_6 t _ a).trans ?_
  rw [idx_6 t]
  match a with
  | ⟨0, _⟩ => rfl
  | ⟨1, _⟩ => show 0 * 1024 + l.val = l.val; omega
theorem emb7 (t : Fin cfg1.N) (n : Fin 8) (l : Fin 1024) : ((win1_7.blk t).view.emb (ix2 n l) : S8x1024.Idx) = ix2 n l := by
  funext a; apply Fin.ext
  refine (Pipeline.Window.rect_emb_val win1_7 t _ a).trans ?_
  rw [idx_7 t]
  match a with
  | ⟨0, _⟩ => show 0 * 8 + n.val = n.val; omega
  | ⟨1, _⟩ => show 0 * 1024 + l.val = l.val; omega

section
include hf

theorem i_f (t : Fin cfg1.N) (r : Fin 512) : (fun k => (iblk1 V c 3 t : FVec Ideal S512x1024 .f32) (ix2 r k)) = f (row t r) :=
  funext fun k => (b_f V c t r k).trans (hf _ k)
include hg hd

theorem dr_at (t : Fin cfg1.N) (r : Fin 512) (l : Fin 1024) : dr (ac V c t) (iblk1 V c 3 t) (iblk1 V c 4 t) r l = dn f d g (row t r) l := by
  unfold dr dn
  rw [i_f V c f hf t r]
  refine congrArg (fun e => ker (f (row t r)) e l) (funext fun k => ?_)
  exact congrArg₂ (· * ·) ((ac_at V c t r k).trans (hd _ k)) ((b_g V c t k).trans (hg k))

theorem arr5 : ((dat1 V c).arrAt 5 cfg1.N : FVec Ideal S8192x1024 .f32) = R0 f d g := by
  refine (dat1 V c).arrAt_eq_of_covers 5 _ (by decide +kernel) fun t ht y => ?_
  blk_simp
  rw [after1_5, o_res]
  obtain ⟨r, l, rfl⟩ : ∃ (r : Fin 512) (l : Fin 1024), y = ix2 r l := ⟨y 0, y 1, eta2 y⟩
  refine (pay10_at _ _ _ r l).trans (Eq.trans ?_ (congrArg (R0 f d g) (emb5 t r l)).symm)
  exact congrArg (_ * ·) (dr_at V c f d g hf hg hd t r l)

theorem arr6 : ((dat1 V c).arrAt 6 cfg1.N : FVec Ideal S8192x1024 .bf16) = R1 f d g := by
  refine (dat1 V c).arrAt_eq_of_covers 6 _ (by decide +kernel) fun t ht y => ?_
  blk_simp
  rw [after1_6, o_dm]
  obtain ⟨r, l, rfl⟩ : ∃ (r : Fin 512) (l : Fin 1024), y = ix2 r l := ⟨y 0, y 1, eta2 y⟩
  refine (pay9_at _ _ _ r l).trans (Eq.trans ?_ (congrArg (R1 f d g) (emb6 t r l)).symm)
  exact congrArg (_ * ·) (dr_at V c f d g hf hg hd t r l)
end

/-- One row's terms of the gain's gradient, and of the bias's. -/
def tg (l : Fin 1024) (R : Fin 8192) : EReal := d R l * xh (f R) l
def tb (l : Fin 1024) (R : Fin 8192) : EReal := d R l

/-- What the two rows hold after a point. -/
def held (t : ℕ) (n : Fin 8) (l : Fin 1024) : EReal :=
  if n.val = 0 then ∑ s ∈ Finset.range ((t + 1) * 512), term (tg f d l) s
  else if n.val = 1 then ∑ s ∈ Finset.range ((t + 1) * 512), term (tb d l) s else 0

theorem blk_g (a b : FVec Ideal S512x1024 .f32) (t : Fin cfg1.N) (l : Fin 1024) (ha : ∀ r, a (ix2 r l) = d (row t r) l)
    (hb : ∀ r, (fun k => b (ix2 r k)) = f (row t r)) :
    ∑ r : Fin 512, a (ix2 r l) * xh (fun k => b (ix2 r k)) l = ∑ r : Fin 512, term (tg f d l) (t.val * 512 + r.val) :=
  Finset.sum_congr rfl fun r _ => by
    rw [hb r, ha r]
    exact (term_at (tg f d l) _ (row t r).isLt).symm
theorem blk_b (a : FVec Ideal S512x1024 .f32) (t : Fin cfg1.N) (l : Fin 1024) (ha : ∀ r, a (ix2 r l) = d (row t r) l) :
    ∑ r : Fin 512, a (ix2 r l) = ∑ r : Fin 512, term (tb d l) (t.val * 512 + r.val) :=
  Finset.sum_congr rfl fun r _ => by
    rw [ha r]
    exact (term_at (tb d l) _ (row t r).isLt).symm

theorem last7 : ∀ t : Fin cfg1.N, (cfg1.win 7).flush t = true → t.val = 15 := (by decide +kernel : ∀ t : Fin grid1.N, win1_7.flush t = true → t.val = 15)

include hf hd

/-- One more block. -/
theorem more (t : Fin cfg1.N) (o : FVec Ideal S8x1024 .f32) (n : Fin 8) (l : Fin 1024)
    (h0 : o (ix2 0 l) + ∑ r : Fin 512, term (tg f d l) (t.val * 512 + r.val) = ∑ s ∈ Finset.range ((t.val + 1) * 512), term (tg f d l) s)
    (h1 : o (ix2 1 l) + ∑ r : Fin 512, term (tb d l) (t.val * 512 + r.val) = ∑ s ∈ Finset.range ((t.val + 1) * 512), term (tb d l) s)
    (h2 : n.val ≠ 0 → n.val ≠ 1 → o (ix2 n l) = 0) :
    up (F := Ideal) o (ac V c t) (iblk1 V c 3 t) n l = held f d t.val n l := by
  unfold held
  by_cases e0 : n.val = 0
  · obtain rfl : n = 0 := Fin.ext e0
    rw [if_pos e0, up_0]
    exact (congrArg (_ + ·) (blk_g f d _ _ t l (fun r => (ac_at V c t r l).trans (hd _ l)) (fun r => i_f V c f hf t r))).trans h0
  · rw [if_neg e0]
    by_cases e1 : n.val = 1
    · obtain rfl : n = 1 := Fin.ext e1
      rw [if_pos e1, up_1]
      exact (congrArg (_ + ·) (blk_b d _ t l (fun r => (ac_at V c t r l).trans (hd _ l)))).trans h1
    · rw [if_neg e1, up_2 _ _ _ _ _ e0 e1]
      exact h2 e0 e1

theorem gb_at : ∀ (t : ℕ) (h : t < cfg1.N) (n : Fin 8) (l : Fin 1024), ((outsAt1 V c t h).2.2 : FVec Ideal S8x1024 .f32) (ix2 n l) = held f d t n l
  | t, h, n, l => by
    have hN := lt_of_lt_of_eq h (show cfg1.N = 16 from N_1)
    by_cases h0 : t % 16 = 0
    · have e : t = 0 := by omega
      subst e
      rw [outsAt1_A V c ⟨0, h⟩ h0]
      dsimp only
      rw [gb_A]
      refine more V c f d hf hd ⟨0, h⟩ _ n l ?_ ?_ fun _ _ => pay4_at l n
      · rw [pay4_at]
        refine Eq.trans ?_ (sum_first _ 512)
        refine congrArg _ (Finset.sum_congr rfl fun k _ => congrArg _ ?_)
        show 0 * 512 + k.val = k.val
        omega
      · rw [pay4_at]
        refine Eq.trans ?_ (sum_first _ 512)
        refine congrArg _ (Finset.sum_congr rfl fun k _ => congrArg _ ?_)
        show 0 * 512 + k.val = k.val
        omega
    · have ih := gb_at (t - 1) (by omega)
      rw [outsAt1_B V c ⟨t, h⟩ h0]
      dsimp only
      rw [gb_B]
      refine more V c f d hf hd ⟨t, h⟩ _ n l ?_ ?_ fun e0 e1 => ?_
      · refine (congrArg (· + _) ((ih 0 l).trans (if_pos (show (0 : Fin 8).val = 0 from rfl)))).trans ?_
        rw [show t - 1 + 1 = t by omega]
        exact sum_next _ t 512
      · refine (congrArg (· + _) ((ih 1 l).trans ((if_neg (show ¬(1 : Fin 8).val = 0 by decide)).trans (if_pos (show (1 : Fin 8).val = 1 from rfl))))).trans ?_
        rw [show t - 1 + 1 = t by omega]
        exact sum_next _ t 512
      · exact (ih n l).trans ((if_neg e0).trans (if_neg e1))

/-- The last result. -/
def R2 : FVec Ideal S8x1024 .f32 := fun i => held f d 15 (i 0) (i 1)

theorem arr7 : ((dat1 V c).arrAt 7 cfg1.N : FVec Ideal S8x1024 .f32) = R2 f d := by
  refine (dat1 V c).arrAt_eq_of_covers 7 _ (by decide +kernel) fun t ht y => ?_
  have e := last7 t ht
  blk_simp
  rw [after1_7]
  obtain ⟨n, l, rfl⟩ : ∃ (n : Fin 8) (l : Fin 1024), y = ix2 n l := ⟨y 0, y 1, eta2 y⟩
  refine (gb_at V c f d hf hd t.val t.isLt n l).trans (Eq.trans ?_ (congrArg (R2 f d) (emb7 t n l)).symm)
  rw [e]
  rfl

end

end Cert.Kernel11Ideal.Ffn
end
-- ==== Proof.Ffn.TailHost.lean ====
/- What the backward call with the norm's backward after it reads, and what it leaves, entry by entry. -/
module

public import proofs.«01_k».proof.Proof.Ffn.TailVal

@[expose] public section

set_option maxRecDepth 16384

noncomputable section

namespace Cert.Kernel11Ideal.Ffn

open Idealize.ShloMosaic Idealize.ShloMosaic.TcCoe Idealize.SL.Sem Cert.Kernel11Ideal Cert.Kernel11Ideal.Gen Cert.Ffn
open Cert.Kernel2Ideal.Ffn (DA DH GA DX DX_sum gated pre dga dpre dpre_low dpre_high pile stack stack_apply)
open Cert.Kernel10Ideal.Proj (mx)

variable (m : (ℓ : Loc nD τ sig) → Buf (Elt Ideal) ℓ) (ρ : Dev nD → PrngReg) (c : Dev nD)

/-- The seven arguments. -/
def X : FVec Ideal S8192x1024 .f32 := m ((c : Thread nD τ).loc main_arg0)
def M : FVec Ideal S8192x1024 .f32 := m ((c : Thread nD τ).loc main_arg1)
def G : FVec Ideal S1024 .f32 := m ((c : Thread nD τ).loc main_arg2)
def Y : FVec Ideal S8192x1024 .f32 := m ((c : Thread nD τ).loc main_arg3)
def W : FVec Ideal S1024x5632 .f32 := m ((c : Thread nD τ).loc main_arg4)
def D : FVec Ideal S2816x1024 .f32 := m ((c : Thread nD τ).loc main_arg5)
def R : FVec Ideal S8192x1024 .f32 := m ((c : Thread nD τ).loc main_arg6)

theorem v8_at (r : Fin 8192) (j : Fin 1024) : (V1 m ρ c main_v8 : FVec Ideal S8192x1024 .f32) (ix2 r j) = Ideal.ofBits .f32 1068827891#32 * R m c (ix2 r j) := by
  simp only [V1, W1, hostOps0, List.flatten_cons, List.flatten_nil, List.append_nil, List.cons_append, List.nil_append]
  after_reads_simp
  pointwise
  rfl

theorem v11_at (r : Fin 8192) (j : Fin 1024) : (V1 m ρ c main_v11 : FVec Ideal S8192x1024 .bf16) (ix2 r j) = Ideal.ofBits .f32 1056964608#32 * R m c (ix2 r j) := by
  simp only [V1, W1, hostOps0, List.flatten_cons, List.flatten_nil, List.append_nil, List.cons_append, List.nil_append]
  after_reads_simp
  pointwise
  rfl

theorem v15_at (n : Fin 4) (k : Fin 1024) (l : Fin 1408) :
    (V1 m ρ c main_v15 : FVec Ideal S1x4x1024x1408 .bf16) (ix4 0 n k l) = W m c (ix2 k ⟨n.val * 1408 + l.val, by omega⟩) := by
  simp only [V1, W1, hostOps0, List.flatten_cons, List.flatten_nil, List.append_nil, List.cons_append, List.nil_append]
  after_reads_simp
  pointwise
  rfl

theorem v17_at (q : Fin 2816) (k : Fin 1024) :
    (V1 m ρ c main_v17 : FVec Ideal S1x2816x1024 .bf16) (ix3 0 q k) = D m c (ix2 q k) := by
  simp only [V1, W1, hostOps0, List.flatten_cons, List.flatten_nil, List.append_nil, List.cons_append, List.nil_append]
  after_reads_simp
  pointwise
  rfl

theorem v3_at (r : Fin 8192) (q : Fin 2816) : (V1 m ρ c main_v3 : FVec Ideal S1x8192x2816 .f32) (ix3 0 r q) = pre (Y m c) (W m c) r ⟨q.val, by omega⟩ := by
  simp only [V1, W1, hostOps0, List.flatten_cons, List.flatten_nil, List.append_nil, List.cons_append, List.nil_append]
  after_reads_simp
  pointwise
  rfl

theorem v4_at (r : Fin 8192) (q : Fin 2816) : (V1 m ρ c main_v4 : FVec Ideal S1x8192x2816 .f32) (ix3 0 r q) = pre (Y m c) (W m c) r ⟨2816 + q.val, by omega⟩ := by
  simp only [V1, W1, hostOps0, List.flatten_cons, List.flatten_nil, List.append_nil, List.cons_append, List.nil_append]
  after_reads_simp
  pointwise
  rfl

theorem v6_eq : (V1 m ρ c main_v6 : FVec Ideal S2x8192x2816 .bf16) = stack (V1 m ρ c main_v3) (V1 m ρ c main_v4) := by
  simp only [V1, W1, hostOps0, List.flatten_cons, List.flatten_nil, List.append_nil, List.cons_append, List.nil_append]
  after_reads_simp
  rfl

theorem gate_at (r : Fin 8192) (q : Fin 2816) : (V1 m ρ c main_v6 : FVec Ideal S2x8192x2816 .bf16) (ix3 0 r q) = pre (Y m c) (W m c) r ⟨q.val, by omega⟩ := by
  rw [v6_eq, stack_apply]
  unfold pile
  refine Eq.trans ?_ (v3_at m ρ c r q)
  exact concatenate_pair_apply_left (t := S2x8192x2816) (s₁ := S1x8192x2816) (s₂ := S1x8192x2816) 0 _ _ _ (ix3 0 r q) rfl (ix3 0 r q) fun a => match a with
    | ⟨0, _⟩ => rfl
    | ⟨1, _⟩ => rfl
    | ⟨2, _⟩ => rfl

theorem up_at (r : Fin 8192) (q : Fin 2816) : (V1 m ρ c main_v6 : FVec Ideal S2x8192x2816 .bf16) (ix3 1 r q) = pre (Y m c) (W m c) r ⟨2816 + q.val, by omega⟩ := by
  rw [v6_eq, stack_apply]
  unfold pile
  refine Eq.trans ?_ (v4_at m ρ c r q)
  exact concatenate_pair_apply_right (t := S2x8192x2816) (s₁ := S1x8192x2816) (s₂ := S1x8192x2816) 0 _ _ _ (ix3 1 r q) rfl rfl (ix3 0 r q) (fun a ha => match a, ha with
    | ⟨0, _⟩, ha => absurd rfl ha
    | ⟨1, _⟩, _ => rfl
    | ⟨2, _⟩, _ => rfl) rfl

theorem da_at (r : Fin 8192) (q : Fin 2816) : DA (V1 m ρ c main_v11) (V1 m ρ c main_v17) r q = dga (D m c) (R m c) r q :=
  Finset.sum_congr rfl fun k _ => congrArg₂ (· * ·) (v11_at m ρ c r k) (v17_at m ρ c q k)

/-- The first call's results. -/
theorem dh_low (r : Fin 8192) (q : Fin 2816) : (W3 m ρ c (Proc.devRef .tc main_v24_0) : FVec Ideal S2x8192x2816 .bf16) (ix3 0 r q)
    = dpre (Y m c) (W m c) (D m c) (R m c) r ⟨q.val, by omega⟩ := by
  rw [dpre_low, ← gate_at m ρ, ← up_at m ρ, ← da_at m ρ]
  refine (congrFun ((W3_of m ρ c main_v24_0 (by decide)).trans ((W2_arr m ρ c 3).trans (dh_arr (V1 m ρ) c))) _).trans ?_
  rfl
theorem dh_high (r : Fin 8192) (q : Fin 2816) : (W3 m ρ c (Proc.devRef .tc main_v24_0) : FVec Ideal S2x8192x2816 .bf16) (ix3 1 r q)
    = dpre (Y m c) (W m c) (D m c) (R m c) r ⟨2816 + q.val, by omega⟩ := by
  rw [dpre_high, ← gate_at m ρ, ← da_at m ρ]
  refine (congrFun ((W3_of m ρ c main_v24_0 (by decide)).trans ((W2_arr m ρ c 3).trans (dh_arr (V1 m ρ) c))) _).trans ?_
  rfl
theorem ga_at (r : Fin 8192) (q : Fin 2816) : (W3 m ρ c (Proc.devRef .tc main_v24_1) : FVec Ideal S8192x2816 .bf16) (ix2 r q)
    = gated (pre (Y m c) (W m c) r ⟨q.val, by omega⟩) (pre (Y m c) (W m c) r ⟨2816 + q.val, by omega⟩) := by
  rw [← gate_at m ρ, ← up_at m ρ]
  refine (congrFun ((W3_of m ρ c main_v24_1 (by decide)).trans ((W2_arr m ρ c 4).trans (ga_arr (V1 m ρ) c))) _).trans ?_
  rfl

theorem dh2_low (r : Fin 8192) (q : Fin 2816) : (V2 m ρ c main_v24_0 : FVec Ideal S2x8192x2816 .bf16) (ix3 0 r q)
    = dpre (Y m c) (W m c) (D m c) (R m c) r ⟨q.val, by omega⟩ :=
  (congrFun (W3_of m ρ c main_v24_0 (by decide)) _).symm.trans (dh_low m ρ c r q)
theorem dh2_high (r : Fin 8192) (q : Fin 2816) : (V2 m ρ c main_v24_0 : FVec Ideal S2x8192x2816 .bf16) (ix3 1 r q)
    = dpre (Y m c) (W m c) (D m c) (R m c) r ⟨2816 + q.val, by omega⟩ :=
  (congrFun (W3_of m ρ c main_v24_0 (by decide)) _).symm.trans (dh_high m ρ c r q)
theorem w2_at (n : Fin 4) (k : Fin 1024) (l : Fin 1408) :
    (V2 m ρ c main_v15 : FVec Ideal S1x4x1024x1408 .bf16) (ix4 0 n k l) = W m c (ix2 k ⟨n.val * 1408 + l.val, by omega⟩) :=
  (congrFun (W2_of m ρ c main_v15 (by decide)) _).trans (v15_at m ρ c n k l)

theorem v22_at (r : Fin 8192) (k : Fin 1024) : (V1 m ρ c main_v22 : FVec Ideal S8192x1024 .f32) (ix2 r k) = mx (X m c) (M m c) r k := by
  simp only [V1, W1, hostOps0, List.flatten_cons, List.flatten_nil, List.append_nil, List.cons_append, List.nil_append]
  after_reads_simp
  unfold mx
  pointwise
  rfl

theorem v23_at (k : Fin 1024) : (V1 m ρ c main_v23 : FVec Ideal S1x1024 .f32) (ix2 0 k) = G m c (ix1 k) := by
  simp only [V1, W1, hostOps0, List.flatten_cons, List.flatten_nil, List.append_nil, List.cons_append, List.nil_append]
  after_reads_simp
  pointwise
  rfl

/-- The cotangent that reaches the norm. -/
def dyf (y : FVec Ideal S8192x1024 .f32) (w : FVec Ideal S1024x5632 .f32) (d : FVec Ideal S2816x1024 .f32) (e : FVec Ideal S8192x1024 .f32) (r : Fin 8192) (k : Fin 1024) : EReal :=
  Ideal.ofBits .f32 1068827891#32 * e (ix2 r k) + ∑ q : Fin 5632, dpre y w d e r q * w (ix2 k q)

theorem hd (r : Fin 8192) (j : Fin 1024) : DX (V2 m ρ c main_v8) (V2 m ρ c main_v24_0) (V2 m ρ c main_v15) (ix2 r j) = dyf (Y m c) (W m c) (D m c) (R m c) r j := by
  refine (DX_sum _ _ _ r j (dpre (Y m c) (W m c) (D m c) (R m c) r) (fun q => W m c (ix2 j q)) (dh2_low m ρ c r) (dh2_high m ρ c r) (fun n l => w2_at m ρ c n j l)).trans ?_
  exact congrArg (· + _) ((congrFun (W2_of m ρ c main_v8 (by decide)) _).trans (v8_at m ρ c r j))
theorem hf (r : Fin 8192) (k : Fin 1024) : (V2 m ρ c main_v22 : FVec Ideal S8192x1024 .f32) (ix2 r k) = mx (X m c) (M m c) r k :=
  (congrFun (W2_of m ρ c main_v22 (by decide)) _).trans (v22_at m ρ c r k)
theorem hg (k : Fin 1024) : (V2 m ρ c main_v23 : FVec Ideal S1x1024 .f32) (ix2 0 k) = G m c (ix1 k) :=
  (congrFun (W2_of m ρ c main_v23 (by decide)) _).trans (v23_at m ρ c k)

/-- The second call's results. -/
theorem res_eq : (W3 m ρ c (Proc.devRef .tc main_v25_0) : FVec Ideal S8192x1024 .f32)
    = R0 (mx (X m c) (M m c)) (dyf (Y m c) (W m c) (D m c) (R m c)) (fun k => G m c (ix1 k)) :=
  (W3_arr m ρ c 5).trans (arr5 (V2 m ρ) c _ _ _ (hf m ρ c) (hg m ρ c) (hd m ρ c))
theorem dm_eq : (W3 m ρ c (Proc.devRef .tc main_v25_1) : FVec Ideal S8192x1024 .bf16)
    = R1 (mx (X m c) (M m c)) (dyf (Y m c) (W m c) (D m c) (R m c)) (fun k => G m c (ix1 k)) :=
  (W3_arr m ρ c 6).trans (arr6 (V2 m ρ) c _ _ _ (hf m ρ c) (hg m ρ c) (hd m ρ c))
theorem gb_eq : (W3 m ρ c (Proc.devRef .tc main_v25_2) : FVec Ideal S8x1024 .f32) = R2 (mx (X m c) (M m c)) (dyf (Y m c) (W m c) (D m c) (R m c)) :=
  (W3_arr m ρ c 7).trans (arr7 (V2 m ρ) c _ _ (hf m ρ c) (hd m ρ c))

end Cert.Kernel11Ideal.Ffn
end
-- ==== Proof.Proj.InBwdRef.lean ====
/- The reference of the backward call of the projection into the mixers, entry by entry. -/
module

public import proofs.«01_k».proof.Proof.Proj.InBwdVal
public import proofs.«01_k».proof.Proof.Gen.Reference10Ideal.Read

@[expose] public section

set_option maxRecDepth 16384

noncomputable section

namespace Cert.Reference10Ideal.Proj

open Idealize.ShloMosaic Cert.Reference10Ideal Cert.Reference10Ideal.Read
open Cert.Kernel5Ideal.Ffn (mean)
open Cert.Kernel10Ideal.Proj (mx ct dn tg tb)
open Cert.Proj.Norm
open Cert.Reference2Ideal.Ffn (IsR)

variable (x y : FVec Ideal S8192x1024 .f32) (w : FVec Ideal S1024x2048 .f32) (g : FVec Ideal S1024 .f32) (e : FVec Ideal S8192x1024 .f32) (z : FVec Ideal S8192x2048 .f32)
variable (R : Fin 8192) (j : Fin 1024)

theorem v5_at : (val_main_v5 (F := Ideal) x y : FVec Ideal S8192x1024 .f32) (ix2 R j) = mx x y R j := by
  unfold mx
  unfold val_main_v5 val_main_v4 val_main_v3 val_main_v2 val_main_v1 val_main_cst_0 val_main_cst_1
  pointwise

theorem v9_at : (val_main_v9 (F := Ideal) x y : FVec Ideal S8192x1 .f32) (ix2 R 0) = mean (mx x y R) := by
  unfold mean
  simp only [← v5_at]
  unfold val_main_v9 val_main_v7 val_main_v6 val_main_v8 val_main_cst_2 val_main_cst_3
  pointwise

theorem v11_at : (val_main_v11 (F := Ideal) x y : FVec Ideal S8192x1024 .f32) (ix2 R j) = cen (mx x y R) j := by
  unfold cen
  rw [← v9_at, ← v5_at]
  unfold val_main_v11 val_main_v10
  pointwise

theorem v20_at : (val_main_v20 (F := Ideal) x y : FVec Ideal S8192x1024 .f32) (ix2 R j) = cen (mx x y R) j := by
  unfold cen
  rw [← v9_at, ← v5_at]
  unfold val_main_v20 val_main_v19
  pointwise

theorem v14_at : (val_main_v14 (F := Ideal) x y : FVec Ideal S8192x1024 .f32) (ix2 R j) = Ideal.ofBits .f32 1073741824#32 * cen (mx x y R) j := by
  rw [← v11_at]
  unfold val_main_v14 val_main_v13 val_main_cst_4
  pointwise

theorem v22_at : (val_main_v22 (F := Ideal) x y : FVec Ideal S8192x1 .f32) (ix2 R 0) = vr (mx x y R) := by
  unfold vr mean
  simp only [← v11_at]
  unfold val_main_v22 val_main_v18 val_main_v16 val_main_v15 val_main_v12 val_main_v17 val_main_v21 val_main_cst_5 val_main_cst_6 val_main_cst_7
  pointwise

theorem v23_at : (val_main_v23 (F := Ideal) x y : FVec Ideal S8192x1 .f32) (ix2 R 0) = rs (mx x y R) := by
  unfold rs
  rw [← v22_at]
  unfold val_main_v23
  pointwise

theorem v26_at : (val_main_v26 (F := Ideal) x y : FVec Ideal S8192x1 .f32) (ix2 R 0)
    = Ideal.ofBits .f32 3204448256#32 * Ideal.div (rs (mx x y R)) (vr (mx x y R)) := by
  rw [← v22_at, ← v23_at]
  unfold val_main_v26 val_main_v25 val_main_v24 val_main_cst_8
  pointwise

theorem v28_at : (val_main_v28 (F := Ideal) x y : FVec Ideal S8192x1024 .f32) (ix2 R j) = xh (mx x y R) j := by
  unfold xh
  rw [← v23_at, ← v20_at]
  unfold val_main_v28 val_main_v27
  pointwise

theorem v37_at : (val_main_v37 (F := Ideal) w e z : FVec Ideal S8192x1024 .f32) (ix2 R j) = ct w e z R j := by
  unfold ct
  unfold val_main_v37 val_main_v36
  pointwise

theorem v38_at : (val_main_v38 (F := Ideal) w e z : FVec Ideal S8192x1024 .f32) (ix2 R j) = ct w e z R j := by
  rw [← v37_at]
  unfold val_main_v38
  pointwise

theorem v46_at : (val_main_v46 (F := Ideal) w g e z : FVec Ideal S8192x1024 .f32) (ix2 R j) = ct w e z R j * g (ix1 j) := by
  conv_rhs => rw [← v38_at w e z R j]
  unfold val_main_v46 val_main_v45 val_main_v29
  pointwise

/-- A cotangent row times the gain. -/
def eg (k : Fin 1024) : EReal := ct w e z R k * g (ix1 k)

theorem v50_at : (val_main_v50 (F := Ideal) x y w g e z : FVec Ideal S8192x1 .f32) (ix2 R 0) = ∑ k, cen (mx x y R) k * eg w g e z R k := by
  unfold eg
  simp only [← v46_at, ← v20_at]
  unfold val_main_v50 val_main_v49 val_main_v48 val_main_cst_13
  pointwise

theorem v52_at : (val_main_v52 (F := Ideal) x y w g e z : FVec Ideal S8192x1024 .f32) (ix2 R j) = eg w g e z R j * rs (mx x y R) := by
  unfold eg
  rw [← v46_at, ← v23_at]
  unfold val_main_v52 val_main_v51
  pointwise

theorem v58_at : (val_main_v58 (F := Ideal) x y w g e z : FVec Ideal S8192x1 .f32) (ix2 R 0) = thr (mx x y R) (eg w g e z R) := by
  unfold thr
  rw [← v50_at, ← v26_at]
  unfold val_main_v58 val_main_v53 val_main_v57 val_main_cst_15
  pointwise

theorem v59_at : (val_main_v59 (F := Ideal) x y w g e z : FVec Ideal S8192 .f32) (ix1 R) = thr (mx x y R) (eg w g e z R) := by
  rw [← v58_at]
  unfold val_main_v59 val_main_cst_16
  pointwise
  exact Fin.sum_univ_one _

theorem v61_at : (val_main_v61 (F := Ideal) x y w g e z : FVec Ideal S8192x1024 .f32) (ix2 R j)
    = thr (mx x y R) (eg w g e z R) * (Ideal.ofBits .f32 1073741824#32 * cen (mx x y R) j) := by
  rw [← v14_at, ← v59_at]
  unfold val_main_v61 val_main_v60
  pointwise

theorem v56_at : (val_main_v56 (F := Ideal) x y w g e z : FVec Ideal S8192x1 .f32) (ix2 R 0) = ∑ k, -(eg w g e z R k * rs (mx x y R)) := by
  simp only [← v52_at]
  unfold val_main_v56 val_main_v55 val_main_v54 val_main_cst_14
  pointwise

theorem v64_at : (val_main_v64 (F := Ideal) x y w g e z : FVec Ideal S8192x1 .f32) (ix2 R 0)
    = ∑ k, -(thr (mx x y R) (eg w g e z R) * (Ideal.ofBits .f32 1073741824#32 * cen (mx x y R) k)) := by
  simp only [← v61_at]
  unfold val_main_v64 val_main_v63 val_main_v62 val_main_cst_17
  pointwise

theorem v68_at : (val_main_v68 (F := Ideal) x y w g e z : FVec Ideal S8192x1 .f32) (ix2 R 0)
    = Ideal.div ((∑ k, -(eg w g e z R k * rs (mx x y R))) + ∑ k, -(thr (mx x y R) (eg w g e z R) * (Ideal.ofBits .f32 1073741824#32 * cen (mx x y R) k))) (Ideal.ofBits .f32 1149239296#32) := by
  rw [← v64_at, ← v56_at]
  unfold val_main_v68 val_main_v66 val_main_v67 val_main_cst_18
  pointwise

theorem v69_at : (val_main_v69 (F := Ideal) x y w g e z : FVec Ideal S8192 .f32) (ix1 R)
    = Ideal.div ((∑ k, -(eg w g e z R k * rs (mx x y R))) + ∑ k, -(thr (mx x y R) (eg w g e z R) * (Ideal.ofBits .f32 1073741824#32 * cen (mx x y R) k))) (Ideal.ofBits .f32 1149239296#32) := by
  rw [← v68_at]
  unfold val_main_v69 val_main_cst_19
  pointwise
  exact Fin.sum_univ_one _

theorem v71_ref : (val_main_v71 (F := Ideal) x y w g e z : FVec Ideal S8192x1024 .f32) (ix2 R j) = ref (mx x y R) (eg w g e z R) j := by
  unfold ref
  rw [← v69_at, ← v61_at, ← v52_at]
  unfold val_main_v71 val_main_v65 val_main_v70
  pointwise

theorem alpha_real : IsR (Ideal.ofBits .f32 1068827891#32) := ⟨(11863283 : ℝ) / 8388608, by simp [Ideal.ofBits, Ideal.ieee, -EReal.coe_mul]; norm_num⟩

theorem mx_real (hx : ∀ i, IsR (x i)) (hy : ∀ i, IsR (y i)) : IsR (mx x y R j) := by
  obtain ⟨a, ha⟩ := alpha_real.mul (hx (ix2 R j))
  obtain ⟨b, hb⟩ := IsR.mul ⟨_, Cert.Attn.half_word⟩ (hy (ix2 R j))
  unfold mx
  rw [ha, hb]
  exact ⟨a + b, by rw [EReal.coe_add]⟩

theorem ct_real (hw : ∀ i, IsR (w i)) (he : ∀ i, IsR (e i)) (hz : ∀ i, IsR (z i)) : IsR (ct w e z R j) := by
  obtain ⟨a, ha⟩ := he (ix2 R j)
  obtain ⟨b, hb⟩ := IsR.sum fun k : Fin 2048 => (hz (ix2 R k)).mul (hw (ix2 j k))
  unfold ct
  rw [ha, hb]
  exact ⟨a + b, by rw [EReal.coe_add]⟩

section
variable (hx : ∀ i, IsR (x i)) (hy : ∀ i, IsR (y i)) (hw : ∀ i, IsR (w i)) (hg : ∀ i, IsR (g i)) (he : ∀ i, IsR (e i)) (hz : ∀ i, IsR (z i))
include hx hy hw hg he hz

theorem v71_at : (val_main_v71 (F := Ideal) x y w g e z : FVec Ideal S8192x1024 .f32) (ix2 R j) = dn x y w g e z R j :=
  (v71_ref x y w g e z R j).trans (same (fun k => mx_real x y R k hx hy) (fun k => (ct_real w e z R k hw he hz).mul (hg _)) j)

theorem v75_at : (val_main_v75 (F := Ideal) x y w g e z : FVec Ideal S8192x1024 .f32) (ix2 R j) = Ideal.ofBits .f32 1068827891#32 * dn x y w g e z R j := by
  rw [← v71_at x y w g e z R j hx hy hw hg he hz]
  unfold val_main_v75 val_main_v74 val_main_cst_21
  pointwise

theorem v76_at : (val_main_v76 (F := Ideal) x y w g e z : FVec Ideal S8192x1024 .bf16) (ix2 R j) = Ideal.ofBits .f32 1056964608#32 * dn x y w g e z R j := by
  rw [← v71_at x y w g e z R j hx hy hw hg he hz]
  unfold val_main_v76 val_main_v73 val_main_v72 val_main_cst_20
  pointwise
end

theorem v47_at : (val_main_v47 (F := Ideal) x y w e z : FVec Ideal S1024 .f32) (ix1 j) = ∑ R, tg x y w e z j R := by
  have h : (val_main_v47 (F := Ideal) x y w e z : FVec Ideal S1024 .f32) (ix1 j) = ∑ R : Fin 8192, val_main_v28 (F := Ideal) x y (ix2 R j) * val_main_v38 (F := Ideal) w e z (ix2 R j) := by
    unfold val_main_v47 val_main_v44 val_main_v43 val_main_v42 val_main_cst_11 val_main_cst_12
    pointwise
    exact Fin.sum_univ_one _
  rw [h]
  refine Finset.sum_congr rfl fun R _ => ?_
  rw [v28_at, v38_at, mul_comm]
  rfl

theorem v41_at : (val_main_v41 (F := Ideal) w e z : FVec Ideal S1024 .f32) (ix1 j) = ∑ R, tb w e z j R := by
  have h : (val_main_v41 (F := Ideal) w e z : FVec Ideal S1024 .f32) (ix1 j) = ∑ R : Fin 8192, val_main_v37 (F := Ideal) w e z (ix2 R j) := by
    unfold val_main_v41 val_main_v40 val_main_v39 val_main_cst_9 val_main_cst_10
    generalize val_main_v37 (F := Ideal) w e z = u
    pointwise
    exact Fin.sum_univ_one _
  rw [h]
  exact Finset.sum_congr rfl fun R _ => v37_at w e z R j

theorem v81_low (n : Fin 2) : val_main_v81 (F := Ideal) x y w e z (ix2 ⟨n.val, by omega⟩ j) = val_main_v79 (F := Ideal) x y w e z (ix2 n j) := by
  unfold val_main_v81
  exact concatenate_pair_apply_left (t := S8x1024) (s₁ := S2x1024) (s₂ := S6x1024) 0 _ _ _ (ix2 ⟨n.val, by omega⟩ j) rfl (ix2 n j) fun a => match a with
    | ⟨0, _⟩ => rfl
    | ⟨1, _⟩ => rfl

theorem v81_high (n : Fin 6) : val_main_v81 (F := Ideal) x y w e z (ix2 ⟨2 + n.val, by omega⟩ j) = val_main_v80 (F := Ideal) (ix2 n j) := by
  unfold val_main_v81
  exact concatenate_pair_apply_right (t := S8x1024) (s₁ := S2x1024) (s₂ := S6x1024) 0 _ _ _ (ix2 ⟨2 + n.val, by omega⟩ j) rfl rfl (ix2 n j) (fun a ha => match a, ha with
    | ⟨0, _⟩, ha => absurd rfl ha
    | ⟨1, _⟩, _ => rfl) (by show n.val + 2 = 2 + n.val; omega)

theorem v79_low : val_main_v79 (F := Ideal) x y w e z (ix2 0 j) = val_main_v77 (F := Ideal) x y w e z (ix2 0 j) := by
  unfold val_main_v79
  exact concatenate_pair_apply_left (t := S2x1024) (s₁ := S1x1024) (s₂ := S1x1024) 0 _ _ _ (ix2 0 j) rfl (ix2 0 j) fun a => match a with
    | ⟨0, _⟩ => rfl
    | ⟨1, _⟩ => rfl

theorem v79_high : val_main_v79 (F := Ideal) x y w e z (ix2 1 j) = val_main_v78 (F := Ideal) w e z (ix2 0 j) := by
  unfold val_main_v79
  exact concatenate_pair_apply_right (t := S2x1024) (s₁ := S1x1024) (s₂ := S1x1024) 0 _ _ _ (ix2 1 j) rfl rfl (ix2 0 j) (fun a ha => match a, ha with
    | ⟨0, _⟩, ha => absurd rfl ha
    | ⟨1, _⟩, _ => rfl) rfl

theorem v77_at : (val_main_v77 (F := Ideal) x y w e z : FVec Ideal S1x1024 .f32) (ix2 0 j) = ∑ R, tg x y w e z j R := by
  rw [← v47_at]
  unfold val_main_v77
  pointwise

theorem v78_at : (val_main_v78 (F := Ideal) w e z : FVec Ideal S1x1024 .f32) (ix2 0 j) = ∑ R, tb w e z j R := by
  rw [← v41_at]
  unfold val_main_v78
  pointwise

theorem v80_at (n : Fin 6) : (val_main_v80 (F := Ideal) : FVec Ideal S6x1024 .f32) (ix2 n j) = 0 := by
  unfold val_main_v80 val_main_cst_22
  pointwise

/-- The last result's rows. -/
theorem v81_at (n : Fin 8) : (val_main_v81 (F := Ideal) x y w e z : FVec Ideal S8x1024 .f32) (ix2 n j)
    = if n.val = 0 then ∑ R, tg x y w e z j R else if n.val = 1 then ∑ R, tb w e z j R else 0 := by
  by_cases h0 : n.val = 0
  · obtain rfl : n = ⟨(0 : Fin 2).val, by decide⟩ := Fin.ext h0
    rw [if_pos h0]
    exact (v81_low x y w e z j 0).trans ((v79_low x y w e z j).trans (v77_at x y w e z j))
  · rw [if_neg h0]
    by_cases h1 : n.val = 1
    · obtain rfl : n = ⟨(1 : Fin 2).val, by decide⟩ := Fin.ext h1
      rw [if_pos h1]
      exact (v81_low x y w e z j 1).trans ((v79_high x y w e z j).trans (v78_at w e z j))
    · rw [if_neg h1]
      have en : n = ⟨2 + (n.val - 2), by omega⟩ := Fin.ext (by show n.val = 2 + (n.val - 2); omega)
      rw [en]
      exact (v81_high x y w e z j ⟨n.val - 2, by omega⟩).trans (v80_at j _)

end Cert.Reference10Ideal.Proj
end
-- ==== Proof.Ffn.TailRef.lean ====
/- The reference of the backward call with the norm's backward after it: its steps are those of two references already read. -/
module

public import proofs.«01_k».proof.Proof.Proj.InBwdRef
public import proofs.«01_k».proof.Proof.Gen.Reference11Ideal.Read

@[expose] public section

set_option maxRecDepth 16384

noncomputable section

namespace Cert.Reference11Ideal.Ffn

open Idealize.ShloMosaic Cert.Reference11Ideal Cert.Reference11Ideal.Read
open Cert.Kernel10Ideal.Proj (ct)

/-- No weights, and no cotangent through them. -/
def w0 : FVec Ideal Reference10Ideal.S1024x2048 .f32 := fun _ => (0 : EReal)
def z0 : FVec Ideal Reference10Ideal.S8192x2048 .f32 := fun _ => (0 : EReal)

theorem ct_none (e : FVec Ideal S8192x1024 .f32) (R : Fin 8192) (k : Fin 1024) : ct w0 e z0 R k = e (ix2 R k) := by
  unfold ct
  refine (congrArg (e (ix2 R k) + ·) (Finset.sum_eq_zero fun j _ => ?_)).trans (add_zero _)
  exact zero_mul (0 : EReal)

theorem e37 (e : FVec Ideal S8192x1024 .f32) : Reference10Ideal.Read.val_main_v37 (F := Ideal) w0 e z0 = e := by
  funext i
  rw [Cert.Ffn.eta2 i]
  exact (Reference10Ideal.Proj.v37_at _ _ _ _ _).trans (ct_none e _ _)
theorem e38 (e : FVec Ideal S8192x1024 .f32) : Reference10Ideal.Read.val_main_v38 (F := Ideal) w0 e z0 = e := by
  funext i
  rw [Cert.Ffn.eta2 i]
  exact (Reference10Ideal.Proj.v38_at _ _ _ _ _).trans (ct_none e _ _)

variable (x m : FVec Ideal S8192x1024 .f32) (g : FVec Ideal S1024 .f32) (y : FVec Ideal S8192x1024 .f32) (w : FVec Ideal S1024x5632 .f32) (d : FVec Ideal S2816x1024 .f32) (e : FVec Ideal S8192x1024 .f32)

/-- The cotangent that reaches the norm. -/
def dy : FVec Ideal S8192x1024 .f32 := Reference2Ideal.Read.val_main_v23 (F := Ideal) y w d e

theorem e81 : val_main_v81 (F := Ideal) g y w d e = Reference10Ideal.Read.val_main_v46 (F := Ideal) w0 g (dy y w d e) z0 := by
  unfold Reference10Ideal.Read.val_main_v46
  rw [e38]
  rfl
theorem e87 : val_main_v87 (F := Ideal) x m g y w d e = Reference10Ideal.Read.val_main_v52 (F := Ideal) x m w0 g (dy y w d e) z0 := by
  unfold val_main_v87 Reference10Ideal.Read.val_main_v52
  rw [e81]
  rfl
theorem e85 : val_main_v85 (F := Ideal) x m g y w d e = Reference10Ideal.Read.val_main_v50 (F := Ideal) x m w0 g (dy y w d e) z0 := by
  unfold val_main_v85 val_main_v84 val_main_v83
  rw [e81]
  rfl
theorem e96 : val_main_v96 (F := Ideal) x m g y w d e = Reference10Ideal.Read.val_main_v61 (F := Ideal) x m w0 g (dy y w d e) z0 := by
  unfold val_main_v96 val_main_v95 val_main_v94 val_main_v93 val_main_v88
  rw [e85]
  rfl
theorem e106 : val_main_v106 (F := Ideal) x m g y w d e = Reference10Ideal.Read.val_main_v71 (F := Ideal) x m w0 g (dy y w d e) z0 := by
  unfold val_main_v106 val_main_v105 val_main_v104 val_main_v103 val_main_v101 val_main_v100 val_main_v99 val_main_v98 val_main_v97 val_main_v91 val_main_v90 val_main_v89
  rw [e96, e87]
  rfl

/-- The first two results. -/
theorem e110 : val_main_v110 (F := Ideal) x m g y w d e = Reference10Ideal.Read.val_main_v75 (F := Ideal) x m w0 g (dy y w d e) z0 := by
  unfold val_main_v110
  rw [e106]
  rfl
theorem e111 : val_main_v111 (F := Ideal) x m g y w d e = Reference10Ideal.Read.val_main_v76 (F := Ideal) x m w0 g (dy y w d e) z0 := by
  unfold val_main_v111 val_main_v108
  rw [e106]
  rfl

/-- The gain's and the bias's gradient. -/
theorem e82 : val_main_v82 (F := Ideal) x m y w d e = Reference10Ideal.Read.val_main_v47 (F := Ideal) x m w0 (dy y w d e) z0 := by
  unfold Reference10Ideal.Read.val_main_v47 Reference10Ideal.Read.val_main_v44 Reference10Ideal.Read.val_main_v43 Reference10Ideal.Read.val_main_v42
  rw [e38]
  rfl
theorem e76 : val_main_v76 (F := Ideal) y w d e = Reference10Ideal.Read.val_main_v41 (F := Ideal) w0 (dy y w d e) z0 := by
  unfold Reference10Ideal.Read.val_main_v41 Reference10Ideal.Read.val_main_v40 Reference10Ideal.Read.val_main_v39
  rw [e37]
  rfl
theorem e116 : val_main_v116 (F := Ideal) x m y w d e = Reference10Ideal.Read.val_main_v81 (F := Ideal) x m w0 (dy y w d e) z0 := by
  unfold val_main_v116 val_main_v114 val_main_v113 val_main_v112
  rw [e82, e76]
  rfl

/-- The last two results. -/
theorem e122 : val_main_v122 (F := Ideal) y w d e = Reference2Ideal.Read.val_main_v44 (F := Ideal) y w d e := rfl
theorem e128 : val_main_v128 (F := Ideal) y w = Reference2Ideal.Read.val_main_v50 (F := Ideal) y w := rfl

end Cert.Reference11Ideal.Ffn
end
-- ==== Proof.Ffn.BwdRun.lean ====
/- The backward call's run: every array ends at what the last boundary of its segments says. -/
module

public import proofs.«01_k».proof.Proof.Gen.Kernel2Ideal.Frame

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] (m : (ℓ : Loc nD τ sig) → Buf (Elt F) ℓ) (ρ : Dev nD → PrngReg)

set_option backward.isDefEq.respectTransparency.types false in
/-- The two calls run to the end: every array holds what the last boundary says, and every counter is back at zero. -/
theorem run_all : θ_run defs (onTc (τ := τ) (main (F := F))) ⟨m, fun _ => 0, ρ⟩ (fun r =>
      (∀ (c : Dev nD) (b : Ref sig .tc), ¬ (Proc.devRef .tc b : DevRef τ sig).isScoped →
        r.2.mem ((c.tc : Thread nD τ).loc b) = W3 m ρ c (Proc.devRef .tc b)) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h hz => ⟨fun c b hb => h c _ (mem_uc b hb), funext fun g => hz g (.inr (no_unscoped g.2))⟩)

end Cert.Kernel2Ideal.Ffn
end
-- ==== Proof.Attn.Block.lean ====
/- What one point of the attention's backward pass computes from its blocks, over any reading of the floats: the
   probabilities, the scores' cotangent, and what the point adds to the gradients of q, k, v and the sink. -/
module

public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

/-- What a point reads: the queries and the output's cotangent (per kv head, 512 rows of four query heads), the keys and
    values of the block before, the point's own and the one after, the rows' log-sum beside the cotangent's row sum, the sink. -/
structure Ins (F : FTy → Type) [FloatOps F] where
  q : Vec F S2x512x128 .bf16
  k : Fin 3 → Vec F S128x128 .bf16
  v : Fin 3 → Vec F S128x128 .bf16
  d : Vec F S2x512x128 .bf16
  ld : Vec F S2x512x128 .f32
  sink : Vec F S8 .f32

theorem slab_inb (g : Fin 2) : ∀ a, (![g.val, 0, 0] : Fin 3 → ℕ) a + S1x512x128.size a ≤ S2x512x128.size a := by
  revert g; decide

/-- Kv head `g`'s rows of a stacked block. -/
def slab {e : EltTy} (x : Vec F S2x512x128 e) (g : Fin 2) : Vec F S1x512x128 e :=
  View.ld x (Rect.unit (s := S2x512x128) ![g.val, 0, 0] S1x512x128.size (slab_inb g))

/-- The same without the leading axis. -/
def rowsOf {e : EltTy} (x : Vec F S2x512x128 e) (g : Fin 2) : Vec F S512x128 e :=
  shapeCast S512x128 (slab x g) shapeCasts_S1x512x128_S512x128

/-- The rows' log-sum: column 0. -/
def lse (x : Vec F S2x512x128 .f32) (g : Fin 2) : FVec F S512x1 .f32 :=
  extractStridedSlice S512x1 ![0, 0] (rowsOf x g) slices_S512x128_o0_0_S512x1

/-- The rows' sums of cotangent times output: column 64, by a rotation of the lanes. -/
def dsum (x : Vec F S2x512x128 .f32) (g : Fin 2) : FVec F S512x1 .f32 :=
  extractStridedSlice S512x1 ![0, 0] (dynamicRotate 1 64#32 none (rowsOf x g) rotates_S512x128_d1) slices_S512x128_o0_0_S512x1

/-- Every row of `x` against every row of `y`. -/
def mulNT (x : FVec F S512x128 .bf16) (y : FVec F S128x128 .bf16) : FVec F S512x128 .f32 :=
  matmul dot_S512x128_S128x128_S512x128_1_1_0_0_n_n none x y (constant S512x128 .f32 0x00000000#32)
def mulNN (x : FVec F S512x128 .bf16) (y : FVec F S128x128 .bf16) : FVec F S512x128 .f32 :=
  matmul dot_S512x128_S128x128_S512x128_1_0_0_1_n_n none x y (constant S512x128 .f32 0x00000000#32)
def mulTN (x y : FVec F S512x128 .bf16) : FVec F S128x128 .f32 :=
  matmul dot_S512x128_S512x128_S128x128_0_0_1_1_n_n none x y (constant S128x128 .f32 0x00000000#32)

/-- The scores against neighbour block `b`, those outside the window at the mask. -/
def scores (i : grid0.Coords) (X : Ins F) (g : Fin 2) (b : Fin 3) : FVec F S512x128 .f32 :=
  match b with
  | ⟨0, _⟩ => select (k0_pay6 i) (mulNT (rowsOf X.q g) (X.k 0)) (broadcast S512x128 (Named.named κ "mask" 0xF149F2CA#32))
  | ⟨1, _⟩ => mulNT (rowsOf X.q g) (X.k 1)
  | ⟨2, _⟩ => select (k0_pay7 i) (mulNT (rowsOf X.q g) (X.k 2)) (broadcast S512x128 (Named.named κ "mask" 0xF149F2CA#32))

/-- The probabilities. -/
def probs (i : grid0.Coords) (X : Ins F) (g : Fin 2) (b : Fin 3) : FVec F S512x128 .f32 :=
  exp (subf (scores i X g b) (broadcastTo S512x128 (lse X.ld g) broadcasts_S512x1_S512x128))

/-- The scores' cotangent. -/
def dscores (i : grid0.Coords) (X : Ins F) (g : Fin 2) (b : Fin 3) : FVec F S512x128 .bf16 :=
  truncf .bf16 (mulf (probs i X g b) (subf (mulNT (rowsOf X.d g) (X.v b)) (broadcastTo S512x128 (dsum X.ld g) broadcasts_S512x1_S512x128))) bitsLt_bf16_f32

/-- What kv head `g` adds to the gradient of the keys of neighbour `b`, -/
def dkTerm (i : grid0.Coords) (X : Ins F) (g : Fin 2) (b : Fin 3) : FVec F S128x128 .f32 := mulTN (dscores i X g b) (rowsOf X.q g)
/-- and of its values. -/
def dvTerm (i : grid0.Coords) (X : Ins F) (g : Fin 2) (b : Fin 3) : FVec F S128x128 .f32 :=
  mulTN (truncf .bf16 (probs i X g b) bitsLt_bf16_f32) (rowsOf X.d g)

/-- Kv head `g`'s gradient of the queries, over all 128 lanes. -/
def dqSum (i : grid0.Coords) (X : Ins F) (g : Fin 2) : FVec F S512x128 .f32 :=
  addf (addf (addf (broadcast S512x128 (Scalar.ofBits .f32 0x00000000#32)) (mulNN (dscores i X g 0) (X.k 0))) (mulNN (dscores i X g 1) (X.k 1))) (mulNN (dscores i X g 2) (X.k 2))

/-- The lanes of kv head `g`'s half. -/
def half (g : Fin 2) : IVec S512x128 1 :=
  match g with
  | ⟨0, _⟩ => cmpi .slt (iota .tc S512x128 32 [1] iota_S512x128_d1_w32) (broadcast S512x128 64#32)
  | ⟨1, _⟩ => cmpi .sge (iota .tc S512x128 32 [1] iota_S512x128_d1_w32) (broadcast S512x128 64#32)

def dqOf (i : grid0.Coords) (X : Ins F) (g : Fin 2) : FVec F S1x512x128 .f32 :=
  shapeCast S1x512x128 (select (half g) (dqSum i X g) (broadcast S512x128 (Scalar.ofBits .f32 0x00000000#32))) shapeCasts_S512x128_S1x512x128

/-- The point's block of the queries' gradient. -/
def dqBlk (i : grid0.Coords) (X : Ins F) : Vec F S2x512x128 .f32 := fun y =>
  if (y 0).val = 1 then dqOf i X 1 (fun a => match a with | ⟨0, _⟩ => (0 : Fin 1) | ⟨1, _⟩ => y 1 | ⟨2, _⟩ => y 2)
  else dqOf i X 0 (fun a => match a with | ⟨0, _⟩ => (0 : Fin 1) | ⟨1, _⟩ => y 1 | ⟨2, _⟩ => y 2)

/-- The first of the 128 rows of block `b`'s keys. -/
def keyRow (i : grid0.Coords) (b : Fin 3) : ℕ := 128 * min 63 ((i 0).val + b.val - 1)

/-- The body's own spelling of that place. -/
theorem off1_eq : ∀ (i : grid0.Coords) (b : Fin 3), k0_off1 i (BitVec.ofNat 32 b.val) = ![keyRow i b, 0] := by
  decide +kernel

theorem keyRow_inb (i : grid0.Coords) (b : Fin 3) : ∀ a, (![keyRow i b, 0] : Fin 2 → ℕ) a + S128x128.size a ≤ S8192x128.size a := by
  rw [← off1_eq]; exact k0_off1_inb i b

/-- `A` with `t` added to the 128 rows of neighbour `b`'s keys. -/
def addRows (i : grid0.Coords) (b : Fin 3) (t : FVec F S128x128 .f32) (A : Vec F S8192x128 .f32) : Vec F S8192x128 .f32 :=
  VecWindow.put A ![keyRow i b, 0] S128x128.size (addf (View.ld A (Rect.unit (s := S8192x128) ![keyRow i b, 0] S128x128.size (keyRow_inb i b))) t)

/-- The keys' gradient after the point, from what it was before. -/
def dkStep (i : grid0.Coords) (X : Ins F) (A : Vec F S8192x128 .f32) : Vec F S8192x128 .f32 :=
  addRows i 2 (dkTerm i X 1 2) (addRows i 1 (dkTerm i X 1 1) (addRows i 0 (dkTerm i X 1 0)
    (addRows i 2 (dkTerm i X 0 2) (addRows i 1 (dkTerm i X 0 1) (addRows i 0 (dkTerm i X 0 0) A)))))
/-- The values' gradient likewise. -/
def dvStep (i : grid0.Coords) (X : Ins F) (A : Vec F S8192x128 .f32) : Vec F S8192x128 .f32 :=
  addRows i 2 (dvTerm i X 1 2) (addRows i 1 (dvTerm i X 1 1) (addRows i 0 (dvTerm i X 1 0)
    (addRows i 2 (dvTerm i X 0 2) (addRows i 1 (dvTerm i X 0 1) (addRows i 0 (dvTerm i X 0 0) A)))))

theorem sink_inb (h : Fin 8) : ∀ a, (![h.val] : Fin 1 → ℕ) a + S1.size a ≤ S8.size a := by revert h; decide

/-- One number of the sink. -/
def sinkAt (x : Vec F S8 .f32) (h : Fin 8) : Elt F .f32 :=
  View.ld x (Rect.unit (s := S8) ![h.val] S1.size (sink_inb h)) (Shape.Idx.first (show 0 < S1.numel by decide))

/-- The sink of each row's query head: four heads, 128 rows each. -/
def sinkCol (x : Vec F S8 .f32) (g : Fin 2) : FVec F S512x1 .f32 :=
  let s (j : Fin 4) : FVec F S512x1 .f32 := broadcast S512x1 (sinkAt x ⟨4 * g.val + j.val, by omega⟩)
  let is (w : BitVec 32) : IVec S512x1 1 := cmpi .eq k0_pay29 (broadcast S512x1 w)
  select (is 3#32) (s 3) (select (is 2#32) (s 2) (select (is 1#32) (s 1) (addf (broadcast S512x1 (Scalar.ofBits .f32 0x00000000#32)) (s 0))))

/-- The sink's probability times the rows' sums. -/
def dsink (X : Ins F) (g : Fin 2) : FVec F S512x1 .f32 := mulf (exp (subf (sinkCol X.sink g) (lse X.ld g))) (dsum X.ld g)

theorem band_inb (j : Fin 4) : S512x1.Slices ![128 * j.val, 0] S128x1 := by revert j; decide

/-- Its sum over query head `j`'s 128 rows, on every lane. -/
def dsinkSum (X : Ins F) (g : Fin 2) (j : Fin 4) : FVec F S1x128 .f32 :=
  broadcastTo S1x128 (shapeCast S1x1 (multiReduction .add [0] S1 (extractStridedSlice S128x1 ![128 * j.val, 0] (dsink X g) (band_inb j)) 0x00000000#32 reduces_S128x1_S1 (.inl rfl) rfl) shapeCasts_S1_S1x1) broadcasts_S1x1_S1x128

theorem sinkRow_inb (h : Fin 8) : ∀ a, (![h.val, 0] : Fin 2 → ℕ) a + S1x128.size a ≤ S8x128.size a := by revert h; decide

/-- `A` with `t` subtracted from row `h`. -/
def subRow (h : Fin 8) (t : FVec F S1x128 .f32) (A : Vec F S8x128 .f32) : Vec F S8x128 .f32 :=
  VecWindow.put A ![h.val, 0] S1x128.size (subf (View.ld A (Rect.unit (s := S8x128) ![h.val, 0] S1x128.size (sinkRow_inb h))) t)

/-- The sink's gradient after the point. -/
def dsStep (X : Ins F) (A : Vec F S8x128 .f32) : Vec F S8x128 .f32 :=
  subRow 7 (dsinkSum X 1 3) (subRow 6 (dsinkSum X 1 2) (subRow 5 (dsinkSum X 1 1) (subRow 4 (dsinkSum X 1 0)
    (subRow 3 (dsinkSum X 0 3) (subRow 2 (dsinkSum X 0 2) (subRow 1 (dsinkSum X 0 1) (subRow 0 (dsinkSum X 0 0) A)))))))

end Cert.KernelIdeal.Attn

end
-- ==== Proof.Attn.RunFirst.lean ====
/- What the attention's backward body does at the first point of its grid. -/
module

public import proofs.«01_k».proof.Proof.Attn.Block
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

/-- The point is the grid's first: the condition under which the body clears its accumulators. -/
abbrev first (i : grid0.Coords) : Prop := (Scalar.cmpi .ne (Scalar.extui (Scalar.cmpi .eq (BitVec.ofNat 32 (i 0).val) 0#32) : BitVec 32) 0#32) = 1#1

instance (i : grid0.Coords) : ClosedOff (k0_off1 i 0#32) := ⟨![keyRow i 0, 0], off1_eq i 0⟩
instance (i : grid0.Coords) : ClosedOff (k0_off1 i 1#32) := ⟨![keyRow i 1, 0], off1_eq i 1⟩
instance (i : grid0.Coords) : ClosedOff (k0_off1 i 2#32) := ⟨![keyRow i 2, 0], off1_eq i 2⟩

set_option maxHeartbeats 8000000 in
/-- The body of the attention's backward call at the first point, where the body first clears the three accumulators: run on whole
    staging memrefs, the inputs' at their contents, it hands the inputs' back as they were and each output's with a list of
    pieces written into it; the lists are the witness. -/
def runFirst (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32)  :
    { L : List (View.Piece (Elt F) S2x512x128 .f32) × List (View.Piece (Elt F) S8192x128 .f32) × List (View.Piece (Elt F) S8192x128 .f32) × List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ (∃ f, arg13.view.loc (c : Thread nD τ) ↦[arg13.view.set]{fullShare} arg13.view.writes (Elt F) f L.2.2.1) ∗ (∃ f, arg14.view.loc (c : Thread nD τ) ↦[arg14.view.set]{fullShare} arg14.view.writes (Elt F) f L.2.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_⟩, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    iexists _; iexact H14

end Cert.KernelIdeal.Attn

end
-- ==== Proof.Attn.RunLater.lean ====
/- What the attention's backward body does at a later point of its grid. -/
module

public import proofs.«01_k».proof.Proof.Attn.RunFirst

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

set_option maxHeartbeats 8000000 in
/-- The body of the attention's backward call at a later point, the three accumulators at what the point before left: run on whole
    staging memrefs, the inputs' at their contents, it hands the inputs' back as they were and each output's with a list of
    pieces written into it; the lists are the witness. -/
def runLater (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : ¬first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (x12 : Vec F S8192x128 .f32) (x13 : Vec F S8192x128 .f32) (x14 : Vec F S8x128 .f32) :
    { L : List (View.Piece (Elt F) S2x512x128 .f32) × List (View.Piece (Elt F) S8192x128 .f32) × List (View.Piece (Elt F) S8192x128 .f32) × List (View.Piece (Elt F) S8x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L.1) ∗ (arg12.view.loc (c : Thread nD τ) ↦[arg12.view.set]{fullShare} arg12.view.writes (Elt F) (harg12.unread x12) L.2.1) ∗ (arg13.view.loc (c : Thread nD τ) ↦[arg13.view.set]{fullShare} arg13.view.writes (Elt F) (harg13.unread x13) L.2.2.1) ∗ (arg14.view.loc (c : Thread nD τ) ↦[arg14.view.set]{fullShare} arg14.view.writes (Elt F) (harg14.unread x14) L.2.2.2)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_, ?_⟩, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexact H12
    isplitl [H13]
    · iexact H13
    iexact H14

end Cert.KernelIdeal.Attn

end
-- ==== Proof.Attn.Pieces.lean ====
/- The pieces the body writes, read back: each accumulator is the point's step of what it held. -/
module

public import proofs.«01_k».proof.Proof.Attn.RunLater

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

section Reading

variable {κ' : Kind} {sp : Space} {S : Shape} {e : EltTy}

/-- A load at a piece's own place, stated over the pieces alone, reads what those pieces leave over any contents. -/
theorem readCov_of_mem (v : View sig κ' sp S e) (f : v.ty.Contents (Elt F)) (L : List (View.Piece (Elt F) S e)) {off off' size : Fin S.rank → ℕ}
    (inb : ∀ a, off a + size a ≤ S.size a) (inb' : ∀ a, off' a + size a ≤ S.size a) (h : off = off') (hp : ∃ p ∈ L, p.1.set = (Rect.unit off size inb).set) :
    v.readCov L (Rect.unit off size inb).toLoadRect = View.ld (v.read (Elt F) (v.writes (Elt F) f L)) (Rect.unit off' size inb') := by
  subst h
  rw [← View.readAt_writes_of_cover v f L _ (fun j => ?_)]
  · rfl
  · obtain ⟨p, hp, hs⟩ := hp
    exact ⟨p, hp, by rw [hs]; exact (Rect.unit off size inb).idx_mem j⟩

/-- The same below a piece that covers everything. -/
theorem readCov_of_full (v : View sig κ' sp S e) (f : v.ty.Contents (Elt F)) (L : List (View.Piece (Elt F) S e)) {off off' size : Fin S.rank → ℕ}
    (inb : ∀ a, off a + size a ≤ S.size a) (inb' : ∀ a, off' a + size a ≤ S.size a) (h : off = off') (hp : ∃ p ∈ L, p.1.set = Finset.univ) :
    v.readCov L (Rect.unit off size inb).toLoadRect = View.ld (v.read (Elt F) (v.writes (Elt F) f L)) (Rect.unit off' size inb') := by
  subst h
  rw [← View.readAt_writes_of_cover v f L _ (fun j => ?_)]
  · rfl
  · obtain ⟨p, hp, hs⟩ := hp
    exact ⟨p, hp, by rw [hs]; exact Finset.mem_univ _⟩

/-- A plain load reads the view there. -/
theorem readAt_at (v : View sig κ' sp S e) (f : v.ty.Contents (Elt F)) {off off' size : Fin S.rank → ℕ}
    (inb : ∀ a, off a + size a ≤ S.size a) (inb' : ∀ a, off' a + size a ≤ S.size a) (h : off = off') :
    v.readAt (Elt F) (Rect.unit off size inb).toLoadRect f = View.ld (v.read (Elt F) f) (Rect.unit off' size inb') := by
  subst h; rfl

/-- A put at another place leaves what is read. -/
theorem ld_put_of_apart (x : Vec F S e) {off off' size : Fin S.rank → ℕ} (w) (inb' : ∀ a, off' a + size a ≤ S.size a) (a : Fin S.rank)
    (h : off' a + size a ≤ off a ∨ off a + size a ≤ off' a) :
    View.ld (VecWindow.put x off size w) (Rect.unit off' size inb') = View.ld x (Rect.unit off' size inb') :=
  VecWindow.window_put_of_disjoint x off size off' size inb' w a h

end Reading

/-- One store of the keys' or values' gradient: what was read there with a term added. -/
theorem add_piece {κ' : Kind} {sp : Space} (v : View sig κ' sp S8192x128 .f32) (f : v.ty.Contents (Elt F)) (L : List (View.Piece (Elt F) S8192x128 .f32)) (i : grid0.Coords) (b : Fin 3)
    {t t' B : FVec F S128x128 .f32} {A : Vec F S8192x128 .f32} {off : Fin 2 → ℕ} (inb : ∀ a, off a + S128x128.size a ≤ S8192x128.size a) {w : (Rect.unit (s := S8192x128) off S128x128.size inb).shape.Idx → Elt F .f32}
    (h : off = ![keyRow i b, 0]) (hw : w = addf (shapeCast S128x128 B shapeCasts_S128x128_S128x128) t)
    (hB : B = View.ld (v.read (Elt F) (v.writes (Elt F) f L)) (Rect.unit (s := S8192x128) ![keyRow i b, 0] S128x128.size (keyRow_inb i b))) (ht : t = t')
    (hA : v.read (Elt F) (v.writes (Elt F) f L) = A) :
    v.read (Elt F) (v.writes (Elt F) f (⟨Rect.unit off S128x128.size inb, w⟩ :: L)) = addRows i b t' A := by
  subst hA ht hw hB
  rw [View.read_writes_cons_put v f inb _ L h, shapeCast_self]
  rfl

/-- One store of the sink's gradient. -/
theorem sub_piece {κ' : Kind} {sp : Space} (v : View sig κ' sp S8x128 .f32) (f : v.ty.Contents (Elt F)) (L : List (View.Piece (Elt F) S8x128 .f32)) (r : Fin 8)
    {t t' B : FVec F S1x128 .f32} {A : Vec F S8x128 .f32} (inb : ∀ a, (![r.val, 0] : Fin 2 → ℕ) a + S1x128.size a ≤ S8x128.size a) {w : (Rect.unit (s := S8x128) ![r.val, 0] S1x128.size inb).shape.Idx → Elt F .f32}
    (hw : w = subf (shapeCast S1x128 B shapeCasts_S1x128_S1x128) t)
    (hA : v.read (Elt F) (v.writes (Elt F) f L) = A)
    (hB : B = View.ld A (Rect.unit (s := S8x128) ![r.val, 0] S1x128.size (sinkRow_inb r))) (ht : t = t') :
    v.read (Elt F) (v.writes (Elt F) f (⟨Rect.unit ![r.val, 0] S1x128.size inb, w⟩ :: L)) = subRow r t' A := by
  subst hA ht hw hB
  rw [View.read_writes_cons_put v f inb _ L rfl, shapeCast_self]
  rfl

/-- The same with the load stated over what the stores below leave. -/
theorem sub_piece' {κ' : Kind} {sp : Space} (v : View sig κ' sp S8x128 .f32) (f : v.ty.Contents (Elt F)) (L : List (View.Piece (Elt F) S8x128 .f32)) (r : Fin 8)
    {t t' B : FVec F S1x128 .f32} {A : Vec F S8x128 .f32} (inb : ∀ a, (![r.val, 0] : Fin 2 → ℕ) a + S1x128.size a ≤ S8x128.size a) {w : (Rect.unit (s := S8x128) ![r.val, 0] S1x128.size inb).shape.Idx → Elt F .f32}
    (hw : w = subf (shapeCast S1x128 B shapeCasts_S1x128_S1x128) t)
    (hB : B = View.ld (v.read (Elt F) (v.writes (Elt F) f L)) (Rect.unit (s := S8x128) ![r.val, 0] S1x128.size (sinkRow_inb r))) (ht : t = t')
    (hA : v.read (Elt F) (v.writes (Elt F) f L) = A) :
    v.read (Elt F) (v.writes (Elt F) f (⟨Rect.unit ![r.val, 0] S1x128.size inb, w⟩ :: L)) = subRow r t' A := by
  subst hA
  exact sub_piece v f L r inb hw rfl hB ht

/-- One row's subtraction leaves the others. -/
theorem ld_subRow (r r' : Fin 8) (t : FVec F S1x128 .f32) (A : Vec F S8x128 .f32) (h : r ≠ r') :
    View.ld (subRow r t A) (Rect.unit (s := S8x128) ![r'.val, 0] S1x128.size (sinkRow_inb r')) = View.ld A (Rect.unit (s := S8x128) ![r'.val, 0] S1x128.size (sinkRow_inb r')) := by
  refine ld_put_of_apart (S := S8x128) A (off := ![r.val, 0]) (off' := ![r'.val, 0]) _ _ 0 ?_
  have : r.val ≠ r'.val := fun e => h (Fin.ext e)
  show r'.val + 1 ≤ r.val ∨ r.val + 1 ≤ r'.val
  omega

/-- The two stores of the queries' gradient fill its block. -/
theorem dq_pieces {κ' : Kind} {sp : Space} (v : View sig κ' sp S2x512x128 .f32) (f : v.ty.Contents (Elt F)) (i : grid0.Coords) (X : Ins F)
    (inb0 inb1) (w0 w1) (h0 : w0 = dqOf i X 0) (h1 : w1 = dqOf i X 1) :
    v.read (Elt F) (v.writes (Elt F) f [⟨Rect.unit (s := S2x512x128) ![1, 0, 0] S1x512x128.size inb1, w1⟩, ⟨Rect.unit (s := S2x512x128) ![0, 0, 0] S1x512x128.size inb0, w0⟩]) = dqBlk i X := by
  subst h0 h1
  rw [View.read_writes_cons_put v f inb1 _ _ rfl, View.read_writes_cons_put v f inb0 _ _ rfl]
  funext y
  have b0 : (y 0).val < 2 := (y 0).isLt
  have b1 : (y 1).val < 512 := (y 1).isLt
  have b2 : (y 2).val < 128 := (y 2).isLt
  unfold dqBlk VecWindow.put
  by_cases c : (y 0).val = 1
  · rw [if_pos c, dif_pos (by intro a; fin_cases a <;> simp [S1x512x128] <;> omega)]
    refine congrArg (dqOf i X 1) (funext fun a => ?_)
    fin_cases a <;> apply Fin.ext <;> simp [Rect.unitLocal, c]
  · have c0 : (y 0).val = 0 := by omega
    rw [if_neg c, dif_neg (fun h => by have := (h 0).1; simp at this; omega), dif_pos (by intro a; fin_cases a <;> simp [S1x512x128] <;> omega)]
    refine congrArg (dqOf i X 0) (funext fun a => ?_)
    fin_cases a <;> apply Fin.ext <;> simp [Rect.unitLocal, c0]

end Cert.KernelIdeal.Attn

end
-- ==== Proof.Attn.Steps.lean ====
/- The body's results as steps of its accumulators. -/
module

public import proofs.«01_k».proof.Proof.Attn.Pieces

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

/-- The blocks a point reads, from the body's ten inputs. -/
def ins (x1 : Vec F S2x512x128 .bf16) (x2 x3 x4 x5 x6 x7 : Vec F S128x128 .bf16) (x8 : Vec F S2x512x128 .bf16) (x9 : Vec F S2x512x128 .f32) (x10 : Vec F S8 .f32) : Ins F where
  q := x1
  k b := match b with | ⟨0, _⟩ => x2 | ⟨1, _⟩ => x3 | ⟨2, _⟩ => x4
  v b := match b with | ⟨0, _⟩ => x5 | ⟨1, _⟩ => x6 | ⟨2, _⟩ => x7
  d := x8
  ld := x9
  sink := x10

theorem full_set {S : Shape} {off : Fin S.rank → ℕ} (h : off = fun _ => 0) (inb : ∀ a, off a + S.size a ≤ S.size a) : (Rect.unit off S.size inb).set = Finset.univ := by
  subst h
  ext y
  simp only [Finset.mem_univ, iff_true, Rect.mem_set_unit]
  exact fun a => ⟨Nat.zero_le _, by have := (y a).isLt; omega⟩

theorem zero2 : (![0, 0] : Fin 2 → ℕ) = fun _ => 0 := by decide
/-- A load of a whole block. -/
theorem ld_whole {e : EltTy} (x : Vec F S128x128 e) (inb) : View.ld x (Rect.unit (s := S128x128) ![0, 0] S128x128.size inb) = x :=
  View.ld_unit_zero zero2 inb x
theorem ld_whole' {e : EltTy} (x : Vec F S128x128 e) (inb) : View.ld x (Rect.unit (s := S128x128) ![0, 0] ![128, 128] inb) = x :=
  View.ld_unit_zero zero2 inb x

theorem zero3 : (![0, 0, 0] : Fin 3 → ℕ) = fun _ => 0 := by decide

set_option maxHeartbeats 4000000 in
/-- The keys' gradient after a later point. -/
theorem readLater_12 (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : ¬first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (x12 x13 : Vec F S8192x128 .f32) (x14 : Vec F S8x128 .f32) :
    arg12.view.read (Elt F) (arg12.view.writes (Elt F) (harg12.unread x12) (runLater c i arg1 harg1 arg2 harg2 arg3 harg3 arg4 harg4 arg5 harg5 arg6 harg6 arg7 harg7 arg8 harg8 arg9 harg9 arg10 harg10 arg11 harg11 arg12 harg12 arg13 harg13 arg14 harg14 hc x1 x2 x3 x4 x5 x6 x7 x8 x9 x10 x12 x13 x14).1.2.1) = dkStep i (ins x1 x2 x3 x4 x5 x6 x7 x8 x9 x10) x12 := by
  unfold dkStep
  refine add_piece _ _ _ i 2 _ (off1_eq i 2) rfl ?_ ?_ ?_
  · exact readCov_of_mem _ _ _ _ _ (off1_eq i 2) ⟨_, (List.mem_cons_of_mem _ (List.mem_cons_of_mem _ List.mem_cons_self)), rfl⟩
  rotate_left
  refine add_piece _ _ _ i 1 _ (off1_eq i 1) rfl ?_ ?_ ?_
  · exact readCov_of_mem _ _ _ _ _ (off1_eq i 1) ⟨_, (List.mem_cons_of_mem _ (List.mem_cons_of_mem _ List.mem_cons_self)), rfl⟩
  rotate_left
  refine add_piece _ _ _ i 0 _ (off1_eq i 0) rfl ?_ ?_ ?_
  · exact readCov_of_mem _ _ _ _ _ (off1_eq i 0) ⟨_, (List.mem_cons_of_mem _ (List.mem_cons_of_mem _ List.mem_cons_self)), rfl⟩
  rotate_left
  refine add_piece _ _ _ i 2 _ (off1_eq i 2) rfl ?_ ?_ ?_
  · exact readAt_at _ _ _ _ (off1_eq i 2)
  rotate_left
  refine add_piece _ _ _ i 1 _ (off1_eq i 1) rfl ?_ ?_ ?_
  · exact readAt_at _ _ _ _ (off1_eq i 1)
  rotate_left
  refine add_piece _ _ _ i 0 _ (off1_eq i 0) rfl ?_ ?_ ?_
  · exact readAt_at _ _ _ _ (off1_eq i 0)
  rotate_left
  exact harg12.read_unread _
  all_goals
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl

set_option maxHeartbeats 4000000 in
/-- The values' gradient after a later point. -/
theorem readLater_13 (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : ¬first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (x12 x13 : Vec F S8192x128 .f32) (x14 : Vec F S8x128 .f32) :
    arg13.view.read (Elt F) (arg13.view.writes (Elt F) (harg13.unread x13) (runLater c i arg1 harg1 arg2 harg2 arg3 harg3 arg4 harg4 arg5 harg5 arg6 harg6 arg7 harg7 arg8 harg8 arg9 harg9 arg10 harg10 arg11 harg11 arg12 harg12 arg13 harg13 arg14 harg14 hc x1 x2 x3 x4 x5 x6 x7 x8 x9 x10 x12 x13 x14).1.2.2.1) = dvStep i (ins x1 x2 x3 x4 x5 x6 x7 x8 x9 x10) x13 := by
  unfold dvStep
  refine add_piece _ _ _ i 2 _ (off1_eq i 2) rfl ?_ ?_ ?_
  · exact readCov_of_mem _ _ _ _ _ (off1_eq i 2) ⟨_, (List.mem_cons_of_mem _ (List.mem_cons_of_mem _ List.mem_cons_self)), rfl⟩
  rotate_left
  refine add_piece _ _ _ i 1 _ (off1_eq i 1) rfl ?_ ?_ ?_
  · exact readCov_of_mem _ _ _ _ _ (off1_eq i 1) ⟨_, (List.mem_cons_of_mem _ (List.mem_cons_of_mem _ List.mem_cons_self)), rfl⟩
  rotate_left
  refine add_piece _ _ _ i 0 _ (off1_eq i 0) rfl ?_ ?_ ?_
  · exact readCov_of_mem _ _ _ _ _ (off1_eq i 0) ⟨_, (List.mem_cons_of_mem _ (List.mem_cons_of_mem _ List.mem_cons_self)), rfl⟩
  rotate_left
  refine add_piece _ _ _ i 2 _ (off1_eq i 2) rfl ?_ ?_ ?_
  · exact readAt_at _ _ _ _ (off1_eq i 2)
  rotate_left
  refine add_piece _ _ _ i 1 _ (off1_eq i 1) rfl ?_ ?_ ?_
  · exact readAt_at _ _ _ _ (off1_eq i 1)
  rotate_left
  refine add_piece _ _ _ i 0 _ (off1_eq i 0) rfl ?_ ?_ ?_
  · exact readAt_at _ _ _ _ (off1_eq i 0)
  rotate_left
  exact harg13.read_unread _
  all_goals
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl

set_option maxHeartbeats 4000000 in
/-- The keys' gradient after the first point: a step from zero. -/
theorem readFirst_12 (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (f : arg12.view.ty.Contents (Elt F)) :
    arg12.view.read (Elt F) (arg12.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 hc x1 x2 x3 x4 x5 x6 x7 x8 x9 x10 ).1.2.1) = dkStep i (ins x1 x2 x3 x4 x5 x6 x7 x8 x9 x10) (broadcast S8192x128 (Scalar.ofBits .f32 0x00000000#32)) := by
  unfold dkStep
  refine add_piece _ _ _ i 2 _ (off1_eq i 2) rfl ?_ ?_ ?_
  · exact readCov_of_full _ _ _ _ _ (off1_eq i 2) ⟨_, (List.mem_cons_of_mem _ (List.mem_cons_of_mem _ (List.mem_cons_of_mem _ (List.mem_cons_of_mem _ (List.mem_cons_of_mem _ List.mem_cons_self))))), full_set (S := S8192x128) zero2 (by decide)⟩
  rotate_left
  refine add_piece _ _ _ i 1 _ (off1_eq i 1) rfl ?_ ?_ ?_
  · exact readCov_of_full _ _ _ _ _ (off1_eq i 1) ⟨_, (List.mem_cons_of_mem _ (List.mem_cons_of_mem _ (List.mem_cons_of_mem _ (List.mem_cons_of_mem _ List.mem_cons_self)))), full_set (S := S8192x128) zero2 (by decide)⟩
  rotate_left
  refine add_piece _ _ _ i 0 _ (off1_eq i 0) rfl ?_ ?_ ?_
  · exact readCov_of_full _ _ _ _ _ (off1_eq i 0) ⟨_, (List.mem_cons_of_mem _ (List.mem_cons_of_mem _ (List.mem_cons_of_mem _ List.mem_cons_self))), full_set (S := S8192x128) zero2 (by decide)⟩
  rotate_left
  refine add_piece _ _ _ i 2 _ (off1_eq i 2) rfl ?_ ?_ ?_
  · exact readCov_of_full _ _ _ _ _ (off1_eq i 2) ⟨_, (List.mem_cons_of_mem _ (List.mem_cons_of_mem _ List.mem_cons_self)), full_set (S := S8192x128) zero2 (by decide)⟩
  rotate_left
  refine add_piece _ _ _ i 1 _ (off1_eq i 1) rfl ?_ ?_ ?_
  · exact readCov_of_full _ _ _ _ _ (off1_eq i 1) ⟨_, (List.mem_cons_of_mem _ List.mem_cons_self), full_set (S := S8192x128) zero2 (by decide)⟩
  rotate_left
  refine add_piece _ _ _ i 0 _ (off1_eq i 0) rfl ?_ ?_ ?_
  · exact readCov_of_full _ _ _ _ _ (off1_eq i 0) ⟨_, List.mem_cons_self, full_set (S := S8192x128) zero2 (by decide)⟩
  rotate_left
  exact View.read_writes_full _ _ _ _ _
  all_goals
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl

set_option maxHeartbeats 4000000 in
/-- The values' gradient after the first point: a step from zero. -/
theorem readFirst_13 (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (f : arg13.view.ty.Contents (Elt F)) :
    arg13.view.read (Elt F) (arg13.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 hc x1 x2 x3 x4 x5 x6 x7 x8 x9 x10 ).1.2.2.1) = dvStep i (ins x1 x2 x3 x4 x5 x6 x7 x8 x9 x10) (broadcast S8192x128 (Scalar.ofBits .f32 0x00000000#32)) := by
  unfold dvStep
  refine add_piece _ _ _ i 2 _ (off1_eq i 2) rfl ?_ ?_ ?_
  · exact readCov_of_full _ _ _ _ _ (off1_eq i 2) ⟨_, (List.mem_cons_of_mem _ (List.mem_cons_of_mem _ (List.mem_cons_of_mem _ (List.mem_cons_of_mem _ (List.mem_cons_of_mem _ List.mem_cons_self))))), full_set (S := S8192x128) zero2 (by decide)⟩
  rotate_left
  refine add_piece _ _ _ i 1 _ (off1_eq i 1) rfl ?_ ?_ ?_
  · exact readCov_of_full _ _ _ _ _ (off1_eq i 1) ⟨_, (List.mem_cons_of_mem _ (List.mem_cons_of_mem _ (List.mem_cons_of_mem _ (List.mem_cons_of_mem _ List.mem_cons_self)))), full_set (S := S8192x128) zero2 (by decide)⟩
  rotate_left
  refine add_piece _ _ _ i 0 _ (off1_eq i 0) rfl ?_ ?_ ?_
  · exact readCov_of_full _ _ _ _ _ (off1_eq i 0) ⟨_, (List.mem_cons_of_mem _ (List.mem_cons_of_mem _ (List.mem_cons_of_mem _ List.mem_cons_self))), full_set (S := S8192x128) zero2 (by decide)⟩
  rotate_left
  refine add_piece _ _ _ i 2 _ (off1_eq i 2) rfl ?_ ?_ ?_
  · exact readCov_of_full _ _ _ _ _ (off1_eq i 2) ⟨_, (List.mem_cons_of_mem _ (List.mem_cons_of_mem _ List.mem_cons_self)), full_set (S := S8192x128) zero2 (by decide)⟩
  rotate_left
  refine add_piece _ _ _ i 1 _ (off1_eq i 1) rfl ?_ ?_ ?_
  · exact readCov_of_full _ _ _ _ _ (off1_eq i 1) ⟨_, (List.mem_cons_of_mem _ List.mem_cons_self), full_set (S := S8192x128) zero2 (by decide)⟩
  rotate_left
  refine add_piece _ _ _ i 0 _ (off1_eq i 0) rfl ?_ ?_ ?_
  · exact readCov_of_full _ _ _ _ _ (off1_eq i 0) ⟨_, List.mem_cons_self, full_set (S := S8192x128) zero2 (by decide)⟩
  rotate_left
  exact View.read_writes_full _ _ _ _ _
  all_goals
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl

set_option maxHeartbeats 4000000 in
/-- The sink's gradient after a later point. -/
theorem readLater_14 (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : ¬first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (x12 x13 : Vec F S8192x128 .f32) (x14 : Vec F S8x128 .f32) :
    arg14.view.read (Elt F) (arg14.view.writes (Elt F) (harg14.unread x14) (runLater c i arg1 harg1 arg2 harg2 arg3 harg3 arg4 harg4 arg5 harg5 arg6 harg6 arg7 harg7 arg8 harg8 arg9 harg9 arg10 harg10 arg11 harg11 arg12 harg12 arg13 harg13 arg14 harg14 hc x1 x2 x3 x4 x5 x6 x7 x8 x9 x10 x12 x13 x14).1.2.2.2) = dsStep (ins x1 x2 x3 x4 x5 x6 x7 x8 x9 x10) x14 := by
  unfold dsStep
  refine sub_piece _ _ _ 7 _ rfl ?_ ?_ ?_
  case refine_2 =>
    refine (readAt_at _ _ _ (sinkRow_inb 7) rfl).trans ?_
    rw [Memref.IsWhole.read_unread, ld_subRow _ _ _ _ (by decide), ld_subRow _ _ _ _ (by decide), ld_subRow _ _ _ _ (by decide), ld_subRow _ _ _ _ (by decide), ld_subRow _ _ _ _ (by decide), ld_subRow _ _ _ _ (by decide), ld_subRow _ _ _ _ (by decide)]
    rfl
  case refine_3 =>
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl
  refine sub_piece _ _ _ 6 _ rfl ?_ ?_ ?_
  case refine_2 =>
    refine (readAt_at _ _ _ (sinkRow_inb 6) rfl).trans ?_
    rw [Memref.IsWhole.read_unread, ld_subRow _ _ _ _ (by decide), ld_subRow _ _ _ _ (by decide), ld_subRow _ _ _ _ (by decide), ld_subRow _ _ _ _ (by decide), ld_subRow _ _ _ _ (by decide), ld_subRow _ _ _ _ (by decide)]
    rfl
  case refine_3 =>
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl
  refine sub_piece _ _ _ 5 _ rfl ?_ ?_ ?_
  case refine_2 =>
    refine (readAt_at _ _ _ (sinkRow_inb 5) rfl).trans ?_
    rw [Memref.IsWhole.read_unread, ld_subRow _ _ _ _ (by decide), ld_subRow _ _ _ _ (by decide), ld_subRow _ _ _ _ (by decide), ld_subRow _ _ _ _ (by decide), ld_subRow _ _ _ _ (by decide)]
    rfl
  case refine_3 =>
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl
  refine sub_piece _ _ _ 4 _ rfl ?_ ?_ ?_
  case refine_2 =>
    refine (readAt_at _ _ _ (sinkRow_inb 4) rfl).trans ?_
    rw [Memref.IsWhole.read_unread, ld_subRow _ _ _ _ (by decide), ld_subRow _ _ _ _ (by decide), ld_subRow _ _ _ _ (by decide), ld_subRow _ _ _ _ (by decide)]
    rfl
  case refine_3 =>
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl
  refine sub_piece _ _ _ 3 _ rfl ?_ ?_ ?_
  case refine_2 =>
    refine (readAt_at _ _ _ (sinkRow_inb 3) rfl).trans ?_
    rw [Memref.IsWhole.read_unread, ld_subRow _ _ _ _ (by decide), ld_subRow _ _ _ _ (by decide), ld_subRow _ _ _ _ (by decide)]
    rfl
  case refine_3 =>
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl
  refine sub_piece _ _ _ 2 _ rfl ?_ ?_ ?_
  case refine_2 =>
    refine (readAt_at _ _ _ (sinkRow_inb 2) rfl).trans ?_
    rw [Memref.IsWhole.read_unread, ld_subRow _ _ _ _ (by decide), ld_subRow _ _ _ _ (by decide)]
    rfl
  case refine_3 =>
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl
  refine sub_piece _ _ _ 1 _ rfl ?_ ?_ ?_
  case refine_2 =>
    refine (readAt_at _ _ _ (sinkRow_inb 1) rfl).trans ?_
    rw [Memref.IsWhole.read_unread, ld_subRow _ _ _ _ (by decide)]
    rfl
  case refine_3 =>
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl
  refine sub_piece _ _ _ 0 _ rfl ?_ ?_ ?_
  case refine_2 =>
    refine (readAt_at _ _ _ (sinkRow_inb 0) rfl).trans ?_
    rw [Memref.IsWhole.read_unread]
    rfl
  case refine_3 =>
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl
  exact harg14.read_unread _

set_option maxHeartbeats 4000000 in
/-- The queries' gradient after a later point. -/
theorem readLater_11 (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : ¬first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (x12 x13 : Vec F S8192x128 .f32) (x14 : Vec F S8x128 .f32) (f : arg11.view.ty.Contents (Elt F)) :
    arg11.view.read (Elt F) (arg11.view.writes (Elt F) f (runLater c i arg1 harg1 arg2 harg2 arg3 harg3 arg4 harg4 arg5 harg5 arg6 harg6 arg7 harg7 arg8 harg8 arg9 harg9 arg10 harg10 arg11 harg11 arg12 harg12 arg13 harg13 arg14 harg14 hc x1 x2 x3 x4 x5 x6 x7 x8 x9 x10 x12 x13 x14).1.1) = dqBlk i (ins x1 x2 x3 x4 x5 x6 x7 x8 x9 x10) := by
  refine dq_pieces _ _ _ _ _ _ _ _ ?_ ?_
  rotate_left
  rotate_left
  all_goals
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl

set_option maxHeartbeats 4000000 in
/-- The sink's gradient after the first point: a step from zero. -/
theorem readFirst_14 (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (f : arg14.view.ty.Contents (Elt F)) :
    arg14.view.read (Elt F) (arg14.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 hc x1 x2 x3 x4 x5 x6 x7 x8 x9 x10 ).1.2.2.2) = dsStep (ins x1 x2 x3 x4 x5 x6 x7 x8 x9 x10) (broadcast S8x128 (Scalar.ofBits .f32 0x00000000#32)) := by
  unfold dsStep
  refine sub_piece' _ _ _ 7 _ rfl ?_ ?_ ?_
  · exact readCov_of_full _ _ _ _ _ rfl ⟨_, (List.mem_cons_of_mem _ (List.mem_cons_of_mem _ (List.mem_cons_of_mem _ (List.mem_cons_of_mem _ (List.mem_cons_of_mem _ (List.mem_cons_of_mem _ (List.mem_cons_of_mem _ List.mem_cons_self))))))), full_set (S := S8x128) zero2 (by decide)⟩
  rotate_left
  refine sub_piece' _ _ _ 6 _ rfl ?_ ?_ ?_
  · exact readCov_of_full _ _ _ _ _ rfl ⟨_, (List.mem_cons_of_mem _ (List.mem_cons_of_mem _ (List.mem_cons_of_mem _ (List.mem_cons_of_mem _ (List.mem_cons_of_mem _ (List.mem_cons_of_mem _ List.mem_cons_self)))))), full_set (S := S8x128) zero2 (by decide)⟩
  rotate_left
  refine sub_piece' _ _ _ 5 _ rfl ?_ ?_ ?_
  · exact readCov_of_full _ _ _ _ _ rfl ⟨_, (List.mem_cons_of_mem _ (List.mem_cons_of_mem _ (List.mem_cons_of_mem _ (List.mem_cons_of_mem _ (List.mem_cons_of_mem _ List.mem_cons_self))))), full_set (S := S8x128) zero2 (by decide)⟩
  rotate_left
  refine sub_piece' _ _ _ 4 _ rfl ?_ ?_ ?_
  · exact readCov_of_full _ _ _ _ _ rfl ⟨_, (List.mem_cons_of_mem _ (List.mem_cons_of_mem _ (List.mem_cons_of_mem _ (List.mem_cons_of_mem _ List.mem_cons_self)))), full_set (S := S8x128) zero2 (by decide)⟩
  rotate_left
  refine sub_piece' _ _ _ 3 _ rfl ?_ ?_ ?_
  · exact readCov_of_full _ _ _ _ _ rfl ⟨_, (List.mem_cons_of_mem _ (List.mem_cons_of_mem _ (List.mem_cons_of_mem _ List.mem_cons_self))), full_set (S := S8x128) zero2 (by decide)⟩
  rotate_left
  refine sub_piece' _ _ _ 2 _ rfl ?_ ?_ ?_
  · exact readCov_of_full _ _ _ _ _ rfl ⟨_, (List.mem_cons_of_mem _ (List.mem_cons_of_mem _ List.mem_cons_self)), full_set (S := S8x128) zero2 (by decide)⟩
  rotate_left
  refine sub_piece' _ _ _ 1 _ rfl ?_ ?_ ?_
  · exact readCov_of_full _ _ _ _ _ rfl ⟨_, (List.mem_cons_of_mem _ List.mem_cons_self), full_set (S := S8x128) zero2 (by decide)⟩
  rotate_left
  refine sub_piece' _ _ _ 0 _ rfl ?_ ?_ ?_
  · exact readCov_of_full _ _ _ _ _ rfl ⟨_, List.mem_cons_self, full_set (S := S8x128) zero2 (by decide)⟩
  rotate_left
  exact View.read_writes_full _ _ _ _ _
  all_goals
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl

set_option maxHeartbeats 4000000 in
/-- The queries' gradient after the first point. -/
theorem readFirst_11 (c : Dev nD) (i : grid0.Coords) (arg1 : Memref sig .tc .vmem S2x512x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S2x512x128 .bf16) (harg8 : arg8.IsWhole) (arg9 : Memref sig .tc .vmem S2x512x128 .f32) (harg9 : arg9.IsWhole) (arg10 : Memref sig .tc .smem S8 .f32) (harg10 : arg10.IsWhole) (arg11 : Memref sig .tc .vmem S2x512x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S8x128 .f32) (harg14 : arg14.IsWhole) (hc : first i)
    (x1 : Vec F S2x512x128 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S2x512x128 .bf16) (x9 : Vec F S2x512x128 .f32) (x10 : Vec F S8 .f32) (f : arg11.view.ty.Contents (Elt F)) :
    arg11.view.read (Elt F) (arg11.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 hc x1 x2 x3 x4 x5 x6 x7 x8 x9 x10 ).1.1) = dqBlk i (ins x1 x2 x3 x4 x5 x6 x7 x8 x9 x10) := by
  refine dq_pieces _ _ _ _ _ _ _ _ ?_ ?_
  rotate_left
  rotate_left
  all_goals
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, View.readAt_eq_ld, Memref.IsWhole.read_unread, ld_whole, ld_whole', shapeCast_self]
    rfl

end Cert.KernelIdeal.Attn

end
-- ==== Proof.Attn.Frame.lean ====
/- The run of the attention's backward kernel: what its arrays hold point by point, and that it ends with its arguments unchanged. -/
module

public import proofs.«01_k».proof.Proof.Attn.Steps
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section
variable (c : Dev nD) (t : Fin cfg0.N)

abbrev ms_0 : Memref sig .tc .vmem S2x512x128 .bf16 := win0_0.stage (cfg0.slots t 0)
abbrev hs_0 : (ms_0 t).IsWhole := hstage0_0 ((cfg0.slots t 0).cast nbuf0_0)
abbrev ms_1 : Memref sig .tc .vmem S128x128 .bf16 := win0_1.stage (cfg0.slots t 1)
abbrev hs_1 : (ms_1 t).IsWhole := hstage0_1 ((cfg0.slots t 1).cast nbuf0_1)
abbrev ms_2 : Memref sig .tc .vmem S128x128 .bf16 := win0_2.stage (cfg0.slots t 2)
abbrev hs_2 : (ms_2 t).IsWhole := hstage0_2 ((cfg0.slots t 2).cast nbuf0_2)
abbrev ms_3 : Memref sig .tc .vmem S128x128 .bf16 := win0_3.stage (cfg0.slots t 3)
abbrev hs_3 : (ms_3 t).IsWhole := hstage0_3 ((cfg0.slots t 3).cast nbuf0_3)
abbrev ms_4 : Memref sig .tc .vmem S128x128 .bf16 := win0_4.stage (cfg0.slots t 4)
abbrev hs_4 : (ms_4 t).IsWhole := hstage0_4 ((cfg0.slots t 4).cast nbuf0_4)
abbrev ms_5 : Memref sig .tc .vmem S128x128 .bf16 := win0_5.stage (cfg0.slots t 5)
abbrev hs_5 : (ms_5 t).IsWhole := hstage0_5 ((cfg0.slots t 5).cast nbuf0_5)
abbrev ms_6 : Memref sig .tc .vmem S128x128 .bf16 := win0_6.stage (cfg0.slots t 6)
abbrev hs_6 : (ms_6 t).IsWhole := hstage0_6 ((cfg0.slots t 6).cast nbuf0_6)
abbrev ms_7 : Memref sig .tc .vmem S2x512x128 .bf16 := win0_7.stage (cfg0.slots t 7)
abbrev hs_7 : (ms_7 t).IsWhole := hstage0_7 ((cfg0.slots t 7).cast nbuf0_7)
abbrev ms_8 : Memref sig .tc .vmem S2x512x128 .f32 := win0_8.stage (cfg0.slots t 8)
abbrev hs_8 : (ms_8 t).IsWhole := hstage0_8 ((cfg0.slots t 8).cast nbuf0_8)
abbrev ms_9 : Memref sig .tc .smem S8 .f32 := win0_9.stage (cfg0.slots t 9)
abbrev hs_9 : (ms_9 t).IsWhole := hstage0_9 ((cfg0.slots t 9).cast nbuf0_9)
abbrev ms_10 : Memref sig .tc .vmem S2x512x128 .f32 := win0_10.stage (cfg0.slots t 10)
abbrev hs_10 : (ms_10 t).IsWhole := hstage0_10 ((cfg0.slots t 10).cast nbuf0_10)
abbrev ms_11 : Memref sig .tc .vmem S8192x128 .f32 := win0_11.stage (cfg0.slots t 11)
abbrev hs_11 : (ms_11 t).IsWhole := hstage0_11 ((cfg0.slots t 11).cast nbuf0_11)
abbrev ms_12 : Memref sig .tc .vmem S8192x128 .f32 := win0_12.stage (cfg0.slots t 12)
abbrev hs_12 : (ms_12 t).IsWhole := hstage0_12 ((cfg0.slots t 12).cast nbuf0_12)
abbrev ms_13 : Memref sig .tc .vmem S8x128 .f32 := win0_13.stage (cfg0.slots t 13)
abbrev hs_13 : (ms_13 t).IsWhole := hstage0_13 ((cfg0.slots t 13).cast nbuf0_13)

/-- The body clears its accumulators at the grid's first point alone. -/
theorem first_iff : ∀ t : Fin cfg0.N, first (grid0.coords t) ↔ t.val = 0 := fun t => by
  have ht : t.val < 64 := lt_of_lt_of_eq t.isLt (show cfg0.N = 64 from N_0)
  have e0 : (grid0.coords t 0).val = t.val / 1 % 64 := Pipeline.Grid.coords_val t 0 (by decide) rfl
  simp only [first, e0]
  word_cmp

/-- The blocks point `t` reads. -/
def insAt : Ins F :=
  ins (iblk m c 0 t) (iblk m c 1 t) (iblk m c 2 t) (iblk m c 3 t) (iblk m c 4 t) (iblk m c 5 t) (iblk m c 6 t) (iblk m c 7 t) (iblk m c 8 t) (iblk m c 9 t)

/-- The keys' gradient after the first `n + 1` points, -/
def dkAt (c : Dev nD) : (n : ℕ) → n < cfg0.N → Vec F S8192x128 .f32
  | 0, hn => dkStep (grid0.coords ⟨0, hn⟩) (insAt m c ⟨0, hn⟩) (broadcast S8192x128 (Scalar.ofBits .f32 0x00000000#32))
  | n + 1, hn => dkStep (grid0.coords ⟨n + 1, hn⟩) (insAt m c ⟨n + 1, hn⟩) (dkAt c n (Nat.lt_of_succ_lt hn))
/-- the values' -/
def dvAt (c : Dev nD) : (n : ℕ) → n < cfg0.N → Vec F S8192x128 .f32
  | 0, hn => dvStep (grid0.coords ⟨0, hn⟩) (insAt m c ⟨0, hn⟩) (broadcast S8192x128 (Scalar.ofBits .f32 0x00000000#32))
  | n + 1, hn => dvStep (grid0.coords ⟨n + 1, hn⟩) (insAt m c ⟨n + 1, hn⟩) (dvAt c n (Nat.lt_of_succ_lt hn))
/-- and the sink's. -/
def dsAt (c : Dev nD) : (n : ℕ) → n < cfg0.N → Vec F S8x128 .f32
  | 0, hn => dsStep (insAt m c ⟨0, hn⟩) (broadcast S8x128 (Scalar.ofBits .f32 0x00000000#32))
  | n + 1, hn => dsStep (insAt m c ⟨n + 1, hn⟩) (dsAt c n (Nat.lt_of_succ_lt hn))

theorem dkAt_first (h : t.val = 0) :
    dkAt m c t.val t.isLt = dkStep (grid0.coords t) (insAt m c t) (broadcast S8192x128 (Scalar.ofBits .f32 0x00000000#32)) := by
  obtain ⟨n, hn⟩ := t
  subst h; rfl
theorem dkAt_later (h : t.val ≠ 0) :
    dkAt m c t.val t.isLt = dkStep (grid0.coords t) (insAt m c t) (dkAt m c (t.val - 1) (Nat.lt_of_le_of_lt (Nat.sub_le _ _) t.isLt)) := by
  obtain ⟨n, hn⟩ := t
  cases n with
  | zero => exact absurd rfl h
  | succ n => rfl

theorem dvAt_first (h : t.val = 0) :
    dvAt m c t.val t.isLt = dvStep (grid0.coords t) (insAt m c t) (broadcast S8192x128 (Scalar.ofBits .f32 0x00000000#32)) := by
  obtain ⟨n, hn⟩ := t
  subst h; rfl
theorem dvAt_later (h : t.val ≠ 0) :
    dvAt m c t.val t.isLt = dvStep (grid0.coords t) (insAt m c t) (dvAt m c (t.val - 1) (Nat.lt_of_le_of_lt (Nat.sub_le _ _) t.isLt)) := by
  obtain ⟨n, hn⟩ := t
  cases n with
  | zero => exact absurd rfl h
  | succ n => rfl

theorem dsAt_first (h : t.val = 0) :
    dsAt m c t.val t.isLt = dsStep (insAt m c t) (broadcast S8x128 (Scalar.ofBits .f32 0x00000000#32)) := by
  obtain ⟨n, hn⟩ := t
  subst h; rfl
theorem dsAt_later (h : t.val ≠ 0) :
    dsAt m c t.val t.isLt = dsStep (insAt m c t) (dsAt m c (t.val - 1) (Nat.lt_of_le_of_lt (Nat.sub_le _ _) t.isLt)) := by
  obtain ⟨n, hn⟩ := t
  cases n with
  | zero => exact absurd rfl h
  | succ n => rfl

/-- The pipeline's proof data: the arrays as the call finds them; after the body at point `t` each input's buffer at its block,
    the queries' gradient at the point's block, each accumulator at its fold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dqBlk (grid0.coords t) (insAt m c t)
    | ⟨11, _⟩ => dkAt m c t.val t.isLt
    | ⟨12, _⟩ => dvAt m c t.val t.isLt
    | ⟨13, _⟩ => dsAt m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = dqBlk (grid0.coords t) (insAt m c t) := by dsimp only [dats]
theorem after_11 : (dats m 0 c).after 11 t = dkAt m c t.val t.isLt := by dsimp only [dats]
theorem after_12 : (dats m 0 c).after 12 t = dvAt m c t.val t.isLt := by dsimp only [dats]
theorem after_13 : (dats m 0 c).after 13 t = dsAt m c t.val t.isLt := by dsimp only [dats]
theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d

/-- Accumulator dk before a later point is what the point before left. -/
theorem before_11 (h : t.val ≠ 0) (d) :
    (dats m 0 c).before 11 t d = dkAt m c (t.val - 1) (Nat.lt_of_le_of_lt (Nat.sub_le _ _) t.isLt) := by
  refine (Dat.before_out_kept (dats m 0 c) 11 rfl t h ?_ (fun _ => rfl) (fun _ _ => rfl) d).trans (after_11 m c _)
  have ht : t.val < 64 := lt_of_lt_of_eq t.isLt (show cfg0.N = 64 from N_0)
  refine Bool.eq_false_iff.mpr fun hf => ?_
  have := (flush0_11 _).mp hf
  dsimp only at this
  omega

/-- Accumulator dv before a later point is what the point before left. -/
theorem before_12 (h : t.val ≠ 0) (d) :
    (dats m 0 c).before 12 t d = dvAt m c (t.val - 1) (Nat.lt_of_le_of_lt (Nat.sub_le _ _) t.isLt) := by
  refine (Dat.before_out_kept (dats m 0 c) 12 rfl t h ?_ (fun _ => rfl) (fun _ _ => rfl) d).trans (after_12 m c _)
  have ht : t.val < 64 := lt_of_lt_of_eq t.isLt (show cfg0.N = 64 from N_0)
  refine Bool.eq_false_iff.mpr fun hf => ?_
  have := (flush0_12 _).mp hf
  dsimp only at this
  omega

/-- Accumulator ds before a later point is what the point before left. -/
theorem before_13 (h : t.val ≠ 0) (d) :
    (dats m 0 c).before 13 t d = dsAt m c (t.val - 1) (Nat.lt_of_le_of_lt (Nat.sub_le _ _) t.isLt) := by
  refine (Dat.before_out_kept (dats m 0 c) 13 rfl t h ?_ (fun _ => rfl) (fun _ _ => rfl) d).trans (after_13 m c _)
  have ht : t.val < 64 := lt_of_lt_of_eq t.isLt (show cfg0.N = 64 from N_0)
  refine Bool.eq_false_iff.mpr fun hf => ?_
  have := (flush0_13 _).mp hf
  dsimp only at this
  omega

/-- What the body is called with at point `t`, -/
def bodyPre : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d)))

/-- and what it returns. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- What the body leaves in a window is what the data say. -/
theorem leaves (w : Fin cfg0.W) : (dats m 0 c).leavesExact w t = owns (c : Thread nD τ) ((cfg0.win w).stage (cfg0.slots t w)) fullShare ((dats m 0 c).after w t) := rfl

set_option maxHeartbeats 4800000 in
/-- The body at any point, from what the pipeline hands it to what it must give back. -/
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = (dats m 0 c).Φ t.castSucc from rfl]
  simp only [leaves, after_0, after_1, after_2, after_3, after_4, after_5, after_6, after_7, after_8, after_9, after_10, after_11, after_12, after_13]
  by_cases h : t.val = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runFirst c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) ((first_iff t).mpr h) (iblk m c 0 t) (iblk m c 1 t) (iblk m c 2 t) (iblk m c 3 t) (iblk m c 4 t) (iblk m c 5 t) (iblk m c 6 t) (iblk m c 7 t) (iblk m c 8 t) (iblk m c 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact readFirst_11 c ..
    isplitl [H11]
    · unfold owns; iexists _; isplitr
      swap; · iexact H11
      ipureintro; exact (readFirst_12 c ..).trans (dkAt_first m c t h).symm
    isplitl [H12]
    · unfold owns; iexists _; isplitr
      swap; · iexact H12
      ipureintro; exact (readFirst_13 c ..).trans (dvAt_first m c t h).symm
    unfold owns; iexists _; isplitr
    swap; · iexact H13
    ipureintro; exact (readFirst_14 c ..).trans (dsAt_first m c t h).symm
  · simp only [before_11 m c t h, before_12 m c t h, before_13 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runLater c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (fun hf => h ((first_iff t).mp hf)) (iblk m c 0 t) (iblk m c 1 t) (iblk m c 2 t) (iblk m c 3 t) (iblk m c 4 t) (iblk m c 5 t) (iblk m c 6 t) (iblk m c 7 t) (iblk m c 8 t) (iblk m c 9 t) (dkAt m c (t.val - 1) (Nat.lt_of_le_of_lt (Nat.sub_le _ _) t.isLt)) (dvAt m c (t.val - 1) (Nat.lt_of_le_of_lt (Nat.sub_le _ _) t.isLt)) (dsAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    iintro ⟨H0, H1, H2, H3, H4, H5, H6, H7, H8, H9, ⟨%e10, H10⟩, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact readLater_11 c ..
    isplitl [H11]
    · unfold owns; iexists _; isplitr
      swap; · iexact H11
      ipureintro; exact (readLater_12 c ..).trans (dkAt_later m c t h).symm
    isplitl [H12]
    · unfold owns; iexists _; isplitr
      swap; · iexact H12
      ipureintro; exact (readLater_13 c ..).trans (dvAt_later m c t h).symm
    unfold owns; iexists _; isplitr
    swap; · iexact H13
    ipureintro; exact (readLater_14 c ..).trans (dsAt_later m c t h).symm

end

theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The program's run: every array the call stages ends at its fold, every other at what the host operations after the call leave,
    every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared cfgs (dats m) 0 launch₀0 defs₀ Variants.none m ρ main
    (fun c => (body_obligation m c).loose) (fun _ _ _ => rfl) (fun _ _ => rfl) (V0 m) [hostOps1] sfx_sub sfx_fresh sfx_keeps
    (hmain m Variants.none) (fun c w => A_eq m c w) (fun _ _ => rfl) _ (fun _ h => h)

/-- The program ends, nothing faults, its arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Attn.Claims.lean ====
/- The claims about the attention's backward call that need no arithmetic: its frames, and the named mask. -/
module

public import proofs.«01_k».proof.Defs
public import proofs.«01_k».proof.Proof.Attn.Frame
public import proofs.«01_k».proof.Proof.AttnK.Frame
public import proofs.«01_k».proof.Proof.Gen.ReferenceIdeal.Run
public import proofs.«01_k».proof.Proof.Gen.Pre_finite

@[expose] public section

noncomputable section

namespace Cert.Attn

open Idealize.ShloMosaic Idealize.SL.Sem

theorem frame_kernel : quiescent_Kernel := fun m ρ _ => Kernel.Attn.frame_any m ρ

theorem frame_kernel_ideal : quiescent_KernelIdeal := fun m ρ _ => KernelIdeal.Attn.frame_any m ρ

theorem frame_kernel_ideal_finite : quiescent_KernelIdeal_pre_finite := fun m ρ _ => KernelIdeal.Attn.frame_any m ρ

theorem frame_reference : quiescent_ReferenceIdeal := fun m ρ _ =>
  (θ_run ReferenceIdeal.defs _ _).mono (fun r h => ⟨fun c => (h c).2.2.2.2, sem_eq_zero_of_no_sems (by decide) r.2⟩) (ReferenceIdeal.Value.run (F := Ideal) m ρ)

theorem frame_reference_finite : quiescent_ReferenceIdeal_pre_finite := fun m ρ _ => frame_reference m ρ trivial

theorem mask_named : Cert.preserves_Kernel_KernelIdeal := IdealRules.named_const.statement KernelIdeal.κ "mask" .f32 0xF149F2CA#32 ⊥ rfl

end Cert.Attn

end
-- ==== Proof.Attn.BodyAt.lean ====
/- What one point of the kernel computes, entry by entry, over the extended reals. -/
module

public import proofs.«01_k».proof.Proof.Attn.Block
public import proofs.«01_k».proof.Proof.Attn.Real
public import Idealize.ShloMosaic.Lib.Pointwise
public import Idealize.ShloMosaic.Lib.WordCmp

@[expose] public section

set_option maxRecDepth 16384

noncomputable section

namespace Cert.KernelIdeal.Attn

open Idealize.ShloMosaic Cert.Attn Cert.KernelIdeal.Gen

theorem rowsOf_at {e : EltTy} (x : Vec Ideal S2x512x128 e) (g : Fin 2) (r : Fin 512) (l : Fin 128) : rowsOf x g (ix2 r l) = x (ix3 g r l) := by
  unfold rowsOf slab
  pointwise

theorem mulNT_at (x : FVec Ideal S512x128 .bf16) (y : FVec Ideal S128x128 .bf16) (r : Fin 512) (c : Fin 128) :
    mulNT x y (ix2 r c) = ∑ l : Fin 128, x (ix2 r l) * y (ix2 c l) := by
  unfold mulNT
  pointwise

theorem mulNN_at (x : FVec Ideal S512x128 .bf16) (y : FVec Ideal S128x128 .bf16) (r : Fin 512) (c : Fin 128) :
    mulNN x y (ix2 r c) = ∑ l : Fin 128, x (ix2 r l) * y (ix2 l c) := by
  unfold mulNN
  pointwise

theorem mulTN_at (x : FVec Ideal S512x128 .bf16) (y : FVec Ideal S512x128 .bf16) (r : Fin 128) (c : Fin 128) :
    mulTN x y (ix2 r c) = ∑ l : Fin 512, x (ix2 l r) * y (ix2 l c) := by
  unfold mulTN
  pointwise

theorem lse_at (x : Vec Ideal S2x512x128 .f32) (g : Fin 2) (r : Fin 512) (o : Fin 1) : lse x g (ix2 r o) = x (ix3 g r 0) := by
  unfold lse
  pointwise
  exact rowsOf_at x g r 0

theorem dsum_at (x : Vec Ideal S2x512x128 .f32) (g : Fin 2) (r : Fin 512) (o : Fin 1) : dsum x g (ix2 r o) = x (ix3 g r 64) := by
  unfold dsum
  pointwise
  exact rowsOf_at x g r 64

theorem probs_at (i : grid0.Coords) (X : Ins Ideal) (g : Fin 2) (b : Fin 3) (r : Fin 512) (c : Fin 128) :
    probs i X g b (ix2 r c) = Ideal.exp (scores i X g b (ix2 r c) - lse X.ld g (ix2 r 0)) := by
  unfold probs
  pointwise

theorem dscores_at (i : grid0.Coords) (X : Ins Ideal) (g : Fin 2) (b : Fin 3) (r : Fin 512) (c : Fin 128) :
    dscores i X g b (ix2 r c) = probs i X g b (ix2 r c) * (mulNT (F := Ideal) (rowsOf X.d g) (X.v b) (ix2 r c) - dsum (F := Ideal) X.ld g (ix2 r 0)) := by
  unfold dscores
  pointwise

theorem dqSum_at (i : grid0.Coords) (X : Ins Ideal) (g : Fin 2) (r : Fin 512) (c : Fin 128) :
    dqSum i X g (ix2 r c) = mulNN (dscores i X g 0) (X.k 0) (ix2 r c) + mulNN (dscores i X g 1) (X.k 1) (ix2 r c) + mulNN (dscores i X g 2) (X.k 2) (ix2 r c) := by
  unfold dqSum
  pointwise

theorem pay5_at : ∀ (r : Fin 512) (c : Fin 128), k0_pay5 (ix2 r c) = BitVec.ofNat 32 (r.val % 128) := by
  intro r c
  unfold k0_pay5
  pointwise
  revert r
  decide +kernel

theorem pay6_at (i : grid0.Coords) (r : Fin 512) (c : Fin 128) : k0_pay6 i (ix2 r c) = if r.val % 128 ≤ c.val ∧ 0 < (i 0).val then 1#1 else 0#1 := by
  have hn : (i 0).val < 64 := (i 0).isLt
  have hc := c.isLt
  unfold k0_pay6
  pointwise
  rw [pay5_at]
  simp (disch := word_cmp_side) only [hlo_ix]
  generalize (i 0).val = n at *
  generalize r.val % 128 = a
  by_cases h1 : a ≤ c.val <;> by_cases h2 : 0 < n <;> simp [h1, h2]

theorem pay7_at (i : grid0.Coords) (r : Fin 512) (c : Fin 128) : k0_pay7 i (ix2 r c) = if c.val ≤ r.val % 128 ∧ (i 0).val < 63 then 1#1 else 0#1 := by
  have hn : (i 0).val < 64 := (i 0).isLt
  have hc := c.isLt
  unfold k0_pay7
  pointwise
  rw [pay5_at]
  simp (disch := word_cmp_side) only [hlo_ix]
  generalize (i 0).val = n at *
  generalize r.val % 128 = a
  by_cases h1 : c.val ≤ a <;> by_cases h2 : n < 63 <;> simp [h1, h2]

theorem half_at (g : Fin 2) (r : Fin 512) (l : Fin 128) : half g (ix2 r l) = if l.val / 64 = g.val then 1#1 else 0#1 := by
  have e : g = 0 ∨ g = 1 := by omega
  rcases e with rfl | rfl
  · unfold half
    pointwise
    revert l
    decide +kernel
  · unfold half
    pointwise
    revert l
    decide +kernel

theorem dqOf_at (i : grid0.Coords) (X : Ins Ideal) (g : Fin 2) (r : Fin 512) (c : Fin 128) :
    dqOf i X g (ix3 0 r c) = Scalar.select (half g (ix2 r c)) (dqSum i X g (ix2 r c)) 0 := by
  unfold dqOf
  pointwise

theorem dqBlk_at (i : grid0.Coords) (X : Ins Ideal) (g : Fin 2) (r : Fin 512) (c : Fin 128) :
    dqBlk i X (ix3 g r c) = dqOf i X g (ix3 0 r c) := by
  have e : g = 0 ∨ g = 1 := by omega
  rcases e with rfl | rfl
  · exact (if_neg (show ¬(0 : ℕ) = 1 by decide)).trans (congrArg (dqOf i X 0) (by funext x; match x with | ⟨0, _⟩ => rfl | ⟨1, _⟩ => rfl | ⟨2, _⟩ => rfl))
  · exact (if_pos rfl).trans (congrArg (dqOf i X 1) (by funext x; match x with | ⟨0, _⟩ => rfl | ⟨1, _⟩ => rfl | ⟨2, _⟩ => rfl))

theorem sinkAt_at (x : Vec Ideal S8 .f32) (h : Fin 8) : sinkAt x h = x (ix1 h) := by
  unfold sinkAt
  pointwise

theorem band_word : ∀ r : Fin 512, k0_pay29 (ix2 r 0) = BitVec.ofNat 32 (r.val / 128) := by
  intro r
  unfold k0_pay29
  pointwise
  revert r
  decide +kernel

theorem sinkCol_at (x : Vec Ideal S8 .f32) (g : Fin 2) (r : Fin 512) : sinkCol x g (ix2 r 0) = x (ix1 (hd g ⟨r.val / 128, by omega⟩)) := by
  have hr := r.isLt
  rw [← sinkAt_at x]
  unfold sinkCol
  pointwise
  rw [band_word]
  have h4 : r.val / 128 = 0 ∨ r.val / 128 = 1 ∨ r.val / 128 = 2 ∨ r.val / 128 = 3 := by omega
  rcases h4 with h | h | h | h
  all_goals
    simp only [h]
    exact congrArg (sinkAt x) (Fin.ext (by simp only [hd]; omega))

theorem dsink_at (X : Ins Ideal) (g : Fin 2) (r : Fin 512) :
    dsink X g (ix2 r 0) = Ideal.exp (sinkCol X.sink g (ix2 r 0) - lse X.ld g (ix2 r 0)) * dsum X.ld g (ix2 r 0) := by
  unfold dsink
  pointwise

theorem dsinkSum_at (X : Ins Ideal) (g : Fin 2) (j : Fin 4) (l : Fin 128) :
    dsinkSum X g j (ix2 0 l) = ∑ a : Fin 128, dsink X g (ix2 ⟨128 * j.val + a.val, by omega⟩ 0) := by
  unfold dsinkSum
  pointwise

theorem dkTerm_at (i : grid0.Coords) (X : Ins Ideal) (g : Fin 2) (b : Fin 3) (c l : Fin 128) :
    dkTerm i X g b (ix2 c l) = ∑ r : Fin 512, dscores i X g b (ix2 r c) * X.q (ix3 g r l) := by
  unfold dkTerm
  rw [mulTN_at]
  simp only [rowsOf_at]

theorem dvTerm_at (i : grid0.Coords) (X : Ins Ideal) (g : Fin 2) (b : Fin 3) (c l : Fin 128) :
    dvTerm i X g b (ix2 c l) = ∑ r : Fin 512, probs i X g b (ix2 r c) * X.d (ix3 g r l) := by
  unfold dvTerm
  rw [mulTN_at]
  simp only [rowsOf_at]
  rfl

theorem addRows_at (i : grid0.Coords) (b : Fin 3) (t : FVec Ideal S128x128 .f32) (A : Vec Ideal S8192x128 .f32) (J : Fin 64) (c l : Fin 128) :
    addRows i b t A (ix2 (row J c) l) = (A (ix2 (row J c) l) + if nbr (i 0) b = J then t (ix2 c l) else 0 : EReal) := by
  have hn : (i 0).val < 64 := (i 0).isLt
  have hc := c.isLt
  have hl := l.isLt
  have hJ := J.isLt
  unfold addRows VecWindow.put
  by_cases h : nbr (i 0) b = J
  · have hJ' : J.val = min 63 ((i 0).val + b.val - 1) := by rw [← h]; rfl
    have hw : ∀ a, (![keyRow i b, 0] : Fin 2 → ℕ) a ≤ ((ix2 (row J c) l : S8192x128.Idx) a).val ∧ ((ix2 (row J c) l : S8192x128.Idx) a).val < (![keyRow i b, 0] : Fin 2 → ℕ) a + S128x128.size a := by
      intro a
      match a with
      | ⟨0, _⟩ => show keyRow i b ≤ J.val * 128 + c.val ∧ J.val * 128 + c.val < keyRow i b + 128; unfold keyRow; omega
      | ⟨1, _⟩ => show 0 ≤ l.val ∧ l.val < 0 + 128; omega
    rw [dif_pos hw, if_pos h]
    have e : Rect.unitLocal (s := S8192x128) (off := ![keyRow i b, 0]) (size := S128x128.size) (ix2 (row J c) l) hw = (ix2 c l : S128x128.Idx) := by
      funext a
      apply Fin.ext
      match a with
      | ⟨0, _⟩ => show J.val * 128 + c.val - keyRow i b = c.val; unfold keyRow; omega
      | ⟨1, _⟩ => show l.val - 0 = l.val; omega
    have e' : (Rect.unit (s := S8192x128) ![keyRow i b, 0] S128x128.size (keyRow_inb i b)).emb (ix2 c l : S128x128.Idx) = ix2 (row J c) l := by
      funext a
      apply Fin.ext
      match a with
      | ⟨0, _⟩ => show keyRow i b + 1 * c.val = J.val * 128 + c.val; unfold keyRow; omega
      | ⟨1, _⟩ => show 0 + 1 * l.val = l.val; omega
    refine (congrArg (addf (View.ld A (Rect.unit (s := S8192x128) ![keyRow i b, 0] S128x128.size (keyRow_inb i b))) t) e).trans ?_
    exact congrArg (fun x => (A x + t (ix2 c l) : EReal)) e'
  · have hJ' : J.val ≠ min 63 ((i 0).val + b.val - 1) := fun he => h (Fin.ext he.symm)
    rw [dif_neg, if_neg h, add_zero]
    intro hw
    have := hw 0
    have h0 : keyRow i b ≤ J.val * 128 + c.val ∧ J.val * 128 + c.val < keyRow i b + 128 := this
    unfold keyRow at h0
    omega

theorem subRow_at (h : Fin 8) (t : FVec Ideal S1x128 .f32) (A : Vec Ideal S8x128 .f32) (x : Fin 8) (l : Fin 128) :
    subRow h t A (ix2 x l) = (if x = h then A (ix2 x l) - t (ix2 0 l) else A (ix2 x l) : EReal) := by
  have hl := l.isLt
  unfold subRow VecWindow.put
  by_cases hx : x = h
  · subst hx
    have hw : ∀ a, (![x.val, 0] : Fin 2 → ℕ) a ≤ ((ix2 x l : S8x128.Idx) a).val ∧ ((ix2 x l : S8x128.Idx) a).val < (![x.val, 0] : Fin 2 → ℕ) a + S1x128.size a := by
      intro a
      match a with
      | ⟨0, _⟩ => show x.val ≤ x.val ∧ x.val < x.val + 1; omega
      | ⟨1, _⟩ => show 0 ≤ l.val ∧ l.val < 0 + 128; omega
    rw [dif_pos hw, if_pos rfl]
    have e : Rect.unitLocal (s := S8x128) (off := ![x.val, 0]) (size := S1x128.size) (ix2 x l) hw = (ix2 0 l : S1x128.Idx) := by
      funext a
      apply Fin.ext
      match a with
      | ⟨0, _⟩ => show x.val - x.val = 0; omega
      | ⟨1, _⟩ => show l.val - 0 = l.val; omega
    have e' : (Rect.unit (s := S8x128) ![x.val, 0] S1x128.size (sinkRow_inb x)).emb (ix2 0 l : S1x128.Idx) = ix2 x l := by
      funext a
      apply Fin.ext
      match a with
      | ⟨0, _⟩ => show x.val + 1 * 0 = x.val; omega
      | ⟨1, _⟩ => show 0 + 1 * l.val = l.val; omega
    refine (congrArg (subf (View.ld A (Rect.unit (s := S8x128) ![x.val, 0] S1x128.size (sinkRow_inb x))) t) e).trans ?_
    exact congrArg (fun y => (A y - t (ix2 0 l) : EReal)) e'
  · rw [dif_neg, if_neg hx]
    intro hw
    have h0 : h.val ≤ x.val ∧ x.val < h.val + 1 := hw 0
    exact hx (Fin.ext (by omega))

end Cert.KernelIdeal.Attn

end
-- ==== Proof.Attn.BodyVal.lean ====
/- What one point of the kernel computes from finite blocks, as real numbers. -/
module

public import proofs.«01_k».proof.Proof.Attn.BodyAt

@[expose] public section

set_option maxRecDepth 16384

noncomputable section

namespace Cert.Attn

/-! ## Lanes and stacked rows -/

/-- Lane `x` of kv head `a`'s half. -/
def lane (a : Fin 2) (x : Fin 64) : Fin 128 := ⟨a.val * 64 + x.val, by omega⟩
/-- The half a lane is in, -/
def lg (l : Fin 128) : Fin 2 := ⟨l.val / 64, by omega⟩
/-- and its place there. -/
def ll (l : Fin 128) : Fin 64 := ⟨l.val % 64, by omega⟩
theorem lg_lane (a : Fin 2) (x : Fin 64) : lg (lane a x) = a := Fin.ext (by simp only [lg, lane]; omega)
theorem ll_lane (a : Fin 2) (x : Fin 64) : ll (lane a x) = x := Fin.ext (by simp only [ll, lane]; omega)

/-- Row `a` of query head `j`'s band. -/
def band (j : Fin 4) (a : Fin 128) : Fin 512 := ⟨j.val * 128 + a.val, by omega⟩
/-- The band a stacked row is in, -/
def rj (r : Fin 512) : Fin 4 := ⟨r.val / 128, by omega⟩
/-- and its place there. -/
def ra (r : Fin 512) : Fin 128 := ⟨r.val % 128, by omega⟩
theorem rj_band (j : Fin 4) (a : Fin 128) : rj (band j a) = j := Fin.ext (by simp only [rj, band]; omega)
theorem ra_band (j : Fin 4) (a : Fin 128) : ra (band j a) = a := Fin.ext (by simp only [ra, band]; omega)

theorem sum_lanes (f : Fin 128 → ℝ) : ∑ l, f l = ∑ a : Fin 2, ∑ x : Fin 64, f (lane a x) := by
  rw [← Fintype.sum_prod_type' fun a x => f (lane a x)]
  refine (Fintype.sum_equiv (finProdFinEquiv (m := 2) (n := 64)) _ _ fun x => ?_).symm
  exact congrArg f (Fin.ext (by simp only [lane, finProdFinEquiv_apply_val]; omega))

theorem sum_bands (f : Fin 512 → ℝ) : ∑ r, f r = ∑ j : Fin 4, ∑ a : Fin 128, f (band j a) := by
  rw [← Fintype.sum_prod_type' fun j a => f (band j a)]
  refine (Fintype.sum_equiv (finProdFinEquiv (m := 4) (n := 128)) _ _ fun x => ?_).symm
  exact congrArg f (Fin.ext (by simp only [band, finProdFinEquiv_apply_val]; omega))

/-- A product over the lanes whose first factor is zero outside half `g`. -/
theorem sum_half (g : Fin 2) (f : Fin 64 → ℝ) (y : Fin 2 → Fin 64 → ℝ) :
    ∑ l : Fin 128, (if lg l = g then f (ll l) else 0) * y (lg l) (ll l) = ∑ x, f x * y g x := by
  rw [sum_lanes]
  simp only [lg_lane, ll_lane]
  rw [Finset.sum_eq_single g]
  · simp
  · intro a _ ha; simp [ha]
  · simp

end Cert.Attn

namespace Cert.KernelIdeal.Attn

open Idealize.ShloMosaic Cert.Attn Cert.KernelIdeal.Gen

/-- The block of rows a point is at. -/
abbrev pt (i : grid0.Coords) : Fin 64 := i 0

/-- What the blocks of point `n` hold. -/
structure Reads (D : Data) (n : Fin 64) (X : Ins Ideal) : Prop where
  q : ∀ g r l, X.q (ix3 g r l) = ((if lg l = g then D.q (row n (ra r)) (hd g (rj r)) (ll l) * (1 / 8) else 0 : ℝ) : EReal)
  k : ∀ b c l, X.k b (ix2 c l) = ((D.k (row (nbr n b) c) (lg l) (ll l) : ℝ) : EReal)
  v : ∀ b c l, X.v b (ix2 c l) = ((D.v (row (nbr n b) c) (lg l) (ll l) : ℝ) : EReal)
  d : ∀ g r l, X.d (ix3 g r l) = ((if lg l = g then D.d (row n (ra r)) (hd g (rj r)) (ll l) else 0 : ℝ) : EReal)
  lse : ∀ g r, X.ld (ix3 g r 0) = ((D.L (hd g (rj r)) (row n (ra r)) : ℝ) : EReal)
  dsum : ∀ g r, X.ld (ix3 g r 64) = ((D.Δ (hd g (rj r)) (row n (ra r)) : ℝ) : EReal)
  sink : ∀ h, X.sink (ix1 h) = ((D.s h : ℝ) : EReal)

section
variable {D : Data} {i : grid0.Coords} {X : Ins Ideal} (H : Reads D (pt i) X)
include H

theorem qk_val (g : Fin 2) (b : Fin 3) (r : Fin 512) (c : Fin 128) :
    mulNT (F := Ideal) (rowsOf X.q g) (X.k b) (ix2 r c) = ((D.score (hd g (rj r)) (row (pt i) (ra r)) (row (nbr (pt i) b) c) : ℝ) : EReal) := by
  rw [mulNT_at]
  simp only [rowsOf_at, H.q, H.k, ← EReal.coe_mul, ← coe_sum]
  rw [sum_half g (fun x => D.q (row (pt i) (ra r)) (hd g (rj r)) x * (1 / 8)) (fun a x => D.k (row (nbr (pt i) b) c) a x)]
  rw [Data.score, kv_hd, Finset.sum_mul]
  refine congrArg _ (Finset.sum_congr rfl fun x _ => ?_)
  ring

theorem dv_val (g : Fin 2) (b : Fin 3) (r : Fin 512) (c : Fin 128) :
    mulNT (F := Ideal) (rowsOf X.d g) (X.v b) (ix2 r c) = ((D.U (hd g (rj r)) (row (pt i) (ra r)) (row (nbr (pt i) b) c) : ℝ) : EReal) := by
  rw [mulNT_at]
  simp only [rowsOf_at, H.d, H.v, ← EReal.coe_mul, ← coe_sum]
  rw [sum_half g (fun x => D.d (row (pt i) (ra r)) (hd g (rj r)) x) (fun a x => D.v (row (nbr (pt i) b) c) a x)]
  rw [Data.U, kv_hd]

theorem scores_val (g : Fin 2) (b : Fin 3) (r : Fin 512) (c : Fin 128) :
    scores i X g b (ix2 r c) = if valid (pt i) b (ra r) c then ((D.score (hd g (rj r)) (row (pt i) (ra r)) (row (nbr (pt i) b) c) : ℝ) : EReal) else ⊥ := by
  have hb : b = 0 ∨ b = 1 ∨ b = 2 := by omega
  rcases hb with rfl | rfl | rfl
  · have e := qk_val H g 0 r c
    unfold scores
    generalize mulNT (F := Ideal) (rowsOf X.q g) (X.k 0) = y at e ⊢
    pointwise
    rw [pay6_at, e]
    by_cases h : valid (pt i) 0 (ra r) c
    · rw [if_pos h, if_pos (show r.val % 128 ≤ c.val ∧ 0 < (i 0).val from h.1 rfl)]; rfl
    · rw [if_neg h, if_neg (fun h' : r.val % 128 ≤ c.val ∧ 0 < (i 0).val => h ⟨fun _ => h', fun h2 => absurd h2 (by decide)⟩)]; rfl
  · rw [if_pos ⟨fun h => absurd h (by decide), fun h => absurd h (by decide)⟩]
    exact qk_val H g 1 r c
  · have e := qk_val H g 2 r c
    unfold scores
    generalize mulNT (F := Ideal) (rowsOf X.q g) (X.k 2) = y at e ⊢
    pointwise
    rw [pay7_at, e]
    by_cases h : valid (pt i) 2 (ra r) c
    · rw [if_pos h, if_pos (show c.val ≤ r.val % 128 ∧ (i 0).val < 63 from h.2 rfl)]; rfl
    · rw [if_neg h, if_neg (fun h' : c.val ≤ r.val % 128 ∧ (i 0).val < 63 => h ⟨fun h2 => absurd h2 (by decide), fun _ => h'⟩)]; rfl

theorem probs_val (g : Fin 2) (b : Fin 3) (r : Fin 512) (c : Fin 128) :
    probs i X g b (ix2 r c) = ((if valid (pt i) b (ra r) c then D.P (hd g (rj r)) (row (pt i) (ra r)) (row (nbr (pt i) b) c) else 0 : ℝ) : EReal) := by
  rw [probs_at, scores_val H, lse_at, H.lse]
  by_cases h : valid (pt i) b (ra r) c
  · rw [if_pos h, if_pos h, ← EReal.coe_sub, Ideal.exp_coe, Data.P_eq, if_pos (near_of_valid h)]
  · rw [if_neg h, if_neg h]; simp

theorem dscores_val (g : Fin 2) (b : Fin 3) (r : Fin 512) (c : Fin 128) :
    dscores i X g b (ix2 r c) = ((if valid (pt i) b (ra r) c then D.W (hd g (rj r)) (row (pt i) (ra r)) (row (nbr (pt i) b) c) else 0 : ℝ) : EReal) := by
  rw [dscores_at, probs_val H, dv_val H, dsum_at, H.dsum, ← EReal.coe_sub, ← EReal.coe_mul]
  refine congrArg _ ?_
  rw [ite_mul, zero_mul, Data.W]

/-- The queries' gradient. -/
theorem dqBlk_val (g : Fin 2) (r : Fin 512) (l : Fin 128) :
    dqBlk i X (ix3 g r l) = ((if lg l = g then ∑ j, D.W (hd g (rj r)) (row (pt i) (ra r)) j * D.k j g (ll l) else 0 : ℝ) : EReal) := by
  rw [dqBlk_at, dqOf_at, half_at]
  by_cases h : lg l = g
  · rw [if_pos h, if_pos (show l.val / 64 = g.val from congrArg Fin.val h), dqSum_at, mulNN_at, mulNN_at, mulNN_at]
    simp only [dscores_val H, H.k, ← EReal.coe_mul, ← coe_sum, ← EReal.coe_add]
    refine (if_pos rfl).trans (congrArg _ ?_)
    rw [sum_keys (pt i) (ra r) _ (fun j hj => by rw [Data.W_far D hj, zero_mul]), Fin.sum_univ_three, h]
    simp only [ite_mul, zero_mul]
  · rw [if_neg h, if_neg (show ¬l.val / 64 = g.val from fun h' => h (Fin.ext h'))]
    exact if_neg (by decide)

theorem dkTerm_val (g : Fin 2) (b : Fin 3) (c l : Fin 128) :
    dkTerm i X g b (ix2 c l) = ((if lg l = g then ∑ a : Fin 128, if valid (pt i) b a c then
      ∑ j, D.W (hd g j) (row (pt i) a) (row (nbr (pt i) b) c) * (D.q (row (pt i) a) (hd g j) (ll l) * (1 / 8)) else 0 else 0 : ℝ) : EReal) := by
  rw [dkTerm_at]
  simp only [dscores_val H, H.q, ← EReal.coe_mul, ← coe_sum]
  refine congrArg _ ?_
  rw [sum_bands, Finset.sum_comm]
  simp only [rj_band, ra_band]
  by_cases h : lg l = g
  · simp only [if_pos h]
    refine Finset.sum_congr rfl fun a _ => ?_
    split
    · rfl
    · simp
  · simp [if_neg h]

theorem dvTerm_val (g : Fin 2) (b : Fin 3) (c l : Fin 128) :
    dvTerm i X g b (ix2 c l) = ((if lg l = g then ∑ a : Fin 128, if valid (pt i) b a c then
      ∑ j, D.P (hd g j) (row (pt i) a) (row (nbr (pt i) b) c) * D.d (row (pt i) a) (hd g j) (ll l) else 0 else 0 : ℝ) : EReal) := by
  rw [dvTerm_at]
  simp only [probs_val H, H.d, ← EReal.coe_mul, ← coe_sum]
  refine congrArg _ ?_
  rw [sum_bands, Finset.sum_comm]
  simp only [rj_band, ra_band]
  by_cases h : lg l = g
  · simp only [if_pos h]
    refine Finset.sum_congr rfl fun a _ => ?_
    split
    · rfl
    · simp
  · simp [if_neg h]

theorem dsinkSum_val (g : Fin 2) (j : Fin 4) (l : Fin 128) :
    dsinkSum X g j (ix2 0 l) = ((∑ a : Fin 128, Real.exp (D.s (hd g j) - D.L (hd g j) (row (pt i) a)) * D.Δ (hd g j) (row (pt i) a) : ℝ) : EReal) := by
  rw [dsinkSum_at, coe_sum]
  refine Finset.sum_congr rfl fun a _ => ?_
  have e : (⟨128 * j.val + a.val, by omega⟩ : Fin 512) = band j a := Fin.ext (by simp only [band]; omega)
  rw [e, dsink_at, sinkCol_at, H.sink, lse_at, H.lse, dsum_at, H.dsum, ← EReal.coe_sub, Ideal.exp_coe, ← EReal.coe_mul,
    show (⟨(band j a).val / 128, by omega⟩ : Fin 4) = rj (band j a) from rfl, rj_band, ra_band]

/-- What the point adds to the keys' gradient at key `c` of block `J`: the sum over its rows in whose window the key is, -/
theorem dkStep_val (A : Vec Ideal S8192x128 .f32) (J : Fin 64) (c l : Fin 128) (x : ℝ) (hA : A (ix2 (row J c) l) = (x : EReal)) :
    dkStep i X A (ix2 (row J c) l) = ((x + ∑ b : Fin 3, if nbr (pt i) b = J then (∑ a : Fin 128, if valid (pt i) b a c then
      ∑ j, D.W (hd (lg l) j) (row (pt i) a) (row J c) * (D.q (row (pt i) a) (hd (lg l) j) (ll l) * (1 / 8)) else 0) else 0 : ℝ) : EReal) := by
  have e : ∀ (g : Fin 2) (b : Fin 3), (if nbr (pt i) b = J then (dkTerm i X g b (ix2 c l) : EReal) else 0) =
      ((if lg l = g then (if nbr (pt i) b = J then (∑ a : Fin 128, if valid (pt i) b a c then
      ∑ j, D.W (hd (lg l) j) (row (pt i) a) (row J c) * (D.q (row (pt i) a) (hd (lg l) j) (ll l) * (1 / 8)) else 0) else 0) else 0 : ℝ) : EReal) := by
    intro g b
    rw [dkTerm_val H]
    by_cases hg : lg l = g <;> by_cases hb : nbr (pt i) b = J
    · rw [if_pos hb, if_pos hg, if_pos hg, if_pos hb]
      simp only [hg, hb]
    · rw [if_neg hb, if_pos hg, if_neg hb]; rfl
    · rw [if_pos hb, if_neg hg, if_neg hg]
    · rw [if_neg hb, if_neg hg]; rfl
  unfold dkStep
  simp only [addRows_at, hA, e, ← EReal.coe_add]
  refine congrArg _ ?_
  rw [Fin.sum_univ_three]
  have hl : lg l = 0 ∨ lg l = 1 := by omega
  rcases hl with hl | hl
  · simp only [hl, if_true, zero_ne_one, if_false]; ring
  · simp only [hl, if_true, one_ne_zero, if_false]; ring

/-- and to the values'. -/
theorem dvStep_val (A : Vec Ideal S8192x128 .f32) (J : Fin 64) (c l : Fin 128) (x : ℝ) (hA : A (ix2 (row J c) l) = (x : EReal)) :
    dvStep i X A (ix2 (row J c) l) = ((x + ∑ b : Fin 3, if nbr (pt i) b = J then (∑ a : Fin 128, if valid (pt i) b a c then
      ∑ j, D.P (hd (lg l) j) (row (pt i) a) (row J c) * D.d (row (pt i) a) (hd (lg l) j) (ll l) else 0) else 0 : ℝ) : EReal) := by
  have e : ∀ (g : Fin 2) (b : Fin 3), (if nbr (pt i) b = J then (dvTerm i X g b (ix2 c l) : EReal) else 0) =
      ((if lg l = g then (if nbr (pt i) b = J then (∑ a : Fin 128, if valid (pt i) b a c then
      ∑ j, D.P (hd (lg l) j) (row (pt i) a) (row J c) * D.d (row (pt i) a) (hd (lg l) j) (ll l) else 0) else 0) else 0 : ℝ) : EReal) := by
    intro g b
    rw [dvTerm_val H]
    by_cases hg : lg l = g <;> by_cases hb : nbr (pt i) b = J
    · rw [if_pos hb, if_pos hg, if_pos hg, if_pos hb]
      simp only [hg, hb]
    · rw [if_neg hb, if_pos hg, if_neg hb]; rfl
    · rw [if_pos hb, if_neg hg, if_neg hg]
    · rw [if_neg hb, if_neg hg]; rfl
  unfold dvStep
  simp only [addRows_at, hA, e, ← EReal.coe_add]
  refine congrArg _ ?_
  rw [Fin.sum_univ_three]
  have hl : lg l = 0 ∨ lg l = 1 := by omega
  rcases hl with hl | hl
  · simp only [hl, if_true, zero_ne_one, if_false]; ring
  · simp only [hl, if_true, one_ne_zero, if_false]; ring

/-- What the point subtracts from the sink's gradient. -/
theorem dsStep_val (A : Vec Ideal S8x128 .f32) (g : Fin 2) (j : Fin 4) (l : Fin 128) (x : ℝ) (hA : A (ix2 (hd g j) l) = (x : EReal)) :
    dsStep X A (ix2 (hd g j) l) = ((x - ∑ a : Fin 128, Real.exp (D.s (hd g j) - D.L (hd g j) (row (pt i) a)) * D.Δ (hd g j) (row (pt i) a) : ℝ) : EReal) := by
  have e := dsinkSum_val H g j l
  unfold dsStep
  simp only [subRow_at]
  rw [EReal.coe_sub, ← e, ← hA]
  clear e hA
  have hg : g = 0 ∨ g = 1 := by omega
  have hj : j = 0 ∨ j = 1 ∨ j = 2 ∨ j = 3 := by omega
  rcases hg with rfl | rfl <;> rcases hj with rfl | rfl | rfl | rfl <;> rfl

end

end Cert.KernelIdeal.Attn

end
-- ==== Proof.Attn.RefBwd.lean ====
/- What the reference computes from finite arguments: each of its stages as a real number, and its four results as the
   gradients of Real.lean. -/
module

public import proofs.«01_k».proof.Proof.Attn.RefVal

@[expose] public section

set_option maxRecDepth 16384

noncomputable section

namespace Cert.Attn

open Idealize.ShloMosaic
open Cert.ReferenceIdeal Cert.ReferenceIdeal.Read

open Data

variable (D : Data)

/-- Minus the row's sum of cotangent times output, over the denominator. -/
theorem r73 (a : Fin 2) (g : Fin 4) (i : Fin 8192) : val_main_v73 (F := Ideal) D.aq D.ak D.av D.asink D.ad (ix3 a g i) = ((-(D.Δ (hd a g) i / D.Z (hd a g) i) : ℝ) : EReal) := by
  unfold val_main_v73 val_main_v72 val_main_v69 val_main_v68 val_main_v67 val_main_v66 val_main_v65 val_main_v64 val_main_cst_11 val_main_cst_12
  pointwise
  simp only [r61, r63, r54]
  try simp only [zero_word]
  simp only [← EReal.coe_mul, ← coe_sum, ← EReal.coe_neg, ← EReal.coe_add, Δ, Finset.sum_div]
  refine congrArg _ ?_
  rw [Fin.sum_univ_one]
  refine congrArg _ (Finset.sum_congr rfl fun l _ => ?_)
  have hz := D.Z_ne (hd a g) i
  field_simp

theorem r71 (a : Fin 2) (g : Fin 4) (i : Fin 8192) (l : Fin 64) : val_main_v71 (F := Ideal) D.aq D.ak D.asink D.ad (ix4 i a g l) = ((D.d i (hd a g) l / D.Z (hd a g) i : ℝ) : EReal) := by
  unfold val_main_v71 val_main_v70
  pointwise
  rw [r63, r56, coe_div (D.Z_ne _ _)]

theorem r75 (a : Fin 2) (g : Fin 4) (i j : Fin 8192) : val_main_v75 (F := Ideal) D.aq D.ak D.av D.asink D.ad (ix4 a g i j) = ((D.U (hd a g) i j / D.Z (hd a g) i : ℝ) : EReal) := by
  unfold val_main_v75 val_main_v74
  pointwise
  simp only [r71, av_at, ← EReal.coe_mul, ← coe_sum, U, kv_hd, Finset.sum_div]
  refine congrArg _ (Finset.sum_congr rfl fun l _ => ?_)
  ring

theorem r77 (a : Fin 2) (j : Fin 8192) (l : Fin 64) : val_main_v77 (F := Ideal) D.aq D.ak D.asink D.ad (ix3 j a l) = ((D.gv j a l : ℝ) : EReal) := by
  unfold val_main_v77 val_main_v76 val_main_v74
  pointwise
  simp only [r71, r47, ← EReal.coe_mul, ← coe_sum, gv]
  refine congrArg _ ?_
  rw [Finset.sum_comm]
  refine Finset.sum_congr rfl fun i _ => Finset.sum_congr rfl fun g _ => ?_
  rw [P]
  ring

theorem r84 (a : Fin 2) (g : Fin 4) (i j : Fin 8192) : val_main_v84 (F := Ideal) D.aq D.ak D.av D.asink D.ad (ix4 a g i j) = ((D.E (hd a g) i j * (D.U (hd a g) i j / D.Z (hd a g) i - D.Δ (hd a g) i / D.Z (hd a g) i) : ℝ) : EReal) := by
  unfold val_main_v84 val_main_v83 val_main_v82
  pointwise
  rw [r75, r73, r47, ← EReal.coe_add, ← EReal.coe_mul]
  refine congrArg _ ?_
  ring

theorem r78 (a : Fin 2) (g : Fin 4) (i : Fin 8192) : val_main_v78 (F := Ideal) D.aq D.ak D.av D.asink D.ad (ix3 a g i) = ((-(D.Δ (hd a g) i / D.Z (hd a g) i) * D.es (hd a g) i : ℝ) : EReal) := by
  unfold val_main_v78
  pointwise
  rw [r73, r51, ← EReal.coe_mul]

/-- The maximum's cotangent. -/
theorem r89 (a : Fin 2) (g : Fin 4) (i : Fin 8192) : val_main_v89 (F := Ideal) D.aq D.ak D.av D.asink D.ad (ix3 a g i) = ((0 : ℝ) : EReal) := by
  unfold val_main_v89 val_main_v88 val_main_v87 val_main_v86 val_main_v85 val_main_v81 val_main_cst_14 val_main_cst_15
  pointwise
  simp only [r84, r78]
  try simp only [zero_word]
  simp only [← EReal.coe_mul, ← EReal.coe_neg, ← coe_sum, ← EReal.coe_add]
  refine congrArg _ ?_
  rw [Fin.sum_univ_one, Finset.sum_neg_distrib, ← D.max_zero (hd a g) i]
  ring

theorem select_real (b : BitVec 1) (x y : ℝ) : ∃ z : ℝ, Scalar.select b ((x : ℝ) : EReal) ((y : ℝ) : EReal) = ((z : ℝ) : EReal) := by
  unfold Scalar.select
  split
  · exact ⟨x, rfl⟩
  · exact ⟨y, rfl⟩

theorem ideal_one : FloatOps.ofBits (F := Ideal) FTy.f32 0x3F800000#32 = ((1 : ℝ) : EReal) := one_word
theorem ideal_half : FloatOps.ofBits (F := Ideal) FTy.f32 0x3F000000#32 = ((1 / 2 : ℝ) : EReal) := half_word
theorem ideal_zero : FloatOps.ofBits (F := Ideal) FTy.f32 0x00000000#32 = ((0 : ℝ) : EReal) := zero_word

theorem r34 (a : Fin 2) (g : Fin 4) (i : Fin 8192) : ∃ z : ℝ, val_main_v34 (F := Ideal) D.aq D.ak D.asink (ix3 a g i) = ((z : ℝ) : EReal) := by
  rw [val_main_v34_apply, val_main_v33_apply, val_main_v32_apply, val_main_v31_apply, val_main_v30_apply, val_main_cst_3_apply, val_main_cst_4_apply,
    val_main_cst_5_apply, ideal_one, ideal_half, ideal_zero]
  obtain ⟨y, hy⟩ := select_real (val_main_v29 (F := Ideal) D.aq D.ak D.asink (ix3 a g i)) (1 / 2) 0
  rw [hy]
  exact select_real _ _ _

theorem r43 (a : Fin 2) (g : Fin 4) (i : Fin 8192) : ∃ z : ℝ, val_main_v43 (F := Ideal) D.aq D.ak D.asink (ix3 a g i) = ((z : ℝ) : EReal) := by
  rw [val_main_v43_apply, val_main_v42_apply, val_main_v41_apply, val_main_v40_apply, val_main_v39_apply, val_main_cst_6_apply, val_main_cst_7_apply,
    val_main_cst_8_apply, ideal_one, ideal_half, ideal_zero]
  obtain ⟨y, hy⟩ := select_real (val_main_v38 (F := Ideal) D.aq D.ak D.asink (ix3 a g i)) (1 / 2) 0
  rw [hy]
  exact select_real _ _ _

theorem r20 (a : Fin 2) (g : Fin 4) (i j : Fin 8192) : val_main_v20 (F := Ideal) D.aq D.ak (ix4 a g i j) = D.top (hd a g) i := by
  have e := r18 D a g i
  rw [coe_rmax] at e
  rw [← e]
  unfold val_main_v20 val_main_v19
  generalize val_main_v18 (F := Ideal) D.aq D.ak = y
  pointwise

theorem ideal_eq (x y : EReal) : FloatOps.uitofp (F := Ideal) .f32 (FloatOps.cmpf (F := Ideal) (φ := FTy.f32) .oeq x y) = (((if x = y then 1 else 0 : ℝ) : ℝ) : EReal) := by
  by_cases h : x = y
  · subst h
    rw [if_pos rfl]
    simp [FloatOps.uitofp, FloatOps.cmpf, Ideal.cmp]
  · rw [if_neg h]
    simp [FloatOps.uitofp, FloatOps.cmpf, Ideal.cmp, h]

theorem r22 (a : Fin 2) (g : Fin 4) (i j : Fin 8192) : val_main_v22 (F := Ideal) D.aq D.ak (ix4 a g i j) = (((if D.masked (hd a g) i j = D.top (hd a g) i then 1 else 0 : ℝ) : ℝ) : EReal) := by
  rw [val_main_v22_apply, val_main_v21_apply, r15, r20, ideal_eq]

theorem ix_v23 (a : Fin 2) (g : Fin 4) (i j : Fin 8192) : idx_main_v23 (ix3 a g i) j = ix4 a g i j := by
  funext x
  match x with
  | ⟨0, _⟩ => rfl
  | ⟨1, _⟩ => rfl
  | ⟨2, _⟩ => rfl
  | ⟨3, _⟩ => rfl

theorem r23 (a : Fin 2) (g : Fin 4) (i : Fin 8192) : ∃ z : ℝ, z ≠ 0 ∧ val_main_v23 (F := Ideal) D.aq D.ak (ix3 a g i) = ((z : ℝ) : EReal) := by
  refine ⟨∑ j, if D.masked (hd a g) i j = D.top (hd a g) i then 1 else 0, ?_, ?_⟩
  · obtain ⟨j, hj⟩ := D.top_mem (hd a g) i
    refine (Finset.sum_pos' (fun j _ => ?_) ⟨j, Finset.mem_univ j, ?_⟩).ne'
    · split <;> norm_num
    · rw [if_pos hj]; norm_num
  · rw [val_main_v23_apply, val_main_cst_2_apply, ideal_zero]
    simp only [ix_v23, r22]
    rw [← coe_sum, ← EReal.coe_add, zero_add]

theorem r95 (a : Fin 2) (g : Fin 4) (i : Fin 8192) : val_main_v95 (F := Ideal) D.aq D.ak D.av D.asink D.ad (ix3 a g i) = ((0 : ℝ) : EReal) := by
  unfold val_main_v95 val_main_v94
  pointwise
  obtain ⟨z, hz⟩ := r34 D a g i
  obtain ⟨y, hy, h23⟩ := r23 D a g i
  rw [r89, hz, h23, ← EReal.coe_mul, coe_div hy]
  refine congrArg _ ?_
  simp

theorem r98 (a : Fin 2) (g : Fin 4) (i j : Fin 8192) : val_main_v98 (F := Ideal) D.aq D.ak D.av D.asink D.ad (ix4 a g i j) = ((D.W (hd a g) i j : ℝ) : EReal) := by
  unfold val_main_v98 val_main_v97 val_main_v96
  pointwise
  rw [r84, r95, r22, ← EReal.coe_mul, ← EReal.coe_add]
  refine congrArg _ ?_
  rw [W, P]
  ring

theorem r103 (a : Fin 2) (g : Fin 4) (i j : Fin 8192) : val_main_v103 (F := Ideal) D.aq D.ak D.av D.asink D.ad (ix4 a g i j) = ((D.W (hd a g) i j * (1 / 8) : ℝ) : EReal) := by
  unfold val_main_v103 val_main_v102 val_main_v101 val_main_cst_18 val_main_call1_v0 val_main_call1_cst
  pointwise
  rw [r98, r15_bit, eighth]
  try rw [zero_word]
  by_cases hn : near i j
  · rw [if_pos hn, EReal.coe_mul]; rfl
  · rw [if_neg hn, W_far D hn, EReal.coe_mul]; simp [Scalar.select]

theorem r105 (i : Fin 8192) (a : Fin 2) (g : Fin 4) (l : Fin 64) : val_main_v105 (F := Ideal) D.aq D.ak D.av D.asink D.ad (ix4 a i g l) = ((D.gq i (hd a g) l : ℝ) : EReal) := by
  unfold val_main_v105 val_main_v104
  pointwise
  simp only [r103, ak_at, ← EReal.coe_mul, ← coe_sum, gq, kv_hd, Finset.sum_mul]
  refine congrArg _ (Finset.sum_congr rfl fun j _ => ?_)
  ring

theorem r109 (i : Fin 8192) (a : Fin 2) (g : Fin 4) (l : Fin 64) : val_main_v109 (F := Ideal) D.aq D.ak D.av D.asink D.ad (ix3 i (hd a g) l) = ((D.gq i (hd a g) l : ℝ) : EReal) := by
  rw [← r105, val_main_v109_apply, val_main_v106_apply]
  generalize val_main_v105 (F := Ideal) D.aq D.ak D.av D.asink D.ad = y
  have hi := i.isLt
  have ha := a.isLt
  have hg := g.isLt
  have hl := l.isLt
  refine congrArg y ?_
  funext x
  match x with
  | ⟨0, _⟩ => apply Fin.ext; show ((i.val * 8 + (a.val * 4 + g.val)) * 64 + l.val) / 256 % 2 = a.val; omega
  | ⟨1, _⟩ => apply Fin.ext; show ((i.val * 8 + (a.val * 4 + g.val)) * 64 + l.val) / 512 = i.val; omega
  | ⟨2, _⟩ => apply Fin.ext; show ((i.val * 8 + (a.val * 4 + g.val)) * 64 + l.val) / 64 % 4 = g.val; omega
  | ⟨3, _⟩ => apply Fin.ext; show ((i.val * 8 + (a.val * 4 + g.val)) * 64 + l.val) % 64 = l.val; omega

theorem r0 (i : Fin 8192) (a : Fin 2) (g : Fin 4) (l : Fin 64) : val_main_v0 (F := Ideal) D.aq (ix4 i a g l) = ((D.q i (hd a g) l : ℝ) : EReal) := by
  rw [val_main_v0_apply, ← aq_at]
  refine congrArg D.aq ?_
  have hi := i.isLt
  have ha := a.isLt
  have hg := g.isLt
  have hl := l.isLt
  funext x
  match x with
  | ⟨0, _⟩ => apply Fin.ext; show (((i.val * 2 + a.val) * 4 + g.val) * 64 + l.val) / 512 = i.val; omega
  | ⟨1, _⟩ => apply Fin.ext; show (((i.val * 2 + a.val) * 4 + g.val) * 64 + l.val) / 64 % 8 = a.val * 4 + g.val; omega
  | ⟨2, _⟩ => apply Fin.ext; show (((i.val * 2 + a.val) * 4 + g.val) * 64 + l.val) % 64 = l.val; omega

theorem r104 (a : Fin 2) (g : Fin 4) (i j : Fin 8192) : val_main_v104 (F := Ideal) D.aq D.ak D.av D.asink D.ad (ix4 a j i g) = ((D.W (hd a g) i j * (1 / 8) : ℝ) : EReal) := by
  rw [← r103]
  unfold val_main_v104
  generalize val_main_v103 (F := Ideal) D.aq D.ak D.av D.asink D.ad = y
  pointwise

theorem r108 (j : Fin 8192) (a : Fin 2) (l : Fin 64) : val_main_v108 (F := Ideal) D.aq D.ak D.av D.asink D.ad (ix3 j a l) = ((D.gk j a l : ℝ) : EReal) := by
  have e := r104 D
  have e' := r0 D
  unfold val_main_v108 val_main_v107
  generalize val_main_v104 (F := Ideal) D.aq D.ak D.av D.asink D.ad = y at e ⊢
  generalize val_main_v0 (F := Ideal) D.aq = y' at e' ⊢
  pointwise
  simp only [e, e', ← EReal.coe_mul, ← coe_sum, gk]
  refine congrArg _ (Finset.sum_congr rfl fun i _ => Finset.sum_congr rfl fun g _ => ?_)
  ring

theorem ix_v79 (a : Fin 2) (g : Fin 4) (i : Fin 8192) : idx_main_v79 (ix2 a g) i = ix3 a g i := by
  funext x
  match x with
  | ⟨0, _⟩ => rfl
  | ⟨1, _⟩ => rfl
  | ⟨2, _⟩ => rfl

theorem ix_v91 (a : Fin 2) (g : Fin 4) (i : Fin 8192) : idx_main_v91 (ix2 a g) i = ix3 a g i := by
  funext x
  match x with
  | ⟨0, _⟩ => rfl
  | ⟨1, _⟩ => rfl
  | ⟨2, _⟩ => rfl

theorem ideal_mul (x y : EReal) : FloatOps.mulf (F := Ideal) (φ := FTy.f32) x y = x * y := rfl
theorem ideal_add (x y : EReal) : FloatOps.addf (F := Ideal) (φ := FTy.f32) x y = x + y := rfl

theorem r79 (a : Fin 2) (g : Fin 4) : val_main_v79 (F := Ideal) D.aq D.ak D.av D.asink D.ad (ix2 a g) = ((D.gs (hd a g) : ℝ) : EReal) := by
  rw [val_main_v79_apply, val_main_cst_13_apply, ideal_zero]
  simp only [ix_v79, r78]
  rw [← coe_sum, ← EReal.coe_add, zero_add, gs, ← Finset.sum_neg_distrib]
  refine congrArg _ (Finset.sum_congr rfl fun i _ => ?_)
  have hz := D.Z_ne (hd a g) i
  rw [exp_sub_L, es]
  ring

theorem r91 (a : Fin 2) (g : Fin 4) : val_main_v91 (F := Ideal) D.aq D.ak D.av D.asink D.ad (ix2 a g) = ((0 : ℝ) : EReal) := by
  rw [val_main_v91_apply, val_main_cst_16_apply, ideal_zero]
  have e : ∀ i, val_main_v90 (F := Ideal) D.aq D.ak D.av D.asink D.ad (ix3 a g i) = ((0 : ℝ) : EReal) := by
    intro i
    obtain ⟨z, hz⟩ := r43 D a g i
    rw [val_main_v90_apply, r89, hz, ideal_mul, ← EReal.coe_mul, zero_mul]
  simp only [ix_v91, e]
  rw [← coe_sum, ← EReal.coe_add, zero_add, Finset.sum_const_zero]

theorem r100 (a : Fin 2) (g : Fin 4) : val_main_v100 (F := Ideal) D.aq D.ak D.av D.asink D.ad (ix1 (hd a g)) = ((D.gs (hd a g) : ℝ) : EReal) := by
  have ha := a.isLt
  have hg := g.isLt
  have e : idx_main_v100 (ix1 (hd a g)) = ix2 a g := by
    funext x
    match x with
    | ⟨0, _⟩ => apply Fin.ext; show (a.val * 4 + g.val) / 4 = a.val; omega
    | ⟨1, _⟩ => apply Fin.ext; show (a.val * 4 + g.val) % 4 = g.val; omega
  have e1 : idx_main_v80 (idx_main_v99 (ix2 a g) 0) = ix2 a g := by
    funext x
    match x with
    | ⟨0, _⟩ => apply Fin.ext; show ((a.val * 4 + g.val) * 1 + 0) / 4 = a.val; omega
    | ⟨1, _⟩ => apply Fin.ext; show ((a.val * 4 + g.val) * 1 + 0) % 4 = g.val; omega
  have e2 : idx_main_v92 (idx_main_v99 (ix2 a g) 0) = ix2 a g := by
    funext x
    match x with
    | ⟨0, _⟩ => apply Fin.ext; show ((a.val * 4 + g.val) * 1 + 0) / 4 = a.val; omega
    | ⟨1, _⟩ => apply Fin.ext; show ((a.val * 4 + g.val) * 1 + 0) % 4 = g.val; omega
  rw [val_main_v100_apply, e, val_main_v99_apply, val_main_cst_17_apply, ideal_zero, Fin.sum_univ_one, val_main_v93_apply, val_main_v80_apply,
    val_main_v92_apply, e1, e2, r79, r91, ideal_add, ← EReal.coe_add, ← EReal.coe_add, zero_add, add_zero]

end Cert.Attn

end
-- ==== Proof.Attn.HostVal.lean ====
/- What the call finds in its blocks: the host lines before it, read at an index, as real numbers. -/
module

public import proofs.«01_k».proof.Proof.Attn.Frame
public import proofs.«01_k».proof.Proof.Attn.BodyVal
public import proofs.«01_k».proof.Proof.Attn.RefBwd
public import Idealize.ShloMosaic.Lib.StableHlo.ReadAt
public import Idealize.ShloMosaic.Lib.Pipeline.ValueKit

@[expose] public section

set_option maxRecDepth 16384

noncomputable section

namespace Cert.KernelIdeal.Attn

open Idealize.ShloMosaic Cert.Attn Cert.KernelIdeal.Gen Idealize.ShloMosaic.TcCoe
variable (m : (ℓ : Loc nD τ sig) → Buf (Elt Ideal) ℓ)

/-- Whether a lane belongs to the kv head, as the host computes it. -/
def halfMask : IVec S2x1x128 1 :=
  cmpi CmpIPredicate.eq
      (select
        (andi
          (cmpi CmpIPredicate.ne (signi (iotaInDim S2x1x128 32 2))
            (broadcastInDim S2x1x128 ![] bcast_S_S2x1x128 (signi (id (constantI S_ 32 64#32)))))
          (cmpi CmpIPredicate.ne
            (Host.remsi (iotaInDim S2x1x128 32 2)
              (broadcastInDim S2x1x128 ![] bcast_S_S2x1x128 (id (constantI S_ 32 64#32))))
            (broadcastInDim S2x1x128 ![] bcast_S_S2x1x128 (constantI S_ 32 0#32))))
        (subi
          (Host.divsi (iotaInDim S2x1x128 32 2)
            (broadcastInDim S2x1x128 ![] bcast_S_S2x1x128 (id (constantI S_ 32 64#32))))
          (broadcastInDim S2x1x128 ![] bcast_S_S2x1x128 (constantI S_ 32 1#32)))
        (Host.divsi (iotaInDim S2x1x128 32 2)
          (broadcastInDim S2x1x128 ![] bcast_S_S2x1x128 (id (constantI S_ 32 64#32)))))
      (iotaInDim S2x1x128 32 0)
theorem halfMask_at (i0 : Fin 2) (i2 : Fin 128) : halfMask (ix3 i0 0 i2) = if i2.val / 64 = i0.val then 1#1 else 0#1 := by
  revert i0 i2
  decide +kernel

/-- The query heads' rows stacked, and doubled along the lanes. -/
def rowsTwice (x : FVec Ideal S8192x8x64 .f32) : FVec Ideal S2x32768x128 .f32 :=
  let y : FVec Ideal S2x32768x64 .f32 := shapeCast S2x32768x64 (transpose S2x64x4x128x64 [2, 0, 3, 1, 4] (shapeCast S64x128x2x4x64 x shapeCasts_S8192x8x64_S64x128x2x4x64) transposes_S64x128x2x4x64_S2x64x4x128x64_2_0_3_1_4) shapeCasts_S2x64x4x128x64_S2x32768x64
  concatenate S2x32768x128 2 [⟨S2x32768x64, y⟩, ⟨S2x32768x64, y⟩] concatenates_S2x32768x64_S2x32768x64_S2x32768x128_d2
/-- The other kv head's lanes at zero. -/
def stackOf (b : IVec S2x1x128 1) (x : FVec Ideal S2x32768x128 .f32) : FVec Ideal S2x32768x128 .bf16 :=
  truncf .bf16 (select (broadcastInDim S2x32768x128 ![0, 1, 2] bcast_S2x1x128_S2x32768x128_0_1_2 b) x (broadcastInDim S2x32768x128 ![] bcast_S_S2x32768x128 (id (constant (F := Ideal) S_ .f32 0x00000000#32)))) bitsLt_bf16_f32

theorem rowsTwice_at (x : FVec Ideal S8192x8x64 .f32) (i0 : Fin 2) (i1 : Fin 32768) (i2 : Fin 128) :
    rowsTwice x (ix3 i0 i1 i2) = x (ix3 ⟨i1.val / 512 * 128 + i1.val % 128, by omega⟩ ⟨i0.val * 4 + i1.val / 128 % 4, by omega⟩ ⟨i2.val % 64, by omega⟩) := by
  unfold rowsTwice
  pointwise
  split
  · rename_i h2
    have e : (⟨i2.val, h2⟩ : Fin 64) = ⟨i2.val % 64, by omega⟩ := Fin.ext (by show i2.val = i2.val % 64; omega)
    rw [e]
  · rename_i h2
    have e : (⟨i2.val - 64, by omega⟩ : Fin 64) = ⟨i2.val % 64, by omega⟩ := Fin.ext (by show i2.val - 64 = i2.val % 64; omega)
    rw [e]
theorem stackOf_at (x : FVec Ideal S2x32768x128 .f32) (i0 : Fin 2) (i1 : Fin 32768) (i2 : Fin 128) :
    stackOf halfMask x (ix3 i0 i1 i2) = (if i2.val / 64 = i0.val then x (ix3 i0 i1 i2) else 0 : EReal) := by
  have hb := halfMask_at i0 i2
  generalize halfMask = b at hb ⊢
  unfold stackOf
  pointwise
  rw [hb]
  split
  · rfl
  · exact zero_word.trans rfl

theorem v53_eq (c : Dev nD) : V m c main_v53 = stackOf halfMask (rowsTwice (mulf (m ((c : Thread nD τ).loc main_arg0)) (broadcastInDim S8192x8x64 ![] bcast_S_S8192x8x64 (constant (F := Ideal) S_ .f32 0x3E000000#32)))) := by
  simp only [V, V0, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  simp -implicitDefEqProofs only [StableHlo.TRef.toBuf, StableHlo.TRef.ofBuf, cast_cast, cast_eq]
  refine congrArg₂ stackOf rfl ?_
  refine congrArg (fun (x : FVec Ideal S2x32768x64 .f32) => concatenate S2x32768x128 2 [⟨S2x32768x64, x⟩, ⟨S2x32768x64, x⟩] concatenates_S2x32768x64_S2x32768x64_S2x32768x128_d2) ?_
  after_reads_simp
  rfl
theorem v63_eq (c : Dev nD) : V m c main_v63 = stackOf halfMask (rowsTwice (m ((c : Thread nD τ).loc main_arg4))) := by
  simp only [V, V0, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  simp -implicitDefEqProofs only [StableHlo.TRef.toBuf, StableHlo.TRef.ofBuf, cast_cast, cast_eq]
  refine congrArg₂ stackOf rfl ?_
  refine congrArg (fun (x : FVec Ideal S2x32768x64 .f32) => concatenate S2x32768x128 2 [⟨S2x32768x64, x⟩, ⟨S2x32768x64, x⟩] concatenates_S2x32768x64_S2x32768x64_S2x32768x128_d2) ?_
  after_reads_simp
  rfl
theorem v53_at (c : Dev nD) (i0 : Fin 2) (i1 : Fin 32768) (i2 : Fin 128) :
    V m c main_v53 (ix3 i0 i1 i2) = (if i2.val / 64 = i0.val then
      id (α := EReal) (m ((c : Thread nD τ).loc main_arg0) (ix3 ⟨i1.val / 512 * 128 + i1.val % 128, by omega⟩ ⟨i0.val * 4 + i1.val / 128 % 4, by omega⟩ ⟨i2.val % 64, by omega⟩)) * Ideal.ofBits .f32 0x3E000000#32 else 0 : EReal) := by
  rw [v53_eq, stackOf_at, rowsTwice_at]; rfl
theorem v63_at (c : Dev nD) (i0 : Fin 2) (i1 : Fin 32768) (i2 : Fin 128) :
    V m c main_v63 (ix3 i0 i1 i2) = (if i2.val / 64 = i0.val then
      id (α := EReal) (m ((c : Thread nD τ).loc main_arg4) (ix3 ⟨i1.val / 512 * 128 + i1.val % 128, by omega⟩ ⟨i0.val * 4 + i1.val / 128 % 4, by omega⟩ ⟨i2.val % 64, by omega⟩)) else 0 : EReal) := by
  rw [v63_eq, stackOf_at, rowsTwice_at]; rfl
theorem v74_at (c : Dev nD) (i0 : Fin 8192) (i1 : Fin 128) :
    V m c main_v74 (ix2 i0 i1) =
      m ((c : Thread nD τ).loc main_arg1) (ix3 i0 ⟨i1.val / 64, by omega⟩ ⟨i1.val % 64, by omega⟩)  := by
  simp only [V, V0, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
theorem v76_at (c : Dev nD) (i0 : Fin 8192) (i1 : Fin 128) :
    V m c main_v76 (ix2 i0 i1) =
      m ((c : Thread nD τ).loc main_arg2) (ix3 i0 ⟨i1.val / 64, by omega⟩ ⟨i1.val % 64, by omega⟩)  := by
  simp only [V, V0, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at

/-- The rows' sums of cotangent times output. -/
def dsums (d : FVec Ideal S8192x8x64 .f32) (o : FVec Ideal S8192x2x4x64 .f32) : FVec Ideal S2x4x8192 .f32 :=
  transpose S2x4x8192 [1, 2, 0] (Host.reduceAdd (mulf (shapeCast S8192x2x4x64 d shapeCasts_S8192x8x64_S8192x2x4x64) o) (constant (F := Ideal) S_ .f32 0x00000000#32) reducesTo_S8192x2x4x64_S8192x2x4_d3 h_S_) transposes_S8192x2x4_S2x4x8192_1_2_0

/-- The log-sums and the sums of cotangent times output, stacked and side by side. -/
def ldOf (x y : FVec Ideal S2x4x8192 .f32) : FVec Ideal S2x32768x128 .f32 :=
  concatenate S2x32768x128 2 [⟨S2x32768x64, broadcastInDim S2x32768x64 ![0, 1, 2] bcast_S2x32768x1_S2x32768x64_0_1_2 (shapeCast S2x32768x1 (transpose S2x64x4x128 [0, 2, 1, 3] (shapeCast S2x4x64x128 x shapeCasts_S2x4x8192_S2x4x64x128) transposes_S2x4x64x128_S2x64x4x128_0_2_1_3) shapeCasts_S2x64x4x128_S2x32768x1)⟩,
    ⟨S2x32768x64, broadcastInDim S2x32768x64 ![0, 1, 2] bcast_S2x32768x1_S2x32768x64_0_1_2 (shapeCast S2x32768x1 (transpose S2x64x4x128 [0, 2, 1, 3] (shapeCast S2x4x64x128 y shapeCasts_S2x4x8192_S2x4x64x128) transposes_S2x4x64x128_S2x64x4x128_0_2_1_3) shapeCasts_S2x64x4x128_S2x32768x1)⟩] concatenates_S2x32768x64_S2x32768x64_S2x32768x128_d2

theorem v72_eq (c : Dev nD) : V m c main_v72 = ldOf (addf (ReferenceIdeal.Read.val_main_v25 (F := Ideal) (m ((c : Thread nD τ).loc main_arg0)) (m ((c : Thread nD τ).loc main_arg1)) (m ((c : Thread nD τ).loc main_arg3))) (Host.log (ReferenceIdeal.Read.val_main_v52 (F := Ideal) (m ((c : Thread nD τ).loc main_arg0)) (m ((c : Thread nD τ).loc main_arg1)) (m ((c : Thread nD τ).loc main_arg3))))) (dsums (m ((c : Thread nD τ).loc main_arg4)) (ReferenceIdeal.Read.val_main_v58 (F := Ideal) (m ((c : Thread nD τ).loc main_arg0)) (m ((c : Thread nD τ).loc main_arg1)) (m ((c : Thread nD τ).loc main_arg2)) (m ((c : Thread nD τ).loc main_arg3)))) := by
  simp only [V, V0, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_simp
  refine congrArg₂ (fun (x y : FVec Ideal S2x32768x64 .f32) => concatenate S2x32768x128 2 [⟨S2x32768x64, x⟩, ⟨S2x32768x64, y⟩] concatenates_S2x32768x64_S2x32768x64_S2x32768x128_d2) ?_ ?_
  · after_reads_simp
    rfl
  · after_reads_simp
    rfl
theorem ldOf_at (x y : FVec Ideal S2x4x8192 .f32) (i0 : Fin 2) (i1 : Fin 32768) (i2 : Fin 128) :
  ldOf x y (ix3 i0 i1 i2) = if i2.val < 64 then x (ix3 i0 ⟨i1.val / 128 % 4, by omega⟩ ⟨i1.val / 512 * 128 + i1.val % 128, by omega⟩) else y (ix3 i0 ⟨i1.val / 128 % 4, by omega⟩ ⟨i1.val / 512 * 128 + i1.val % 128, by omega⟩) := by
  unfold ldOf
  pointwise
  split <;> rfl
theorem dsums_at (d : FVec Ideal S8192x8x64 .f32) (o : FVec Ideal S8192x2x4x64 .f32) (a : Fin 2) (g : Fin 4) (i : Fin 8192) :
   dsums d o (ix3 a g i) = ∑ l : Fin 64, d (ix3 i (hd a g) l) * o (ix4 i a g l) := by
  unfold dsums
  pointwise
  rfl
/-! ## The blocks -/

theorem idx_a : ∀ t : Fin cfg0.N, win0_0.index t = ![0, t.val, 0] := (by decide +kernel : ∀ t : Fin grid0.N, win0_0.index t = ![0, t.val, 0])
theorem idx_b : ∀ t : Fin cfg0.N, win0_7.index t = ![0, t.val, 0] := (by decide +kernel : ∀ t : Fin grid0.N, win0_7.index t = ![0, t.val, 0])
theorem idx_c : ∀ t : Fin cfg0.N, win0_8.index t = ![0, t.val, 0] := (by decide +kernel : ∀ t : Fin grid0.N, win0_8.index t = ![0, t.val, 0])
theorem idx_1 : ∀ t : Fin cfg0.N, win0_1.index t = ![t.val - 1, 0] := (by decide +kernel : ∀ t : Fin grid0.N, win0_1.index t = ![t.val - 1, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![min 63 (t.val + 1), 0] := (by decide +kernel : ∀ t : Fin grid0.N, win0_3.index t = ![min 63 (t.val + 1), 0])
theorem idx_4 : ∀ t : Fin cfg0.N, win0_4.index t = ![t.val - 1, 0] := (by decide +kernel : ∀ t : Fin grid0.N, win0_4.index t = ![t.val - 1, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![min 63 (t.val + 1), 0] := (by decide +kernel : ∀ t : Fin grid0.N, win0_6.index t = ![min 63 (t.val + 1), 0])
theorem idx_9 : ∀ t : Fin cfg0.N, win0_9.index t = ![0] := (by decide +kernel : ∀ t : Fin grid0.N, win0_9.index t = ![0])

theorem pt_val (t : Fin cfg0.N) : (pt (grid0.coords t)).val = t.val := (by decide +kernel : ∀ t : Fin grid0.N, (grid0.coords t 0).val = t.val) t

theorem lt64 (t : Fin cfg0.N) : t.val < 64 := N_0 ▸ t.isLt

theorem iblk_q (c : Dev nD) (t : Fin cfg0.N) (g : Fin 2) (r : Fin 512) (l : Fin 128) :
    iblk m c 0 t (ix3 g r l) = V m c main_v53 (ix3 g ⟨t.val * 512 + r.val, by have := lt64 t; omega⟩ l) := by
  blk_ext [iblk, idx_a t]
theorem iblk_d (c : Dev nD) (t : Fin cfg0.N) (g : Fin 2) (r : Fin 512) (l : Fin 128) :
    iblk m c 7 t (ix3 g r l) = V m c main_v63 (ix3 g ⟨t.val * 512 + r.val, by have := lt64 t; omega⟩ l) := by
  blk_ext [iblk, idx_b t]
theorem iblk_ld (c : Dev nD) (t : Fin cfg0.N) (g : Fin 2) (r : Fin 512) (l : Fin 128) :
    iblk m c 8 t (ix3 g r l) = V m c main_v72 (ix3 g ⟨t.val * 512 + r.val, by have := lt64 t; omega⟩ l) := by
  blk_ext [iblk, idx_c t]
theorem iblk_k0 (c : Dev nD) (t : Fin cfg0.N) (r l : Fin 128) :
    iblk m c 1 t (ix2 r l) = V m c main_v74 (ix2 ⟨(t.val - 1) * 128 + r.val, by have := lt64 t; omega⟩ l) := by
  blk_ext [iblk, idx_1 t]
theorem iblk_k1 (c : Dev nD) (t : Fin cfg0.N) (r l : Fin 128) :
    iblk m c 2 t (ix2 r l) = V m c main_v74 (ix2 ⟨t.val * 128 + r.val, by have := lt64 t; omega⟩ l) := by
  blk_ext [iblk, idx_2 t]
theorem iblk_k2 (c : Dev nD) (t : Fin cfg0.N) (r l : Fin 128) :
    iblk m c 3 t (ix2 r l) = V m c main_v74 (ix2 ⟨min 63 (t.val + 1) * 128 + r.val, by omega⟩ l) := by
  blk_ext [iblk, idx_3 t]
theorem iblk_v0 (c : Dev nD) (t : Fin cfg0.N) (r l : Fin 128) :
    iblk m c 4 t (ix2 r l) = V m c main_v76 (ix2 ⟨(t.val - 1) * 128 + r.val, by have := lt64 t; omega⟩ l) := by
  blk_ext [iblk, idx_4 t]
theorem iblk_v1 (c : Dev nD) (t : Fin cfg0.N) (r l : Fin 128) :
    iblk m c 5 t (ix2 r l) = V m c main_v76 (ix2 ⟨t.val * 128 + r.val, by have := lt64 t; omega⟩ l) := by
  blk_ext [iblk, idx_5 t]
theorem iblk_v2 (c : Dev nD) (t : Fin cfg0.N) (r l : Fin 128) :
    iblk m c 6 t (ix2 r l) = V m c main_v76 (ix2 ⟨min 63 (t.val + 1) * 128 + r.val, by omega⟩ l) := by
  blk_ext [iblk, idx_6 t]
theorem iblk_s (c : Dev nD) (t : Fin cfg0.N) (h : Fin 8) :
    iblk m c 9 t (ix1 h) = V m c main_arg3 (ix1 h) := by
  blk_ext [iblk, idx_9 t]

/-- The arguments on device `c` are the data's. -/
structure Args (D : Data) (c : Dev nD) : Prop where
  h0 : m ((c : Thread nD τ).loc main_arg0) = D.aq
  h1 : m ((c : Thread nD τ).loc main_arg1) = D.ak
  h2 : m ((c : Thread nD τ).loc main_arg2) = D.av
  h3 : m ((c : Thread nD τ).loc main_arg3) = D.asink
  h4 : m ((c : Thread nD τ).loc main_arg4) = D.ad

variable {m} {D : Data} {c : Dev nD} (A : Args m D c)
include A

theorem q_real (i0 : Fin 2) (x : Fin 32768) (n : Fin 64) (r : Fin 512) (l : Fin 128) (h : x.val = n.val * 512 + r.val) :
    V m c main_v53 (ix3 i0 x l) = ((if lg l = i0 then D.q (row n (ra r)) (hd i0 (rj r)) (ll l) * (1 / 8) else 0 : ℝ) : EReal) := by
  rw [v53_at, A.h0]
  have e1 : (⟨x.val / 512 * 128 + x.val % 128, by omega⟩ : Fin 8192) = row n (ra r) := Fin.ext (by simp only [row, ra]; omega)
  have e2 : (⟨i0.val * 4 + x.val / 128 % 4, by omega⟩ : Fin 8) = hd i0 (rj r) := Fin.ext (by simp only [hd, rj]; omega)
  rw [e1, e2]
  by_cases hl : l.val / 64 = i0.val
  · rw [if_pos hl, if_pos (show lg l = i0 from Fin.ext hl), eighth, EReal.coe_mul]
    rfl
  · rw [if_neg hl, if_neg (show ¬lg l = i0 from fun e => hl (congrArg Fin.val e)), EReal.coe_zero]
theorem d_real (i0 : Fin 2) (x : Fin 32768) (n : Fin 64) (r : Fin 512) (l : Fin 128) (h : x.val = n.val * 512 + r.val) :
    V m c main_v63 (ix3 i0 x l) = ((if lg l = i0 then D.d (row n (ra r)) (hd i0 (rj r)) (ll l) else 0 : ℝ) : EReal) := by
  rw [v63_at, A.h4]
  have e1 : (⟨x.val / 512 * 128 + x.val % 128, by omega⟩ : Fin 8192) = row n (ra r) := Fin.ext (by simp only [row, ra]; omega)
  have e2 : (⟨i0.val * 4 + x.val / 128 % 4, by omega⟩ : Fin 8) = hd i0 (rj r) := Fin.ext (by simp only [hd, rj]; omega)
  rw [e1, e2]
  by_cases hl : l.val / 64 = i0.val
  · rw [if_pos hl, if_pos (show lg l = i0 from Fin.ext hl)]
    rfl
  · rw [if_neg hl, if_neg (show ¬lg l = i0 from fun e => hl (congrArg Fin.val e)), EReal.coe_zero]
omit A in
theorem ld_core (x z : FVec Ideal S2x4x8192 .f32) (d : FVec Ideal S8192x8x64 .f32) (o : FVec Ideal S8192x2x4x64 .f32)
    (hx : ∀ a g i, x (ix3 a g i) = ((D.mx (hd a g) i : ℝ) : EReal)) (hz : ∀ a g i, z (ix3 a g i) = ((D.Z (hd a g) i : ℝ) : EReal))
    (hd' : ∀ i h l, d (ix3 i h l) = ((D.d i h l : ℝ) : EReal)) (ho : ∀ a g i l, o (ix4 i a g l) = ((D.O (hd a g) i l / D.Z (hd a g) i : ℝ) : EReal))
    (i0 : Fin 2) (y : Fin 32768) (n : Fin 64) (r : Fin 512) (l : Fin 128) (h : y.val = n.val * 512 + r.val) :
    ldOf (addf x (Host.log z)) (dsums d o) (ix3 i0 y l) = ((if l.val < 64 then D.L (hd i0 (rj r)) (row n (ra r)) else D.Δ (hd i0 (rj r)) (row n (ra r)) : ℝ) : EReal) := by
  have e1 : (⟨y.val / 512 * 128 + y.val % 128, by omega⟩ : Fin 8192) = row n (ra r) := Fin.ext (by simp only [row, ra]; omega)
  have e2 : (⟨y.val / 128 % 4, by omega⟩ : Fin 4) = rj r := Fin.ext (by simp only [rj]; omega)
  rw [ldOf_at, e1, e2]
  by_cases hl : l.val < 64
  · rw [if_pos hl, if_pos hl]
    refine (congrArg₂ (fun x y : EReal => x + Ideal.log y) (hx i0 (rj r) (row n (ra r))) (hz i0 (rj r) (row n (ra r)))).trans ?_
    rw [Ideal.log_coe, if_neg (not_le.mpr (D.Z_pos _ _)), Data.L, EReal.coe_add]
  · rw [if_neg hl, if_neg hl, dsums_at, Data.Δ]
    simp only [hd', ho, ← EReal.coe_mul]
    exact (coe_sum _ _).symm
theorem ld_real (i0 : Fin 2) (x : Fin 32768) (n : Fin 64) (r : Fin 512) (l : Fin 128) (h : x.val = n.val * 512 + r.val) :
    V m c main_v72 (ix3 i0 x l) = ((if l.val < 64 then D.L (hd i0 (rj r)) (row n (ra r)) else D.Δ (hd i0 (rj r)) (row n (ra r)) : ℝ) : EReal) := by
  rw [v72_eq, A.h0, A.h1, A.h2, A.h3, A.h4]
  have e := ld_core (D := D) (ReferenceIdeal.Read.val_main_v25 (F := Ideal) D.aq D.ak D.asink) (ReferenceIdeal.Read.val_main_v52 (F := Ideal) D.aq D.ak D.asink) D.ad
    (ReferenceIdeal.Read.val_main_v58 (F := Ideal) D.aq D.ak D.av D.asink) (r25 D) (r52 D) (D.ad_at) (r58 D) i0 x n r l h
  exact e
theorem k_real (x : Fin 8192) (n : Fin 64) (r l : Fin 128) (h : x.val = n.val * 128 + r.val) :
    V m c main_v74 (ix2 x l) = ((D.k (row n r) (lg l) (ll l) : ℝ) : EReal) := by
  obtain rfl : x = row n r := Fin.ext h
  rw [v74_at, A.h1]
  rfl
theorem v_real (x : Fin 8192) (n : Fin 64) (r l : Fin 128) (h : x.val = n.val * 128 + r.val) :
    V m c main_v76 (ix2 x l) = ((D.v (row n r) (lg l) (ll l) : ℝ) : EReal) := by
  obtain rfl : x = row n r := Fin.ext h
  rw [v76_at, A.h2]
  rfl

theorem k_reads (t : Fin cfg0.N) (n : Fin 64) (ht : n.val = t.val) (b : Fin 3) (r l : Fin 128) :
    (insAt m c t).k b (ix2 r l) = ((D.k (row (nbr n b) r) (lg l) (ll l) : ℝ) : EReal) := by
  have e0 := iblk_k0 m c t r l
  have e1 := iblk_k1 m c t r l
  have e2 := iblk_k2 m c t r l
  have f0 := k_real A ⟨(t.val - 1) * 128 + r.val, by have := lt64 t; omega⟩ (nbr n 0) r l (by show (t.val - 1) * 128 + r.val = min 63 (n.val + 0 - 1) * 128 + r.val; have := lt64 t; omega)
  have f1 := k_real A ⟨t.val * 128 + r.val, by have := lt64 t; omega⟩ (nbr n 1) r l (by show t.val * 128 + r.val = min 63 (n.val + 1 - 1) * 128 + r.val; have := lt64 t; omega)
  have f2 := k_real A ⟨min 63 (t.val + 1) * 128 + r.val, by omega⟩ (nbr n 2) r l (by show min 63 (t.val + 1) * 128 + r.val = min 63 (n.val + 2 - 1) * 128 + r.val; omega)
  match b with
  | ⟨0, _⟩ => exact e0.trans f0
  | ⟨1, _⟩ => exact e1.trans f1
  | ⟨2, _⟩ => exact e2.trans f2
theorem v_reads (t : Fin cfg0.N) (n : Fin 64) (ht : n.val = t.val) (b : Fin 3) (r l : Fin 128) :
    (insAt m c t).v b (ix2 r l) = ((D.v (row (nbr n b) r) (lg l) (ll l) : ℝ) : EReal) := by
  have e0 := iblk_v0 m c t r l
  have e1 := iblk_v1 m c t r l
  have e2 := iblk_v2 m c t r l
  have f0 := v_real A ⟨(t.val - 1) * 128 + r.val, by have := lt64 t; omega⟩ (nbr n 0) r l (by show (t.val - 1) * 128 + r.val = min 63 (n.val + 0 - 1) * 128 + r.val; have := lt64 t; omega)
  have f1 := v_real A ⟨t.val * 128 + r.val, by have := lt64 t; omega⟩ (nbr n 1) r l (by show t.val * 128 + r.val = min 63 (n.val + 1 - 1) * 128 + r.val; have := lt64 t; omega)
  have f2 := v_real A ⟨min 63 (t.val + 1) * 128 + r.val, by omega⟩ (nbr n 2) r l (by show min 63 (t.val + 1) * 128 + r.val = min 63 (n.val + 2 - 1) * 128 + r.val; omega)
  match b with
  | ⟨0, _⟩ => exact e0.trans f0
  | ⟨1, _⟩ => exact e1.trans f1
  | ⟨2, _⟩ => exact e2.trans f2
theorem q_reads (t : Fin cfg0.N) (n : Fin 64) (ht : n.val = t.val) (g : Fin 2) (r : Fin 512) (l : Fin 128) :
    (insAt m c t).q (ix3 g r l) = ((if lg l = g then D.q (row n (ra r)) (hd g (rj r)) (ll l) * (1 / 8) else 0 : ℝ) : EReal) := by
  have e := iblk_q m c t g r l
  have f := q_real A g ⟨t.val * 512 + r.val, by have := lt64 t; omega⟩ n r l (by rw [ht])
  exact e.trans f
theorem d_reads (t : Fin cfg0.N) (n : Fin 64) (ht : n.val = t.val) (g : Fin 2) (r : Fin 512) (l : Fin 128) :
    (insAt m c t).d (ix3 g r l) = ((if lg l = g then D.d (row n (ra r)) (hd g (rj r)) (ll l) else 0 : ℝ) : EReal) := by
  have e := iblk_d m c t g r l
  have f := d_real A g ⟨t.val * 512 + r.val, by have := lt64 t; omega⟩ n r l (by rw [ht])
  exact e.trans f
theorem l_reads (t : Fin cfg0.N) (n : Fin 64) (ht : n.val = t.val) (g : Fin 2) (r : Fin 512) :
    (insAt m c t).ld (ix3 g r 0) = ((D.L (hd g (rj r)) (row n (ra r)) : ℝ) : EReal) := by
  have e := iblk_ld m c t g r 0
  have f := ld_real A g ⟨t.val * 512 + r.val, by have := lt64 t; omega⟩ n r 0 (by rw [ht])
  rw [if_pos (by decide)] at f
  exact e.trans f
theorem s_reads (t : Fin cfg0.N) (n : Fin 64) (ht : n.val = t.val) (g : Fin 2) (r : Fin 512) :
    (insAt m c t).ld (ix3 g r 64) = ((D.Δ (hd g (rj r)) (row n (ra r)) : ℝ) : EReal) := by
  have e := iblk_ld m c t g r 64
  have f := ld_real A g ⟨t.val * 512 + r.val, by have := lt64 t; omega⟩ n r 64 (by rw [ht])
  rw [if_neg (by decide)] at f
  exact e.trans f
/-- What point `t` reads. -/
theorem reads (t : Fin cfg0.N) : Reads D (pt (grid0.coords t)) (insAt m c t) := by
  have ht := pt_val t
  have h64 := lt64 t
  generalize pt (grid0.coords t) = n at ht ⊢
  refine ⟨fun g r l => ?_, fun b r l => ?_, fun b r l => ?_, fun g r l => ?_, fun g r => ?_, fun g r => ?_, fun h => ?_⟩
  · exact q_reads A t n ht g r l
  · exact k_reads A t n ht b r l
  · exact v_reads A t n ht b r l
  · exact d_reads A t n ht g r l
  · exact l_reads A t n ht g r
  · exact s_reads A t n ht g r
  · refine (iblk_s m c t h).trans ?_
    rw [V_main_arg3, A.h3]
    rfl

end Cert.KernelIdeal.Attn
end
-- ==== Proof.Attn.OutVal.lean ====
/- What the call's arrays hold after the run, and what the host lines after it make of them. -/
module

public import proofs.«01_k».proof.Proof.Attn.HostVal

@[expose] public section

set_option maxRecDepth 16384

noncomputable section

namespace Cert.KernelIdeal.Attn

open Idealize.ShloMosaic Cert.Attn Cert.KernelIdeal.Gen Idealize.ShloMosaic.TcCoe
open scoped BigOperators
variable (m : (ℓ : Loc nD τ sig) → Buf (Elt Ideal) ℓ)

/-- What block `n`'s rows add to the gradient of key `c` of block `J`, -/
def dkPart (D : Data) (J : Fin 64) (c l : Fin 128) (n : Fin 64) : ℝ :=
  ∑ b : Fin 3, if nbr n b = J then (∑ a : Fin 128, if valid n b a c then
    ∑ j, D.W (hd (lg l) j) (row n a) (row J c) * (D.q (row n a) (hd (lg l) j) (ll l) * (1 / 8)) else 0) else 0
/-- to that of the value, -/
def dvPart (D : Data) (J : Fin 64) (c l : Fin 128) (n : Fin 64) : ℝ :=
  ∑ b : Fin 3, if nbr n b = J then (∑ a : Fin 128, if valid n b a c then
    ∑ j, D.P (hd (lg l) j) (row n a) (row J c) * D.d (row n a) (hd (lg l) j) (ll l) else 0) else 0
/-- and take from the sink's. -/
def dsPart (D : Data) (h : Fin 8) (n : Fin 64) : ℝ :=
  ∑ a : Fin 128, Real.exp (D.s h - D.L h (row n a)) * D.Δ h (row n a)

/-- The parts of the first `n + 1` blocks. -/
def upTo (T : Fin 64 → ℝ) : (n : ℕ) → n < 64 → ℝ
  | 0, h => T ⟨0, h⟩
  | n + 1, h => upTo T n (Nat.lt_of_succ_lt h) + T ⟨n + 1, h⟩
theorem upTo_eq (T : Fin 64 → ℝ) (n : ℕ) (h : n < 64) : upTo T n h = ∑ i : Fin (n + 1), T ⟨i.val, by omega⟩ := by
  induction n with
  | zero => simp [upTo]
  | succ n ih => rw [upTo, ih]; exact (Fin.sum_univ_castSucc fun i : Fin (n + 1 + 1) => T ⟨i.val, by omega⟩).symm
theorem upTo_last (T : Fin 64 → ℝ) (h : 63 < 64) : upTo T 63 h = ∑ n, T n := upTo_eq T 63 h

theorem zero_word : (Scalar.ofBits (F := Ideal) .f32 0x00000000#32 : EReal) = ((0 : ℝ) : EReal) := by
  rw [EReal.coe_zero]; exact Ideal.ofBits_zero_f32

variable {m} {D : Data} {c : Dev nD} (A : Args m D c)
include A

theorem dkAt_val (J : Fin 64) (e l : Fin 128) : (n : ℕ) → (hn : n < cfg0.N) →
    dkAt m c n hn (ix2 (row J e) l) = ((upTo (dkPart D J e l) n (lt64 ⟨n, hn⟩) : ℝ) : EReal)
  | 0, hn => by
    have hp : pt (grid0.coords ⟨0, hn⟩) = ⟨0, lt64 ⟨0, hn⟩⟩ := Fin.ext (pt_val ⟨0, hn⟩)
    have h := dkStep_val (reads A ⟨0, hn⟩) (broadcast S8192x128 (Scalar.ofBits (F := Ideal) .f32 0x00000000#32)) J e l 0 zero_word
    rw [hp, zero_add] at h
    exact h
  | n + 1, hn => by
    have hp : pt (grid0.coords ⟨n + 1, hn⟩) = ⟨n + 1, lt64 ⟨n + 1, hn⟩⟩ := Fin.ext (pt_val ⟨n + 1, hn⟩)
    have h := dkStep_val (reads A ⟨n + 1, hn⟩) (dkAt m c n (Nat.lt_of_succ_lt hn)) J e l _ (dkAt_val J e l n (Nat.lt_of_succ_lt hn))
    rw [hp] at h
    exact h
theorem dvAt_val (J : Fin 64) (e l : Fin 128) : (n : ℕ) → (hn : n < cfg0.N) →
    dvAt m c n hn (ix2 (row J e) l) = ((upTo (dvPart D J e l) n (lt64 ⟨n, hn⟩) : ℝ) : EReal)
  | 0, hn => by
    have hp : pt (grid0.coords ⟨0, hn⟩) = ⟨0, lt64 ⟨0, hn⟩⟩ := Fin.ext (pt_val ⟨0, hn⟩)
    have h := dvStep_val (reads A ⟨0, hn⟩) (broadcast S8192x128 (Scalar.ofBits (F := Ideal) .f32 0x00000000#32)) J e l 0 zero_word
    rw [hp, zero_add] at h
    exact h
  | n + 1, hn => by
    have hp : pt (grid0.coords ⟨n + 1, hn⟩) = ⟨n + 1, lt64 ⟨n + 1, hn⟩⟩ := Fin.ext (pt_val ⟨n + 1, hn⟩)
    have h := dvStep_val (reads A ⟨n + 1, hn⟩) (dvAt m c n (Nat.lt_of_succ_lt hn)) J e l _ (dvAt_val J e l n (Nat.lt_of_succ_lt hn))
    rw [hp] at h
    exact h
theorem dsAt_val (g : Fin 2) (j : Fin 4) (l : Fin 128) : (n : ℕ) → (hn : n < cfg0.N) →
    dsAt m c n hn (ix2 (hd g j) l) = ((-upTo (dsPart D (hd g j)) n (lt64 ⟨n, hn⟩) : ℝ) : EReal)
  | 0, hn => by
    have hp : pt (grid0.coords ⟨0, hn⟩) = ⟨0, lt64 ⟨0, hn⟩⟩ := Fin.ext (pt_val ⟨0, hn⟩)
    have h := dsStep_val (reads A ⟨0, hn⟩) (broadcast S8x128 (Scalar.ofBits (F := Ideal) .f32 0x00000000#32)) g j l 0 zero_word
    rw [hp, zero_sub] at h
    exact h
  | n + 1, hn => by
    have hp : pt (grid0.coords ⟨n + 1, hn⟩) = ⟨n + 1, lt64 ⟨n + 1, hn⟩⟩ := Fin.ext (pt_val ⟨n + 1, hn⟩)
    have h := dsStep_val (reads A ⟨n + 1, hn⟩) (dsAt m c n (Nat.lt_of_succ_lt hn)) g j l _ (dsAt_val g j l n (Nat.lt_of_succ_lt hn))
    rw [hp, sub_eq_add_neg, ← neg_add] at h
    exact h

theorem dk_total (h : 63 < cfg0.N) (J : Fin 64) (e l : Fin 128) :
    dkAt m c 63 h (ix2 (row J e) l) = ((D.gk (row J e) (lg l) (ll l) : ℝ) : EReal) := by
  rw [dkAt_val A, upTo_last]
  refine congrArg _ ?_
  unfold Data.gk dkPart
  exact (sum_queries J e (fun i => ∑ g, D.W (hd (lg l) g) i (row J e) * (D.q i (hd (lg l) g) (ll l) * (1 / 8)))
    fun i hi => Finset.sum_eq_zero fun g _ => by rw [D.W_far hi, zero_mul]).symm
theorem dv_total (h : 63 < cfg0.N) (J : Fin 64) (e l : Fin 128) :
    dvAt m c 63 h (ix2 (row J e) l) = ((D.gv (row J e) (lg l) (ll l) : ℝ) : EReal) := by
  rw [dvAt_val A, upTo_last]
  refine congrArg _ ?_
  unfold Data.gv dvPart
  exact (sum_queries J e (fun i => ∑ g, D.P (hd (lg l) g) i (row J e) * D.d i (hd (lg l) g) (ll l))
    fun i hi => Finset.sum_eq_zero fun g _ => by rw [D.P_far hi, zero_mul]).symm
theorem ds_total (h : 63 < cfg0.N) (g : Fin 2) (j : Fin 4) (l : Fin 128) :
    dsAt m c 63 h (ix2 (hd g j) l) = ((D.gs (hd g j) : ℝ) : EReal) := by
  rw [dsAt_val A, upTo_last]
  refine congrArg (fun x : ℝ => ((-x : ℝ) : EReal)) ?_
  exact (sum_rows fun i => Real.exp (D.s (hd g j) - D.L (hd g j) i) * D.Δ (hd g j) i).symm

/-! ## The arrays after the run -/
omit A in
theorem last_lt : 63 < cfg0.N := by rw [show cfg0.N = 64 from N_0]; omega

omit A in
theorem arr_11 : (dats m 0 c).arrAt 11 cfg0.N = dkAt m c 63 last_lt := by
  refine (dats m 0 c).arrAt_eq_of_after_last 11 ⟨63, last_lt⟩ (by decide +kernel) _ fun j => ?_
  blk_simp
  exact congrFun (after_11 m c ⟨63, last_lt⟩) j
omit A in
theorem arr_12 : (dats m 0 c).arrAt 12 cfg0.N = dvAt m c 63 last_lt := by
  refine (dats m 0 c).arrAt_eq_of_after_last 12 ⟨63, last_lt⟩ (by decide +kernel) _ fun j => ?_
  blk_simp
  exact congrFun (after_12 m c ⟨63, last_lt⟩) j
omit A in
theorem arr_13 : (dats m 0 c).arrAt 13 cfg0.N = dsAt m c 63 last_lt := by
  refine (dats m 0 c).arrAt_eq_of_after_last 13 ⟨63, last_lt⟩ (by decide +kernel) _ fun j => ?_
  blk_simp
  exact congrFun (after_13 m c ⟨63, last_lt⟩) j

omit A in
theorem blk_lt (x : Fin 32768) : x.val / 512 < cfg0.N := by
  have : x.val / 512 < 64 := by omega
  exact lt_of_lt_of_eq this N_0.symm
/-- The queries' gradient that point `t` leaves. -/
def dqPt (m : (ℓ : Loc nD τ sig) → Buf (Elt Ideal) ℓ) (c : Dev nD) (t : Fin cfg0.N) : Vec Ideal S2x512x128 .f32 := dqBlk (grid0.coords t) (insAt m c t)
/-- The queries' gradient as the call leaves it: row `x` of the stack is row `x % 512` of block `x / 512`. -/
def dqArr (m : (ℓ : Loc nD τ sig) → Buf (Elt Ideal) ℓ) (c : Dev nD) : Vec Ideal S2x32768x128 .f32 := fun i =>
  dqPt m c ⟨(i 1).val / 512, blk_lt (i 1)⟩ (ix3 (i 0) ⟨(i 1).val % 512, by omega⟩ (i 2))
omit A in
theorem dqArr_of (t : Fin cfg0.N) (y : S2x512x128.Idx) (i : S2x32768x128.Idx) (h0 : (i 0).val = (y 0).val)
    (h1 : (i 1).val = t.val * 512 + (y 1).val) (h2 : (i 2).val = (y 2).val) : dqArr m c i = dqPt m c t y := by
  have hy : (y 1).val < 512 := (y 1).isLt
  refine congrArg₂ (fun (t : Fin cfg0.N) (y : S2x512x128.Idx) => dqPt m c t y) (Fin.ext ?_) ?_
  · show (i 1).val / 512 = t.val
    omega
  · funext a
    match a with
    | ⟨0, _⟩ => exact Fin.ext h0
    | ⟨1, _⟩ => exact Fin.ext (by show (i 1).val % 512 = (y 1).val; omega)
    | ⟨2, _⟩ => exact Fin.ext h2
omit A in
theorem idx_10 : ∀ t : Fin cfg0.N, win0_10.index t = ![0, t.val, 0] := (by decide +kernel : ∀ t : Fin grid0.N, win0_10.index t = ![0, t.val, 0])
omit A in
theorem arr_10 : (dats m 0 c).arrAt 10 cfg0.N = dqArr m c := by
  refine (dats m 0 c).arrAt_eq_of_covers 10 _ (by decide +kernel) fun t hf y => ?_
  blk_simp
  refine (congrFun (after_10 m c t) y).trans (dqArr_of t y _ ?_ ?_ ?_).symm
  · blk_simp [idx_10 t]
  · blk_simp [idx_10 t]
  · blk_simp [idx_10 t]

theorem dq_total (g : Fin 2) (x : Fin 32768) (l : Fin 128) (n : Fin 64) (r : Fin 512) (h : x.val = n.val * 512 + r.val) :
    dqArr m c (ix3 g x l) = ((if lg l = g then ∑ j, D.W (hd g (rj r)) (row n (ra r)) j * D.k j g (ll l) else 0 : ℝ) : EReal) := by
  have hn : n.val < cfg0.N := lt_of_lt_of_eq n.isLt N_0.symm
  have hp : pt (grid0.coords ⟨n.val, hn⟩) = n := Fin.ext (pt_val ⟨n.val, hn⟩)
  have e := dqBlk_val (reads A ⟨n.val, hn⟩) g r l
  rw [hp] at e
  exact (dqArr_of ⟨n.val, hn⟩ (ix3 g r l) (ix3 g x l) rfl h rfl).trans e

end Cert.KernelIdeal.Attn
end
-- ==== Proof.Attn.Tail.lean ====
/- The host lines after the call. -/
module

public import proofs.«01_k».proof.Proof.Attn.OutVal

@[expose] public section

set_option maxRecDepth 16384

noncomputable section

namespace Cert.KernelIdeal.Attn

open Idealize.ShloMosaic Cert.Attn Cert.KernelIdeal.Gen Idealize.ShloMosaic.TcCoe

/-- Kv head 0's half of the lanes, -/
def half0 (x : FVec Ideal S2x32768x128 .f32) : FVec Ideal S32768x64 .f32 := shapeCast S32768x64 (extractStridedSlice S1x32768x64 ![0, 0, 0] x slices_S2x32768x128_S1x32768x64_0_0_0) shapeCasts_S1x32768x64_S32768x64
/-- kv head 1's, -/
def half1 (x : FVec Ideal S2x32768x128 .f32) : FVec Ideal S32768x64 .f32 := shapeCast S32768x64 (extractStridedSlice S1x32768x64 ![1, 0, 64] x slices_S2x32768x128_S1x32768x64_1_0_64) shapeCasts_S1x32768x64_S32768x64
/-- the two together, -/
def bothOf (a b : FVec Ideal S32768x64 .f32) : FVec Ideal S2x32768x64 .f32 :=
  concatenate S2x32768x64 0 [⟨S1x32768x64, broadcastInDim S1x32768x64 ![1, 2] bcast_S32768x64_S1x32768x64_1_2 a⟩, ⟨S1x32768x64, broadcastInDim S1x32768x64 ![1, 2] bcast_S32768x64_S1x32768x64_1_2 b⟩] concatenates_S1x32768x64_S1x32768x64_S2x32768x64_d0
/-- and the rows back at their queries and heads. -/
def unstack (y : FVec Ideal S2x32768x64 .f32) : FVec Ideal S8192x8x64 .f32 :=
  shapeCast S8192x8x64 (transpose S64x128x2x4x64 [1, 3, 0, 2, 4] (shapeCast S2x64x4x128x64 y shapeCasts_S2x32768x64_S2x64x4x128x64) transposes_S2x64x4x128x64_S64x128x2x4x64_1_3_0_2_4) shapeCasts_S64x128x2x4x64_S8192x8x64
/-- Times the scale. -/
def scaled (y : FVec Ideal S8192x8x64 .f32) : FVec Ideal S8192x8x64 .f32 :=
  mulf y (broadcastInDim S8192x8x64 ![] bcast_S_S8192x8x64 (constant (F := Ideal) S_ .f32 0x3E000000#32))

theorem half0_at (x : FVec Ideal S2x32768x128 .f32) (r : Fin 32768) (l : Fin 64) : half0 x (ix2 r l) = x (ix3 0 r ⟨l.val, by omega⟩) := by
  unfold half0
  pointwise
theorem half1_at (x : FVec Ideal S2x32768x128 .f32) (r : Fin 32768) (l : Fin 64) : half1 x (ix2 r l) = x (ix3 1 r ⟨64 + l.val, by omega⟩) := by
  unfold half1
  pointwise
theorem bothOf_at (a b : FVec Ideal S32768x64 .f32) (g : Fin 2) (r : Fin 32768) (l : Fin 64) :
    bothOf a b (ix3 g r l) = if g.val < 1 then a (ix2 r l) else b (ix2 r l) := by
  unfold bothOf
  pointwise
  rfl
theorem unstack_at (y : FVec Ideal S2x32768x64 .f32) (i : Fin 8192) (h : Fin 8) (l : Fin 64) :
    unstack y (ix3 i h l) = y (ix3 (kv h) ⟨i.val / 128 * 512 + h.val % 4 * 128 + i.val % 128, by omega⟩ l) := by
  unfold unstack
  pointwise
  rfl
theorem scaled_at (y : FVec Ideal S8192x8x64 .f32) (i : Fin 8192) (h : Fin 8) (l : Fin 64) :
    scaled y (ix3 i h l) = y (ix3 i h l) * Ideal.ofBits .f32 0x3E000000#32 := rfl

/-! ## Read off -/
section
variable (U : Valuation τ sig (Elt Ideal))

theorem tail_89 : StableHlo.after (hostOps1 (F := Ideal)) U (Proc.devRef .tc main_v89) =
    scaled (unstack (bothOf (half0 (U (Proc.devRef .tc main_v77_0))) (half1 (U (Proc.devRef .tc main_v77_0))))) := by
  simp only [hostOps1]
  after_reads_simp
  refine congrArg (fun y : FVec Ideal S2x32768x64 .f32 => scaled (unstack y)) ?_
  refine congrArg₂ (fun a b : FVec Ideal S1x32768x64 .f32 => (concatenate S2x32768x64 0 [⟨S1x32768x64, a⟩, ⟨S1x32768x64, b⟩] concatenates_S1x32768x64_S1x32768x64_S2x32768x64_d0 : FVec Ideal S2x32768x64 .f32)) ?_ ?_
  · after_reads_simp
    rfl
  · after_reads_simp
    rfl
theorem tail_90 : StableHlo.after (hostOps1 (F := Ideal)) U (Proc.devRef .tc main_v90) =
    (shapeCast S8192x2x64 (U (Proc.devRef .tc main_v77_1) : FVec Ideal S8192x128 .f32) shapeCasts_S8192x128_S8192x2x64 : FVec Ideal S8192x2x64 .f32) := by
  simp only [hostOps1]
  after_reads_simp
  rfl
theorem tail_91 : StableHlo.after (hostOps1 (F := Ideal)) U (Proc.devRef .tc main_v91) =
    (shapeCast S8192x2x64 (U (Proc.devRef .tc main_v77_2) : FVec Ideal S8192x128 .f32) shapeCasts_S8192x128_S8192x2x64 : FVec Ideal S8192x2x64 .f32) := by
  simp only [hostOps1]
  after_reads_simp
  rfl
theorem tail_93 : StableHlo.after (hostOps1 (F := Ideal)) U (Proc.devRef .tc main_v93) =
    (shapeCast S8 (extractStridedSlice S8x1 ![0, 0] (U (Proc.devRef .tc main_v77_3) : FVec Ideal S8x128 .f32) slices_S8x128_S8x1_0_0 : FVec Ideal S8x1 .f32) shapeCasts_S8x1_S8 : FVec Ideal S8 .f32) := by
  simp only [hostOps1]
  after_reads_simp
  rfl
end

theorem pairs_at (x : FVec Ideal S8192x128 .f32) (i : Fin 8192) (a : Fin 2) (l : Fin 64) :
    (shapeCast S8192x2x64 x shapeCasts_S8192x128_S8192x2x64 : FVec Ideal S8192x2x64 .f32) (ix3 i a l) = x (ix2 i (lane a l)) := by
  pointwise
  rfl
theorem first_at (x : FVec Ideal S8x128 .f32) (h : Fin 8) :
    (shapeCast S8 (extractStridedSlice S8x1 ![0, 0] x slices_S8x128_S8x1_0_0 : FVec Ideal S8x1 .f32) shapeCasts_S8x1_S8 : FVec Ideal S8 .f32) (ix1 h) = x (ix2 h 0) := by
  pointwise

variable (m : (ℓ : Loc nD τ sig) → Buf (Elt Ideal) ℓ) (c : Dev nD)

/-- What the call leaves, and everything else as it was. -/
abbrev left : Valuation τ sig (Elt Ideal) :=
  Pipeline.withArrays spec0 c (V0 m c) fun w => (dats m 0 c).arrAt w cfg0.N

theorem left_77_0 : left m c (Proc.devRef .tc main_v77_0) = dqArr m c :=
  (Pipeline.withArrays_arr_shared spec0 c (V0 m c) (fun w => (dats m 0 c).arrAt w cfg0.N)
    (Pipeline.Dat.arrAt_sharedIn (dats m 0 c) sharedIn0 (V0 m c) (fun w => A_eq m c w) _) 10).trans arr_10
theorem left_77_1 : left m c (Proc.devRef .tc main_v77_1) = dkAt m c 63 last_lt :=
  (Pipeline.withArrays_arr_shared spec0 c (V0 m c) (fun w => (dats m 0 c).arrAt w cfg0.N)
    (Pipeline.Dat.arrAt_sharedIn (dats m 0 c) sharedIn0 (V0 m c) (fun w => A_eq m c w) _) 11).trans arr_11
theorem left_77_2 : left m c (Proc.devRef .tc main_v77_2) = dvAt m c 63 last_lt :=
  (Pipeline.withArrays_arr_shared spec0 c (V0 m c) (fun w => (dats m 0 c).arrAt w cfg0.N)
    (Pipeline.Dat.arrAt_sharedIn (dats m 0 c) sharedIn0 (V0 m c) (fun w => A_eq m c w) _) 12).trans arr_12
theorem left_77_3 : left m c (Proc.devRef .tc main_v77_3) = dsAt m c 63 last_lt :=
  (Pipeline.withArrays_arr_shared spec0 c (V0 m c) (fun w => (dats m 0 c).arrAt w cfg0.N)
    (Pipeline.Dat.arrAt_sharedIn (dats m 0 c) sharedIn0 (V0 m c) (fun w => A_eq m c w) _) 13).trans arr_13

variable {m c} {D : Data} (A : Args m D c)
include A

theorem out_dq (i : Fin 8192) (a : Fin 2) (g : Fin 4) (l : Fin 64) :
    StableHlo.after (hostOps1 (F := Ideal)) (left m c) (Proc.devRef .tc main_v89) (ix3 i (hd a g) l) = ((D.gq i (hd a g) l : ℝ) : EReal) := by
  rw [tail_89, left_77_0, scaled_at, unstack_at, bothOf_at, half0_at, half1_at]
  have hi := i.isLt
  have e := fun l' => dq_total A a ⟨i.val / 128 * 512 + (hd a g).val % 4 * 128 + i.val % 128, by omega⟩ l' ⟨i.val / 128, by omega⟩
    ⟨g.val * 128 + i.val % 128, by omega⟩ (by show i.val / 128 * 512 + (a.val * 4 + g.val) % 4 * 128 + i.val % 128 = i.val / 128 * 512 + (g.val * 128 + i.val % 128); omega)
  have hr : rj ⟨g.val * 128 + i.val % 128, by omega⟩ = g := Fin.ext (by show (g.val * 128 + i.val % 128) / 128 = g.val; omega)
  have hw : row ⟨i.val / 128, by omega⟩ (ra ⟨g.val * 128 + i.val % 128, by omega⟩) = i := Fin.ext (by show i.val / 128 * 128 + (g.val * 128 + i.val % 128) % 128 = i.val; omega)
  simp only [hr, hw] at e
  rw [kv_hd, eighth, Data.gq, kv_hd, EReal.coe_mul]
  refine congrArg (fun x : EReal => x * ((1 / 8 : ℝ) : EReal)) ?_
  have ha : a = 0 ∨ a = 1 := by omega
  rcases ha with rfl | rfl
  · rw [if_pos (by decide), e, if_pos (Fin.ext (by show l.val / 64 = 0; omega))]
    have hl : ll ⟨l.val, by omega⟩ = l := Fin.ext (by show l.val % 64 = l.val; omega)
    rw [hl]
  · rw [if_neg (by decide), e, if_pos (Fin.ext (by show (64 + l.val) / 64 = 1; omega))]
    have hl : ll ⟨64 + l.val, by omega⟩ = l := Fin.ext (by show (64 + l.val) % 64 = l.val; omega)
    rw [hl]

theorem out_dk (j : Fin 8192) (a : Fin 2) (l : Fin 64) :
    StableHlo.after (hostOps1 (F := Ideal)) (left m c) (Proc.devRef .tc main_v90) (ix3 j a l) = ((D.gk j a l : ℝ) : EReal) := by
  rw [tail_90, left_77_1, pairs_at]
  have hj : j = row ⟨j.val / 128, by omega⟩ ⟨j.val % 128, by omega⟩ := Fin.ext (by show j.val = j.val / 128 * 128 + j.val % 128; omega)
  rw [hj, dk_total A, lg_lane, ll_lane]
theorem out_dv (j : Fin 8192) (a : Fin 2) (l : Fin 64) :
    StableHlo.after (hostOps1 (F := Ideal)) (left m c) (Proc.devRef .tc main_v91) (ix3 j a l) = ((D.gv j a l : ℝ) : EReal) := by
  rw [tail_91, left_77_2, pairs_at]
  have hj : j = row ⟨j.val / 128, by omega⟩ ⟨j.val % 128, by omega⟩ := Fin.ext (by show j.val = j.val / 128 * 128 + j.val % 128; omega)
  rw [hj, dv_total A, lg_lane, ll_lane]
theorem out_ds (a : Fin 2) (g : Fin 4) :
    StableHlo.after (hostOps1 (F := Ideal)) (left m c) (Proc.devRef .tc main_v93) (ix1 (hd a g)) = ((D.gs (hd a g) : ℝ) : EReal) := by
  rw [tail_93, left_77_3, first_at, ds_total A]

end Cert.KernelIdeal.Attn
end
-- ==== Proof.Attn.Equal.lean ====
/- The kernel's four results and the reference's are the same. -/
module

public import proofs.«01_k».proof.Proof.Attn.Claims
public import proofs.«01_k».proof.Proof.Attn.Tail

@[expose] public section

set_option maxRecDepth 16384

noncomputable section

namespace Cert.Attn

open Idealize.ShloMosaic Idealize.ShloMosaic.TcCoe Idealize.SL.Sem

/-- A value below infinity in absolute value is a real. -/
theorem real_of_finite {S : Shape} (h : (⟨0, ![]⟩ : Shape).BroadcastsInDim S (![] : Fin 0 → Fin S.rank)) (x : FVec Ideal S .f32)
    (hx : cmpf .olt (Host.absf x) (broadcastInDim S ![] h (constant (F := Ideal) ⟨0, ![]⟩ .f32 0x7F800000#32)) = fun _ => 1#1) (i : S.Idx) :
    ((EReal.toReal (x i) : ℝ) : EReal) = x i := by
  have e : Ideal.cmp .olt (max (x i) (-(x i) : EReal)) (Ideal.ofBits .f32 0x7F800000#32) = 1#1 := congrFun hx i
  have hb : Ideal.ofBits .f32 0x7F800000#32 = ⊤ := by simp [Ideal.ofBits, Ideal.ieee]
  rw [hb] at e
  have hl : max (x i) (-(x i) : EReal) < ⊤ := by
    by_contra hn
    simp [Ideal.cmp, hn] at e
  refine EReal.coe_toReal (fun ht => ?_) (fun hbt => ?_)
  · rw [ht] at hl; simp at hl
  · rw [hbt] at hl; simp at hl

theorem eta3 {a b c : ℕ} (i : (⟨3, ![a, b, c]⟩ : Shape).Idx) : i = ix3 (i 0) (i 1) (i 2) := by
  funext k
  match k with
  | ⟨0, _⟩ => rfl
  | ⟨1, _⟩ => rfl
  | ⟨2, _⟩ => rfl
theorem eta1 {a : ℕ} (i : (⟨1, ![a]⟩ : Shape).Idx) : i = ix1 (i 0) := by
  funext k
  match k with
  | ⟨0, _⟩ => rfl
theorem arr3 {a b c : ℕ} (h : (⟨0, ![]⟩ : Shape).BroadcastsInDim ⟨3, ![a, b, c]⟩ (![] : Fin 0 → Fin 3)) (x : FVec Ideal ⟨3, ![a, b, c]⟩ .f32)
    (hx : cmpf .olt (Host.absf x) (broadcastInDim ⟨3, ![a, b, c]⟩ ![] h (constant (F := Ideal) ⟨0, ![]⟩ .f32 0x7F800000#32)) = fun _ => 1#1) :
    x = fun i => ((EReal.toReal (x (ix3 (i 0) (i 1) (i 2))) : ℝ) : EReal) :=
  funext fun i => (real_of_finite _ _ hx i).symm.trans (congrArg (fun j => ((EReal.toReal (x j) : ℝ) : EReal)) (eta3 i))
theorem arr1 {a : ℕ} (h : (⟨0, ![]⟩ : Shape).BroadcastsInDim ⟨1, ![a]⟩ (![] : Fin 0 → Fin 1)) (x : FVec Ideal ⟨1, ![a]⟩ .f32)
    (hx : cmpf .olt (Host.absf x) (broadcastInDim ⟨1, ![a]⟩ ![] h (constant (F := Ideal) ⟨0, ![]⟩ .f32 0x7F800000#32)) = fun _ => 1#1) :
    x = fun i => ((EReal.toReal (x (ix1 (i 0))) : ℝ) : EReal) :=
  funext fun i => (real_of_finite _ _ hx i).symm.trans (congrArg (fun j => ((EReal.toReal (x j) : ℝ) : EReal)) (eta1 i))
theorem hd_eta (h : Fin 8) : h = hd (kv h) ⟨h.val % 4, by omega⟩ := Fin.ext (by show h.val = h.val / 4 * 4 + h.val % 4; omega)

variable (m : (ℓ : Loc KernelIdeal.nD KernelIdeal.τ KernelIdeal.sig) → Buf (Elt Ideal) ℓ)

/-- A device's arguments as real numbers. -/
def dataOf (c : Dev KernelIdeal.nD) : Data where
  q i h l := EReal.toReal ((m ((c.tc : Thread KernelIdeal.nD KernelIdeal.τ).loc KernelIdeal.main_arg0) : FVec Ideal KernelIdeal.S8192x8x64 .f32) (ix3 i h l))
  k i h l := EReal.toReal ((m ((c.tc : Thread KernelIdeal.nD KernelIdeal.τ).loc KernelIdeal.main_arg1) : FVec Ideal KernelIdeal.S8192x2x64 .f32) (ix3 i h l))
  v i h l := EReal.toReal ((m ((c.tc : Thread KernelIdeal.nD KernelIdeal.τ).loc KernelIdeal.main_arg2) : FVec Ideal KernelIdeal.S8192x2x64 .f32) (ix3 i h l))
  s h := EReal.toReal ((m ((c.tc : Thread KernelIdeal.nD KernelIdeal.τ).loc KernelIdeal.main_arg3) : FVec Ideal KernelIdeal.S8 .f32) (ix1 h))
  d i h l := EReal.toReal ((m ((c.tc : Thread KernelIdeal.nD KernelIdeal.τ).loc KernelIdeal.main_arg4) : FVec Ideal KernelIdeal.S8192x8x64 .f32) (ix3 i h l))

theorem args_of (h : Cert.Pre_KernelIdeal_finite m) (c : Dev KernelIdeal.nD) : KernelIdeal.Attn.Args m (dataOf m c) c := by
  obtain ⟨h0, h1, h2, h3, h4⟩ := h c
  unfold Cert.Pre_finite.fn at h0 h1 h2 h3 h4
  refine ⟨?_, ?_, ?_, ?_, ?_⟩
  · exact arr3 _ _ h0
  · exact arr3 _ _ h1
  · exact arr3 _ _ h2
  · exact arr1 _ _ h3
  · exact arr3 _ _ h4

/-- The four gradients as arrays. -/
def oq (D : Data) : FVec Ideal KernelIdeal.S8192x8x64 .f32 := fun i => ((D.gq (i 0) (i 1) (i 2) : ℝ) : EReal)
def ok (D : Data) : FVec Ideal KernelIdeal.S8192x2x64 .f32 := fun i => ((D.gk (i 0) (i 1) (i 2) : ℝ) : EReal)
def ov (D : Data) : FVec Ideal KernelIdeal.S8192x2x64 .f32 := fun i => ((D.gv (i 0) (i 1) (i 2) : ℝ) : EReal)
def os (D : Data) : FVec Ideal KernelIdeal.S8 .f32 := fun i => ((D.gs (i 0) : ℝ) : EReal)

theorem eq_oq (D : Data) (x : FVec Ideal KernelIdeal.S8192x8x64 .f32) (h : ∀ i a g l, x (ix3 i (hd a g) l) = ((D.gq i (hd a g) l : ℝ) : EReal)) : x = oq D := by
  have key : ∀ (j : Fin 8192) (b : Fin 8) (l : Fin 64), x (ix3 j b l) = ((D.gq j b l : ℝ) : EReal) := fun j b l => by rw [hd_eta b]; exact h j _ _ l
  funext i
  exact (congrArg x (eta3 i)).trans (key (i 0) (i 1) (i 2))
theorem eq_ok (D : Data) (x : FVec Ideal KernelIdeal.S8192x2x64 .f32) (h : ∀ j a l, x (ix3 j a l) = ((D.gk j a l : ℝ) : EReal)) : x = ok D :=
  funext fun i => (congrArg x (eta3 i)).trans (h (i 0) (i 1) (i 2))
theorem eq_ov (D : Data) (x : FVec Ideal KernelIdeal.S8192x2x64 .f32) (h : ∀ j a l, x (ix3 j a l) = ((D.gv j a l : ℝ) : EReal)) : x = ov D :=
  funext fun i => (congrArg x (eta3 i)).trans (h (i 0) (i 1) (i 2))
theorem eq_os (D : Data) (x : FVec Ideal KernelIdeal.S8 .f32) (h : ∀ a g, x (ix1 (hd a g)) = ((D.gs (hd a g) : ℝ) : EReal)) : x = os D := by
  have key : ∀ b : Fin 8, x (ix1 b) = ((D.gs b : ℝ) : EReal) := fun b => by rw [hd_eta b]; exact h _ _
  funext i
  exact (congrArg x (eta1 i)).trans (key (i 0))

section
open Cert.KernelIdeal Cert.KernelIdeal.Gen Cert.KernelIdeal.Attn

/-- What the kernel's program leaves. -/
theorem kernel_run (g : Dev nD → PrngReg) (h : Cert.Pre_KernelIdeal_finite m) :
    θ_run (defs (F := Ideal)) (onTc (τ := τ) (main (F := Ideal))) ⟨m, fun _ => 0, g⟩ (fun r => ∀ c : Dev nD,
      r.2.mem ((c.tc : Thread nD τ).loc main_v89) = oq (dataOf m c)
      ∧ r.2.mem ((c.tc : Thread nD τ).loc main_v90) = ok (dataOf m c)
      ∧ r.2.mem ((c.tc : Thread nD τ).loc main_v91) = ov (dataOf m c)
      ∧ r.2.mem ((c.tc : Thread nD τ).loc main_v93) = os (dataOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c =>
    ⟨((hr.1.1 c).2 main_v89 (Pipeline.mem_restRefs_of main_v89 (by decide) (by decide))).trans (eq_oq (dataOf m c) _ fun i a g l => out_dq (args_of m h c) i a g l),
     ((hr.1.1 c).2 main_v90 (Pipeline.mem_restRefs_of main_v90 (by decide) (by decide))).trans (eq_ok (dataOf m c) _ fun j a l => out_dk (args_of m h c) j a l),
     ((hr.1.1 c).2 main_v91 (Pipeline.mem_restRefs_of main_v91 (by decide) (by decide))).trans (eq_ov (dataOf m c) _ fun j a l => out_dv (args_of m h c) j a l),
     ((hr.1.1 c).2 main_v93 (Pipeline.mem_restRefs_of main_v93 (by decide) (by decide))).trans (eq_os (dataOf m c) _ fun a g => out_ds (args_of m h c) a g),
     hr.2.1 c⟩)
    (θ_run_and (run_main m g) (frame_any m g))
end

/-- The reference's results of the data's arrays. -/
theorem ref_q (D : Data) : (ReferenceIdeal.Read.val_main_v109 (F := Ideal) D.aq D.ak D.av D.asink D.ad) = oq D :=
  eq_oq D _ fun i a g l => r109 D i a g l
theorem ref_k (D : Data) : (ReferenceIdeal.Read.val_main_v108 (F := Ideal) D.aq D.ak D.av D.asink D.ad) = ok D :=
  eq_ok D _ fun j a l => r108 D j a l
theorem ref_v (D : Data) : (ReferenceIdeal.Read.val_main_v77 (F := Ideal) D.aq D.ak D.asink D.ad) = ov D :=
  eq_ov D _ fun j a l => r77 D a j l
theorem ref_s (D : Data) : (ReferenceIdeal.Read.val_main_v100 (F := Ideal) D.aq D.ak D.av D.asink D.ad) = os D :=
  eq_os D _ fun a g => r100 D a g

theorem gradients_equal : algebraic_KernelIdeal_ReferenceIdeal_pre_finite := by
  intro m g m' g' h hm
  refine ⟨fun c => oq (dataOf m c), fun c => ok (dataOf m c), fun c => ov (dataOf m c), fun c => os (dataOf m c), kernel_run m g h, ?_⟩
  refine (θ_run ReferenceIdeal.defs _ _).mono (fun r hr c => ?_) (ReferenceIdeal.Value.run (F := Ideal) m' g')
  have A := args_of m h c
  obtain ⟨e0, e1, e2, e3, e4⟩ := hm c
  have d0 := e0.trans A.h0
  have d1 := e1.trans A.h1
  have d2 := e2.trans A.h2
  have d3 := e3.trans A.h3
  have d4 := e4.trans A.h4
  obtain ⟨r0, r1, r2, r3, rest⟩ := hr c
  refine ⟨r0.trans ?_, r1.trans ?_, r2.trans ?_, r3.trans ?_, rest⟩
  · rw [ReferenceIdeal.Read.val_main_v109_eq, d0, d1, d2, d3, d4]; exact ref_q _
  · rw [ReferenceIdeal.Read.val_main_v108_eq, d0, d1, d2, d3, d4]; exact ref_k _
  · rw [ReferenceIdeal.Read.val_main_v77_eq, d0, d1, d3, d4]; exact ref_v _
  · rw [ReferenceIdeal.Read.val_main_v100_eq, d0, d1, d2, d3, d4]; exact ref_s _

end Cert.Attn
end
-- ==== Proof.Ffn.Bwd.lean ====
/- The backward call's claims: its three results are the reference's. -/
module

public import proofs.«01_k».proof.Proof.Ffn.BwdRun
public import proofs.«01_k».proof.Proof.Ffn.BwdRef
public import proofs.«01_k».proof.Proof.Attn.Equal
public import proofs.«01_k».proof.Proof.Gen.Kernel2.Frame
public import proofs.«01_k».proof.Proof.Gen.Pre_finite_ffn

@[expose] public section

set_option maxRecDepth 16384

noncomputable section

namespace Cert.Ffn

open Idealize.ShloMosaic Idealize.ShloMosaic.TcCoe Idealize.SL.Sem
open Cert.Kernel2Ideal.Ffn (X W D R)
open Cert.Reference2Ideal.Ffn (IsR)

theorem bwd_frame : quiescent_Kernel2 := fun m ρ _ => Kernel2.Gen.frame m ρ
theorem bwd_frame_ideal : quiescent_Kernel2Ideal := fun m ρ _ => Kernel2Ideal.Gen.frame m ρ
theorem bwd_frame_ideal_finite : quiescent_Kernel2Ideal_pre_finite_ffn := fun m ρ _ => Kernel2Ideal.Gen.frame m ρ
theorem bwd_frame_reference : quiescent_Reference2Ideal := fun m ρ _ =>
  (θ_run Reference2Ideal.defs _ _).mono (fun r h => ⟨fun c => (h c).2.2.2, sem_eq_zero_of_no_sems (by decide) r.2⟩) (Reference2Ideal.Value.run (F := Ideal) m ρ)
theorem bwd_frame_reference_finite : quiescent_Reference2Ideal_pre_finite_ffn := fun m ρ _ =>
  (θ_run Reference2Ideal.defs _ _).mono (fun r h => ⟨fun c => (h c).2.2.2, sem_eq_zero_of_no_sems (by decide) r.2⟩) (Reference2Ideal.Value.run (F := Ideal) m ρ)

variable (m : (ℓ : Loc Kernel2Ideal.nD Kernel2Ideal.τ Kernel2Ideal.sig) → Buf (Elt Ideal) ℓ)

/-- Under the precondition every entry of the four arguments is a real number. -/
theorem args_real (h : Cert.Pre_Kernel2Ideal_finite_ffn m) (c : Dev Kernel2Ideal.nD) :
    (∀ i, IsR (X m c i)) ∧ (∀ i, IsR (W m c i)) ∧ (∀ i, IsR (D m c i)) ∧ ∀ i, IsR (R m c i) := by
  obtain ⟨h0, h1, h2, h3⟩ := h c
  unfold Cert.Pre_finite_ffn.fn at h0 h1 h2 h3
  exact ⟨fun i => ⟨_, (Cert.Attn.real_of_finite _ _ h0 i).symm⟩, fun i => ⟨_, (Cert.Attn.real_of_finite _ _ h1 i).symm⟩,
    fun i => ⟨_, (Cert.Attn.real_of_finite _ _ h2 i).symm⟩, fun i => ⟨_, (Cert.Attn.real_of_finite _ _ h3 i).symm⟩⟩

theorem two_cases (P : Fin 2 → Prop) (h0 : P 0) (h1 : P 1) (a : Fin 2) : P a := match a with
  | ⟨0, _⟩ => h0
  | ⟨1, _⟩ => h1

theorem bwd_equal : algebraic_Kernel2Ideal_Reference2Ideal_pre_finite_ffn := by
  intro m g m' g' hp hm
  refine ⟨fun c => Reference2Ideal.Read.val_main_v23 (F := Ideal) (X m c) (W m c) (D m c) (R m c),
    fun c => Reference2Ideal.Read.val_main_v44 (F := Ideal) (X m c) (W m c) (D m c) (R m c),
    fun c => Reference2Ideal.Read.val_main_v50 (F := Ideal) (X m c) (W m c), ?_, ?_⟩
  · refine (θ_run _ _ _).mono (fun r hr c => ?_) (Kernel2Ideal.Ffn.run_all (F := Ideal) m g)
    obtain ⟨hx, hw, hd, he⟩ := args_real m hp c
    have read := hr.1 c
    refine ⟨(read Kernel2Ideal.main_v19 (by decide)).trans ?_, (read Kernel2Ideal.main_v18_0 (by decide)).trans ?_,
      (read Kernel2Ideal.main_v18_1 (by decide)).trans ?_,
      (read Kernel2Ideal.main_arg0 (by decide)).trans (Kernel2Ideal.Gen.W3_main_arg0 m g c),
      (read Kernel2Ideal.main_arg1 (by decide)).trans (Kernel2Ideal.Gen.W3_main_arg1 m g c),
      (read Kernel2Ideal.main_arg2 (by decide)).trans (Kernel2Ideal.Gen.W3_main_arg2 m g c),
      (read Kernel2Ideal.main_arg3 (by decide)).trans (Kernel2Ideal.Gen.W3_main_arg3 m g c)⟩
    · funext i
      rw [eta2 i]
      exact (Kernel2Ideal.Ffn.dx_at m g c _ _).trans (Reference2Ideal.Ffn.v23_at _ _ _ _ _ hx hw hd he _).symm
    · funext i
      rw [eta3 i]
      refine two_cases (fun a => Kernel2Ideal.Gen.W3 (F := Ideal) m g c (Proc.devRef .tc Kernel2Ideal.main_v18_0) (ix3 a (i 1) (i 2)) = Reference2Ideal.Read.val_main_v44 (F := Ideal) (X m c) (W m c) (D m c) (R m c) (ix3 a (i 1) (i 2))) ?_ ?_ (i 0)
      · exact (Kernel2Ideal.Ffn.dh_low m g c _ _).trans (((Reference2Ideal.Ffn.v44_apply _ _ _ _ _).trans (Reference2Ideal.Ffn.v43_low _ _ _ _ _ _)).trans (Reference2Ideal.Ffn.v41_at _ _ _ _ _ _ hx hw hd he)).symm
      · exact (Kernel2Ideal.Ffn.dh_high m g c _ _).trans (((Reference2Ideal.Ffn.v44_apply _ _ _ _ _).trans (Reference2Ideal.Ffn.v43_high _ _ _ _ _ _)).trans (Reference2Ideal.Ffn.v42_at _ _ _ _ _ _ hx hw hd he)).symm
    · funext i
      rw [eta2 i]
      exact (Kernel2Ideal.Ffn.ga_at m g c _ _).trans (Reference2Ideal.Ffn.v50_at _ _ _ _).symm
  · refine (θ_run Reference2Ideal.defs _ _).mono (fun r hr c => ?_) (Reference2Ideal.Value.run (F := Ideal) m' g')
    obtain ⟨e0, e1, e2, e3⟩ := hm c
    obtain ⟨h0, h1, h2, rest⟩ := hr c
    refine ⟨h0.trans ?_, h1.trans ?_, h2.trans ?_, rest⟩
    · rw [Reference2Ideal.Read.val_main_v23_eq, e0, e1, e2, e3]
      rfl
    · rw [Reference2Ideal.Read.val_main_v44_eq, e0, e1, e2, e3]
      rfl
    · rw [Reference2Ideal.Read.val_main_v50_eq, e0, e1]
      rfl

end Cert.Ffn
end
-- ==== Proof.Ffn.Tail.lean ====
/- The claims of the backward call with the norm's backward after it: its five results are the reference's. -/
module

public import proofs.«01_k».proof.Proof.Ffn.TailRun
public import proofs.«01_k».proof.Proof.Ffn.TailHost
public import proofs.«01_k».proof.Proof.Ffn.TailRef
public import proofs.«01_k».proof.Proof.Ffn.Bwd
public import proofs.«01_k».proof.Proof.Gen.Kernel11.Frame
public import proofs.«01_k».proof.Proof.Gen.Pre_finite_tail

@[expose] public section

set_option maxRecDepth 16384

noncomputable section

namespace Cert.Ffn

open Idealize.ShloMosaic Idealize.ShloMosaic.TcCoe Idealize.SL.Sem
open Cert.Kernel11Ideal.Ffn (X M G Y W D R R0 R1 R2 held tg tb dyf)
open Cert.Kernel10Ideal.Proj (mx ct)
open Cert.Reference11Ideal.Ffn (w0 z0 dy ct_none e110 e111 e116 e122 e128)
open Cert.Reference2Ideal.Ffn (IsR)

theorem tail_frame : quiescent_Kernel11 := fun m ρ _ => Kernel11.Gen.frame m ρ
theorem tail_frame_ideal : quiescent_Kernel11Ideal := fun m ρ _ => Kernel11Ideal.Gen.frame m ρ
theorem tail_frame_ideal_finite : quiescent_Kernel11Ideal_pre_finite_tail := fun m ρ _ => Kernel11Ideal.Gen.frame m ρ
theorem tail_frame_reference : quiescent_Reference11Ideal := fun m ρ _ =>
  (θ_run Reference11Ideal.defs _ _).mono (fun r h => ⟨fun c => (h c).2.2.2.2.2, sem_eq_zero_of_no_sems (by decide) r.2⟩) (Reference11Ideal.Value.run (F := Ideal) m ρ)
theorem tail_frame_reference_finite : quiescent_Reference11Ideal_pre_finite_tail := fun m ρ _ =>
  (θ_run Reference11Ideal.defs _ _).mono (fun r h => ⟨fun c => (h c).2.2.2.2.2, sem_eq_zero_of_no_sems (by decide) r.2⟩) (Reference11Ideal.Value.run (F := Ideal) m ρ)

theorem tail_held_all (f d : Fin 8192 → Fin 1024 → EReal) (n : Fin 8) (l : Fin 1024) :
    held f d 15 n l = if n.val = 0 then ∑ S, tg f d l S else if n.val = 1 then ∑ S, tb d l S else 0 := by
  unfold held
  rw [← term_all (tg f d l), ← term_all (tb d l)]

open Cert.Kernel2Ideal.Ffn (sg toG toU dga dpre) in
/-- The cotangent of the first product has real entries. -/
theorem dpre_real (y : FVec Ideal Kernel11Ideal.S8192x1024 .f32) (w : FVec Ideal Kernel11Ideal.S1024x5632 .f32) (d : FVec Ideal Kernel11Ideal.S2816x1024 .f32)
    (e : FVec Ideal Kernel11Ideal.S8192x1024 .f32) (hy : ∀ i, IsR (y i)) (hw : ∀ i, IsR (w i)) (hd : ∀ i, IsR (d i)) (he : ∀ i, IsR (e i)) (P : Fin 8192) (q : Fin 5632) :
    IsR (dpre y w d e P q) := by
  have hp := fun q => Reference2Ideal.Ffn.pre_real y w P hy hw q
  unfold dpre
  split
  · obtain ⟨a, ha⟩ := Reference2Ideal.Ffn.dga_real d e P ⟨q.val, by assumption⟩ hd he
    obtain ⟨b, hb⟩ := hp q
    obtain ⟨b', hb'⟩ := hp ⟨2816 + q.val, by omega⟩
    rw [ha, hb, hb']
    unfold toG
    rw [Reference2Ideal.Ffn.sg_coe]
    generalize 1 / (1 + Real.exp (-b)) = s
    simp only [← EReal.coe_one, ← EReal.coe_mul, ← EReal.coe_sub, ← EReal.coe_add]
    exact ⟨_, rfl⟩
  · obtain ⟨a, ha⟩ := Reference2Ideal.Ffn.dga_real d e P ⟨q.val - 2816, by omega⟩ hd he
    obtain ⟨b, hb⟩ := hp ⟨q.val - 2816, by omega⟩
    rw [ha, hb]
    unfold toU
    rw [Reference2Ideal.Ffn.sg_coe]
    simp only [← EReal.coe_mul]
    exact ⟨_, rfl⟩

section
variable (x m : FVec Ideal Kernel11Ideal.S8192x1024 .f32) (g : FVec Ideal Kernel11Ideal.S1024 .f32) (y : FVec Ideal Kernel11Ideal.S8192x1024 .f32)
  (w : FVec Ideal Kernel11Ideal.S1024x5632 .f32) (d : FVec Ideal Kernel11Ideal.S2816x1024 .f32) (e : FVec Ideal Kernel11Ideal.S8192x1024 .f32)
  (hy : ∀ i, IsR (y i)) (hw : ∀ i, IsR (w i)) (hd : ∀ i, IsR (d i)) (he : ∀ i, IsR (e i)) (P : Fin 8192) (l : Fin 1024)
include hy hw hd he

theorem dy_at : dy y w d e (ix2 P l) = dyf y w d e P l := Reference2Ideal.Ffn.v23_at y w d e P hy hw hd he l

theorem ct_dy : ct w0 (dy y w d e) z0 P l = dyf y w d e P l := (ct_none _ P l).trans (dy_at y w d e hy hw hd he P l)

theorem dn_dy : Kernel10Ideal.Proj.dn x m w0 g (dy y w d e) z0 P l = Kernel11Ideal.Ffn.dn (mx x m) (dyf y w d e) (fun k => g (ix1 k)) P l := by
  unfold Kernel10Ideal.Proj.dn Kernel11Ideal.Ffn.dn
  simp only [ct_dy y w d e hy hw hd he]

theorem dy_real : ∀ i, IsR (dy y w d e i) := by
  have key : ∀ (a : Fin 8192) (b : Fin 1024), IsR (dy y w d e (ix2 a b)) := fun a b => by
    rw [dy_at y w d e hy hw hd he]
    obtain ⟨s, hs⟩ := Reference10Ideal.Proj.alpha_real.mul (he (ix2 a b))
    obtain ⟨t, ht⟩ := IsR.sum fun q : Fin 5632 => (dpre_real y w d e hy hw hd he a q).mul (hw (ix2 b q))
    unfold dyf
    rw [hs, ht]
    exact ⟨s + t, by rw [EReal.coe_add]⟩
  intro i
  rw [eta2 i]
  exact key _ _

theorem tg_dy : ∑ S, Kernel10Ideal.Proj.tg x m w0 (dy y w d e) z0 l S = ∑ S, tg (mx x m) (dyf y w d e) l S :=
  Finset.sum_congr rfl fun S _ => by
    unfold Kernel10Ideal.Proj.tg tg
    rw [ct_dy y w d e hy hw hd he]
theorem tb_dy : ∑ S, Kernel10Ideal.Proj.tb w0 (dy y w d e) z0 l S = ∑ S, tb (dyf y w d e) l S :=
  Finset.sum_congr rfl fun S _ => ct_dy y w d e hy hw hd he S l

theorem gb_dy (n : Fin 8) : R2 (mx x m) (dyf y w d e) (ix2 n l) = Reference10Ideal.Read.val_main_v81 (F := Ideal) x m w0 (dy y w d e) z0 (ix2 n l) := by
  refine Eq.trans ?_ (Reference10Ideal.Proj.v81_at x m w0 (dy y w d e) z0 l n).symm
  rw [tg_dy x m y w d e hy hw hd he, tb_dy y w d e hy hw hd he]
  exact tail_held_all _ _ _ _
end

variable (m : (ℓ : Loc Kernel11Ideal.nD Kernel11Ideal.τ Kernel11Ideal.sig) → Buf (Elt Ideal) ℓ)

/-- Under the precondition every entry of the seven arguments is a real number. -/
theorem tail_args_real (h : Cert.Pre_Kernel11Ideal_finite_tail m) (c : Dev Kernel11Ideal.nD) :
    (∀ i, IsR (X m c i)) ∧ (∀ i, IsR (M m c i)) ∧ (∀ i, IsR (G m c i)) ∧ (∀ i, IsR (Y m c i)) ∧ (∀ i, IsR (W m c i)) ∧ (∀ i, IsR (D m c i)) ∧ ∀ i, IsR (R m c i) := by
  obtain ⟨h0, h1, h2, h3, h4, h5, h6⟩ := h c
  unfold Cert.Pre_finite_tail.fn at h0 h1 h2 h3 h4 h5 h6
  exact ⟨fun i => ⟨_, (Cert.Attn.real_of_finite _ _ h0 i).symm⟩, fun i => ⟨_, (Cert.Attn.real_of_finite _ _ h1 i).symm⟩,
    fun i => ⟨_, (Cert.Attn.real_of_finite _ _ h2 i).symm⟩, fun i => ⟨_, (Cert.Attn.real_of_finite _ _ h3 i).symm⟩,
    fun i => ⟨_, (Cert.Attn.real_of_finite _ _ h4 i).symm⟩, fun i => ⟨_, (Cert.Attn.real_of_finite _ _ h5 i).symm⟩,
    fun i => ⟨_, (Cert.Attn.real_of_finite _ _ h6 i).symm⟩⟩

theorem tail_equal : algebraic_Kernel11Ideal_Reference11Ideal_pre_finite_tail := by
  intro m g m' g' hp hm
  refine ⟨fun c => Reference11Ideal.Read.val_main_v110 (F := Ideal) (X m c) (M m c) (G m c) (Y m c) (W m c) (D m c) (R m c),
    fun c => Reference11Ideal.Read.val_main_v111 (F := Ideal) (X m c) (M m c) (G m c) (Y m c) (W m c) (D m c) (R m c),
    fun c => Reference11Ideal.Read.val_main_v116 (F := Ideal) (X m c) (M m c) (Y m c) (W m c) (D m c) (R m c),
    fun c => Reference11Ideal.Read.val_main_v122 (F := Ideal) (Y m c) (W m c) (D m c) (R m c),
    fun c => Reference11Ideal.Read.val_main_v128 (F := Ideal) (Y m c) (W m c), ?_, ?_⟩
  · refine (θ_run _ _ _).mono (fun r hr c => ?_) (Kernel11Ideal.Ffn.run_all (F := Ideal) m g)
    obtain ⟨hx, hx2, hg, hy, hw, hd, he⟩ := tail_args_real m hp c
    have read := hr.1 c
    refine ⟨(read Kernel11Ideal.main_v25_0 (by decide)).trans ((Kernel11Ideal.Ffn.res_eq m g c).trans ?_),
      (read Kernel11Ideal.main_v25_1 (by decide)).trans ((Kernel11Ideal.Ffn.dm_eq m g c).trans ?_),
      (read Kernel11Ideal.main_v25_2 (by decide)).trans ((Kernel11Ideal.Ffn.gb_eq m g c).trans ?_),
      (read Kernel11Ideal.main_v24_0 (by decide)).trans ?_, (read Kernel11Ideal.main_v24_1 (by decide)).trans ?_,
      (read Kernel11Ideal.main_arg0 (by decide)).trans (Kernel11Ideal.Gen.W3_main_arg0 m g c),
      (read Kernel11Ideal.main_arg1 (by decide)).trans (Kernel11Ideal.Gen.W3_main_arg1 m g c),
      (read Kernel11Ideal.main_arg2 (by decide)).trans (Kernel11Ideal.Gen.W3_main_arg2 m g c),
      (read Kernel11Ideal.main_arg3 (by decide)).trans (Kernel11Ideal.Gen.W3_main_arg3 m g c),
      (read Kernel11Ideal.main_arg4 (by decide)).trans (Kernel11Ideal.Gen.W3_main_arg4 m g c),
      (read Kernel11Ideal.main_arg5 (by decide)).trans (Kernel11Ideal.Gen.W3_main_arg5 m g c),
      (read Kernel11Ideal.main_arg6 (by decide)).trans (Kernel11Ideal.Gen.W3_main_arg6 m g c)⟩
    · refine Eq.trans ?_ (e110 _ _ _ _ _ _ _).symm
      funext i
      rw [eta2 i]
      refine Eq.trans ?_ (Reference10Ideal.Proj.v75_at (X m c) (M m c) w0 (G m c) (dy (Y m c) (W m c) (D m c) (R m c)) z0 _ _ hx hx2 (fun _ => ⟨0, rfl⟩) hg (dy_real _ _ _ _ hy hw hd he) (fun _ => ⟨0, rfl⟩)).symm
      exact congrArg (_ * ·) (dn_dy _ _ _ _ _ _ _ hy hw hd he _ _).symm
    · refine Eq.trans ?_ (e111 _ _ _ _ _ _ _).symm
      funext i
      rw [eta2 i]
      refine Eq.trans ?_ (Reference10Ideal.Proj.v76_at (X m c) (M m c) w0 (G m c) (dy (Y m c) (W m c) (D m c) (R m c)) z0 _ _ hx hx2 (fun _ => ⟨0, rfl⟩) hg (dy_real _ _ _ _ hy hw hd he) (fun _ => ⟨0, rfl⟩)).symm
      exact congrArg (_ * ·) (dn_dy _ _ _ _ _ _ _ hy hw hd he _ _).symm
    · refine Eq.trans ?_ (e116 _ _ _ _ _ _).symm
      funext i
      rw [eta2 i]
      exact gb_dy _ _ _ _ _ _ hy hw hd he _ _
    · refine Eq.trans ?_ (e122 _ _ _ _).symm
      funext i
      rw [eta3 i]
      refine two_cases (fun a => Kernel11Ideal.Gen.W3 (F := Ideal) m g c (Proc.devRef .tc Kernel11Ideal.main_v24_0) (ix3 a (i 1) (i 2)) = Reference2Ideal.Read.val_main_v44 (F := Ideal) (Y m c) (W m c) (D m c) (R m c) (ix3 a (i 1) (i 2))) ?_ ?_ (i 0)
      · exact (Kernel11Ideal.Ffn.dh_low m g c _ _).trans (((Reference2Ideal.Ffn.v44_apply _ _ _ _ _).trans (Reference2Ideal.Ffn.v43_low _ _ _ _ _ _)).trans (Reference2Ideal.Ffn.v41_at _ _ _ _ _ _ hy hw hd he)).symm
      · exact (Kernel11Ideal.Ffn.dh_high m g c _ _).trans (((Reference2Ideal.Ffn.v44_apply _ _ _ _ _).trans (Reference2Ideal.Ffn.v43_high _ _ _ _ _ _)).trans (Reference2Ideal.Ffn.v42_at _ _ _ _ _ _ hy hw hd he)).symm
    · refine Eq.trans ?_ (e128 _ _).symm
      funext i
      rw [eta2 i]
      exact (Kernel11Ideal.Ffn.ga_at m g c _ _).trans (Reference2Ideal.Ffn.v50_at _ _ _ _).symm
  · refine (θ_run Reference11Ideal.defs _ _).mono (fun r hr c => ?_) (Reference11Ideal.Value.run (F := Ideal) m' g')
    obtain ⟨e0, e1, e2, e3, e4, e5, e6⟩ := hm c
    have l0 : StableHlo.launchContents m' c (Proc.devRef .tc Reference11Ideal.main_arg0) = X m c := e0
    have l1 : StableHlo.launchContents m' c (Proc.devRef .tc Reference11Ideal.main_arg1) = M m c := e1
    have l2 : StableHlo.launchContents m' c (Proc.devRef .tc Reference11Ideal.main_arg2) = G m c := e2
    have l3 : StableHlo.launchContents m' c (Proc.devRef .tc Reference11Ideal.main_arg3) = Y m c := e3
    have l4 : StableHlo.launchContents m' c (Proc.devRef .tc Reference11Ideal.main_arg4) = W m c := e4
    have l5 : StableHlo.launchContents m' c (Proc.devRef .tc Reference11Ideal.main_arg5) = D m c := e5
    have l6 : StableHlo.launchContents m' c (Proc.devRef .tc Reference11Ideal.main_arg6) = R m c := e6
    obtain ⟨h0, h1, h2, h3, h4, rest⟩ := hr c
    refine ⟨h0.trans ?_, h1.trans ?_, h2.trans ?_, h3.trans ?_, h4.trans ?_, rest⟩
    · rw [Reference11Ideal.Read.val_main_v110_eq, l0, l1, l2, l3, l4, l5, l6]
    · rw [Reference11Ideal.Read.val_main_v111_eq, l0, l1, l2, l3, l4, l5, l6]
    · rw [Reference11Ideal.Read.val_main_v116_eq, l0, l1, l3, l4, l5, l6]
    · rw [Reference11Ideal.Read.val_main_v122_eq, l3, l4, l5, l6]
    · rw [Reference11Ideal.Read.val_main_v128_eq, l3, l4]

end Cert.Ffn
end
-- ==== Proof.Proj.Out.lean ====
/- The output projection's forward call: the weighted residual sum, and its normalised rows. -/
module

public import proofs.«01_k».proof.Defs
public import proofs.«01_k».proof.Proof.Ffn.FwdAt
public import proofs.«01_k».proof.Proof.Gen.Kernel9.Frame
public import proofs.«01_k».proof.Proof.Gen.Kernel9Ideal.Value
public import proofs.«01_k».proof.Proof.Gen.Reference9Ideal.Read
public import Idealize.ShloMosaic.Lib.StableHlo.ReadAt

@[expose] public section

set_option maxRecDepth 16384

noncomputable section

namespace Cert.Kernel9Ideal.Proj

open Idealize.ShloMosaic Idealize.ShloMosaic.TcCoe Idealize.SL.Sem Cert.Kernel9Ideal Cert.Kernel9Ideal.Gen
open Cert.Kernel5Ideal.Ffn (mean lnorm)
open Cert.Ffn (eta2)

theorem hz : (![0, 0] : Fin 2 → Nat) = fun _ => 0 := funext fun a => by fin_cases a <;> rfl
theorem hz3 : (![0, 0, 0] : Fin 3 → Nat) = fun _ => 0 := funext fun a => by fin_cases a <;> rfl

/-- One entry of the weighted residual sum. -/
def mix (x a : EReal) : EReal := Ideal.ofBits .f32 1068827891#32 * x + a

section
variable (x : FVec Ideal S512x1024 .f32) (yc : FVec Ideal S512x1024 .bf16) (w : FVec Ideal S1x1024x1024 .bf16) (g b : FVec Ideal S1x1024 .f32)
variable (r : Fin 512) (l : Fin 1024)

theorem pay1_at : k0_pay1 (F := Ideal) x yc w (ix2 r l) = mix (x (ix2 r l)) (∑ k : Fin 1024, yc (ix2 r k) * w (ix3 0 k l)) := by
  unfold k0_pay1 mix
  pointwise

theorem pay2_at : k0_pay2 (F := Ideal) x yc w g b (ix2 r l) = lnorm (fun k => k0_pay1 (F := Ideal) x yc w (ix2 r k)) (g (ix2 0 l)) (b (ix2 0 l)) l := by
  unfold k0_pay2 lnorm mean
  generalize hy : k0_pay1 (F := Ideal) x yc w = y
  pointwise

theorem out5_eq : out0_5 (F := Ideal) yc x w g b = k0_pay2 (F := Ideal) x yc w g b := by
  unfold out0_5
  rw [View.canon_unit_zero hz]
  simp only [View.ld_unit_zero (S := S512x1024) hz, View.ld_unit_zero (S := S1x1024) hz, View.ld_unit_zero (S := S1x1024x1024) hz3]

theorem out6_eq : out0_6 (F := Ideal) yc x w g b = k0_pay1 (F := Ideal) x yc w := by
  unfold out0_6
  rw [View.canon_unit_zero hz]
  simp only [View.ld_unit_zero (S := S512x1024) hz, View.ld_unit_zero (S := S1x1024x1024) hz3]
end

variable (m : (ℓ : Loc nD τ sig) → Buf (Elt Ideal) ℓ) (c : Dev nD)

/-- The five arguments. -/
def X : FVec Ideal S8192x1024 .f32 := m ((c : Thread nD τ).loc main_arg0)
def Y : FVec Ideal S8192x1024 .f32 := m ((c : Thread nD τ).loc main_arg1)
def W : FVec Ideal S1024x1024 .f32 := m ((c : Thread nD τ).loc main_arg2)
def G : FVec Ideal S1024 .f32 := m ((c : Thread nD τ).loc main_arg3)
def B : FVec Ideal S1024 .f32 := m ((c : Thread nD τ).loc main_arg4)

theorem v0_at (R : Fin 8192) (k : Fin 1024) : (V m c main_v0 : FVec Ideal S8192x1024 .bf16) (ix2 R k) = Y m c (ix2 R k) := by
  simp only [V, hostOps0, List.flatten_cons, List.flatten_nil, List.append_nil, List.cons_append, List.nil_append]
  after_reads_simp
  unfold Y
  pointwise
theorem v2_at (k l : Fin 1024) : (V m c main_v2 : FVec Ideal S1x1024x1024 .bf16) (ix3 0 k l) = W m c (ix2 k l) := by
  simp only [V, hostOps0, List.flatten_cons, List.flatten_nil, List.append_nil, List.cons_append, List.nil_append]
  after_reads_simp
  unfold W
  pointwise
theorem v3_at (l : Fin 1024) : (V m c main_v3 : FVec Ideal S1x1024 .f32) (ix2 0 l) = G m c (ix1 l) := by
  simp only [V, hostOps0, List.flatten_cons, List.flatten_nil, List.append_nil, List.cons_append, List.nil_append]
  after_reads_simp
  unfold G
  pointwise
theorem v4_at (l : Fin 1024) : (V m c main_v4 : FVec Ideal S1x1024 .f32) (ix2 0 l) = B m c (ix1 l) := by
  simp only [V, hostOps0, List.flatten_cons, List.flatten_nil, List.append_nil, List.cons_append, List.nil_append]
  after_reads_simp
  unfold B
  pointwise

theorem lt16 (t : Fin cfg0.N) : t.val < 16 := lt_of_lt_of_eq t.isLt N_0
theorem idx_y : ∀ t : Fin cfg0.N, win0_0.index t = ![t.val, 0] := (by decide +kernel : ∀ t : Fin grid0.N, win0_0.index t = ![t.val, 0])
theorem idx_x : ∀ t : Fin cfg0.N, win0_1.index t = ![t.val, 0] := (by decide +kernel : ∀ t : Fin grid0.N, win0_1.index t = ![t.val, 0])
theorem idx_w : ∀ t : Fin cfg0.N, win0_2.index t = ![0, 0, 0] := (by decide +kernel : ∀ t : Fin grid0.N, win0_2.index t = ![0, 0, 0])
theorem idx_g : ∀ t : Fin cfg0.N, win0_3.index t = ![0, 0] := (by decide +kernel : ∀ t : Fin grid0.N, win0_3.index t = ![0, 0])
theorem idx_b : ∀ t : Fin cfg0.N, win0_4.index t = ![0, 0] := (by decide +kernel : ∀ t : Fin grid0.N, win0_4.index t = ![0, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])

/-- The row of the whole array that a block's row is. -/
def row (t : Fin cfg0.N) (r : Fin 512) : Fin 8192 := ⟨t.val * 512 + r.val, by have := lt16 t; omega⟩

theorem i_y (t : Fin cfg0.N) (r : Fin 512) (k : Fin 1024) :
    (iblk m c 0 t : FVec Ideal S512x1024 .bf16) (ix2 r k) = (V m c main_v0 : FVec Ideal S8192x1024 .bf16) (ix2 ⟨t.val * 512 + r.val, by have := lt16 t; omega⟩ k) := by
  blk_ext [iblk, idx_y t]
theorem i_x (t : Fin cfg0.N) (r : Fin 512) (k : Fin 1024) :
    (iblk m c 1 t : FVec Ideal S512x1024 .f32) (ix2 r k) = (V m c main_arg0 : FVec Ideal S8192x1024 .f32) (ix2 ⟨t.val * 512 + r.val, by have := lt16 t; omega⟩ k) := by
  blk_ext [iblk, idx_x t]
theorem i_w (t : Fin cfg0.N) (k l : Fin 1024) :
    (iblk m c 2 t : FVec Ideal S1x1024x1024 .bf16) (ix3 0 k l) = (V m c main_v2 : FVec Ideal S1x1024x1024 .bf16) (ix3 0 k l) := by
  blk_ext [iblk, idx_w t]
theorem i_g (t : Fin cfg0.N) (l : Fin 1024) : (iblk m c 3 t : FVec Ideal S1x1024 .f32) (ix2 0 l) = (V m c main_v3 : FVec Ideal S1x1024 .f32) (ix2 0 l) := by
  blk_ext [iblk, idx_g t]
theorem i_b (t : Fin cfg0.N) (l : Fin 1024) : (iblk m c 4 t : FVec Ideal S1x1024 .f32) (ix2 0 l) = (V m c main_v4 : FVec Ideal S1x1024 .f32) (ix2 0 l) := by
  blk_ext [iblk, idx_b t]

theorem emb5 (t : Fin cfg0.N) (r : Fin 512) (l : Fin 1024) : ((win0_5.blk t).view.emb (ix2 r l) : S8192x1024.Idx) = ix2 (row t r) l := by
  funext a; apply Fin.ext
  refine (Pipeline.Window.rect_emb_val win0_5 t _ a).trans ?_
  rw [idx_5 t]
  match a with
  | ⟨0, _⟩ => rfl
  | ⟨1, _⟩ => show 0 * 1024 + l.val = l.val; omega
theorem emb6 (t : Fin cfg0.N) (r : Fin 512) (l : Fin 1024) : ((win0_6.blk t).view.emb (ix2 r l) : S8192x1024.Idx) = ix2 (row t r) l := by
  funext a; apply Fin.ext
  refine (Pipeline.Window.rect_emb_val win0_6 t _ a).trans ?_
  rw [idx_6 t]
  match a with
  | ⟨0, _⟩ => rfl
  | ⟨1, _⟩ => show 0 * 1024 + l.val = l.val; omega

/-- The residual sum. -/
def res (x y : FVec Ideal S8192x1024 .f32) (w : FVec Ideal S1024x1024 .f32) (R : Fin 8192) (j : Fin 1024) : EReal :=
  mix (x (ix2 R j)) (∑ k : Fin 1024, y (ix2 R k) * w (ix2 k j))

theorem r_at (t : Fin cfg0.N) (r : Fin 512) (l : Fin 1024) :
    k0_pay1 (F := Ideal) (iblk m c 1 t) (iblk m c 0 t) (iblk m c 2 t) (ix2 r l) = res (X m c) (Y m c) (W m c) (row t r) l := by
  refine (pay1_at _ _ _ r l).trans (congrArg₂ mix ((i_x m c t r l).trans (congrFun (V_main_arg0 m c) _)) ?_)
  exact Finset.sum_congr rfl fun k _ => congrArg₂ (· * ·) ((i_y m c t r k).trans (v0_at m c _ k)) ((i_w m c t k l).trans (v2_at m c k l))

/-- The two results. -/
def R1 : FVec Ideal S8192x1024 .f32 := fun i => res (X m c) (Y m c) (W m c) (i 0) (i 1)
def R0 : FVec Ideal S8192x1024 .f32 := fun i => lnorm (res (X m c) (Y m c) (W m c) (i 0)) (G m c (ix1 (i 1))) (B m c (ix1 (i 1))) (i 1)

theorem r_arr : ((dats m 0 c).arrAt 6 cfg0.N : FVec Ideal S8192x1024 .f32) = R1 m c := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eta2 y⟩
  refine (congrFun (out6_eq _ _ _ _ _) _).trans (Eq.trans ?_ (congrArg (R1 m c) (emb6 t r l)).symm)
  exact r_at m c t r l

theorem y_arr : ((dats m 0 c).arrAt 5 cfg0.N : FVec Ideal S8192x1024 .f32) = R0 m c := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eta2 y⟩
  refine (congrFun (out5_eq _ _ _ _ _) _).trans (Eq.trans ?_ (congrArg (R0 m c) (emb5 t r l)).symm)
  refine (pay2_at _ _ _ _ _ r l).trans ?_
  rw [i_g, i_b, v3_at, v4_at]
  exact congrArg (fun f => lnorm f (G m c (ix1 l)) (B m c (ix1 l)) l) (funext fun k => r_at m c t r k)

end Cert.Kernel9Ideal.Proj

namespace Cert.Reference9Ideal.Proj

open Idealize.ShloMosaic Cert.Reference9Ideal Cert.Reference9Ideal.Read
open Cert.Kernel5Ideal.Ffn (mean lnorm)
open Cert.Kernel9Ideal.Proj (mix res)

variable (x y : FVec Ideal S8192x1024 .f32) (w : FVec Ideal S1024x1024 .f32) (g b : FVec Ideal S1024 .f32)

theorem v3_at (R : Fin 8192) (j : Fin 1024) : (val_main_v3 (F := Ideal) x y w : FVec Ideal S8192x1024 .f32) (ix2 R j) = res x y w R j := by
  unfold res mix
  unfold val_main_v3 val_main_v2 val_main_v1 val_main_v0 val_main_cst
  pointwise

theorem v7_at (R : Fin 8192) : (val_main_v7 (F := Ideal) x y w : FVec Ideal S8192x1 .f32) (ix2 R 0) = mean (res x y w R) := by
  unfold mean
  simp only [← v3_at]
  unfold val_main_v7 val_main_v5 val_main_v4 val_main_v6 val_main_cst_1 val_main_cst_0
  pointwise

theorem v14_at (R : Fin 8192) : (val_main_v14 (F := Ideal) x y w : FVec Ideal S8192x1 .f32) (ix2 R 0) = mean (fun k => (res x y w R k - mean (res x y w R)) * (res x y w R k - mean (res x y w R))) := by
  conv_rhs => unfold mean
  rw [show Ideal.div (∑ k, res x y w R k) (Ideal.ofBits .f32 1149239296#32) = mean (res x y w R) from rfl]
  simp only [← v3_at, ← v7_at]
  unfold val_main_v14 val_main_v12 val_main_v11 val_main_v10 val_main_v9 val_main_v8 val_main_v13 val_main_cst_2 val_main_cst_3
  pointwise

theorem v27_at (R : Fin 8192) (j : Fin 1024) : (val_main_v27 (F := Ideal) x y w g b : FVec Ideal S8192x1024 .f32) (ix2 R j) = lnorm (res x y w R) (g (ix1 j)) (b (ix1 j)) j := by
  unfold lnorm
  rw [← v14_at, ← v7_at, ← v3_at]
  unfold val_main_v27 val_main_v26 val_main_v25 val_main_v24 val_main_v23 val_main_v22 val_main_v21 val_main_v20 val_main_v19 val_main_v18 val_main_v17 val_main_v16 val_main_v15 val_main_cst_4
  pointwise

end Cert.Reference9Ideal.Proj

namespace Cert.Proj

open Idealize.ShloMosaic Idealize.ShloMosaic.TcCoe Idealize.SL.Sem
open Cert.Kernel9Ideal.Proj (X Y W G B R0 R1)
open Cert.Ffn (eta2)

theorem out_frame : quiescent_Kernel9 := fun m ρ _ => Kernel9.Gen.frame m ρ
theorem out_frame_ideal : quiescent_Kernel9Ideal := fun m ρ _ => Kernel9Ideal.Gen.frame m ρ
theorem out_frame_reference : quiescent_Reference9Ideal := fun m ρ _ =>
  (θ_run Reference9Ideal.defs _ _).mono (fun r h => ⟨fun c => (h c).2.2, sem_eq_zero_of_no_sems (by decide) r.2⟩) (Reference9Ideal.Value.run (F := Ideal) m ρ)

theorem out_equal : algebraic_Kernel9Ideal_Reference9Ideal := by
  intro m g m' g' _ hm
  refine ⟨fun c => R0 m c, fun c => R1 m c, (θ_run _ _ _).mono (fun r hr c => ⟨(hr c).1.trans (Kernel9Ideal.Proj.y_arr m c), (hr c).2.1.trans (Kernel9Ideal.Proj.r_arr m c), (hr c).2.2⟩) (Kernel9Ideal.Value.run_blocks m g), ?_⟩
  refine (θ_run Reference9Ideal.defs _ _).mono (fun r hr c => ?_) (Reference9Ideal.Value.run (F := Ideal) m' g')
  obtain ⟨e0, e1, e2, e3, e4⟩ := hm c
  obtain ⟨h0, h1, rest⟩ := hr c
  refine ⟨h0.trans ?_, h1.trans ?_, rest⟩
  · rw [Reference9Ideal.Read.val_main_v27_eq, e0, e1, e2, e3, e4]
    funext i
    rw [eta2 i]
    exact Reference9Ideal.Proj.v27_at (X m c) (Y m c) (W m c) (G m c) (B m c) _ _
  · rw [Reference9Ideal.Read.val_main_v3_eq, e0, e1, e2]
    funext i
    rw [eta2 i]
    exact Reference9Ideal.Proj.v3_at (X m c) (Y m c) (W m c) _ _

end Cert.Proj
end
-- ==== Proof.Proj.BwdVal.lean ====
/- The output projection's backward call's four results, summed up over its points. -/
module

public import proofs.«01_k».proof.Proof.Proj.BwdAt
public import proofs.«01_k».proof.Proof.Proj.Out

@[expose] public section

set_option maxRecDepth 16384

noncomputable section

namespace Cert.Kernel6Ideal.Proj

open Idealize.ShloMosaic Idealize.ShloMosaic.TcCoe Idealize.SL.Sem Cert.Kernel6Ideal Cert.Kernel6Ideal.Gen Cert.Ffn Cert.Proj.Norm
open Cert.Kernel9Ideal.Proj (mix res)

variable (m : (ℓ : Loc nD τ sig) → Buf (Elt Ideal) ℓ) (c : Dev nD)

/-- The five arguments. -/
def X : FVec Ideal S8192x1024 .f32 := m ((c : Thread nD τ).loc main_arg0)
def Y : FVec Ideal S8192x1024 .f32 := m ((c : Thread nD τ).loc main_arg1)
def W : FVec Ideal S1024x1024 .f32 := m ((c : Thread nD τ).loc main_arg2)
def G : FVec Ideal S1024 .f32 := m ((c : Thread nD τ).loc main_arg3)
def E : FVec Ideal S8192x1024 .f32 := m ((c : Thread nD τ).loc main_arg4)

theorem v3_at (R : Fin 8192) (k : Fin 1024) : (V m c main_v3 : FVec Ideal S8192x1024 .f32) (ix2 R k) = res (X m c) (Y m c) (W m c) R k := by
  simp only [V, hostOps0, List.flatten_cons, List.flatten_nil, List.append_nil, List.cons_append, List.nil_append]
  after_reads_simp
  unfold res mix X Y W
  pointwise
theorem v5_at (k l : Fin 1024) : (V m c main_v5 : FVec Ideal S1x1024x1024 .bf16) (ix3 0 k l) = W m c (ix2 k l) := by
  simp only [V, hostOps0, List.flatten_cons, List.flatten_nil, List.append_nil, List.cons_append, List.nil_append]
  after_reads_simp
  unfold W
  pointwise
theorem v6_at (l : Fin 1024) : (V m c main_v6 : FVec Ideal S1x1024 .f32) (ix2 0 l) = G m c (ix1 l) := by
  simp only [V, hostOps0, List.flatten_cons, List.flatten_nil, List.append_nil, List.cons_append, List.nil_append]
  after_reads_simp
  unfold G
  pointwise

theorem lt16 (t : Fin cfg0.N) : t.val < 16 := lt_of_lt_of_eq t.isLt N_0
theorem idx_e : ∀ t : Fin cfg0.N, win0_0.index t = ![t.val, 0] := (by decide +kernel : ∀ t : Fin grid0.N, win0_0.index t = ![t.val, 0])
theorem idx_f : ∀ t : Fin cfg0.N, win0_1.index t = ![t.val, 0] := (by decide +kernel : ∀ t : Fin grid0.N, win0_1.index t = ![t.val, 0])
theorem idx_w : ∀ t : Fin cfg0.N, win0_2.index t = ![0, 0, 0] := (by decide +kernel : ∀ t : Fin grid0.N, win0_2.index t = ![0, 0, 0])
theorem idx_g : ∀ t : Fin cfg0.N, win0_3.index t = ![0, 0] := (by decide +kernel : ∀ t : Fin grid0.N, win0_3.index t = ![0, 0])
theorem idx_4 : ∀ t : Fin cfg0.N, win0_4.index t = ![t.val, 0] := (by decide +kernel : ∀ t : Fin grid0.N, win0_4.index t = ![t.val, 0])
theorem idx_5 : ∀ t : Fin cfg0.N, win0_5.index t = ![t.val, 0] := (by decide +kernel : ∀ t : Fin grid0.N, win0_5.index t = ![t.val, 0])
theorem idx_6 : ∀ t : Fin cfg0.N, win0_6.index t = ![t.val, 0] := (by decide +kernel : ∀ t : Fin grid0.N, win0_6.index t = ![t.val, 0])
theorem idx_7 : ∀ t : Fin cfg0.N, win0_7.index t = ![0, 0] := (by decide +kernel : ∀ t : Fin grid0.N, win0_7.index t = ![0, 0])

theorem b_e (t : Fin cfg0.N) (r : Fin 512) (k : Fin 1024) :
    (iblk m c 0 t : FVec Ideal S512x1024 .f32) (ix2 r k) = (V m c main_arg4 : FVec Ideal S8192x1024 .f32) (ix2 ⟨t.val * 512 + r.val, by have := lt16 t; omega⟩ k) := by
  blk_ext [iblk, idx_e t]
theorem b_f (t : Fin cfg0.N) (r : Fin 512) (k : Fin 1024) :
    (iblk m c 1 t : FVec Ideal S512x1024 .f32) (ix2 r k) = (V m c main_v3 : FVec Ideal S8192x1024 .f32) (ix2 ⟨t.val * 512 + r.val, by have := lt16 t; omega⟩ k) := by
  blk_ext [iblk, idx_f t]
theorem b_w (t : Fin cfg0.N) (k l : Fin 1024) :
    (iblk m c 2 t : FVec Ideal S1x1024x1024 .bf16) (ix3 0 k l) = (V m c main_v5 : FVec Ideal S1x1024x1024 .bf16) (ix3 0 k l) := by
  blk_ext [iblk, idx_w t]
theorem b_g (t : Fin cfg0.N) (l : Fin 1024) : (iblk m c 3 t : FVec Ideal S1x1024 .f32) (ix2 0 l) = (V m c main_v6 : FVec Ideal S1x1024 .f32) (ix2 0 l) := by
  blk_ext [iblk, idx_g t]

/-- The row of the whole array that a block's row is. -/
def row (t : Fin cfg0.N) (r : Fin 512) : Fin 8192 := ⟨t.val * 512 + r.val, by have := lt16 t; omega⟩

theorem i_e (t : Fin cfg0.N) (r : Fin 512) (k : Fin 1024) : (iblk m c 0 t : FVec Ideal S512x1024 .f32) (ix2 r k) = E m c (ix2 (row t r) k) :=
  (b_e m c t r k).trans (congrFun (V_main_arg4 m c) _)
theorem i_f (t : Fin cfg0.N) (r : Fin 512) : (fun k => (iblk m c 1 t : FVec Ideal S512x1024 .f32) (ix2 r k)) = res (X m c) (Y m c) (W m c) (row t r) :=
  funext fun k => (b_f m c t r k).trans (v3_at m c _ k)
theorem i_w (t : Fin cfg0.N) (k l : Fin 1024) : (iblk m c 2 t : FVec Ideal S1x1024x1024 .bf16) (ix3 0 k l) = W m c (ix2 k l) :=
  (b_w m c t k l).trans (v5_at m c k l)
theorem i_g (t : Fin cfg0.N) (l : Fin 1024) : (iblk m c 3 t : FVec Ideal S1x1024 .f32) (ix2 0 l) = G m c (ix1 l) :=
  (b_g m c t l).trans (v6_at m c l)

/-- The norm's derivative on the whole arrays. -/
def dn (x y : FVec Ideal S8192x1024 .f32) (w : FVec Ideal S1024x1024 .f32) (g : FVec Ideal S1024 .f32) (e : FVec Ideal S8192x1024 .f32) (R : Fin 8192) (l : Fin 1024) : EReal :=
  ker (res x y w R) (fun k => e (ix2 R k) * g (ix1 k)) l

theorem dr_at (t : Fin cfg0.N) (r : Fin 512) (l : Fin 1024) :
    dr (iblk m c 1 t) (iblk m c 0 t) (iblk m c 3 t) r l = dn (X m c) (Y m c) (W m c) (G m c) (E m c) (row t r) l := by
  unfold dr dn
  rw [i_f m c t r]
  refine congrArg (fun e => ker (res (X m c) (Y m c) (W m c) (row t r)) e l) (funext fun k => ?_)
  exact congrArg₂ (· * ·) (i_e m c t r k) (i_g m c t k)

/-- The first three results. -/
def R0 : FVec Ideal S8192x1024 .f32 := fun i => Ideal.ofBits .f32 1068827891#32 * dn (X m c) (Y m c) (W m c) (G m c) (E m c) (i 0) (i 1)
def R1 : FVec Ideal S8192x1024 .bf16 := fun i => dn (X m c) (Y m c) (W m c) (G m c) (E m c) (i 0) (i 1)
def R2 : FVec Ideal S8192x1024 .f32 := fun i => ∑ k : Fin 1024, dn (X m c) (Y m c) (W m c) (G m c) (E m c) (i 0) k * W m c (ix2 (i 1) k)

/-- What every point leaves in the first three outputs. -/
theorem o_res (t : Fin cfg0.N) : (outsAt0 m c t.val t.isLt).1 = k0_pay2 (k0_pay11 (iblk m c 1 t) (iblk m c 0 t) (iblk m c 3 t)) (k0_pay12 (iblk m c 1 t)) := by
  by_cases h0 : t.val % 16 = 0
  · rw [outsAt0_A m c t h0]
    dsimp only
    rw [res_A]
  · rw [outsAt0_B m c t h0]
    dsimp only
    rw [res_B]
theorem o_dm (t : Fin cfg0.N) : (outsAt0 m c t.val t.isLt).2.1 = k0_pay3 (k0_pay11 (iblk m c 1 t) (iblk m c 0 t) (iblk m c 3 t)) (k0_pay12 (iblk m c 1 t)) := by
  by_cases h0 : t.val % 16 = 0
  · rw [outsAt0_A m c t h0]
    dsimp only
    rw [dm_A]
  · rw [outsAt0_B m c t h0]
    dsimp only
    rw [dm_B]
theorem o_dy (t : Fin cfg0.N) : (outsAt0 m c t.val t.isLt).2.2.1 = k0_pay4 (k0_pay11 (iblk m c 1 t) (iblk m c 0 t) (iblk m c 3 t)) (k0_pay12 (iblk m c 1 t)) (iblk m c 2 t) := by
  by_cases h0 : t.val % 16 = 0
  · rw [outsAt0_A m c t h0]
    dsimp only
    rw [dy_A]
  · rw [outsAt0_B m c t h0]
    dsimp only
    rw [dy_B]

theorem emb4 (t : Fin cfg0.N) (r : Fin 512) (l : Fin 1024) : ((win0_4.blk t).view.emb (ix2 r l) : S8192x1024.Idx) = ix2 (row t r) l := by
  funext a; apply Fin.ext
  refine (Pipeline.Window.rect_emb_val win0_4 t _ a).trans ?_
  rw [idx_4 t]
  match a with
  | ⟨0, _⟩ => rfl
  | ⟨1, _⟩ => show 0 * 1024 + l.val = l.val; omega
theorem emb5 (t : Fin cfg0.N) (r : Fin 512) (l : Fin 1024) : ((win0_5.blk t).view.emb (ix2 r l) : S8192x1024.Idx) = ix2 (row t r) l := by
  funext a; apply Fin.ext
  refine (Pipeline.Window.rect_emb_val win0_5 t _ a).trans ?_
  rw [idx_5 t]
  match a with
  | ⟨0, _⟩ => rfl
  | ⟨1, _⟩ => show 0 * 1024 + l.val = l.val; omega
theorem emb6 (t : Fin cfg0.N) (r : Fin 512) (l : Fin 1024) : ((win0_6.blk t).view.emb (ix2 r l) : S8192x1024.Idx) = ix2 (row t r) l := by
  funext a; apply Fin.ext
  refine (Pipeline.Window.rect_emb_val win0_6 t _ a).trans ?_
  rw [idx_6 t]
  match a with
  | ⟨0, _⟩ => rfl
  | ⟨1, _⟩ => show 0 * 1024 + l.val = l.val; omega
theorem emb7 (t : Fin cfg0.N) (n : Fin 8) (l : Fin 1024) : ((win0_7.blk t).view.emb (ix2 n l) : S8x1024.Idx) = ix2 n l := by
  funext a; apply Fin.ext
  refine (Pipeline.Window.rect_emb_val win0_7 t _ a).trans ?_
  rw [idx_7 t]
  match a with
  | ⟨0, _⟩ => show 0 * 8 + n.val = n.val; omega
  | ⟨1, _⟩ => show 0 * 1024 + l.val = l.val; omega

theorem arr4 : ((dats m 0 c).arrAt 4 cfg0.N : FVec Ideal S8192x1024 .f32) = R0 m c := by
  refine (dats m 0 c).arrAt_eq_of_covers 4 _ (by decide +kernel) fun t hf y => ?_
  blk_simp
  rw [after0_4, o_res]
  obtain ⟨r, l, rfl⟩ : ∃ (r : Fin 512) (l : Fin 1024), y = ix2 r l := ⟨y 0, y 1, eta2 y⟩
  refine (pay2_at _ _ _ r l).trans (Eq.trans ?_ (congrArg (R0 m c) (emb4 t r l)).symm)
  exact congrArg (_ * ·) (dr_at m c t r l)

theorem arr5 : ((dats m 0 c).arrAt 5 cfg0.N : FVec Ideal S8192x1024 .bf16) = R1 m c := by
  refine (dats m 0 c).arrAt_eq_of_covers 5 _ (by decide +kernel) fun t hf y => ?_
  blk_simp
  rw [after0_5, o_dm]
  obtain ⟨r, l, rfl⟩ : ∃ (r : Fin 512) (l : Fin 1024), y = ix2 r l := ⟨y 0, y 1, eta2 y⟩
  refine (pay3_at _ _ _ r l).trans (Eq.trans ?_ (congrArg (R1 m c) (emb5 t r l)).symm)
  exact dr_at m c t r l

theorem arr6 : ((dats m 0 c).arrAt 6 cfg0.N : FVec Ideal S8192x1024 .f32) = R2 m c := by
  refine (dats m 0 c).arrAt_eq_of_covers 6 _ (by decide +kernel) fun t hf y => ?_
  blk_simp
  rw [after0_6, o_dy]
  obtain ⟨r, l, rfl⟩ : ∃ (r : Fin 512) (l : Fin 1024), y = ix2 r l := ⟨y 0, y 1, eta2 y⟩
  refine (pay4_at _ _ _ _ r l).trans (Eq.trans ?_ (congrArg (R2 m c) (emb6 t r l)).symm)
  exact Finset.sum_congr rfl fun k _ => congrArg₂ (· * ·) (dr_at m c t r k) (i_w m c t l k)

/-- One row's terms of the gain's gradient, and of the bias's. -/
def tg (x y : FVec Ideal S8192x1024 .f32) (w : FVec Ideal S1024x1024 .f32) (e : FVec Ideal S8192x1024 .f32) (l : Fin 1024) (R : Fin 8192) : EReal := e (ix2 R l) * xh (res x y w R) l
def tb (e : FVec Ideal S8192x1024 .f32) (l : Fin 1024) (R : Fin 8192) : EReal := e (ix2 R l)

/-- What the two rows hold after a point. -/
def held (t : ℕ) (n : Fin 8) (l : Fin 1024) : EReal :=
  if n.val = 0 then ∑ s ∈ Finset.range ((t + 1) * 512), term (tg (X m c) (Y m c) (W m c) (E m c) l) s
  else if n.val = 1 then ∑ s ∈ Finset.range ((t + 1) * 512), term (tb (E m c) l) s else 0

theorem blk_g (d f : FVec Ideal S512x1024 .f32) (t : Fin cfg0.N) (l : Fin 1024) (hd : ∀ r, d (ix2 r l) = E m c (ix2 (row t r) l))
    (hf : ∀ r, (fun k => f (ix2 r k)) = res (X m c) (Y m c) (W m c) (row t r)) :
    ∑ r : Fin 512, d (ix2 r l) * xh (fun k => f (ix2 r k)) l = ∑ r : Fin 512, term (tg (X m c) (Y m c) (W m c) (E m c) l) (t.val * 512 + r.val) :=
  Finset.sum_congr rfl fun r _ => by
    rw [hf r, hd r]
    exact (term_at (tg (X m c) (Y m c) (W m c) (E m c) l) _ (row t r).isLt).symm
theorem blk_b (d : FVec Ideal S512x1024 .f32) (t : Fin cfg0.N) (l : Fin 1024) (hd : ∀ r, d (ix2 r l) = E m c (ix2 (row t r) l)) :
    ∑ r : Fin 512, d (ix2 r l) = ∑ r : Fin 512, term (tb (E m c) l) (t.val * 512 + r.val) :=
  Finset.sum_congr rfl fun r _ => by
    rw [hd r]
    exact (term_at (tb (E m c) l) _ (row t r).isLt).symm

/-- One more block. -/
theorem more (t : Fin cfg0.N) (o : FVec Ideal S8x1024 .f32) (n : Fin 8) (l : Fin 1024)
    (h0 : o (ix2 0 l) + ∑ r : Fin 512, term (tg (X m c) (Y m c) (W m c) (E m c) l) (t.val * 512 + r.val) = ∑ s ∈ Finset.range ((t.val + 1) * 512), term (tg (X m c) (Y m c) (W m c) (E m c) l) s)
    (h1 : o (ix2 1 l) + ∑ r : Fin 512, term (tb (E m c) l) (t.val * 512 + r.val) = ∑ s ∈ Finset.range ((t.val + 1) * 512), term (tb (E m c) l) s)
    (h2 : n.val ≠ 0 → n.val ≠ 1 → o (ix2 n l) = 0) :
    up (F := Ideal) o (iblk m c 0 t) (iblk m c 1 t) n l = held m c t.val n l := by
  unfold held
  by_cases e0 : n.val = 0
  · obtain rfl : n = 0 := Fin.ext e0
    rw [if_pos e0, up_0]
    exact (congrArg (_ + ·) (blk_g m c _ _ t l (fun r => i_e m c t r l) (fun r => i_f m c t r))).trans h0
  · rw [if_neg e0]
    by_cases e1 : n.val = 1
    · obtain rfl : n = 1 := Fin.ext e1
      rw [if_pos e1, up_1]
      exact (congrArg (_ + ·) (blk_b m c _ t l (fun r => i_e m c t r l))).trans h1
    · rw [if_neg e1, up_2 _ _ _ _ _ e0 e1]
      exact h2 e0 e1

theorem gb_at : ∀ (t : ℕ) (h : t < cfg0.N) (n : Fin 8) (l : Fin 1024), ((outsAt0 m c t h).2.2.2 : FVec Ideal S8x1024 .f32) (ix2 n l) = held m c t n l
  | t, h, n, l => by
    have hN := lt_of_lt_of_eq h (show cfg0.N = 16 from N_0)
    by_cases h0 : t % 16 = 0
    · have e : t = 0 := by omega
      subst e
      rw [outsAt0_A m c ⟨0, h⟩ h0]
      dsimp only
      rw [gb_A]
      refine more m c ⟨0, h⟩ _ n l ?_ ?_ fun _ _ => pay7_at l n
      · rw [pay7_at]
        refine Eq.trans ?_ (sum_first _ 512)
        refine congrArg _ (Finset.sum_congr rfl fun k _ => congrArg _ ?_)
        show 0 * 512 + k.val = k.val
        omega
      · rw [pay7_at]
        refine Eq.trans ?_ (sum_first _ 512)
        refine congrArg _ (Finset.sum_congr rfl fun k _ => congrArg _ ?_)
        show 0 * 512 + k.val = k.val
        omega
    · have ih := gb_at (t - 1) (by omega)
      rw [outsAt0_B m c ⟨t, h⟩ h0]
      dsimp only
      rw [gb_B]
      refine more m c ⟨t, h⟩ _ n l ?_ ?_ fun e0 e1 => ?_
      · refine (congrArg (· + _) ((ih 0 l).trans (if_pos (show (0 : Fin 8).val = 0 from rfl)))).trans ?_
        rw [show t - 1 + 1 = t by omega]
        exact sum_next _ t 512
      · refine (congrArg (· + _) ((ih 1 l).trans ((if_neg (show ¬(1 : Fin 8).val = 0 by decide)).trans (if_pos (show (1 : Fin 8).val = 1 from rfl))))).trans ?_
        rw [show t - 1 + 1 = t by omega]
        exact sum_next _ t 512
      · exact (ih n l).trans ((if_neg e0).trans (if_neg e1))

/-- The last result. -/
def R3 : FVec Ideal S8x1024 .f32 := fun i => held m c 15 (i 0) (i 1)

theorem last7 : ∀ t : Fin cfg0.N, (cfg0.win 7).flush t = true → t.val = 15 := (by decide +kernel : ∀ t : Fin grid0.N, win0_7.flush t = true → t.val = 15)

theorem arr7 : ((dats m 0 c).arrAt 7 cfg0.N : FVec Ideal S8x1024 .f32) = R3 m c := by
  refine (dats m 0 c).arrAt_eq_of_covers 7 _ (by decide +kernel) fun t hf y => ?_
  have ht := last7 t hf
  blk_simp
  rw [after0_7]
  obtain ⟨n, l, rfl⟩ : ∃ (n : Fin 8) (l : Fin 1024), y = ix2 n l := ⟨y 0, y 1, eta2 y⟩
  refine (gb_at m c t.val t.isLt n l).trans (Eq.trans ?_ (congrArg (R3 m c) (emb7 t n l)).symm)
  rw [ht]
  rfl

end Cert.Kernel6Ideal.Proj
end
-- ==== Proof.Proj.BwdRef.lean ====
/- The output projection's backward call's reference, entry by entry. -/
module

public import proofs.«01_k».proof.Proof.Proj.BwdVal
public import proofs.«01_k».proof.Proof.Gen.Reference6Ideal.Read

@[expose] public section

set_option maxRecDepth 16384

noncomputable section

namespace Cert.Reference6Ideal.Proj

open Idealize.ShloMosaic Cert.Reference6Ideal Cert.Reference6Ideal.Read
open Cert.Kernel5Ideal.Ffn (mean)
open Cert.Kernel9Ideal.Proj (mix res)
open Cert.Kernel6Ideal.Proj (dn tg tb)
open Cert.Proj.Norm
open Cert.Reference2Ideal.Ffn (IsR)

variable (x y : FVec Ideal S8192x1024 .f32) (w : FVec Ideal S1024x1024 .f32) (g : FVec Ideal S1024 .f32) (e : FVec Ideal S8192x1024 .f32)
variable (R : Fin 8192) (j : Fin 1024)

theorem v4_at : (val_main_v4 (F := Ideal) x y w : FVec Ideal S8192x1024 .f32) (ix2 R j) = res x y w R j := by
  unfold res mix
  unfold val_main_v4 val_main_v3 val_main_v2 val_main_v0 val_main_cst_0
  pointwise

theorem v8_at : (val_main_v8 (F := Ideal) x y w : FVec Ideal S8192x1 .f32) (ix2 R 0) = mean (res x y w R) := by
  unfold mean
  simp only [← v4_at]
  unfold val_main_v8 val_main_v6 val_main_v5 val_main_v7 val_main_cst_1 val_main_cst_2
  pointwise

theorem v10_at : (val_main_v10 (F := Ideal) x y w : FVec Ideal S8192x1024 .f32) (ix2 R j) = cen (res x y w R) j := by
  unfold cen
  rw [← v8_at, ← v4_at]
  unfold val_main_v10 val_main_v9
  pointwise

theorem v19_at : (val_main_v19 (F := Ideal) x y w : FVec Ideal S8192x1024 .f32) (ix2 R j) = cen (res x y w R) j := by
  unfold cen
  rw [← v8_at, ← v4_at]
  unfold val_main_v19 val_main_v18
  pointwise

theorem v13_at : (val_main_v13 (F := Ideal) x y w : FVec Ideal S8192x1024 .f32) (ix2 R j) = Ideal.ofBits .f32 1073741824#32 * cen (res x y w R) j := by
  rw [← v10_at]
  unfold val_main_v13 val_main_v12 val_main_cst_3
  pointwise

theorem v21_at : (val_main_v21 (F := Ideal) x y w : FVec Ideal S8192x1 .f32) (ix2 R 0) = vr (res x y w R) := by
  unfold vr mean
  simp only [← v10_at]
  unfold val_main_v21 val_main_v17 val_main_v15 val_main_v14 val_main_v11 val_main_v16 val_main_v20 val_main_cst_4 val_main_cst_5 val_main_cst_6
  pointwise

theorem v22_at : (val_main_v22 (F := Ideal) x y w : FVec Ideal S8192x1 .f32) (ix2 R 0) = rs (res x y w R) := by
  unfold rs
  rw [← v21_at]
  unfold val_main_v22
  pointwise

theorem v25_at : (val_main_v25 (F := Ideal) x y w : FVec Ideal S8192x1 .f32) (ix2 R 0)
    = Ideal.ofBits .f32 3204448256#32 * Ideal.div (rs (res x y w R)) (vr (res x y w R)) := by
  rw [← v21_at, ← v22_at]
  unfold val_main_v25 val_main_v24 val_main_v23 val_main_cst_7
  pointwise

theorem v27_at : (val_main_v27 (F := Ideal) x y w : FVec Ideal S8192x1024 .f32) (ix2 R j) = xh (res x y w R) j := by
  unfold xh
  rw [← v22_at, ← v19_at]
  unfold val_main_v27 val_main_v26
  pointwise

theorem v34_at : (val_main_v34 (F := Ideal) e : FVec Ideal S8192x1024 .f32) (ix2 R j) = e (ix2 R j) := by
  unfold val_main_v34
  pointwise

theorem v42_at : (val_main_v42 (F := Ideal) g e : FVec Ideal S8192x1024 .f32) (ix2 R j) = e (ix2 R j) * g (ix1 j) := by
  conv_rhs => rw [← v34_at e R j]
  unfold val_main_v42 val_main_v41 val_main_v28
  pointwise

/-- A cotangent row times the gain. -/
def eg (k : Fin 1024) : EReal := e (ix2 R k) * g (ix1 k)

theorem v46_at : (val_main_v46 (F := Ideal) x y w g e : FVec Ideal S8192x1 .f32) (ix2 R 0) = ∑ k, cen (res x y w R) k * eg g e R k := by
  unfold eg
  simp only [← v42_at, ← v19_at]
  unfold val_main_v46 val_main_v45 val_main_v44 val_main_cst_12
  pointwise

theorem v48_at : (val_main_v48 (F := Ideal) x y w g e : FVec Ideal S8192x1024 .f32) (ix2 R j) = eg g e R j * rs (res x y w R) := by
  unfold eg
  rw [← v42_at, ← v22_at]
  unfold val_main_v48 val_main_v47
  pointwise

theorem v54_at : (val_main_v54 (F := Ideal) x y w g e : FVec Ideal S8192x1 .f32) (ix2 R 0) = thr (res x y w R) (eg g e R) := by
  unfold thr
  rw [← v46_at, ← v25_at]
  unfold val_main_v54 val_main_v49 val_main_v53 val_main_cst_14
  pointwise

theorem v55_at : (val_main_v55 (F := Ideal) x y w g e : FVec Ideal S8192 .f32) (ix1 R) = thr (res x y w R) (eg g e R) := by
  rw [← v54_at]
  unfold val_main_v55 val_main_cst_15
  pointwise
  exact Fin.sum_univ_one _

theorem v57_at : (val_main_v57 (F := Ideal) x y w g e : FVec Ideal S8192x1024 .f32) (ix2 R j)
    = thr (res x y w R) (eg g e R) * (Ideal.ofBits .f32 1073741824#32 * cen (res x y w R) j) := by
  rw [← v13_at, ← v55_at]
  unfold val_main_v57 val_main_v56
  pointwise

theorem v52_at : (val_main_v52 (F := Ideal) x y w g e : FVec Ideal S8192x1 .f32) (ix2 R 0) = ∑ k, -(eg g e R k * rs (res x y w R)) := by
  simp only [← v48_at]
  unfold val_main_v52 val_main_v51 val_main_v50 val_main_cst_13
  pointwise

theorem v60_at : (val_main_v60 (F := Ideal) x y w g e : FVec Ideal S8192x1 .f32) (ix2 R 0)
    = ∑ k, -(thr (res x y w R) (eg g e R) * (Ideal.ofBits .f32 1073741824#32 * cen (res x y w R) k)) := by
  simp only [← v57_at]
  unfold val_main_v60 val_main_v59 val_main_v58 val_main_cst_16
  pointwise

theorem v64_at : (val_main_v64 (F := Ideal) x y w g e : FVec Ideal S8192x1 .f32) (ix2 R 0)
    = Ideal.div ((∑ k, -(eg g e R k * rs (res x y w R))) + ∑ k, -(thr (res x y w R) (eg g e R) * (Ideal.ofBits .f32 1073741824#32 * cen (res x y w R) k))) (Ideal.ofBits .f32 1149239296#32) := by
  rw [← v60_at, ← v52_at]
  unfold val_main_v64 val_main_v62 val_main_v63 val_main_cst_17
  pointwise

theorem v65_at : (val_main_v65 (F := Ideal) x y w g e : FVec Ideal S8192 .f32) (ix1 R)
    = Ideal.div ((∑ k, -(eg g e R k * rs (res x y w R))) + ∑ k, -(thr (res x y w R) (eg g e R) * (Ideal.ofBits .f32 1073741824#32 * cen (res x y w R) k))) (Ideal.ofBits .f32 1149239296#32) := by
  rw [← v64_at]
  unfold val_main_v65 val_main_cst_18
  pointwise
  exact Fin.sum_univ_one _

theorem v67_ref : (val_main_v67 (F := Ideal) x y w g e : FVec Ideal S8192x1024 .f32) (ix2 R j) = ref (res x y w R) (eg g e R) j := by
  unfold ref
  rw [← v65_at, ← v57_at, ← v48_at]
  unfold val_main_v67 val_main_v61 val_main_v66
  pointwise

theorem res_real (hx : ∀ i, IsR (x i)) (hy : ∀ i, IsR (y i)) (hw : ∀ i, IsR (w i)) : IsR (res x y w R j) := by
  obtain ⟨a, ha⟩ := hx (ix2 R j)
  obtain ⟨b, hb⟩ := IsR.sum fun k : Fin 1024 => (hy (ix2 R k)).mul (hw (ix2 k j))
  obtain ⟨s, hs⟩ : IsR (Ideal.ofBits .f32 1068827891#32) := ⟨(11863283 : ℝ) / 8388608, by simp [Ideal.ofBits, Ideal.ieee, -EReal.coe_mul]; norm_num⟩
  unfold res mix
  rw [ha, hb, hs]
  exact ⟨s * a + b, by rw [EReal.coe_add, EReal.coe_mul]⟩

section
variable (hx : ∀ i, IsR (x i)) (hy : ∀ i, IsR (y i)) (hw : ∀ i, IsR (w i)) (hg : ∀ i, IsR (g i)) (he : ∀ i, IsR (e i))
include hx hy hw hg he

theorem v67_at : (val_main_v67 (F := Ideal) x y w g e : FVec Ideal S8192x1024 .f32) (ix2 R j) = dn x y w g e R j :=
  (v67_ref x y w g e R j).trans (same (fun k => res_real x y w R k hx hy hw) (fun k => (he _).mul (hg _)) j)

theorem v69_at : (val_main_v69 (F := Ideal) x y w g e : FVec Ideal S8192x1024 .f32) (ix2 R j) = Ideal.ofBits .f32 1068827891#32 * dn x y w g e R j := by
  rw [← v67_at x y w g e R j hx hy hw hg he]
  unfold val_main_v69 val_main_v68 val_main_cst_19
  pointwise

theorem v72_at : (val_main_v72 (F := Ideal) x y w g e : FVec Ideal S8192x1024 .bf16) (ix2 R j) = dn x y w g e R j := by
  rw [← v67_at x y w g e R j hx hy hw hg he]
  unfold val_main_v72
  pointwise

theorem v71_at : (val_main_v71 (F := Ideal) x y w g e : FVec Ideal S8192x1024 .f32) (ix2 R j) = ∑ k : Fin 1024, dn x y w g e R k * w (ix2 j k) := by
  simp only [← v67_at x y w g e R _ hx hy hw hg he]
  unfold val_main_v71
  pointwise
end

theorem v43_at : (val_main_v43 (F := Ideal) x y w e : FVec Ideal S1024 .f32) (ix1 j) = ∑ R, tg x y w e j R := by
  have h : (val_main_v43 (F := Ideal) x y w e : FVec Ideal S1024 .f32) (ix1 j) = ∑ R : Fin 8192, val_main_v27 (F := Ideal) x y w (ix2 R j) * val_main_v34 (F := Ideal) e (ix2 R j) := by
    unfold val_main_v43 val_main_v40 val_main_v39 val_main_v38 val_main_cst_10 val_main_cst_11
    pointwise
    exact Fin.sum_univ_one _
  rw [h]
  refine Finset.sum_congr rfl fun R _ => ?_
  rw [v27_at, v34_at, mul_comm]
  rfl

theorem v37_at : (val_main_v37 (F := Ideal) e : FVec Ideal S1024 .f32) (ix1 j) = ∑ R, tb e j R := by
  unfold tb val_main_v37 val_main_v36 val_main_v35 val_main_cst_8 val_main_cst_9
  pointwise
  exact Fin.sum_univ_one _

theorem v77_low (n : Fin 2) : val_main_v77 (F := Ideal) x y w e (ix2 ⟨n.val, by omega⟩ j) = val_main_v75 (F := Ideal) x y w e (ix2 n j) := by
  unfold val_main_v77
  exact concatenate_pair_apply_left (t := S8x1024) (s₁ := S2x1024) (s₂ := S6x1024) 0 _ _ _ (ix2 ⟨n.val, by omega⟩ j) rfl (ix2 n j) fun a => match a with
    | ⟨0, _⟩ => rfl
    | ⟨1, _⟩ => rfl

theorem v77_high (n : Fin 6) : val_main_v77 (F := Ideal) x y w e (ix2 ⟨2 + n.val, by omega⟩ j) = val_main_v76 (F := Ideal) (ix2 n j) := by
  unfold val_main_v77
  exact concatenate_pair_apply_right (t := S8x1024) (s₁ := S2x1024) (s₂ := S6x1024) 0 _ _ _ (ix2 ⟨2 + n.val, by omega⟩ j) rfl rfl (ix2 n j) (fun a ha => match a, ha with
    | ⟨0, _⟩, ha => absurd rfl ha
    | ⟨1, _⟩, _ => rfl) (by show n.val + 2 = 2 + n.val; omega)

theorem v75_low : val_main_v75 (F := Ideal) x y w e (ix2 0 j) = val_main_v73 (F := Ideal) x y w e (ix2 0 j) := by
  unfold val_main_v75
  exact concatenate_pair_apply_left (t := S2x1024) (s₁ := S1x1024) (s₂ := S1x1024) 0 _ _ _ (ix2 0 j) rfl (ix2 0 j) fun a => match a with
    | ⟨0, _⟩ => rfl
    | ⟨1, _⟩ => rfl

theorem v75_high : val_main_v75 (F := Ideal) x y w e (ix2 1 j) = val_main_v74 (F := Ideal) e (ix2 0 j) := by
  unfold val_main_v75
  exact concatenate_pair_apply_right (t := S2x1024) (s₁ := S1x1024) (s₂ := S1x1024) 0 _ _ _ (ix2 1 j) rfl rfl (ix2 0 j) (fun a ha => match a, ha with
    | ⟨0, _⟩, ha => absurd rfl ha
    | ⟨1, _⟩, _ => rfl) rfl

theorem v73_at : (val_main_v73 (F := Ideal) x y w e : FVec Ideal S1x1024 .f32) (ix2 0 j) = ∑ R, tg x y w e j R := by
  rw [← v43_at]
  unfold val_main_v73
  pointwise

theorem v74_at : (val_main_v74 (F := Ideal) e : FVec Ideal S1x1024 .f32) (ix2 0 j) = ∑ R, tb e j R := by
  rw [← v37_at]
  unfold val_main_v74
  pointwise

theorem v76_at (n : Fin 6) : (val_main_v76 (F := Ideal) : FVec Ideal S6x1024 .f32) (ix2 n j) = 0 := by
  unfold val_main_v76 val_main_cst_20
  pointwise

/-- The last result's rows. -/
theorem v77_at (n : Fin 8) : (val_main_v77 (F := Ideal) x y w e : FVec Ideal S8x1024 .f32) (ix2 n j)
    = if n.val = 0 then ∑ R, tg x y w e j R else if n.val = 1 then ∑ R, tb e j R else 0 := by
  by_cases h0 : n.val = 0
  · obtain rfl : n = ⟨(0 : Fin 2).val, by decide⟩ := Fin.ext h0
    rw [if_pos h0]
    exact (v77_low x y w e j 0).trans ((v75_low x y w e j).trans (v73_at x y w e j))
  · rw [if_neg h0]
    by_cases h1 : n.val = 1
    · obtain rfl : n = ⟨(1 : Fin 2).val, by decide⟩ := Fin.ext h1
      rw [if_pos h1]
      exact (v77_low x y w e j 1).trans ((v75_high x y w e j).trans (v74_at e j))
    · rw [if_neg h1]
      have en : n = ⟨2 + (n.val - 2), by omega⟩ := Fin.ext (by show n.val = 2 + (n.val - 2); omega)
      rw [en]
      exact (v77_high x y w e j ⟨n.val - 2, by omega⟩).trans (v76_at j _)

end Cert.Reference6Ideal.Proj
end
-- ==== Proof.Proj.Bwd.lean ====
/- The output projection's backward call: its frames, and its equality with the reference. -/
module

public import proofs.«01_k».proof.Proof.Proj.BwdRef
public import proofs.«01_k».proof.Proof.Attn.Equal
public import proofs.«01_k».proof.Proof.Gen.Kernel6.Frame
public import proofs.«01_k».proof.Proof.Gen.Pre_finite_out

@[expose] public section

set_option maxRecDepth 16384

noncomputable section

namespace Cert.Proj

open Idealize.ShloMosaic Idealize.ShloMosaic.TcCoe Idealize.SL.Sem
open Cert.Kernel6Ideal.Proj (X Y W G E R0 R1 R2 R3 held tg tb)
open Cert.Reference2Ideal.Ffn (IsR)
open Cert.Ffn (eta2 term_all)

theorem bwd_frame : quiescent_Kernel6 := fun m ρ _ => Kernel6.Gen.frame m ρ
theorem bwd_frame_ideal : quiescent_Kernel6Ideal := fun m ρ _ => Kernel6Ideal.Gen.frame m ρ
theorem bwd_frame_ideal_finite : quiescent_Kernel6Ideal_pre_finite_out := fun m ρ _ => Kernel6Ideal.Gen.frame m ρ
theorem bwd_frame_reference : quiescent_Reference6Ideal := fun m ρ _ =>
  (θ_run Reference6Ideal.defs _ _).mono (fun r h => ⟨fun c => (h c).2.2.2.2, sem_eq_zero_of_no_sems (by decide) r.2⟩) (Reference6Ideal.Value.run (F := Ideal) m ρ)
theorem bwd_frame_reference_finite : quiescent_Reference6Ideal_pre_finite_out := fun m ρ _ =>
  (θ_run Reference6Ideal.defs _ _).mono (fun r h => ⟨fun c => (h c).2.2.2.2, sem_eq_zero_of_no_sems (by decide) r.2⟩) (Reference6Ideal.Value.run (F := Ideal) m ρ)

variable (m : (ℓ : Loc Kernel6Ideal.nD Kernel6Ideal.τ Kernel6Ideal.sig) → Buf (Elt Ideal) ℓ)

theorem args_real (h : Cert.Pre_Kernel6Ideal_finite_out m) (c : Dev Kernel6Ideal.nD) :
    (∀ i, IsR (X m c i)) ∧ (∀ i, IsR (Y m c i)) ∧ (∀ i, IsR (W m c i)) ∧ (∀ i, IsR (G m c i)) ∧ ∀ i, IsR (E m c i) := by
  obtain ⟨h0, h1, h2, h3, h4⟩ := h c
  unfold Cert.Pre_finite_out.fn at h0 h1 h2 h3 h4
  exact ⟨fun i => ⟨_, (Cert.Attn.real_of_finite _ _ h0 i).symm⟩, fun i => ⟨_, (Cert.Attn.real_of_finite _ _ h1 i).symm⟩,
    fun i => ⟨_, (Cert.Attn.real_of_finite _ _ h2 i).symm⟩, fun i => ⟨_, (Cert.Attn.real_of_finite _ _ h3 i).symm⟩,
    fun i => ⟨_, (Cert.Attn.real_of_finite _ _ h4 i).symm⟩⟩

theorem held_all (c : Dev Kernel6Ideal.nD) (n : Fin 8) (l : Fin 1024) :
    held m c 15 n l = if n.val = 0 then ∑ R, tg (X m c) (Y m c) (W m c) (E m c) l R else if n.val = 1 then ∑ R, tb (E m c) l R else 0 := by
  unfold held
  rw [← term_all (tg (X m c) (Y m c) (W m c) (E m c) l), ← term_all (tb (E m c) l)]

theorem bwd_equal : algebraic_Kernel6Ideal_Reference6Ideal_pre_finite_out := by
  intro m g m' g' hp hm
  refine ⟨fun c => R0 m c, fun c => R1 m c, fun c => R2 m c, fun c => R3 m c,
    (θ_run _ _ _).mono (fun r hr c => ⟨(hr c).1.trans (Kernel6Ideal.Proj.arr4 m c), (hr c).2.1.trans (Kernel6Ideal.Proj.arr5 m c),
      (hr c).2.2.1.trans (Kernel6Ideal.Proj.arr6 m c), (hr c).2.2.2.1.trans (Kernel6Ideal.Proj.arr7 m c), (hr c).2.2.2.2⟩) (Kernel6Ideal.Value.run_blocks (F := Ideal) m g), ?_⟩
  refine (θ_run Reference6Ideal.defs _ _).mono (fun r hr c => ?_) (Reference6Ideal.Value.run (F := Ideal) m' g')
  obtain ⟨hx, hy, hw, hg, he⟩ := args_real m hp c
  obtain ⟨e0, e1, e2, e3, e4⟩ := hm c
  obtain ⟨h0, h1, h2, h3, rest⟩ := hr c
  refine ⟨h0.trans ?_, h1.trans ?_, h2.trans ?_, h3.trans ?_, rest⟩
  · rw [Reference6Ideal.Read.val_main_v69_eq, e0, e1, e2, e3, e4]
    funext i
    rw [eta2 i]
    exact Reference6Ideal.Proj.v69_at (X m c) (Y m c) (W m c) (G m c) (E m c) _ _ hx hy hw hg he
  · rw [Reference6Ideal.Read.val_main_v72_eq, e0, e1, e2, e3, e4]
    funext i
    rw [eta2 i]
    exact Reference6Ideal.Proj.v72_at (X m c) (Y m c) (W m c) (G m c) (E m c) _ _ hx hy hw hg he
  · rw [Reference6Ideal.Read.val_main_v71_eq, e0, e1, e2, e3, e4]
    funext i
    rw [eta2 i]
    exact Reference6Ideal.Proj.v71_at (X m c) (Y m c) (W m c) (G m c) (E m c) _ _ hx hy hw hg he
  · refine (Reference6Ideal.Read.val_main_v77_eq (F := Ideal) _ _ _ _).trans ?_
    rw [e0, e1, e2, e4]
    funext i
    rw [eta2 i]
    exact (Reference6Ideal.Proj.v77_at (X m c) (Y m c) (W m c) (E m c) _ _).trans (held_all m c _ _).symm

end Cert.Proj
end
-- ==== Proof.Proj.Dwout.lean ====
/- The output projection's gradient: what the call adds up over its blocks of rows, and the transposed product. -/
module

public import proofs.«01_k».proof.Defs
public import proofs.«01_k».proof.Proof.Ffn.Sum
public import proofs.«01_k».proof.Proof.Gen.Kernel7.Frame
public import proofs.«01_k».proof.Proof.Gen.Kernel7Ideal.Value
public import proofs.«01_k».proof.Proof.Gen.Reference7Ideal.Read
public import Idealize.ShloMosaic.Lib.StableHlo.ReadAt
public import Idealize.ShloMosaic.Lib.Pipeline.ValueKit

@[expose] public section

set_option maxRecDepth 16384

noncomputable section

namespace Cert.Kernel7Ideal.Proj

open Idealize.ShloMosaic Idealize.ShloMosaic.TcCoe Idealize.SL.Sem Cert.Kernel7Ideal Cert.Kernel7Ideal.Gen Cert.Ffn

section
variable {F : FTy → Type} [FloatOps F]

theorem hz : (![0, 0] : Fin 2 → Nat) = fun _ => 0 := funext fun a => by fin_cases a <;> rfl

variable (c : Dev nD) (i : grid0.Coords) (a2 : Memref sig .tc .vmem S512x1024 .bf16) (h2 : a2.IsWhole) (a3 : Memref sig .tc .vmem S512x1024 .bf16) (h3 : a3.IsWhole)
  (a4 : Memref sig .tc .vmem S1024x1024 .f32) (h4 : a4.IsWhole) (a5 : Memref sig .tc .vmem S1024x1024 .f32) (h5 : a5.IsWhole)
  (x0 : Vec F S512x1024 .bf16) (x1 : Vec F S512x1024 .bf16) (xs : Vec F S1024x1024 .f32)

theorem sout_B (hc0 : ¬cond0_0 i) (hc1 : ¬cond0_1 i) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S1024x1024) hz, View.ld_unit_zero (S := S512x1024) hz]

theorem sout_C (hc0 : ¬cond0_0 i) (hc1 : cond0_1 i) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1024x1024) hz, View.ld_unit_zero (S := S512x1024) hz]

theorem out_C (hc0 : ¬cond0_0 i) (hc1 : cond0_1 i) :
    out0_C_2 c i a2 h2 a3 h3 a4 h4 a5 h5 hc0 hc1 x0 x1 xs = k0_pay2 xs x0 x1 := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz]
  simp only [View.readCov_unit_zero (S := S1024x1024) _ hz, View.readAt_eq_ld, h2.read_unread, h3.read_unread, h5.read_unread, View.ld_unit_zero (S := S1024x1024) hz, View.ld_unit_zero (S := S512x1024) hz]
  try unfold k0_pay3
  try rfl

theorem sout_A (hc0 : cond0_0 i) (hc1 : ¬cond0_1 i) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S512x1024) hz]
end

/-- An entry of a block's transpose times another. -/
def dotAt (x : FVec Ideal S512x1024 .bf16) (y : FVec Ideal S512x1024 .bf16) (r : Fin 1024) (l : Fin 1024) : EReal := ∑ k : Fin 512, x (ix2 k r) * y (ix2 k l)

theorem pay2_at (acc : FVec Ideal S1024x1024 .f32) (x : FVec Ideal S512x1024 .bf16) (y : FVec Ideal S512x1024 .bf16) (r : Fin 1024) (l : Fin 1024) :
    k0_pay2 (F := Ideal) acc x y (ix2 r l) = acc (ix2 r l) + dotAt x y r l := by
  unfold k0_pay2 dotAt
  pointwise

theorem pay1_at (r : Fin 1024) (l : Fin 1024) : k0_pay1 (F := Ideal) (ix2 r l) = 0 := by
  unfold k0_pay1
  pointwise

variable (m : (ℓ : Loc nD τ sig) → Buf (Elt Ideal) ℓ)

theorem v0_eq (c : Dev nD) : (V m c main_v0 : FVec Ideal S8192x1024 .bf16) = (m ((c : Thread nD τ).loc main_arg0) : FVec Ideal S8192x1024 .f32) := by
  simp only [V, hostOps0, List.flatten_cons, List.flatten_nil, List.append_nil, List.cons_append, List.nil_append]
  after_reads_simp
  rfl
theorem v1_eq (c : Dev nD) : (V m c main_v1 : FVec Ideal S8192x1024 .bf16) = (m ((c : Thread nD τ).loc main_arg1) : FVec Ideal S8192x1024 .f32) := by
  simp only [V, hostOps0, List.flatten_cons, List.flatten_nil, List.append_nil, List.cons_append, List.nil_append]
  after_reads_simp
  rfl

theorem lt16 (t : Fin cfg0.N) : t.val < 16 := lt_of_lt_of_eq t.isLt N_0
theorem idx_x : ∀ t : Fin cfg0.N, win0_0.index t = ![t.val % 16, t.val / 16] := (by decide +kernel : ∀ t : Fin grid0.N, win0_0.index t = ![t.val % 16, t.val / 16])
theorem idx_y : ∀ t : Fin cfg0.N, win0_1.index t = ![t.val % 16, 0] := (by decide +kernel : ∀ t : Fin grid0.N, win0_1.index t = ![t.val % 16, 0])

theorem iblk_x (c : Dev nD) (t : Fin cfg0.N) (k : Fin 512) (r : Fin 1024) :
    iblk m c 0 t (ix2 k r) = V m c main_v0 (ix2 ⟨t.val % 16 * 512 + k.val, by omega⟩ ⟨t.val / 16 * 1024 + r.val, by have := lt16 t; omega⟩) := by
  blk_ext [iblk, idx_x t]
theorem iblk_y (c : Dev nD) (t : Fin cfg0.N) (k : Fin 512) (r : Fin 1024) :
    iblk m c 1 t (ix2 k r) = V m c main_v1 (ix2 ⟨t.val % 16 * 512 + k.val, by omega⟩ r) := by
  blk_ext [iblk, idx_y t]

/-- The two arguments. -/
def A (c : Dev nD) : FVec Ideal S8192x1024 .f32 := m ((c : Thread nD τ).loc main_arg0)
def D (c : Dev nD) : FVec Ideal S8192x1024 .f32 := m ((c : Thread nD τ).loc main_arg1)

/-- A row's contribution to an entry. -/
def prod (c : Dev nD) (q : Fin 1024) (l : Fin 1024) (s : Fin 8192) : EReal := A m c (ix2 s q) * D m c (ix2 s l)

theorem blocks_sum (c : Dev nD) (t : Fin cfg0.N) (r : Fin 1024) (l : Fin 1024) (q : Fin 1024) (hq : q.val = t.val / 16 * 1024 + r.val) :
    dotAt (iblk m c 0 t) (iblk m c 1 t) r l = ∑ k : Fin 512, term (prod m c q l) (t.val % 16 * 512 + k.val) := by
  refine Finset.sum_congr rfl fun k _ => ?_
  rw [term_at _ _ (by omega)]
  have e0 := iblk_x m c t k r
  have e1 := iblk_y m c t k l
  have eq : q = ⟨t.val / 16 * 1024 + r.val, by have := lt16 t; omega⟩ := Fin.ext hq
  rw [eq]
  exact congrArg₂ (fun a b : EReal => a * b) (e0.trans (congrFun (v0_eq m c) _)) (e1.trans (congrFun (v1_eq m c) _))

/-- What the running sum holds after a point. -/
theorem acc_at (c : Dev nD) (r : Fin 1024) (l : Fin 1024) (q : Fin 1024) : ∀ (n : ℕ) (h : n < cfg0.N), q.val = n / 16 * 1024 + r.val →
    (outsAt0 m c n h).2 (ix2 r l) = ∑ s ∈ Finset.range ((n % 16 + 1) * 512), term (prod m c q l) s
  | n, h, hq => by
    have hN := lt_of_lt_of_eq h (show cfg0.N = 16 from N_0)
    have hb := blocks_sum m c ⟨n, h⟩ r l q hq
    by_cases h0 : n % 16 = 0
    · have h1 : ¬n % 16 = 15 := by omega
      rw [outsAt0_A m c ⟨n, h⟩ h0 h1]
      dsimp only
      rw [sout_A, pay2_at, hb, pay1_at]
      dsimp only
      rw [h0]
      simp only [Nat.zero_mul, Nat.zero_add]
      have := sum_first (term (prod m c q l)) 512
      simpa using this
    · have ih := acc_at c r l q (n - 1) (by omega) (by omega)
      have e8 : (n - 1) % 16 + 1 = n % 16 := by omega
      rw [e8] at ih
      rw [← sum_next, ← ih]
      by_cases h1 : n % 16 = 15
      · rw [outsAt0_C m c ⟨n, h⟩ h0 h1]
        dsimp only
        rw [sout_C, pay2_at, hb]
      · rw [outsAt0_B m c ⟨n, h⟩ h0 h1]
        dsimp only
        rw [sout_B, pay2_at, hb]

theorem same_C (c : Dev nD) (n : ℕ) (h : n < cfg0.N) (h1 : n % 16 = 15) : (outsAt0 m c n h).1 = (outsAt0 m c n h).2 := by
  have h0 : ¬n % 16 = 0 := by omega
  rw [outsAt0_C m c ⟨n, h⟩ h0 h1]
  dsimp only
  rw [out_C, sout_C]

/-- The result: the first argument's transpose times the second. -/
def result (c : Dev nD) : FVec Ideal S1024x1024 .f32 := fun i => ∑ s : Fin 8192, A m c (ix2 s (i 0)) * D m c (ix2 s (i 1))

theorem G2_eq (c : Dev nD) : Value.G2 m c = result m c := by
  funext i
  have hi0 : (i 0).val < 1024 := (i 0).isLt
  have hi1 : (i 1).val < 1024 := (i 1).isLt
  have hr : Value.run2Of i = (i 0).val / 1024 := by
    show 1 * ((i 0).val / 1024 - 0) + 1 * ((i 1).val / 1024 - 0) = _
    omega
  have hp : Value.pt2Of i = 16 * ((i 0).val / 1024) + 15 := by
    show 16 * Value.run2Of i + 15 = _
    rw [hr]
  have hlt : Value.pt2Of i < cfg0.N := lt_of_lt_of_eq (by rw [hp]; omega) N_0.symm
  unfold Value.G2
  rw [dif_pos hlt, ← Value.outsAt0_sweep m c (Value.pt2Of i) hlt, same_C m c _ hlt (by rw [hp]; omega)]
  have hl : Value.loc2Of i = ix2 (⟨(i 0).val % 1024, by omega⟩ : Fin 1024) (⟨(i 1).val, hi1⟩ : Fin 1024) := by
    funext a; apply Fin.ext
    match a with
    | ⟨0, _⟩ => rfl
    | ⟨1, _⟩ => show (i 1).val % 1024 = (i 1).val; omega
  rw [hl, acc_at m c _ _ ⟨(i 0).val, hi0⟩ _ hlt (by rw [hp]; show (i 0).val = _ + (i 0).val % 1024; omega)]
  have e8 : (Value.pt2Of i % 16 + 1) * 512 = 8192 := by rw [hp]; omega
  rw [e8, term_all]
  rfl

end Cert.Kernel7Ideal.Proj

namespace Cert.Proj

open Idealize.ShloMosaic Idealize.ShloMosaic.TcCoe Idealize.SL.Sem

theorem dwout_frame : quiescent_Kernel7 := fun m ρ _ => Kernel7.Gen.frame m ρ
theorem dwout_frame_ideal : quiescent_Kernel7Ideal := fun m ρ _ => Kernel7Ideal.Gen.frame m ρ
theorem dwout_frame_reference : quiescent_Reference7Ideal := fun m ρ _ =>
  (θ_run Reference7Ideal.defs _ _).mono (fun r h => ⟨fun c => (h c).2, sem_eq_zero_of_no_sems (by decide) r.2⟩) (Reference7Ideal.Value.run (F := Ideal) m ρ)

theorem dwout_reference (a : FVec Ideal Reference7Ideal.S8192x1024 .f32) (d : FVec Ideal Reference7Ideal.S8192x1024 .f32) (i : Reference7Ideal.S1024x1024.Idx) :
    Reference7Ideal.Read.val_main_v3 (F := Ideal) a d i = ∑ s : Fin 8192, a (ix2 s (i 0)) * d (ix2 s (i 1)) := by
  rw [Reference7Ideal.Read.val_main_v3_apply, Reference7Ideal.Read.val_main_v2_apply]
  refine Finset.sum_congr rfl fun s _ => ?_
  refine (mul_comm _ _).trans (congrArg₂ (fun x y : EReal => x * y) (congrArg a ?_) (congrArg d ?_))
  · funext k
    match k with
    | ⟨0, _⟩ => rfl
    | ⟨1, _⟩ => rfl
  · funext k
    match k with
    | ⟨0, _⟩ => rfl
    | ⟨1, _⟩ => rfl

theorem dwout_equal : algebraic_Kernel7Ideal_Reference7Ideal := by
  intro m g m' g' _ hm
  refine ⟨fun c => Kernel7Ideal.Proj.result m c, (θ_run _ _ _).mono (fun r hr c => ⟨(hr c).1.trans (Kernel7Ideal.Proj.G2_eq m c), (hr c).2⟩) (Kernel7Ideal.Value.run m g), ?_⟩
  refine (θ_run Reference7Ideal.defs _ _).mono (fun r hr c => ?_) (Reference7Ideal.Value.run (F := Ideal) m' g')
  obtain ⟨e0, e1⟩ := hm c
  refine ⟨(hr c).1.trans ?_, (hr c).2⟩
  rw [Reference7Ideal.Read.val_main_v3_eq, e0, e1]
  funext i
  exact dwout_reference _ _ i

end Cert.Proj
end
-- ==== Proof.Proj.Dwin.lean ====
/- The gradient of the weight of the projection into the mixers: what the call adds up over its blocks of rows, and the transposed product in four blocks of columns. -/
module

public import proofs.«01_k».proof.Defs
public import proofs.«01_k».proof.Proof.Ffn.Sum
public import proofs.«01_k».proof.Proof.Gen.Kernel12.Frame
public import proofs.«01_k».proof.Proof.Gen.Kernel12Ideal.Value
public import proofs.«01_k».proof.Proof.Gen.Reference12Ideal.Read
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.Kernel12Ideal.Proj

open Idealize.ShloMosaic Idealize.ShloMosaic.TcCoe Idealize.SL.Sem Cert.Kernel12Ideal Cert.Kernel12Ideal.Gen Cert.Ffn

theorem hz : (![0, 0] : Fin 2 → Nat) = fun _ => 0 := funext fun a => by fin_cases a <;> rfl

/-- The four blocks of columns, one after the other. -/
def shardsOf {α : Type} (a : S1024x2048.Idx → α) : S4x1024x512.Idx → α := fun i =>
  a (ix2 (⟨(i 1).val, (i 1).isLt⟩ : Fin 1024) (⟨(i 0).val * 512 + (i 2).val, by have h0 : (i 0).val < 4 := (i 0).isLt; have h2 : (i 2).val < 512 := (i 2).isLt; omega⟩ : Fin 2048))

section
variable {F : FTy → Type} [FloatOps F] {κ : Kind} {sp : Space}
variable (c : Dev nD) (i : grid0.Coords) (a2 : Memref sig .tc .vmem S512x1024 .f32) (h2 : a2.IsWhole) (a3 : Memref sig .tc .vmem S512x2048 .bf16) (h3 : a3.IsWhole)
  (a4 : Memref sig .tc .vmem S4x1024x512 .f32) (h4 : a4.IsWhole) (a5 : Memref sig .tc .vmem S1024x2048 .f32) (h5 : a5.IsWhole)
  (x0 : Vec F S512x1024 .f32) (x1 : Vec F S512x2048 .bf16) (xs : Vec F S1024x2048 .f32)

theorem sout_B (hc0 : ¬cond0_0 i) (hc1 : ¬cond0_1 i) : sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h2.read_unread, h3.read_unread, h5.read_unread, View.ld_unit_zero (S := S1024x2048) hz, View.ld_unit_zero (S := S512x1024) hz, View.ld_unit_zero (S := S512x2048) hz]

theorem sout_C (hc0 : ¬cond0_0 i) (hc1 : cond0_1 i) : sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1024x2048) hz, View.ld_unit_zero (S := S512x1024) hz, View.ld_unit_zero (S := S512x2048) hz]

theorem sout_A (hc0 : cond0_0 i) (hc1 : ¬cond0_1 i) : sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x2048) hz, View.readCov_unit_zero (S := S1024x2048) _ hz]
  simp only [View.readAt_eq_ld, h2.read_unread, h3.read_unread, View.ld_unit_zero (S := S512x1024) hz, View.ld_unit_zero (S := S512x2048) hz]

/-- A store of one block of columns of the running sum, at its place among the four. -/
theorem piece_at (v : View sig κ sp S1024x2048 .f32) (P : Vec F S1024x2048 .f32) (pay : Vec F S1024x512 .f32 → FVec F S1x1024x512 .f32)
    (hpay : ∀ (w : Vec F S1024x512 .f32) (g : Fin 1) (r : Fin 1024) (l : Fin 512), pay w (ix3 g r l) = w (ix2 r l)) (n : Fin 4)
    (inb : ∀ a, (![0, 0] : Fin 2 → ℕ) a + S1024x2048.size a ≤ S1024x2048.size a) (inb1 : ∀ a, (![0, n.val * 512] : Fin 2 → ℕ) a + S1024x512.size a ≤ S1024x2048.size a)
    (inb2 : ∀ a, (![n.val, 0, 0] : Fin 3 → ℕ) a + S1x1024x512.size a ≤ S4x1024x512.size a) (z : S1x1024x512.Idx) :
    pay (v.readCov [⟨Rect.unit (s := S1024x2048) ![0, 0] S1024x2048.size inb, P⟩] (Rect.unit (s := S1024x2048) ![0, n.val * 512] S1024x512.size inb1).toLoadRect) z
      = shardsOf P ((Rect.unit (s := S4x1024x512) ![n.val, 0, 0] S1x1024x512.size inb2).emb z) := by
  obtain ⟨g, r, l, rfl⟩ : ∃ (g : Fin 1) (r : Fin 1024) (l : Fin 512), z = ix3 g r l := ⟨z 0, z 1, z 2, eta3 z⟩
  rw [View.readCov_eq_canon', View.canon_unit_zero hz, hpay]
  refine congrArg P (funext fun a => Fin.ext ?_)
  match a with
  | ⟨0, _⟩ => show 0 + 1 * r.val = 0 + 1 * r.val; omega
  | ⟨1, _⟩ => show n.val * 512 + 1 * l.val = (n.val + 1 * g.val) * 512 + (0 + 1 * l.val); have := g.isLt; omega

/-- The last point writes the running sum out by blocks of columns. -/
theorem out_C (hc0 : ¬cond0_0 i) (hc1 : cond0_1 i) : out0_C_2 c i a2 h2 a3 h3 a4 h4 a5 h5 hc0 hc1 x0 x1 xs = shardsOf (k0_pay2 xs x0 x1) := by
  unfold out0_C_2
  rw [View.read_writes_eq_canon _ _ _ (cover0_C_2 c i a2 h2 a3 h3 a4 h4 a5 h5 hc0 hc1 x0 x1 xs)]
  funext y
  refine Eq.trans (congrArg (fun L => View.canon (Val := Elt F) L y) (List.append_nil _).symm) ?_
  refine View.canon_append_of_piecesOf (Val := Elt F) (e := .f32) (shardsOf (k0_pay2 xs x0 x1)) [] _ ?_ y (cover0_C_2 c i a2 h2 a3 h3 a4 h4 a5 h5 hc0 hc1 x0 x1 xs y)
  unfold kernelRun0_C
  dsimp only
  sl_unfold_words
  simp only [View.readAt_eq_ld, h2.read_unread, h3.read_unread, h5.read_unread, View.ld_unit_zero (S := S1024x2048) hz, View.ld_unit_zero (S := S512x1024) hz, View.ld_unit_zero (S := S512x2048) hz]
  exact ⟨piece_at a5.view _ k0_pay6 (fun _ _ _ _ => by unfold k0_pay6; pointwise) 3 _ _ inb_S4x1024x512_S1x1024x512_3_0_0, piece_at a5.view _ k0_pay5 (fun _ _ _ _ => by unfold k0_pay5; pointwise) 2 _ _ inb_S4x1024x512_S1x1024x512_2_0_0,
    piece_at a5.view _ k0_pay4 (fun _ _ _ _ => by unfold k0_pay4; pointwise) 1 _ _ inb_S4x1024x512_S1x1024x512_1_0_0, piece_at a5.view _ k0_pay3 (fun _ _ _ _ => by unfold k0_pay3; pointwise) 0 _ _ inb_S4x1024x512_S1x1024x512_0_0_0, trivial⟩
end

/-- An entry of a block's transpose times another. -/
def dotAt (x : FVec Ideal S512x1024 .f32) (y : FVec Ideal S512x2048 .bf16) (r : Fin 1024) (l : Fin 2048) : EReal := ∑ k : Fin 512, x (ix2 k r) * y (ix2 k l)

theorem pay2_at (acc : FVec Ideal S1024x2048 .f32) (x : FVec Ideal S512x1024 .f32) (y : FVec Ideal S512x2048 .bf16) (r : Fin 1024) (l : Fin 2048) :
    k0_pay2 (F := Ideal) acc x y (ix2 r l) = acc (ix2 r l) + dotAt x y r l := by
  unfold k0_pay2 dotAt
  pointwise

theorem pay1_at (r : Fin 1024) (l : Fin 2048) : k0_pay1 (F := Ideal) (ix2 r l) = 0 := by
  unfold k0_pay1
  pointwise

variable (m : (ℓ : Loc nD τ sig) → Buf (Elt Ideal) ℓ)

/-- The two arguments. -/
def A (c : Dev nD) : FVec Ideal S8192x1024 .f32 := m ((c : Thread nD τ).loc main_arg0)
def D (c : Dev nD) : FVec Ideal S8192x2048 .f32 := m ((c : Thread nD τ).loc main_arg1)

theorem v0_eq (c : Dev nD) : (V m c main_v0 : FVec Ideal S8192x2048 .bf16) = D m c := by
  simp only [V, hostOps0, List.flatten_cons, List.flatten_nil, List.append_nil, List.cons_append, List.nil_append]
  after_reads_simp
  rfl

theorem lt16 (t : Fin cfg0.N) : t.val < 16 := lt_of_lt_of_eq t.isLt N_0
theorem idx_x : ∀ t : Fin cfg0.N, win0_0.index t = ![t.val % 16, 0] := (by decide +kernel : ∀ t : Fin grid0.N, win0_0.index t = ![t.val % 16, 0])
theorem idx_y : ∀ t : Fin cfg0.N, win0_1.index t = ![t.val % 16, 0] := (by decide +kernel : ∀ t : Fin grid0.N, win0_1.index t = ![t.val % 16, 0])

theorem iblk_x (c : Dev nD) (t : Fin cfg0.N) (k : Fin 512) (r : Fin 1024) :
    iblk m c 0 t (ix2 k r) = V m c main_arg0 (ix2 ⟨t.val % 16 * 512 + k.val, by omega⟩ r) := by
  blk_ext [iblk, idx_x t]
theorem iblk_y (c : Dev nD) (t : Fin cfg0.N) (k : Fin 512) (l : Fin 2048) :
    iblk m c 1 t (ix2 k l) = V m c main_v0 (ix2 ⟨t.val % 16 * 512 + k.val, by omega⟩ l) := by
  blk_ext [iblk, idx_y t]

/-- A row's contribution to an entry. -/
def prod (c : Dev nD) (q : Fin 1024) (l : Fin 2048) (s : Fin 8192) : EReal := A m c (ix2 s q) * D m c (ix2 s l)

theorem blocks_sum (c : Dev nD) (t : Fin cfg0.N) (r : Fin 1024) (l : Fin 2048) :
    dotAt (iblk m c 0 t) (iblk m c 1 t) r l = ∑ k : Fin 512, term (prod m c r l) (t.val % 16 * 512 + k.val) := by
  refine Finset.sum_congr rfl fun k _ => ?_
  rw [term_at _ _ (by omega)]
  have e0 := iblk_x m c t k r
  have e1 := iblk_y m c t k l
  exact congrArg₂ (fun a b : EReal => a * b) (e0.trans (congrFun (V_main_arg0 m c) _)) (e1.trans (congrFun (v0_eq m c) _))

/-- What the running sum holds after a point. -/
theorem acc_at (c : Dev nD) (r : Fin 1024) (l : Fin 2048) : ∀ (n : ℕ) (h : n < cfg0.N),
    (outsAt0 m c n h).2 (ix2 r l) = ∑ s ∈ Finset.range ((n % 16 + 1) * 512), term (prod m c r l) s
  | n, h => by
    have hN := lt_of_lt_of_eq h (show cfg0.N = 16 from N_0)
    have hb := blocks_sum m c ⟨n, h⟩ r l
    by_cases h0 : n % 16 = 0
    · have h1 : ¬n % 16 = 15 := by omega
      rw [outsAt0_A m c ⟨n, h⟩ h0 h1]
      dsimp only
      rw [sout_A, pay2_at, hb, pay1_at]
      dsimp only
      rw [h0]
      simp only [Nat.zero_mul, Nat.zero_add]
      have := sum_first (term (prod m c r l)) 512
      simpa using this
    · have ih := acc_at c r l (n - 1) (by omega)
      have e8 : (n - 1) % 16 + 1 = n % 16 := by omega
      rw [e8] at ih
      rw [← sum_next, ← ih]
      by_cases h1 : n % 16 = 15
      · rw [outsAt0_C m c ⟨n, h⟩ h0 h1]
        dsimp only
        rw [sout_C, pay2_at, hb]
      · rw [outsAt0_B m c ⟨n, h⟩ h0 h1]
        dsimp only
        rw [sout_B, pay2_at, hb]

theorem same_C (c : Dev nD) (n : ℕ) (h : n < cfg0.N) (h1 : n % 16 = 15) : (outsAt0 m c n h).1 = shardsOf (outsAt0 m c n h).2 := by
  have h0 : ¬n % 16 = 0 := by omega
  rw [outsAt0_C m c ⟨n, h⟩ h0 h1]
  dsimp only
  rw [out_C, sout_C]

/-- The result: the first argument's transpose times the second, in four blocks of columns. -/
def result (c : Dev nD) : FVec Ideal S4x1024x512 .f32 := shardsOf fun i => ∑ s : Fin 8192, A m c (ix2 s (i 0)) * D m c (ix2 s (i 1))

theorem G2_eq (c : Dev nD) : Value.G2 m c = result m c := by
  have hlt : 15 < cfg0.N := lt_of_lt_of_eq (by decide) N_0.symm
  rw [Value.G2_last, ← Value.outsAt0_sweep m c 15 hlt, same_C m c 15 hlt rfl]
  refine congrArg shardsOf (funext fun i => ?_)
  obtain ⟨r, l, rfl⟩ : ∃ (r : Fin 1024) (l : Fin 2048), i = ix2 r l := ⟨i 0, i 1, eta2 i⟩
  exact (acc_at m c r l 15 hlt).trans (term_all _)

end Cert.Kernel12Ideal.Proj

namespace Cert.Proj

open Idealize.ShloMosaic Idealize.ShloMosaic.TcCoe Idealize.SL.Sem

theorem dwin_frame : quiescent_Kernel12 := fun m ρ _ => Kernel12.Gen.frame m ρ
theorem dwin_frame_ideal : quiescent_Kernel12Ideal := fun m ρ _ => Kernel12Ideal.Gen.frame m ρ
theorem dwin_frame_reference : quiescent_Reference12Ideal := fun m ρ _ =>
  (θ_run Reference12Ideal.defs _ _).mono (fun r h => ⟨fun c => (h c).2, sem_eq_zero_of_no_sems (by decide) r.2⟩) (Reference12Ideal.Value.run (F := Ideal) m ρ)

theorem dwin_reference (y : FVec Ideal Reference12Ideal.S8192x1024 .f32) (d : FVec Ideal Reference12Ideal.S8192x2048 .f32) (i : Reference12Ideal.S4x1024x512.Idx) :
    Reference12Ideal.Read.val_main_v5 (F := Ideal) y d i = Kernel12Ideal.Proj.shardsOf (fun j => ∑ s : Fin 8192, y (ix2 s (j 0)) * d (ix2 s (j 1))) i := by
  have h0 : (i 0).val < 4 := (i 0).isLt
  have h1 : (i 1).val < 1024 := (i 1).isLt
  have h2 : (i 2).val < 512 := (i 2).isLt
  rw [Reference12Ideal.Read.val_main_v5_apply, Reference12Ideal.Read.val_main_v4_apply, Reference12Ideal.Read.val_main_v3_apply, Reference12Ideal.Read.val_main_v2_apply]
  refine Finset.sum_congr rfl fun s _ => ?_
  refine (mul_comm _ _).trans (congrArg₂ (fun x y : EReal => x * y) (congrArg y ?_) (congrArg d ?_))
  · funext k
    apply Fin.ext
    match k with
    | ⟨0, _⟩ => rfl
    | ⟨1, _⟩ => simp [Reference12Ideal.Read.ridx_main_v2, Reference12Ideal.Read.idx_main_v3, Reference12Ideal.Read.idx_main_v4, Reference12Ideal.Read.idx_main_v5]; omega
  · funext k
    apply Fin.ext
    match k with
    | ⟨0, _⟩ => rfl
    | ⟨1, _⟩ => simp [Reference12Ideal.Read.lidx_main_v2, Reference12Ideal.Read.idx_main_v3, Reference12Ideal.Read.idx_main_v4, Reference12Ideal.Read.idx_main_v5]; omega

theorem dwin_equal : algebraic_Kernel12Ideal_Reference12Ideal := by
  intro m g m' g' _ hm
  refine ⟨fun c => Kernel12Ideal.Proj.result m c, (θ_run _ _ _).mono (fun r hr c => ⟨(hr c).1.trans (Kernel12Ideal.Proj.G2_eq m c), (hr c).2⟩) (Kernel12Ideal.Value.run m g), ?_⟩
  refine (θ_run Reference12Ideal.defs _ _).mono (fun r hr c => ?_) (Reference12Ideal.Value.run (F := Ideal) m' g')
  obtain ⟨e0, e1⟩ := hm c
  refine ⟨(hr c).1.trans ?_, (hr c).2⟩
  rw [Reference12Ideal.Read.val_main_v5_eq, e0, e1]
  funext i
  exact dwin_reference _ _ i

end Cert.Proj
end
-- ==== Proof.Proj.In.lean ====
/- The input projection: each block of rows is multiplied by the four shards of the weight's columns. -/
module

public import proofs.«01_k».proof.Defs
public import proofs.«01_k».proof.Proof.Ffn.Sum
public import proofs.«01_k».proof.Proof.Gen.Kernel8.Frame
public import proofs.«01_k».proof.Proof.Gen.Kernel8Ideal.Value
public import proofs.«01_k».proof.Proof.Gen.Reference8Ideal.Read
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.Kernel8Ideal.Proj

open Idealize.ShloMosaic Idealize.ShloMosaic.TcCoe Idealize.SL.Sem Cert.Kernel8Ideal Cert.Kernel8Ideal.Gen

theorem hz : (![0, 0] : Fin 2 → Nat) = fun _ => 0 := funext fun a => by fin_cases a <;> rfl

section
variable (x : FVec Ideal S512x1024 .f32) (w : FVec Ideal S1x1x1024x512 .bf16) (r l : Fin 512)

theorem pay2_at : k0_pay2 (F := Ideal) x w (ix2 r l) = ∑ k : Fin 1024, x (ix2 r k) * w (ix4 0 0 k l) := by
  unfold k0_pay2 k0_pay1
  pointwise
theorem pay3_at : k0_pay3 (F := Ideal) x w (ix2 r l) = ∑ k : Fin 1024, x (ix2 r k) * w (ix4 0 0 k l) := by
  unfold k0_pay3 k0_pay1
  pointwise
theorem pay4_at : k0_pay4 (F := Ideal) x w (ix2 r l) = ∑ k : Fin 1024, x (ix2 r k) * w (ix4 0 0 k l) := by
  unfold k0_pay4 k0_pay1
  pointwise
theorem pay5_at : k0_pay5 (F := Ideal) x w (ix2 r l) = ∑ k : Fin 1024, x (ix2 r k) * w (ix4 0 0 k l) := by
  unfold k0_pay5 k0_pay1
  pointwise
end

/-- An entry of a block's product, the columns counted through the shards. -/
def colOf (x : FVec Ideal S512x1024 .f32) (w : FVec Ideal S1x4x1024x512 .bf16) : FVec Ideal S512x2048 .f32 := fun i =>
  have h1 : (i 1).val < 2048 := (i 1).isLt
  ∑ k : Fin 1024, x (ix2 (i 0) k) * w (ix4 0 ⟨(i 1).val / 512, by omega⟩ k ⟨(i 1).val % 512, by omega⟩)

theorem col_at (x : FVec Ideal S512x1024 .f32) (w : FVec Ideal S1x4x1024x512 .bf16) (n : Fin 4) (r l : Fin 512) (i : S512x2048.Idx)
    (h0 : (i 0).val = r.val) (h1 : (i 1).val = n.val * 512 + l.val) : colOf x w i = ∑ k : Fin 1024, x (ix2 r k) * w (ix4 0 n k l) := by
  have e0 : i 0 = r := Fin.ext h0
  have en : (⟨(i 1).val / 512, by omega⟩ : Fin 4) = n := Fin.ext (by show (i 1).val / 512 = n.val; omega)
  have el : (⟨(i 1).val % 512, by omega⟩ : Fin 512) = l := Fin.ext (by show (i 1).val % 512 = l.val; omega)
  unfold colOf
  dsimp only
  rw [e0, en, el]

/-- A store of one shard's product, at its place among the columns. -/
theorem piece_at (x : FVec Ideal S512x1024 .f32) (w : FVec Ideal S1x4x1024x512 .bf16) (pay : FVec Ideal S512x1024 .f32 → FVec Ideal S1x1x1024x512 .bf16 → FVec Ideal S512x512 .f32)
    (hpay : ∀ (u : FVec Ideal S1x1x1024x512 .bf16) (r l : Fin 512), pay x u (ix2 r l) = ∑ k : Fin 1024, x (ix2 r k) * u (ix4 0 0 k l)) (n : Fin 4)
    (inb : ∀ a, (![0, n.val, 0, 0] : Fin 4 → ℕ) a + S1x1x1024x512.size a ≤ S1x4x1024x512.size a) (inb2 : ∀ a, (![0, n.val * 512] : Fin 2 → ℕ) a + S512x512.size a ≤ S512x2048.size a) (z : S512x512.Idx) :
    pay x (View.ld (Val := Elt Ideal) (e' := .bf16) w (Rect.unit (s := S1x4x1024x512) ![0, n.val, 0, 0] S1x1x1024x512.size inb)) z
      = colOf x w ((Rect.unit (s := S512x2048) ![0, n.val * 512] S512x512.size inb2).emb z) := by
  obtain ⟨r, l, rfl⟩ : ∃ (r l : Fin 512), z = ix2 r l := ⟨z 0, z 1, Cert.Ffn.eta2 z⟩
  rw [col_at x w n r l _ (by show 0 + 1 * r.val = r.val; omega) (by show n.val * 512 + 1 * l.val = n.val * 512 + l.val; omega)]
  refine (hpay _ r l).trans (Finset.sum_congr rfl fun k _ => congrArg (x (ix2 r k) * ·) (congrArg w (funext fun a => Fin.ext ?_)))
  match a with
  | ⟨0, _⟩ => rfl
  | ⟨1, _⟩ => show n.val + 1 * 0 = n.val; omega
  | ⟨2, _⟩ => show 0 + 1 * k.val = k.val; omega
  | ⟨3, _⟩ => show 0 + 1 * l.val = l.val; omega

theorem out2_eq (x : FVec Ideal S512x1024 .f32) (w : FVec Ideal S1x4x1024x512 .bf16) (y : S512x2048.Idx) : out0_2 (F := Ideal) x w y = colOf x w y := by
  unfold out0_2
  simp only [View.ld_unit_zero (S := S512x1024) hz]
  refine Eq.trans (congrArg (fun L => View.canon (Val := Elt Ideal) L y) (List.append_nil _).symm) ?_
  refine View.canon_append_of_piecesOf (Val := Elt Ideal) (e := .f32) (colOf x w) [] _ ?_ y (cover0_2 (F := Ideal) _ _ _ _ y)
  exact ⟨piece_at x w (k0_pay5 (F := Ideal)) (pay5_at x) 3 (by decide) (by decide), piece_at x w (k0_pay4 (F := Ideal)) (pay4_at x) 2 (by decide) (by decide),
    piece_at x w (k0_pay3 (F := Ideal)) (pay3_at x) 1 (by decide) (by decide), piece_at x w (k0_pay2 (F := Ideal)) (pay2_at x) 0 (by decide) (by decide), trivial⟩

variable (m : (ℓ : Loc nD τ sig) → Buf (Elt Ideal) ℓ) (c : Dev nD)

/-- The two arguments. -/
def X : FVec Ideal S8192x1024 .f32 := m ((c : Thread nD τ).loc main_arg0)
def W : FVec Ideal S1024x2048 .f32 := m ((c : Thread nD τ).loc main_arg1)

theorem v3_at (n : Fin 4) (k : Fin 1024) (l : Fin 512) : (V m c main_v3 : FVec Ideal S1x4x1024x512 .bf16) (ix4 0 n k l) = W m c (ix2 k ⟨n.val * 512 + l.val, by omega⟩) := by
  simp only [V, hostOps0, List.flatten_cons, List.flatten_nil, List.append_nil, List.cons_append, List.nil_append]
  after_reads_simp
  unfold W
  pointwise

theorem lt16 (t : Fin cfg0.N) : t.val < 16 := lt_of_lt_of_eq t.isLt N_0
theorem idx_x : ∀ t : Fin cfg0.N, win0_0.index t = ![t.val, 0] := (by decide +kernel : ∀ t : Fin grid0.N, win0_0.index t = ![t.val, 0])
theorem idx_w : ∀ t : Fin cfg0.N, win0_1.index t = ![0, 0, 0, 0] := (by decide +kernel : ∀ t : Fin grid0.N, win0_1.index t = ![0, 0, 0, 0])
theorem idx_o : ∀ t : Fin cfg0.N, win0_2.index t = ![t.val, 0] := (by decide +kernel : ∀ t : Fin grid0.N, win0_2.index t = ![t.val, 0])

theorem b_x (t : Fin cfg0.N) (r : Fin 512) (k : Fin 1024) :
    (iblk m c 0 t : FVec Ideal S512x1024 .f32) (ix2 r k) = (V m c main_arg0 : FVec Ideal S8192x1024 .f32) (ix2 ⟨t.val * 512 + r.val, by have := lt16 t; omega⟩ k) := by
  blk_ext [iblk, idx_x t]
theorem b_w (t : Fin cfg0.N) (n : Fin 4) (k : Fin 1024) (l : Fin 512) :
    (iblk m c 1 t : FVec Ideal S1x4x1024x512 .bf16) (ix4 0 n k l) = (V m c main_v3 : FVec Ideal S1x4x1024x512 .bf16) (ix4 0 n k l) := by
  blk_ext [iblk, idx_w t]

theorem emb (t : Fin cfg0.N) (r : Fin 512) (l : Fin 2048) : ((win0_2.blk t).view.emb (ix2 r l) : S8192x2048.Idx)
    = ix2 ⟨t.val * 512 + r.val, by have := lt16 t; omega⟩ l := by
  funext a; apply Fin.ext
  refine (Pipeline.Window.rect_emb_val win0_2 t _ a).trans ?_
  rw [idx_o t]
  match a with
  | ⟨0, _⟩ => rfl
  | ⟨1, _⟩ => show 0 * 2048 + l.val = l.val; omega

/-- The product. -/
def Z : FVec Ideal S8192x2048 .f32 := fun i => ∑ k : Fin 1024, X m c (ix2 (i 0) k) * W m c (ix2 k (i 1))

theorem z_arr : ((dats m 0 c).arrAt 2 cfg0.N : FVec Ideal S8192x2048 .f32) = Z m c := by
  refine (dats m 0 c).arrAt_eq_of_covers 2 _ (by decide +kernel) fun t hf y => ?_
  blk_simp
  rw [after0_2]
  obtain ⟨r, l, rfl⟩ : ∃ (r : Fin 512) (l : Fin 2048), y = ix2 r l := ⟨y 0, y 1, Cert.Ffn.eta2 y⟩
  refine (out2_eq _ _ _).trans (Eq.trans ?_ (congrArg (Z m c) (emb t r l)).symm)
  have hl := Nat.mod_add_div' l.val 512
  refine (col_at _ _ ⟨l.val / 512, by omega⟩ r ⟨l.val % 512, by omega⟩ _ rfl (by show l.val = l.val / 512 * 512 + l.val % 512; omega)).trans ?_
  refine Finset.sum_congr rfl fun k _ => congrArg₂ (· * ·) ((b_x m c t r k).trans (congrFun (V_main_arg0 m c) _)) ?_
  refine (b_w m c t _ k _).trans ((v3_at m c _ k _).trans (congrArg (W m c) ?_))
  exact congrArg (ix2 k) (Fin.ext (by show l.val / 512 * 512 + l.val % 512 = l.val; omega))

end Cert.Kernel8Ideal.Proj

namespace Cert.Proj

open Idealize.ShloMosaic Idealize.ShloMosaic.TcCoe Idealize.SL.Sem

theorem in_frame : quiescent_Kernel8 := fun m ρ _ => Kernel8.Gen.frame m ρ
theorem in_frame_ideal : quiescent_Kernel8Ideal := fun m ρ _ => Kernel8Ideal.Gen.frame m ρ
theorem in_frame_reference : quiescent_Reference8Ideal := fun m ρ _ =>
  (θ_run Reference8Ideal.defs _ _).mono (fun r h => ⟨fun c => (h c).2, sem_eq_zero_of_no_sems (by decide) r.2⟩) (Reference8Ideal.Value.run (F := Ideal) m ρ)

theorem in_equal : algebraic_Kernel8Ideal_Reference8Ideal := by
  intro m g m' g' _ hm
  refine ⟨fun c => Kernel8Ideal.Proj.Z m c, (θ_run _ _ _).mono (fun r hr c => ⟨(hr c).1.trans (Kernel8Ideal.Proj.z_arr m c), (hr c).2⟩) (Kernel8Ideal.Value.run_blocks m g), ?_⟩
  refine (θ_run Reference8Ideal.defs _ _).mono (fun r hr c => ?_) (Reference8Ideal.Value.run (F := Ideal) m' g')
  obtain ⟨e0, e1⟩ := hm c
  refine ⟨(hr c).1.trans ?_, (hr c).2⟩
  rw [Reference8Ideal.Read.val_main_v0_eq, e0, e1]
  funext i
  refine (Reference8Ideal.Read.val_main_v0_apply _ _ i).trans (Finset.sum_congr rfl fun k _ => congrArg₂ (· * ·) (congrArg (Kernel8Ideal.Proj.X m c) ?_) (congrArg (Kernel8Ideal.Proj.W m c) ?_))
  · exact Cert.Ffn.eta2 _
  · exact Cert.Ffn.eta2 _

end Cert.Proj
end
-- ==== Proof.Proj.InBwd.lean ====
/- The backward call of the projection into the mixers: its frames, and its equality with the reference. -/
module

public import proofs.«01_k».proof.Proof.Proj.InBwdRef
public import proofs.«01_k».proof.Proof.Attn.Equal
public import proofs.«01_k».proof.Proof.Gen.Kernel10.Frame
public import proofs.«01_k».proof.Proof.Gen.Pre_finite_in

@[expose] public section

set_option maxRecDepth 16384

noncomputable section

namespace Cert.Proj

open Idealize.ShloMosaic Idealize.ShloMosaic.TcCoe Idealize.SL.Sem
open Cert.Kernel10Ideal.Proj (X Y W G E Z R0 R1 R2 held tg tb)
open Cert.Reference2Ideal.Ffn (IsR)
open Cert.Ffn (eta2 term_all)

theorem in_bwd_frame : quiescent_Kernel10 := fun m ρ _ => Kernel10.Gen.frame m ρ
theorem in_bwd_frame_ideal : quiescent_Kernel10Ideal := fun m ρ _ => Kernel10Ideal.Gen.frame m ρ
theorem in_bwd_frame_ideal_finite : quiescent_Kernel10Ideal_pre_finite_in := fun m ρ _ => Kernel10Ideal.Gen.frame m ρ
theorem in_bwd_frame_reference : quiescent_Reference10Ideal := fun m ρ _ =>
  (θ_run Reference10Ideal.defs _ _).mono (fun r h => ⟨fun c => (h c).2.2.2, sem_eq_zero_of_no_sems (by decide) r.2⟩) (Reference10Ideal.Value.run (F := Ideal) m ρ)
theorem in_bwd_frame_reference_finite : quiescent_Reference10Ideal_pre_finite_in := fun m ρ _ =>
  (θ_run Reference10Ideal.defs _ _).mono (fun r h => ⟨fun c => (h c).2.2.2, sem_eq_zero_of_no_sems (by decide) r.2⟩) (Reference10Ideal.Value.run (F := Ideal) m ρ)

variable (m : (ℓ : Loc Kernel10Ideal.nD Kernel10Ideal.τ Kernel10Ideal.sig) → Buf (Elt Ideal) ℓ)

theorem in_args_real (h : Cert.Pre_Kernel10Ideal_finite_in m) (c : Dev Kernel10Ideal.nD) :
    (∀ i, IsR (X m c i)) ∧ (∀ i, IsR (Y m c i)) ∧ (∀ i, IsR (W m c i)) ∧ (∀ i, IsR (G m c i)) ∧ (∀ i, IsR (E m c i)) ∧ ∀ i, IsR (Z m c i) := by
  obtain ⟨h0, h1, h2, h3, h4, h5⟩ := h c
  unfold Cert.Pre_finite_in.fn at h0 h1 h2 h3 h4 h5
  exact ⟨fun i => ⟨_, (Cert.Attn.real_of_finite _ _ h0 i).symm⟩, fun i => ⟨_, (Cert.Attn.real_of_finite _ _ h1 i).symm⟩,
    fun i => ⟨_, (Cert.Attn.real_of_finite _ _ h2 i).symm⟩, fun i => ⟨_, (Cert.Attn.real_of_finite _ _ h3 i).symm⟩,
    fun i => ⟨_, (Cert.Attn.real_of_finite _ _ h4 i).symm⟩, fun i => ⟨_, (Cert.Attn.real_of_finite _ _ h5 i).symm⟩⟩

theorem in_held_all (c : Dev Kernel10Ideal.nD) (n : Fin 8) (l : Fin 1024) :
    held m c 15 n l = if n.val = 0 then ∑ R, tg (X m c) (Y m c) (W m c) (E m c) (Z m c) l R else if n.val = 1 then ∑ R, tb (W m c) (E m c) (Z m c) l R else 0 := by
  unfold held
  rw [← term_all (tg (X m c) (Y m c) (W m c) (E m c) (Z m c) l), ← term_all (tb (W m c) (E m c) (Z m c) l)]

theorem in_bwd_equal : algebraic_Kernel10Ideal_Reference10Ideal_pre_finite_in := by
  intro m g m' g' hp hm
  refine ⟨fun c => R0 m c, fun c => R1 m c, fun c => R2 m c,
    (θ_run _ _ _).mono (fun r hr c => ⟨(hr c).1.trans (Kernel10Ideal.Proj.arr5 m c), (hr c).2.1.trans (Kernel10Ideal.Proj.arr6 m c),
      (hr c).2.2.1.trans (Kernel10Ideal.Proj.arr7 m c), (hr c).2.2.2⟩) (Kernel10Ideal.Value.run_blocks (F := Ideal) m g), ?_⟩
  refine (θ_run Reference10Ideal.defs _ _).mono (fun r hr c => ?_) (Reference10Ideal.Value.run (F := Ideal) m' g')
  obtain ⟨hx, hy, hw, hg, he, hz⟩ := in_args_real m hp c
  obtain ⟨e0, e1, e2, e3, e4, e5⟩ := hm c
  obtain ⟨h0, h1, h2, rest⟩ := hr c
  refine ⟨h0.trans ?_, h1.trans ?_, h2.trans ?_, rest⟩
  · rw [Reference10Ideal.Read.val_main_v75_eq, e0, e1, e2, e3, e4, e5]
    funext i
    rw [eta2 i]
    exact Reference10Ideal.Proj.v75_at (X m c) (Y m c) (W m c) (G m c) (E m c) (Z m c) _ _ hx hy hw hg he hz
  · rw [Reference10Ideal.Read.val_main_v76_eq, e0, e1, e2, e3, e4, e5]
    funext i
    rw [eta2 i]
    exact Reference10Ideal.Proj.v76_at (X m c) (Y m c) (W m c) (G m c) (E m c) (Z m c) _ _ hx hy hw hg he hz
  · rw [Reference10Ideal.Read.val_main_v81_eq, e0, e1, e2, e4, e5]
    funext i
    rw [eta2 i]
    exact (Reference10Ideal.Proj.v81_at (X m c) (Y m c) (W m c) (E m c) (Z m c) _ _).trans (in_held_all m c _ _).symm

end Cert.Proj
end
-- ==== Proof.Step.Adam.lean ====
/- The optimiser's step of each of the big weights and of the small ones packed together: the call and the formula agree entry by entry, in the
weight's change and in both new moments. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run

@[expose] public section

namespace Cert.Step

open Idealize.ShloMosaic Idealize.ShloMosaic.TcCoe Idealize.SL.Sem

theorem gu_frame : quiescent_Kernel13 := fun m ρ _ => Kernel13.Gen.frame m ρ
theorem gu_frame_ideal : quiescent_Kernel13Ideal := fun m ρ _ => Kernel13Ideal.Gen.frame m ρ
theorem gu_frame_reference : quiescent_Reference13Ideal := fun m ρ _ =>
  (θ_run _ _ _).mono (fun r h => ⟨fun c => (h c).2.2.2, sem_eq_zero_of_no_sems (by decide) r.2⟩) (Reference13Ideal.Value.run (F := Ideal) m ρ)

/-- A first weight of a feed-forward sublayer. -/
theorem gu_equal : algebraic_Kernel13Ideal_Reference13Ideal := by
  intro m g m' g' _ hm
  refine ⟨_, _, _, Kernel13Ideal.Value.run (F := Ideal) m g,
    (θ_run _ _ _).mono (fun r hr c => ?_) (Reference13Ideal.Value.run (F := Ideal) m' g')⟩
  obtain ⟨e0, e1, e2, e3⟩ := hm c
  obtain ⟨h0, h1, h2, rest⟩ := hr c
  rw [e0, e1, e2, e3] at h0
  rw [e1, e2] at h1
  rw [e1, e3] at h2
  exact ⟨h0, h1, h2, rest⟩

theorem down_frame : quiescent_Kernel14 := fun m ρ _ => Kernel14.Gen.frame m ρ
theorem down_frame_ideal : quiescent_Kernel14Ideal := fun m ρ _ => Kernel14Ideal.Gen.frame m ρ
theorem down_frame_reference : quiescent_Reference14Ideal := fun m ρ _ =>
  (θ_run _ _ _).mono (fun r h => ⟨fun c => (h c).2.2.2, sem_eq_zero_of_no_sems (by decide) r.2⟩) (Reference14Ideal.Value.run (F := Ideal) m ρ)

/-- A second weight of a feed-forward sublayer. -/
theorem down_equal : algebraic_Kernel14Ideal_Reference14Ideal := by
  intro m g m' g' _ hm
  refine ⟨_, _, _, Kernel14Ideal.Value.run (F := Ideal) m g,
    (θ_run _ _ _).mono (fun r hr c => ?_) (Reference14Ideal.Value.run (F := Ideal) m' g')⟩
  obtain ⟨e0, e1, e2, e3⟩ := hm c
  obtain ⟨h0, h1, h2, rest⟩ := hr c
  rw [e0, e1, e2, e3] at h0
  rw [e1, e2] at h1
  rw [e1, e3] at h2
  exact ⟨h0, h1, h2, rest⟩

theorem win_frame : quiescent_Kernel15 := fun m ρ _ => Kernel15.Gen.frame m ρ
theorem win_frame_ideal : quiescent_Kernel15Ideal := fun m ρ _ => Kernel15Ideal.Gen.frame m ρ
theorem win_frame_reference : quiescent_Reference15Ideal := fun m ρ _ =>
  (θ_run _ _ _).mono (fun r h => ⟨fun c => (h c).2.2.2, sem_eq_zero_of_no_sems (by decide) r.2⟩) (Reference15Ideal.Value.run (F := Ideal) m ρ)

/-- The weight of the projection into the mixers. -/
theorem win_equal : algebraic_Kernel15Ideal_Reference15Ideal := by
  intro m g m' g' _ hm
  refine ⟨_, _, _, Kernel15Ideal.Value.run (F := Ideal) m g,
    (θ_run _ _ _).mono (fun r hr c => ?_) (Reference15Ideal.Value.run (F := Ideal) m' g')⟩
  obtain ⟨e0, e1, e2, e3⟩ := hm c
  obtain ⟨h0, h1, h2, rest⟩ := hr c
  rw [e0, e1, e2, e3] at h0
  rw [e1, e2] at h1
  rw [e1, e3] at h2
  exact ⟨h0, h1, h2, rest⟩

theorem wout_frame : quiescent_Kernel16 := fun m ρ _ => Kernel16.Gen.frame m ρ
theorem wout_frame_ideal : quiescent_Kernel16Ideal := fun m ρ _ => Kernel16Ideal.Gen.frame m ρ
theorem wout_frame_reference : quiescent_Reference16Ideal := fun m ρ _ =>
  (θ_run _ _ _).mono (fun r h => ⟨fun c => (h c).2.2.2, sem_eq_zero_of_no_sems (by decide) r.2⟩) (Reference16Ideal.Value.run (F := Ideal) m ρ)

/-- The weight of the projection out of the mixers. -/
theorem wout_equal : algebraic_Kernel16Ideal_Reference16Ideal := by
  intro m g m' g' _ hm
  refine ⟨_, _, _, Kernel16Ideal.Value.run (F := Ideal) m g,
    (θ_run _ _ _).mono (fun r hr c => ?_) (Reference16Ideal.Value.run (F := Ideal) m' g')⟩
  obtain ⟨e0, e1, e2, e3⟩ := hm c
  obtain ⟨h0, h1, h2, rest⟩ := hr c
  rw [e0, e1, e2, e3] at h0
  rw [e1, e2] at h1
  rw [e1, e3] at h2
  exact ⟨h0, h1, h2, rest⟩

theorem small_frame : quiescent_Kernel17 := fun m ρ _ => Kernel17.Gen.frame m ρ
theorem small_frame_ideal : quiescent_Kernel17Ideal := fun m ρ _ => Kernel17Ideal.Gen.frame m ρ
theorem small_frame_reference : quiescent_Reference17Ideal := fun m ρ _ =>
  (θ_run _ _ _).mono (fun r h => ⟨fun c => (h c).2.2.2, sem_eq_zero_of_no_sems (by decide) r.2⟩) (Reference17Ideal.Value.run (F := Ideal) m ρ)

/-- The small weights, packed together. -/
theorem small_equal : algebraic_Kernel17Ideal_Reference17Ideal := by
  intro m g m' g' _ hm
  refine ⟨_, _, _, Kernel17Ideal.Value.run (F := Ideal) m g,
    (θ_run _ _ _).mono (fun r hr c => ?_) (Reference17Ideal.Value.run (F := Ideal) m' g')⟩
  obtain ⟨e0, e1, e2, e3⟩ := hm c
  obtain ⟨h0, h1, h2, rest⟩ := hr c
  rw [e0, e1, e2, e3] at h0
  rw [e1, e2] at h1
  rw [e1, e3] at h2
  exact ⟨h0, h1, h2, rest⟩

end Cert.Step
end
-- ==== Proof.lean ====
/- The claims about the attention's backward call, the feed-forward sublayer's calls, the mixers' projections and the optimiser, assembled. -/
module

public import proofs.«01_k».proof.Proof.Ffn.Dwgu
public import proofs.«01_k».proof.Proof.Ffn.Dwd
public import proofs.«01_k».proof.Proof.Ffn.Fwd
public import proofs.«01_k».proof.Proof.Ffn.Tail
public import proofs.«01_k».proof.Proof.Proj.Bwd
public import proofs.«01_k».proof.Proof.Proj.Dwout
public import proofs.«01_k».proof.Proof.Proj.Dwin
public import proofs.«01_k».proof.Proof.Proj.In
public import proofs.«01_k».proof.Proof.Proj.InBwd
public import proofs.«01_k».proof.Proof.Step.Adam

@[expose] public section

noncomputable section

namespace Cert.Proof

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Cert.Pre_finite.Gen.facts, Cert.Pre_finite_ffn.Gen.facts, Cert.Pre_finite_out.Gen.facts, Cert.Pre_finite_in.Gen.facts, Cert.Pre_finite_tail.Gen.facts,
    Attn.frame_kernel, Attn.frame_kernel_ideal, Attn.frame_kernel_ideal_finite, Attn.frame_reference,
    Attn.frame_reference_finite,
    Ffn.bwd_frame, Ffn.bwd_frame_ideal, Ffn.bwd_frame_ideal_finite, Ffn.bwd_frame_reference,
    Ffn.bwd_frame_reference_finite,
    Ffn.dwgu_frame, Ffn.dwgu_frame_ideal, Ffn.dwgu_frame_reference,
    Ffn.dwd_frame, Ffn.dwd_frame_ideal, Ffn.dwd_frame_reference,
    Ffn.fwd_frame, Ffn.fwd_frame_ideal, Ffn.fwd_frame_reference,
    Proj.bwd_frame, Proj.bwd_frame_ideal, Proj.bwd_frame_ideal_finite, Proj.bwd_frame_reference,
    Proj.bwd_frame_reference_finite,
    Proj.dwout_frame, Proj.dwout_frame_ideal, Proj.dwout_frame_reference,
    Proj.in_frame, Proj.in_frame_ideal, Proj.in_frame_reference,
    Proj.out_frame, Proj.out_frame_ideal, Proj.out_frame_reference,
    Proj.in_bwd_frame, Proj.in_bwd_frame_ideal, Proj.in_bwd_frame_ideal_finite, Proj.in_bwd_frame_reference,
    Proj.in_bwd_frame_reference_finite,
    Ffn.tail_frame, Ffn.tail_frame_ideal, Ffn.tail_frame_ideal_finite, Ffn.tail_frame_reference,
    Ffn.tail_frame_reference_finite,
    Proj.dwin_frame, Proj.dwin_frame_ideal, Proj.dwin_frame_reference,
    Step.gu_frame, Step.gu_frame_ideal, Step.gu_frame_reference,
    Step.down_frame, Step.down_frame_ideal, Step.down_frame_reference,
    Step.win_frame, Step.win_frame_ideal, Step.win_frame_reference,
    Step.wout_frame, Step.wout_frame_ideal, Step.wout_frame_reference,
    Step.small_frame, Step.small_frame_ideal, Step.small_frame_reference,
    Attn.mask_named, Attn.gradients_equal,
    trivial, Ffn.bwd_equal, trivial, Ffn.dwgu_equal, trivial, Ffn.dwd_equal, trivial, Ffn.fwd_equal,
    trivial, Proj.bwd_equal, trivial, Proj.dwout_equal, trivial, Proj.in_equal, trivial, Proj.out_equal,
    trivial, Proj.in_bwd_equal, trivial, Ffn.tail_equal, trivial, Proj.dwin_equal,
    trivial, Step.gu_equal, trivial, Step.down_equal, trivial, Step.win_equal, trivial, Step.wout_equal, trivial, Step.small_equal⟩

end Cert.Proof

end
